-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v83) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)) (v3 : (c : Dev Cert.Kernel3Ideal.nD) → Buf (Elt Ideal) ((c.tc : Thread Cert.Kernel3Ideal.nD Cert.Kernel3Ideal.τ).loc Cert.Kernel3Ideal.main_v7_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_v7_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v71) = v1 c
          ∧ r.2.mem ((c.tc : Thread Cert.Reference3Ideal.nD Cert.Reference3Ideal.τ).loc Cert.Reference3Ideal.main_v60) = v2 c
          ∧ r.2.mem ((c.tc : Thread Cert.Reference3Ideal.nD Cert.Reference3Ideal.τ).loc Cert.Reference3Ideal.main_v73) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x2048x3088 : Shape := ⟨3, ![8, 2048, 3088]⟩
abbrev S8x2048x256 : Shape := ⟨3, ![8, 2048, 256]⟩
abbrev S8x2048x1024 : Shape := ⟨3, ![8, 2048, 1024]⟩
abbrev S_ : Shape := ⟨0, ![]⟩

class Facts : Prop where
  slices_S8x2048x3088_S8x2048x1024_0_0_1536 : S8x2048x3088.Slices ![0, 0, 1536] S8x2048x1024
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x2048x256 : S_.BroadcastsInDim S8x2048x256 (![] : Fin 0 → Fin S8x2048x256.rank)
  reducesTo_S8x2048x256_S_d0_1_2 : S8x2048x256.ReducesTo [0, 1, 2] S_

variable [Facts]

def fn {F : FTy → Type} [FloatOps F] (main_arg0 : FVec F S8x2048x3088 .f32) (main_arg1 : FVec F S8x2048x256 .f32) : IVec S_ 1 :=
  let main_v0 : FVec F S8x2048x1024 .f32 := (extractStridedSlice S8x2048x1024 ![0, 0, 1536] · slices_S8x2048x3088_S8x2048x1024_0_0_1536) main_arg0
  let main_v1 : FVec F S8x2048x1024 .f32 := Host.absf main_v0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_c : IVec S_ 1 := constantI S_ 1 1#1
  let main_v4 : IVec S_ 1 := (fun x v => Host.reduce IntOp.andi x v reducesTo_S8x2048x1024_S_d0_1_2 h_S_) main_v3 main_c
  let main_v5 : FVec F S8x2048x256 .f32 := Host.absf main_arg1
  let main_cst_0 : FVec F S_ .f32 := constant S_ .f32 0x7F800000#32
  let main_v6 : FVec F S8x2048x256 .f32 := broadcastInDim S8x2048x256 ![] bcast_S_S8x2048x256 main_cst_0
  let main_v7 : IVec S8x2048x256 1 := cmpf .olt main_v5 main_v6
  let main_c_1 : IVec S_ 1 := constantI S_ 1 1#1
  let main_v8 : IVec S_ 1 := (fun x v => Host.reduce IntOp.andi x v reducesTo_S8x2048x256_S_d0_1_2 h_S_) main_v7 main_c_1
  let main_v9 : IVec S_ 1 := andi main_v4 main_v8
  main_v9
-- ==== Kernel.lean ====
abbrev S8x2048x3088 : Shape := ⟨3, ![8, 2048, 3088]⟩
abbrev S8x2048x256 : Shape := ⟨3, ![8, 2048, 256]⟩
abbrev S8x2048x2560 : Shape := ⟨3, ![8, 2048, 2560]⟩
abbrev S8x2048x512 : Shape := ⟨3, ![8, 2048, 512]⟩
abbrev S8x2048x3072 : Shape := ⟨3, ![8, 2048, 3072]⟩
abbrev S16384x3072 : Shape := ⟨2, ![16384, 3072]⟩
abbrev S_ : Shape := ⟨0, ![]⟩
abbrev S16384x256 : Shape := ⟨2, ![16384, 256]⟩
abbrev S16384x512 : Shape := ⟨2, ![16384, 512]⟩
abbrev S1024x256 : Shape := ⟨2, ![1024, 256]⟩
abbrev S1024x512 : Shape := ⟨2, ![1024, 512]⟩
abbrev S4x128x256 : Shape := ⟨3, ![4, 128, 256]⟩
abbrev S256x256 : Shape := ⟨2, ![256, 256]⟩
abbrev S128x256 : Shape := ⟨2, ![128, 256]⟩
abbrev S128x128 : Shape := ⟨2, ![128, 128]⟩
abbrev S256x128 : Shape := ⟨2, ![256, 128]⟩
abbrev S1x256 : Shape := ⟨2, ![1, 256]⟩
abbrev S256x512 : Shape := ⟨2, ![256, 512]⟩
abbrev S1x128x256 : Shape := ⟨3, ![1, 128, 256]⟩

abbrev nBuf : Space → Nat
  | .hbm => 13
  | .vmem => 11
  | .smem => 0
  | _ => 0

abbrev bufTy : (tb : Table) → Fin (tcTables nBuf tb) → BufTy
  | .hbm, ⟨0, _⟩ => ⟨S8x2048x3088, .f32⟩
  | .hbm, ⟨1, _⟩ => ⟨S8x2048x256, .f32⟩
  | .hbm, ⟨2, _⟩ => ⟨S8x2048x2560, .f32⟩
  | .hbm, ⟨3, _⟩ => ⟨S8x2048x512, .f32⟩
  | .hbm, ⟨4, _⟩ => ⟨S8x2048x3072, .f32⟩
  | .hbm, ⟨5, _⟩ => ⟨S8x2048x3072, .bf16⟩
  | .hbm, ⟨6, _⟩ => ⟨S16384x3072, .bf16⟩
  | .hbm, ⟨7, _⟩ => ⟨S_, .f32⟩
  | .hbm, ⟨8, _⟩ => ⟨S_, .f32⟩
  | .hbm, ⟨9, _⟩ => ⟨S8x2048x256, .f32⟩
  | .hbm, ⟨10, _⟩ => ⟨S8x2048x256, .f32⟩
  | .hbm, ⟨11, _⟩ => ⟨S16384x256, .f32⟩
  | .hbm, ⟨12, _⟩ => ⟨S16384x512, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x512, .bf16⟩
  | .local _ .vmem, ⟨5, _⟩ => ⟨S1024x512, .bf16⟩
  | .local _ .vmem, ⟨6, _⟩ => ⟨S1024x256, .f32⟩
  | .local _ .vmem, ⟨7, _⟩ => ⟨S1024x256, .f32⟩
  | .local _ .vmem, ⟨8, _⟩ => ⟨S1024x512, .bf16⟩
  | .local _ .vmem, ⟨9, _⟩ => ⟨S1024x512, .bf16⟩
  | .local _ .vmem, ⟨10, _⟩ => ⟨S4x128x256, .f32⟩
  | _, _ => ⟨S8x2048x3088, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c7_i32 : BitVec 32 := 7#32
  let c0_i32 : BitVec 32 := 0#32
  ![v1.toNat, c7_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c4_i32 : BitVec 32 := 4#32
  let c0_i32 : BitVec 32 := 0#32
  ![v1.toNat, c4_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x2048x3088 : Shape := ⟨3, ![8, 2048, 3088]⟩
abbrev S8x2048x256 : Shape := ⟨3, ![8, 2048, 256]⟩
abbrev S8x2048x512 : Shape := ⟨3, ![8, 2048, 512]⟩
abbrev S8x2048x16 : Shape := ⟨3, ![8, 2048, 16]⟩
abbrev S8x2048x4x64 : Shape := ⟨4, ![8, 2048, 4, 64]⟩
abbrev S8x4x2048x64 : Shape := ⟨4, ![8, 4, 2048, 64]⟩
abbrev S8x2048x4x128 : Shape := ⟨4, ![8, 2048, 4, 128]⟩
abbrev S8x4x2048x128 : Shape := ⟨4, ![8, 4, 2048, 128]⟩
abbrev S_ : Shape := ⟨0, ![]⟩
abbrev S64x64 : Shape := ⟨2, ![64, 64]⟩
abbrev S64x64x1 : Shape := ⟨3, ![64, 64, 1]⟩
abbrev S8x4x64x128 : Shape := ⟨4, ![8, 4, 64, 128]⟩
abbrev S8x4x32x64x64 : Shape := ⟨5, ![8, 4, 32, 64, 64]⟩
abbrev S32x8x4x64x64 : Shape := ⟨5, ![32, 8, 4, 64, 64]⟩
abbrev S8x4x32x64x128 : Shape := ⟨5, ![8, 4, 32, 64, 128]⟩
abbrev S32x8x4x64x128 : Shape := ⟨5, ![32, 8, 4, 64, 128]⟩
abbrev S1x8x4x64x64 : Shape := ⟨5, ![1, 8, 4, 64, 64]⟩
abbrev S8x4x64x64 : Shape := ⟨4, ![8, 4, 64, 64]⟩
abbrev S1x8x4x64x128 : Shape := ⟨5, ![1, 8, 4, 64, 128]⟩
abbrev S8x4x64x1x64 : Shape := ⟨5, ![8, 4, 64, 1, 64]⟩
abbrev S8x4x1x64x64 : Shape := ⟨5, ![8, 4, 1, 64, 64]⟩
abbrev S8x4x64x64x64 : Shape := ⟨5, ![8, 4, 64, 64, 64]⟩
abbrev S8x4x1x64 : Shape := ⟨4, ![8, 4, 1, 64]⟩
abbrev S8x4x64 : Shape := ⟨3, ![8, 4, 64]⟩
abbrev S8x4x64x1 : Shape := ⟨4, ![8, 4, 64, 1]⟩
abbrev S16384x512 : Shape := ⟨2, ![16384, 512]⟩

abbrev nBuf : Space → Nat
  | .hbm => 132
  | .vmem => 0
  | .smem => 0
  | _ => 0

abbrev hbmTy0_0 (i : Nat) : BufTy := match i % 128 with
  | 0 => ⟨S8x2048x3088, .f32⟩
  | 1 => ⟨S8x2048x256, .f32⟩
  | 2 => ⟨S8x2048x512, .f32⟩
  | 3 => ⟨S8x2048x512, .f32⟩
  | 4 => ⟨S8x2048x512, .f32⟩
  | 5 => ⟨S8x2048x256, .f32⟩
  | 6 => ⟨S8x2048x256, .f32⟩
  | 7 => ⟨S8x2048x512, .f32⟩
  | 8 => ⟨S8x2048x16, .f32⟩
  | 9 => ⟨S8x2048x512, .f32⟩
  | 10 => ⟨S8x2048x4x64, .f32⟩
  | 11 => ⟨S8x4x2048x64, .f32⟩
  | 12 => ⟨S8x2048x4x64, .f32⟩
  | 13 => ⟨S8x4x2048x64, .f32⟩
  | 14 => ⟨S8x2048x4x128, .f32⟩
  | 15 => ⟨S8x4x2048x128, .f32⟩
  | 16 => ⟨S8x2048x4x64, .f32⟩
  | 17 => ⟨S8x4x2048x64, .f32⟩
  | 18 => ⟨S_, .f32⟩
  | 19 => ⟨S8x4x2048x64, .f32⟩
  | 20 => ⟨S8x4x2048x64, .f32⟩
  | 21 => ⟨S_, .i1⟩
  | 22 => ⟨S64x64, .i1⟩
  | 23 => ⟨S64x64, .i32⟩
  | 24 => ⟨S_, .i32⟩
  | 25 => ⟨S64x64, .i32⟩
  | 26 => ⟨S64x64, .i32⟩
  | 27 => ⟨S64x64, .i32⟩
  | 28 => ⟨S64x64, .i1⟩
  | 29 => ⟨S_, .i1⟩
  | 30 => ⟨S64x64, .i1⟩
  | 31 => ⟨S64x64, .i1⟩
  | 32 => ⟨S64x64x1, .i1⟩
  | 33 => ⟨S_, .f32⟩
  | 34 => ⟨S8x4x64x128, .f32⟩
  | 35 => ⟨S8x4x32x64x64, .f32⟩
  | 36 => ⟨S32x8x4x64x64, .f32⟩
  | 37 => ⟨S8x4x32x64x64, .f32⟩
  | 38 => ⟨S32x8x4x64x64, .f32⟩
  | 39 => ⟨S8x4x32x64x128, .f32⟩
  | 40 => ⟨S32x8x4x64x128, .f32⟩
  | 41 => ⟨S8x4x32x64x64, .f32⟩
  | 42 => ⟨S32x8x4x64x64, .f32⟩
  | 43 => ⟨S_, .f32⟩
  | 44 => ⟨S32x8x4x64x128, .f32⟩
  | 45 => ⟨S_, .i32⟩
  | 46 => ⟨S32x8x4x64x64, .f32⟩
  | 47 => ⟨S32x8x4x64x64, .f32⟩
  | 48 => ⟨S32x8x4x64x128, .f32⟩
  | 49 => ⟨S32x8x4x64x64, .f32⟩
  | 50 => ⟨S64x64x1, .i1⟩
  | 51 => ⟨S_, .i32⟩
  | 52 => ⟨S8x4x64x128, .f32⟩
  | 53 => ⟨S32x8x4x64x128, .f32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S1x8x4x64x64, .f32⟩
  | 61 => ⟨S8x4x64x64, .f32⟩
  | 62 => ⟨S_, .i32⟩
  | 63 => ⟨S_, .i32⟩
  | 64 => ⟨S_, .i32⟩
  | 65 => ⟨S_, .i32⟩
  | 66 => ⟨S1x8x4x64x64, .f32⟩
  | 67 => ⟨S8x4x64x64, .f32⟩
  | 68 => ⟨S_, .i32⟩
  | 69 => ⟨S_, .i32⟩
  | 70 => ⟨S_, .i32⟩
  | 71 => ⟨S_, .i32⟩
  | 72 => ⟨S1x8x4x64x128, .f32⟩
  | 73 => ⟨S8x4x64x128, .f32⟩
  | 74 => ⟨S_, .i32⟩
  | 75 => ⟨S_, .i32⟩
  | 76 => ⟨S_, .i32⟩
  | 77 => ⟨S_, .i32⟩
  | 78 => ⟨S1x8x4x64x64, .f32⟩
  | 79 => ⟨S8x4x64x64, .f32⟩
  | 80 => ⟨S_, .f32⟩
  | 81 => ⟨S_, .f32⟩
  | 82 => ⟨S8x4x64x64, .f32⟩
  | 83 => ⟨S8x4x64x64, .f32⟩
  | 84 => ⟨S8x4x64x64, .f32⟩
  | 85 => ⟨S8x4x64x128, .f32⟩
  | 86 => ⟨S8x4x64x1x64, .f32⟩
  | 87 => ⟨S8x4x1x64x64, .f32⟩
  | 88 => ⟨S8x4x64x64x64, .f32⟩
  | 89 => ⟨S8x4x64x64x64, .f32⟩
  | 90 => ⟨S8x4x64x64x64, .f32⟩
  | 91 => ⟨S_, .f32⟩
  | 92 => ⟨S_, .f32⟩
  | 93 => ⟨S8x4x64x64x64, .i1⟩
  | 94 => ⟨S8x4x64x64x64, .f32⟩
  | 95 => ⟨S8x4x64x64x64, .f32⟩
  | 96 => ⟨S8x4x64x64x64, .f32⟩
  | 97 => ⟨S8x4x64x1x64, .f32⟩
  | 98 => ⟨S8x4x1x64x64, .f32⟩
  | 99 => ⟨S8x4x64x64x64, .f32⟩
  | 100 => ⟨S8x4x64x64x64, .f32⟩
  | 101 => ⟨S8x4x64x64x64, .f32⟩
  | 102 => ⟨S8x4x64x64x64, .f32⟩
  | 103 => ⟨S_, .f32⟩
  | 104 => ⟨S8x4x64x64, .f32⟩
  | 105 => ⟨S8x4x64x128, .f32⟩
  | 106 => ⟨S8x4x1x64, .f32⟩
  | 107 => ⟨S8x4x64, .f32⟩
  | 108 => ⟨S8x4x64, .f32⟩
  | 109 => ⟨S8x4x64x1, .f32⟩
  | 110 => ⟨S8x4x64x128, .f32⟩
  | 111 => ⟨S8x4x64x128, .f32⟩
  | 112 => ⟨S8x4x64x64, .f32⟩
  | 113 => ⟨S8x4x64x64, .f32⟩
  | 114 => ⟨S8x4x64x64, .f32⟩
  | 115 => ⟨S8x4x64x64, .f32⟩
  | 116 => ⟨S8x4x64x128, .f32⟩
  | 117 => ⟨S8x4x64x128, .f32⟩
  | 118 => ⟨S8x4x64x128, .f32⟩
  | 119 => ⟨S1x8x4x64x128, .f32⟩
  | 120 => ⟨S_, .i32⟩
  | 121 => ⟨S_, .i32⟩
  | 122 => ⟨S_, .i32⟩
  | 123 => ⟨S_, .i32⟩
  | 124 => ⟨S32x8x4x64x128, .f32⟩
  | 125 => ⟨S_, .i32⟩
  | 126 => ⟨S_, .i32⟩
  | 127 => ⟨S8x4x32x64x128, .f32⟩
  | _ => ⟨S8x2048x3088, .f32⟩

abbrev hbmTy0_1 (i : Nat) : BufTy := match i % 128 with
  | 0 => ⟨S8x4x2048x128, .f32⟩
  | 1 => ⟨S8x2048x4x128, .f32⟩
  | 2 => ⟨S16384x512, .f32⟩
  | 3 => ⟨S16384x512, .bf16⟩
  | _ => ⟨S8x2048x3088, .f32⟩

abbrev hbmTy (i : Nat) : BufTy := match i / 128 with
  | 0 => hbmTy0_0 i
  | 1 => hbmTy0_1 i
  | _ => ⟨S8x2048x3088, .f32⟩

abbrev bufTy : (tb : Table) → Fin (tcTables nBuf tb) → BufTy
  | .hbm, ⟨i, _⟩ => hbmTy i
  | _, _ => ⟨S8x2048x3088, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_v18 : Ref sig .tc := ⟨.hbm, 22, rfl⟩
abbrev main_call0_v0 : Ref sig .tc := ⟨.hbm, 23, rfl⟩
abbrev main_call0_c : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_c_0 : Ref sig .tc := ⟨.hbm, 29, rfl⟩
abbrev main_call0_v5 : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_1 : Ref sig .tc := ⟨.hbm, 43, rfl⟩
abbrev main_v30 : Ref sig .tc := ⟨.hbm, 44, rfl⟩
abbrev main_c_2 : Ref sig .tc := ⟨.hbm, 45, rfl⟩
abbrev main_v31_0 : Ref sig .tc := ⟨.hbm, 46, rfl⟩
abbrev main_v31_1 : Ref sig .tc := ⟨.hbm, 47, rfl⟩
abbrev main_v31_2 : Ref sig .tc := ⟨.hbm, 48, rfl⟩
abbrev main_v31_3 : Ref sig .tc := ⟨.hbm, 49, rfl⟩
abbrev main_v31_4 : Ref sig .tc := ⟨.hbm, 50, rfl⟩
abbrev main_v31_5 : Ref sig .tc := ⟨.hbm, 51, rfl⟩
abbrev main_v31_6 : Ref sig .tc := ⟨.hbm, 52, rfl⟩
abbrev main_v31_7 : Ref sig .tc := ⟨.hbm, 53, rfl⟩
abbrev main_while0c_c_10 : Ref sig .tc := ⟨.hbm, 54, rfl⟩
abbrev main_while0c_v37 : Ref sig .tc := ⟨.hbm, 55, rfl⟩
abbrev main_while0b_call1_c : Ref sig .tc := ⟨.hbm, 56, rfl⟩
abbrev main_while0b_call1_c_0 : Ref sig .tc := ⟨.hbm, 57, rfl⟩
abbrev main_while0b_call1_c_1 : Ref sig .tc := ⟨.hbm, 58, rfl⟩
abbrev main_while0b_call1_c_2 : Ref sig .tc := ⟨.hbm, 59, rfl⟩
abbrev main_while0b_call1_v0 : Ref sig .tc := ⟨.hbm, 60, rfl⟩
abbrev main_while0b_v37 : Ref sig .tc := ⟨.hbm, 61, rfl⟩
abbrev main_while0b_call2_c : Ref sig .tc := ⟨.hbm, 62, rfl⟩
abbrev main_while0b_call2_c_0 : Ref sig .tc := ⟨.hbm, 63, rfl⟩
abbrev main_while0b_call2_c_1 : Ref sig .tc := ⟨.hbm, 64, rfl⟩
abbrev main_while0b_call2_c_2 : Ref sig .tc := ⟨.hbm, 65, rfl⟩
abbrev main_while0b_call2_v0 : Ref sig .tc := ⟨.hbm, 66, rfl⟩
abbrev main_while0b_v38 : Ref sig .tc := ⟨.hbm, 67, rfl⟩
abbrev main_while0b_call3_c : Ref sig .tc := ⟨.hbm, 68, rfl⟩
abbrev main_while0b_call3_c_0 : Ref sig .tc := ⟨.hbm, 69, rfl⟩
abbrev main_while0b_call3_c_1 : Ref sig .tc := ⟨.hbm, 70, rfl⟩
abbrev main_while0b_call3_c_2 : Ref sig .tc := ⟨.hbm, 71, rfl⟩
abbrev main_while0b_call3_v0 : Ref sig .tc := ⟨.hbm, 72, rfl⟩
abbrev main_while0b_v39 : Ref sig .tc := ⟨.hbm, 73, rfl⟩
abbrev main_while0b_call4_c : Ref sig .tc := ⟨.hbm, 74, rfl⟩
abbrev main_while0b_call4_c_0 : Ref sig .tc := ⟨.hbm, 75, rfl⟩
abbrev main_while0b_call4_c_1 : Ref sig .tc := ⟨.hbm, 76, rfl⟩
abbrev main_while0b_call4_c_2 : Ref sig .tc := ⟨.hbm, 77, rfl⟩
abbrev main_while0b_call4_v0 : Ref sig .tc := ⟨.hbm, 78, rfl⟩
abbrev main_while0b_v40 : Ref sig .tc := ⟨.hbm, 79, rfl⟩
abbrev main_while0b_call5_call0_cst : Ref sig .tc := ⟨.hbm, 80, rfl⟩
abbrev main_while0b_call5_call0_v0 : Ref sig .tc := ⟨.hbm, 81, rfl⟩
abbrev main_while0b_v41 : Ref sig .tc := ⟨.hbm, 82, rfl⟩
abbrev main_while0b_v42 : Ref sig .tc := ⟨.hbm, 83, rfl⟩
abbrev main_while0b_v43 : Ref sig .tc := ⟨.hbm, 84, rfl⟩
abbrev main_while0b_v44 : Ref sig .tc := ⟨.hbm, 85, rfl⟩
abbrev main_while0b_v45 : Ref sig .tc := ⟨.hbm, 86, rfl⟩
abbrev main_while0b_v46 : Ref sig .tc := ⟨.hbm, 87, rfl⟩
abbrev main_while0b_v47 : Ref sig .tc := ⟨.hbm, 88, rfl⟩
abbrev main_while0b_v48 : Ref sig .tc := ⟨.hbm, 89, rfl⟩
abbrev main_while0b_v49 : Ref sig .tc := ⟨.hbm, 90, rfl⟩
abbrev main_while0b_cst_10 : Ref sig .tc := ⟨.hbm, 91, rfl⟩
abbrev main_while0b_call6_v0 : Ref sig .tc := ⟨.hbm, 92, rfl⟩
abbrev main_while0b_call6_v1 : Ref sig .tc := ⟨.hbm, 93, rfl⟩
abbrev main_while0b_call6_v2 : Ref sig .tc := ⟨.hbm, 94, rfl⟩
abbrev main_while0b_v50 : Ref sig .tc := ⟨.hbm, 95, rfl⟩
abbrev main_while0b_v51 : Ref sig .tc := ⟨.hbm, 96, rfl⟩
abbrev main_while0b_v52 : Ref sig .tc := ⟨.hbm, 97, rfl⟩
abbrev main_while0b_v53 : Ref sig .tc := ⟨.hbm, 98, rfl⟩
abbrev main_while0b_v54 : Ref sig .tc := ⟨.hbm, 99, rfl⟩
abbrev main_while0b_v55 : Ref sig .tc := ⟨.hbm, 100, rfl⟩
abbrev main_while0b_v56 : Ref sig .tc := ⟨.hbm, 101, rfl⟩
abbrev main_while0b_v57 : Ref sig .tc := ⟨.hbm, 102, rfl⟩
abbrev main_while0b_cst_11 : Ref sig .tc := ⟨.hbm, 103, rfl⟩
abbrev main_while0b_v58 : Ref sig .tc := ⟨.hbm, 104, rfl⟩
abbrev main_while0b_v59 : Ref sig .tc := ⟨.hbm, 105, rfl⟩
abbrev main_while0b_v60 : Ref sig .tc := ⟨.hbm, 106, rfl⟩
abbrev main_while0b_v61 : Ref sig .tc := ⟨.hbm, 107, rfl⟩
abbrev main_while0b_v62 : Ref sig .tc := ⟨.hbm, 108, rfl⟩
abbrev main_while0b_v63 : Ref sig .tc := ⟨.hbm, 109, rfl⟩
abbrev main_while0b_v64 : Ref sig .tc := ⟨.hbm, 110, rfl⟩
abbrev main_while0b_v65 : Ref sig .tc := ⟨.hbm, 111, rfl⟩
abbrev main_while0b_v66 : Ref sig .tc := ⟨.hbm, 112, rfl⟩
abbrev main_while0b_v67 : Ref sig .tc := ⟨.hbm, 113, rfl⟩
abbrev main_while0b_v68 : Ref sig .tc := ⟨.hbm, 114, rfl⟩
abbrev main_while0b_v69 : Ref sig .tc := ⟨.hbm, 115, rfl⟩
abbrev main_while0b_v70 : Ref sig .tc := ⟨.hbm, 116, rfl⟩
abbrev main_while0b_v71 : Ref sig .tc := ⟨.hbm, 117, rfl⟩
abbrev main_while0b_v72 : Ref sig .tc := ⟨.hbm, 118, rfl⟩
abbrev main_while0b_call7_v0 : Ref sig .tc := ⟨.hbm, 119, rfl⟩
abbrev main_while0b_call7_c : Ref sig .tc := ⟨.hbm, 120, rfl⟩
abbrev main_while0b_call7_c_0 : Ref sig .tc := ⟨.hbm, 121, rfl⟩
abbrev main_while0b_call7_c_1 : Ref sig .tc := ⟨.hbm, 122, rfl⟩
abbrev main_while0b_call7_c_2 : Ref sig .tc := ⟨.hbm, 123, rfl⟩
abbrev main_while0b_v73 : Ref sig .tc := ⟨.hbm, 124, rfl⟩
abbrev main_while0b_c_12 : Ref sig .tc := ⟨.hbm, 125, rfl⟩
abbrev main_while0b_v74 : Ref sig .tc := ⟨.hbm, 126, rfl⟩
abbrev main_v32 : Ref sig .tc := ⟨.hbm, 127, rfl⟩
abbrev main_v33 : Ref sig .tc := ⟨.hbm, 128, rfl⟩
abbrev main_v34 : Ref sig .tc := ⟨.hbm, 129, rfl⟩
abbrev main_v35 : Ref sig .tc := ⟨.hbm, 130, rfl⟩
abbrev main_v36 : Ref sig .tc := ⟨.hbm, 131, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S16384x1024 : Shape := ⟨2, ![16384, 1024]⟩
abbrev S16384x512 : Shape := ⟨2, ![16384, 512]⟩
abbrev S16384x3072 : Shape := ⟨2, ![16384, 3072]⟩
abbrev S512 : Shape := ⟨1, ![512]⟩
abbrev S4x128 : Shape := ⟨2, ![4, 128]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x512 : Shape := ⟨2, ![1, 512]⟩
abbrev S1x1024 : Shape := ⟨2, ![1, 1024]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩
abbrev S256x128 : Shape := ⟨2, ![256, 128]⟩
abbrev S1x128 : Shape := ⟨2, ![1, 128]⟩
abbrev S256x1024 : Shape := ⟨2, ![256, 1024]⟩
abbrev S1024x256 : Shape := ⟨2, ![1024, 256]⟩
abbrev S256x256 : Shape := ⟨2, ![256, 256]⟩
abbrev S256x2816 : Shape := ⟨2, ![256, 2816]⟩

abbrev nBuf : Space → Nat
  | .hbm => 23
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x512, .bf16⟩
  | .hbm, ⟨3, _⟩ => ⟨S16384x3072, .bf16⟩
  | .hbm, ⟨4, _⟩ => ⟨S512, .f32⟩
  | .hbm, ⟨5, _⟩ => ⟨S4x128, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S1024, .f32⟩
  | .hbm, ⟨13, _⟩ => ⟨S1x512, .f32⟩
  | .hbm, ⟨14, _⟩ => ⟨S1x512, .f32⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S1024x2816, .bf16⟩
  | .hbm, ⟨19, _⟩ => ⟨S1024x2816, .bf16⟩
  | .hbm, ⟨20, _⟩ => ⟨S2816x1024, .bf16⟩
  | .hbm, ⟨21, _⟩ => ⟨S1x1024, .f32⟩
  | .hbm, ⟨22, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S16384x1024 : Shape := ⟨2, ![16384, 1024]⟩
abbrev S16384x512 : Shape := ⟨2, ![16384, 512]⟩
abbrev S16384x3072 : Shape := ⟨2, ![16384, 3072]⟩
abbrev S512 : Shape := ⟨1, ![512]⟩
abbrev S4x128 : Shape := ⟨2, ![4, 128]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S16384x4x128 : Shape := ⟨3, ![16384, 4, 128]⟩
abbrev S16384x4 : Shape := ⟨2, ![16384, 4]⟩
abbrev S16384x4x1 : Shape := ⟨3, ![16384, 4, 1]⟩
abbrev S1x4x128 : Shape := ⟨3, ![1, 4, 128]⟩
abbrev S1x1024 : Shape := ⟨2, ![1, 1024]⟩
abbrev S16384x2816 : Shape := ⟨2, ![16384, 2816]⟩

abbrev nBuf : Space → Nat
  | .hbm => 129
  | .vmem => 0
  | .smem => 0
  | _ => 0

abbrev hbmTy0_0 (i : Nat) : BufTy := match i % 128 with
  | 0 => ⟨S16384x1024, .f32⟩
  | 1 => ⟨S16384x512, .bf16⟩
  | 2 => ⟨S16384x512, .bf16⟩
  | 3 => ⟨S16384x3072, .bf16⟩
  | 4 => ⟨S512, .f32⟩
  | 5 => ⟨S4x128, .f32⟩
  | 6 => ⟨S1024x1024, .f32⟩
  | 7 => ⟨S1024, .f32⟩
  | 8 => ⟨S1024, .f32⟩
  | 9 => ⟨S1024x2816, .f32⟩
  | 10 => ⟨S1024x2816, .f32⟩
  | 11 => ⟨S2816x1024, .f32⟩
  | 12 => ⟨S1024, .f32⟩
  | 13 => ⟨S16384x512, .bf16⟩
  | 14 => ⟨S16384x512, .f32⟩
  | 15 => ⟨S16384x512, .f32⟩
  | 16 => ⟨S16384x512, .f32⟩
  | 17 => ⟨S_, .f32⟩
  | 18 => ⟨S16384, .f32⟩
  | 19 => ⟨S16384x1, .f32⟩
  | 20 => ⟨S_, .f32⟩
  | 21 => ⟨S16384x1, .f32⟩
  | 22 => ⟨S16384x1, .f32⟩
  | 23 => ⟨S_, .f32⟩
  | 24 => ⟨S16384x1, .f32⟩
  | 25 => ⟨S16384x1, .f32⟩
  | 26 => ⟨S16384x1, .f32⟩
  | 27 => ⟨S16384x512, .f32⟩
  | 28 => ⟨S16384x512, .f32⟩
  | 29 => ⟨S1x512, .f32⟩
  | 30 => ⟨S16384x512, .f32⟩
  | 31 => ⟨S16384x512, .f32⟩
  | 32 => ⟨S16384x512, .f32⟩
  | 33 => ⟨S16384x4x128, .f32⟩
  | 34 => ⟨S16384x4x128, .f32⟩
  | 35 => ⟨S_, .f32⟩
  | 36 => ⟨S16384x4, .f32⟩
  | 37 => ⟨S16384x4x1, .f32⟩
  | 38 => ⟨S_, .f32⟩
  | 39 => ⟨S16384x4x1, .f32⟩
  | 40 => ⟨S16384x4x1, .f32⟩
  | 41 => ⟨S_, .f32⟩
  | 42 => ⟨S16384x4x1, .f32⟩
  | 43 => ⟨S16384x4x1, .f32⟩
  | 44 => ⟨S16384x4x1, .f32⟩
  | 45 => ⟨S16384x4x128, .f32⟩
  | 46 => ⟨S16384x4x128, .f32⟩
  | 47 => ⟨S1x4x128, .f32⟩
  | 48 => ⟨S16384x4x128, .f32⟩
  | 49 => ⟨S16384x4x128, .f32⟩
  | 50 => ⟨S16384x512, .f32⟩
  | 51 => ⟨S16384x512, .f32⟩
  | 52 => ⟨S16384x512, .f32⟩
  | 53 => ⟨S_, .f32⟩
  | 54 => ⟨S16384x512, .f32⟩
  | 55 => ⟨S16384x512, .f32⟩
  | 56 => ⟨S_, .f32⟩
  | 57 => ⟨S16384x512, .f32⟩
  | 58 => ⟨S16384x512, .f32⟩
  | 59 => ⟨S16384x512, .f32⟩
  | 60 => ⟨S16384x512, .f32⟩
  | 61 => ⟨S16384x1024, .f32⟩
  | 62 => ⟨S16384x1024, .f32⟩
  | 63 => ⟨S16384x1024, .f32⟩
  | 64 => ⟨S_, .f32⟩
  | 65 => ⟨S16384, .f32⟩
  | 66 => ⟨S16384x1, .f32⟩
  | 67 => ⟨S_, .f32⟩
  | 68 => ⟨S16384x1, .f32⟩
  | 69 => ⟨S16384x1, .f32⟩
  | 70 => ⟨S_, .f32⟩
  | 71 => ⟨S16384x1, .f32⟩
  | 72 => ⟨S16384x1, .f32⟩
  | 73 => ⟨S16384x1, .f32⟩
  | 74 => ⟨S16384x1024, .f32⟩
  | 75 => ⟨S16384x1024, .f32⟩
  | 76 => ⟨S1x1024, .f32⟩
  | 77 => ⟨S16384x1024, .f32⟩
  | 78 => ⟨S16384x1024, .f32⟩
  | 79 => ⟨S16384x1024, .f32⟩
  | 80 => ⟨S16384x1024, .f32⟩
  | 81 => ⟨S_, .f32⟩
  | 82 => ⟨S16384, .f32⟩
  | 83 => ⟨S16384x1, .f32⟩
  | 84 => ⟨S_, .f32⟩
  | 85 => ⟨S16384x1, .f32⟩
  | 86 => ⟨S16384x1, .f32⟩
  | 87 => ⟨S_, .f32⟩
  | 88 => ⟨S16384x1, .f32⟩
  | 89 => ⟨S16384x1, .f32⟩
  | 90 => ⟨S16384x1, .f32⟩
  | 91 => ⟨S16384x1024, .f32⟩
  | 92 => ⟨S16384x1024, .f32⟩
  | 93 => ⟨S1x1024, .f32⟩
  | 94 => ⟨S16384x1024, .f32⟩
  | 95 => ⟨S16384x1024, .f32⟩
  | 96 => ⟨S16384x2816, .f32⟩
  | 97 => ⟨S16384x2816, .f32⟩
  | 98 => ⟨S16384x2816, .f32⟩
  | 99 => ⟨S_, .f32⟩
  | 100 => ⟨S16384x2816, .f32⟩
  | 101 => ⟨S16384x2816, .f32⟩
  | 102 => ⟨S_, .f32⟩
  | 103 => ⟨S16384x2816, .f32⟩
  | 104 => ⟨S16384x2816, .f32⟩
  | 105 => ⟨S16384x2816, .f32⟩
  | 106 => ⟨S16384x2816, .f32⟩
  | 107 => ⟨S16384x2816, .f32⟩
  | 108 => ⟨S16384x1024, .f32⟩
  | 109 => ⟨S16384x1024, .f32⟩
  | 110 => ⟨S_, .f32⟩
  | 111 => ⟨S16384, .f32⟩
  | 112 => ⟨S16384x1, .f32⟩
  | 113 => ⟨S_, .f32⟩
  | 114 => ⟨S16384x1, .f32⟩
  | 115 => ⟨S16384x1, .f32⟩
  | 116 => ⟨S_, .f32⟩
  | 117 => ⟨S16384x1, .f32⟩
  | 118 => ⟨S16384x1, .f32⟩
  | 119 => ⟨S16384x1, .f32⟩
  | 120 => ⟨S16384x1024, .f32⟩
  | 121 => ⟨S16384x1024, .f32⟩
  | 122 => ⟨S1x1024, .f32⟩
  | 123 => ⟨S16384x1024, .f32⟩
  | 124 => ⟨S16384x1024, .f32⟩
  | 125 => ⟨S_, .f32⟩
  | 126 => ⟨S16384x1024, .f32⟩
  | 127 => ⟨S16384x1024, .f32⟩
  | _ => ⟨S16384x1024, .f32⟩

abbrev hbmTy0_1 (i : Nat) : BufTy := match i % 128 with
  | 0 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_5 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_cst_8 : Ref sig .tc := ⟨.hbm, 81, rfl⟩
abbrev main_v51 : Ref sig .tc := ⟨.hbm, 82, rfl⟩
abbrev main_v52 : Ref sig .tc := ⟨.hbm, 83, rfl⟩
abbrev main_cst_9 : Ref sig .tc := ⟨.hbm, 84, rfl⟩
abbrev main_v53 : Ref sig .tc := ⟨.hbm, 85, rfl⟩
abbrev main_v54 : Ref sig .tc := ⟨.hbm, 86, rfl⟩
abbrev main_cst_10 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_call1_v0 : Ref sig .tc := ⟨.hbm, 97, rfl⟩
abbrev main_call1_v1 : Ref sig .tc := ⟨.hbm, 98, rfl⟩
abbrev main_call1_cst : Ref sig .tc := ⟨.hbm, 99, rfl⟩
abbrev main_call1_v2 : Ref sig .tc := ⟨.hbm, 100, rfl⟩
abbrev main_call1_v3 : Ref sig .tc := ⟨.hbm, 101, rfl⟩
abbrev main_call1_cst_0 : Ref sig .tc := ⟨.hbm, 102, rfl⟩
abbrev main_call1_v4 : Ref sig .tc := ⟨.hbm, 103, rfl⟩
abbrev main_call1_v5 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_cst_11 : Ref sig .tc := ⟨.hbm, 110, rfl⟩
abbrev main_v69 : Ref sig .tc := ⟨.hbm, 111, rfl⟩
abbrev main_v70 : Ref sig .tc := ⟨.hbm, 112, rfl⟩
abbrev main_cst_12 : Ref sig .tc := ⟨.hbm, 113, rfl⟩
abbrev main_v71 : Ref sig .tc := ⟨.hbm, 114, rfl⟩
abbrev main_v72 : Ref sig .tc := ⟨.hbm, 115, rfl⟩
abbrev main_cst_13 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_14 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1024x3088 : Shape := ⟨2, ![1024, 3088]⟩
abbrev S16x256 : Shape := ⟨2, ![16, 256]⟩
abbrev S256 : Shape := ⟨1, ![256]⟩
abbrev S1024x1024 : Shape := ⟨2, ![1024, 1024]⟩
abbrev S_ : Shape := ⟨0, ![]⟩
abbrev S128x256 : Shape := ⟨2, ![128, 256]⟩
abbrev S1x1024 : Shape := ⟨2, ![1, 1024]⟩
abbrev S3088x1024 : Shape := ⟨2, ![3088, 1024]⟩
abbrev S1x256 : Shape := ⟨2, ![1, 256]⟩
abbrev S16384x3072 : Shape := ⟨2, ![16384, 3072]⟩
abbrev S64x1x512 : Shape := ⟨3, ![64, 1, 512]⟩
abbrev S16384x256 : Shape := ⟨2, ![16384, 256]⟩
abbrev S512x1024 : Shape := ⟨2, ![512, 1024]⟩
abbrev S32x1024 : Shape := ⟨2, ![32, 1024]⟩
abbrev S32x2816 : Shape := ⟨2, ![32, 2816]⟩
abbrev S176x1024 : Shape := ⟨2, ![176, 1024]⟩
abbrev S512x3072 : Shape := ⟨2, ![512, 3072]⟩
abbrev S2x1x512 : Shape := ⟨3, ![2, 1, 512]⟩
abbrev S512x256 : Shape := ⟨2, ![512, 256]⟩
abbrev S512x2816 : Shape := ⟨2, ![512, 2816]⟩
abbrev S1024x2560 : Shape := ⟨2, ![1024, 2560]⟩
abbrev S1024x512 : Shape := ⟨2, ![1024, 512]⟩
abbrev S128x1024 : Shape := ⟨2, ![128, 1024]⟩
abbrev S3x256x2816 : Shape := ⟨3, ![3, 256, 2816]⟩
abbrev S3 : Shape := ⟨1, ![3]⟩
abbrev S1 : Shape := ⟨1, ![1]⟩
abbrev S1x256x2816 : Shape := ⟨3, ![1, 256, 2816]⟩
abbrev S256x2816 : Shape := ⟨2, ![256, 2816]⟩
abbrev S1x256x1024 : Shape := ⟨3, ![1, 256, 1024]⟩
abbrev S256x1024 : Shape := ⟨2, ![256, 1024]⟩
abbrev S1024x256 : Shape := ⟨2, ![1024, 256]⟩
abbrev S1x128x1024 : Shape := ⟨3, ![1, 128, 1024]⟩
abbrev S256x1 : Shape := ⟨2, ![256, 1]⟩
abbrev S256x256 : Shape := ⟨2, ![256, 256]⟩
abbrev S256x512 : Shape := ⟨2, ![256, 512]⟩
abbrev S512 : Shape := ⟨1, ![512]⟩
abbrev S1x512 : Shape := ⟨2, ![1, 512]⟩
abbrev S1x1x512 : Shape := ⟨3, ![1, 1, 512]⟩
abbrev S256x128 : Shape := ⟨2, ![256, 128]⟩

abbrev nBuf : Space → Nat
  | .hbm => 31
  | .vmem => 39
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x3088, .f32⟩
  | .hbm, ⟨8, _⟩ => ⟨S16x256, .f32⟩
  | .hbm, ⟨9, _⟩ => ⟨S256, .f32⟩
  | .hbm, ⟨10, _⟩ => ⟨S1024x1024, .f32⟩
  | .hbm, ⟨11, _⟩ => ⟨S1024x2816, .f32⟩
  | .hbm, ⟨12, _⟩ => ⟨S1024x2816, .f32⟩
  | .hbm, ⟨13, _⟩ => ⟨S2816x1024, .f32⟩
  | .hbm, ⟨14, _⟩ => ⟨S_, .i32⟩
  | .hbm, ⟨15, _⟩ => ⟨S_, .f32⟩
  | .hbm, ⟨16, _⟩ => ⟨S128x256, .f32⟩
  | .hbm, ⟨17, _⟩ => ⟨S128x256, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S3088x1024, .f32⟩
  | .hbm, ⟨22, _⟩ => ⟨S1x256, .f32⟩
  | .hbm, ⟨23, _⟩ => ⟨S16384x1024, .f32⟩
  | .hbm, ⟨24, _⟩ => ⟨S16384x3072, .bf16⟩
  | .hbm, ⟨25, _⟩ => ⟨S64x1x512, .f32⟩
  | .hbm, ⟨26, _⟩ => ⟨S16384x256, .f32⟩
  | .hbm, ⟨27, _⟩ => ⟨S1024x1024, .bf16⟩
  | .hbm, ⟨28, _⟩ => ⟨S1024x2816, .bf16⟩
  | .hbm, ⟨29, _⟩ => ⟨S1024x2816, .bf16⟩
  | .hbm, ⟨30, _⟩ => ⟨S2816x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S128x256, .bf16⟩
  | .local _ .vmem, ⟨6, _⟩ => ⟨S1x256, .f32⟩
  | .local _ .vmem, ⟨7, _⟩ => ⟨S32x1024, .f32⟩
  | .local _ .vmem, ⟨8, _⟩ => ⟨S32x1024, .f32⟩
  | .local _ .vmem, ⟨9, _⟩ => ⟨S32x2816, .f32⟩
  | .local _ .vmem, ⟨10, _⟩ => ⟨S32x2816, .f32⟩
  | .local _ .vmem, ⟨11, _⟩ => ⟨S32x2816, .f32⟩
  | .local _ .vmem, ⟨12, _⟩ => ⟨S32x2816, .f32⟩
  | .local _ .vmem, ⟨13, _⟩ => ⟨S176x1024, .f32⟩
  | .local _ .vmem, ⟨14, _⟩ => ⟨S176x1024, .f32⟩
  | .local _ .vmem, ⟨15, _⟩ => ⟨S512x1024, .f32⟩
  | .local _ .vmem, ⟨16, _⟩ => ⟨S512x1024, .f32⟩
  | .local _ .vmem, ⟨17, _⟩ => ⟨S512x3072, .bf16⟩
  | .local _ .vmem, ⟨18, _⟩ => ⟨S512x3072, .bf16⟩
  | .local _ .vmem, ⟨19, _⟩ => ⟨S2x1x512, .f32⟩
  | .local _ .vmem, ⟨20, _⟩ => ⟨S2x1x512, .f32⟩
  | .local _ .vmem, ⟨21, _⟩ => ⟨S512x256, .f32⟩
  | .local _ .vmem, ⟨22, _⟩ => ⟨S512x256, .f32⟩
  | .local _ .vmem, ⟨23, _⟩ => ⟨S32x1024, .bf16⟩
  | .local _ .vmem, ⟨24, _⟩ => ⟨S32x1024, .bf16⟩
  | .local _ .vmem, ⟨25, _⟩ => ⟨S32x2816, .bf16⟩
  | .local _ .vmem, ⟨26, _⟩ => ⟨S32x2816, .bf16⟩
  | .local _ .vmem, ⟨27, _⟩ => ⟨S32x2816, .bf16⟩
  | .local _ .vmem, ⟨28, _⟩ => ⟨S32x2816, .bf16⟩
  | .local _ .vmem, ⟨29, _⟩ => ⟨S176x1024, .bf16⟩
  | .local _ .vmem, ⟨30, _⟩ => ⟨S176x1024, .bf16⟩
  | .local _ .vmem, ⟨31, _⟩ => ⟨S512x2816, .bf16⟩
  | .local _ .vmem, ⟨32, _⟩ => ⟨S1024x2816, .bf16⟩
  | .local _ .vmem, ⟨33, _⟩ => ⟨S1024x2816, .bf16⟩
  | .local _ .vmem, ⟨34, _⟩ => ⟨S2816x1024, .bf16⟩
  | .local _ .vmem, ⟨35, _⟩ => ⟨S1024x2560, .bf16⟩
  | .local _ .vmem, ⟨36, _⟩ => ⟨S1024x512, .bf16⟩
  | .local _ .vmem, ⟨37, _⟩ => ⟨S128x1024, .bf16⟩
  | .local _ .vmem, ⟨38, _⟩ => ⟨S3x256x2816, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v7_2 : Ref sig .tc := ⟨.hbm, 25, rfl⟩
abbrev main_v7_3 : Ref sig .tc := ⟨.hbm, 26, rfl⟩
abbrev main_v7_4 : Ref sig .tc := ⟨.hbm, 27, rfl⟩
abbrev main_v7_5 : Ref sig .tc := ⟨.hbm, 28, rfl⟩
abbrev main_v7_6 : Ref sig .tc := ⟨.hbm, 29, rfl⟩
abbrev main_v7_7 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_scratch6 : Ref sig .tc := ⟨.vmem, 37, rfl⟩
abbrev cc0_scratch7 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_11 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_12 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_13 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_19 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_20 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_21 (i : grid0.Coords) : Fin 2 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x2816 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S176x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1024x3088 : Shape := ⟨2, ![1024, 3088]⟩
abbrev S16x256 : Shape := ⟨2, ![16, 256]⟩
abbrev S256 : Shape := ⟨1, ![256]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S16384x3088 : Shape := ⟨2, ![16384, 3088]⟩
abbrev S16384x512 : Shape := ⟨2, ![16384, 512]⟩
abbrev S16384x256 : Shape := ⟨2, ![16384, 256]⟩
abbrev S16384x16 : Shape := ⟨2, ![16384, 16]⟩
abbrev S64x256x512 : Shape := ⟨3, ![64, 256, 512]⟩
abbrev S64x512 : Shape := ⟨2, ![64, 512]⟩
abbrev S64x1x512 : Shape := ⟨3, ![64, 1, 512]⟩
abbrev S1x256 : Shape := ⟨2, ![1, 256]⟩
abbrev S16384x3072 : Shape := ⟨2, ![16384, 3072]⟩

abbrev nBuf : Space → Nat
  | .hbm => 126
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024, .f32⟩
  | .hbm, ⟨7, _⟩ => ⟨S1024x3088, .f32⟩
  | .hbm, ⟨8, _⟩ => ⟨S16x256, .f32⟩
  | .hbm, ⟨9, _⟩ => ⟨S256, .f32⟩
  | .hbm, ⟨10, _⟩ => ⟨S1024x1024, .f32⟩
  | .hbm, ⟨11, _⟩ => ⟨S1024x2816, .f32⟩
  | .hbm, ⟨12, _⟩ => ⟨S1024x2816, .f32⟩
  | .hbm, ⟨13, _⟩ => ⟨S2816x1024, .f32⟩
  | .hbm, ⟨14, _⟩ => ⟨S16384x1024, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x1024, .f32⟩
  | .hbm, ⟨26, _⟩ => ⟨S16384x1024, .f32⟩
  | .hbm, ⟨27, _⟩ => ⟨S1x1024, .f32⟩
  | .hbm, ⟨28, _⟩ => ⟨S16384x1024, .f32⟩
  | .hbm, ⟨29, _⟩ => ⟨S16384x1024, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S_, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S16384x2816, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S16384, .f32⟩
  | .hbm, ⟨46, _⟩ => ⟨S16384x1, .f32⟩
  | .hbm, ⟨47, _⟩ => ⟨S_, .f32⟩
  | .hbm, ⟨48, _⟩ => ⟨S16384x1, .f32⟩
  | .hbm, ⟨49, _⟩ => ⟨S16384x1, .f32⟩
  | .hbm, ⟨50, _⟩ => ⟨S_, .f32⟩
  | .hbm, ⟨51, _⟩ => ⟨S16384x1, .f32⟩
  | .hbm, ⟨52, _⟩ => ⟨S16384x1, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S1x1024, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S_, .f32⟩
  | .hbm, ⟨65, _⟩ => ⟨S16384, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S_, .f32⟩
  | .hbm, ⟨71, _⟩ => ⟨S16384x1, .f32⟩
  | .hbm, ⟨72, _⟩ => ⟨S16384x1, .f32⟩
  | .hbm, ⟨73, _⟩ => ⟨S16384x1, .f32⟩
  | .hbm, ⟨74, _⟩ => ⟨S16384x1024, .f32⟩
  | .hbm, ⟨75, _⟩ => ⟨S16384x1024, .f32⟩
  | .hbm, ⟨76, _⟩ => ⟨S1x1024, .f32⟩
  | .hbm, ⟨77, _⟩ => ⟨S16384x1024, .f32⟩
  | .hbm, ⟨78, _⟩ => ⟨S16384x1024, .f32⟩
  | .hbm, ⟨79, _⟩ => ⟨S16384x3088, .f32⟩
  | .hbm, ⟨80, _⟩ => ⟨S16384x512, .f32⟩
  | .hbm, ⟨81, _⟩ => ⟨S16384x512, .f32⟩
  | .hbm, ⟨82, _⟩ => ⟨S16384x512, .f32⟩
  | .hbm, ⟨83, _⟩ => ⟨S16384x256, .f32⟩
  | .hbm, ⟨84, _⟩ => ⟨S16384x256, .f32⟩
  | .hbm, ⟨85, _⟩ => ⟨S16384x512, .f32⟩
  | .hbm, ⟨86, _⟩ => ⟨S16384x16, .f32⟩
  | .hbm, ⟨87, _⟩ => ⟨S16384x512, .f32⟩
  | .hbm, ⟨88, _⟩ => ⟨S64x256x512, .f32⟩
  | .hbm, ⟨89, _⟩ => ⟨S_, .f32⟩
  | .hbm, ⟨90, _⟩ => ⟨S64x512, .f32⟩
  | .hbm, ⟨91, _⟩ => ⟨S64x1x512, .f32⟩
  | .hbm, ⟨92, _⟩ => ⟨S_, .f32⟩
  | .hbm, ⟨93, _⟩ => ⟨S64x1x512, .f32⟩
  | .hbm, ⟨94, _⟩ => ⟨S64x1x512, .f32⟩
  | .hbm, ⟨95, _⟩ => ⟨S16384x256, .f32⟩
  | .hbm, ⟨96, _⟩ => ⟨S1x256, .f32⟩
  | .hbm, ⟨97, _⟩ => ⟨S16384x256, .f32⟩
  | .hbm, ⟨98, _⟩ => ⟨S16384x256, .f32⟩
  | .hbm, ⟨99, _⟩ => ⟨S16384x256, .f32⟩
  | .hbm, ⟨100, _⟩ => ⟨S_, .f32⟩
  | .hbm, ⟨101, _⟩ => ⟨S16384x256, .f32⟩
  | .hbm, ⟨102, _⟩ => ⟨S16384x256, .f32⟩
  | .hbm, ⟨103, _⟩ => ⟨S16384x256, .f32⟩
  | .hbm, ⟨104, _⟩ => ⟨S16384x256, .f32⟩
  | .hbm, ⟨105, _⟩ => ⟨S16384x256, .i1⟩
  | .hbm, ⟨106, _⟩ => ⟨S16384x256, .f32⟩
  | .hbm, ⟨107, _⟩ => ⟨S16384x256, .f32⟩
  | .hbm, ⟨108, _⟩ => ⟨S16384x256, .f32⟩
  | .hbm, ⟨109, _⟩ => ⟨S16384x256, .f32⟩
  | .hbm, ⟨110, _⟩ => ⟨S16384x256, .f32⟩
  | .hbm, ⟨111, _⟩ => ⟨S16384x256, .f32⟩
  | .hbm, ⟨112, _⟩ => ⟨S16384x256, .f32⟩
  | .hbm, ⟨113, _⟩ => ⟨S16384x256, .f32⟩
  | .hbm, ⟨114, _⟩ => ⟨S16384x256, .f32⟩
  | .hbm, ⟨115, _⟩ => ⟨S_, .f32⟩
  | .hbm, ⟨116, _⟩ => ⟨S16384x256, .f32⟩
  | .hbm, ⟨117, _⟩ => ⟨S16384x256, .f32⟩
  | .hbm, ⟨118, _⟩ => ⟨S_, .f32⟩
  | .hbm, ⟨119, _⟩ => ⟨S16384x512, .f32⟩
  | .hbm, ⟨120, _⟩ => ⟨S16384x512, .f32⟩
  | .hbm, ⟨121, _⟩ => ⟨S16384x3072, .f32⟩
  | .hbm, ⟨122, _⟩ => ⟨S16384x3072, .bf16⟩
  | .hbm, ⟨123, _⟩ => ⟨S_, .f32⟩
  | .hbm, ⟨124, _⟩ => ⟨S16384x256, .f32⟩
  | .hbm, ⟨125, _⟩ => ⟨S16384x256, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_cst_2 : Ref sig .tc := ⟨.hbm, 44, rfl⟩
abbrev main_v19 : Ref sig .tc := ⟨.hbm, 45, rfl⟩
abbrev main_v20 : Ref sig .tc := ⟨.hbm, 46, rfl⟩
abbrev main_cst_3 : Ref sig .tc := ⟨.hbm, 47, rfl⟩
abbrev main_v21 : Ref sig .tc := ⟨.hbm, 48, rfl⟩
abbrev main_v22 : Ref sig .tc := ⟨.hbm, 49, rfl⟩
abbrev main_cst_4 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_5 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_6 : Ref sig .tc := ⟨.hbm, 64, rfl⟩
abbrev main_v35 : Ref sig .tc := ⟨.hbm, 65, rfl⟩
abbrev main_v36 : Ref sig .tc := ⟨.hbm, 66, rfl⟩
abbrev main_cst_7 : Ref sig .tc := ⟨.hbm, 67, rfl⟩
abbrev main_v37 : Ref sig .tc := ⟨.hbm, 68, rfl⟩
abbrev main_v38 : Ref sig .tc := ⟨.hbm, 69, rfl⟩
abbrev main_cst_8 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_9 : Ref sig .tc := ⟨.hbm, 89, rfl⟩
abbrev main_v57 : Ref sig .tc := ⟨.hbm, 90, rfl⟩
abbrev main_v58 : Ref sig .tc := ⟨.hbm, 91, rfl⟩
abbrev main_cst_10 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_call1_v0 : Ref sig .tc := ⟨.hbm, 99, rfl⟩
abbrev main_call1_call0_cst : Ref sig .tc := ⟨.hbm, 100, rfl⟩
abbrev main_call1_call0_v0 : Ref sig .tc := ⟨.hbm, 101, rfl⟩
abbrev main_call1_call0_v1 : Ref sig .tc := ⟨.hbm, 102, rfl⟩
abbrev main_call1_call0_v2 : Ref sig .tc := ⟨.hbm, 103, rfl⟩
abbrev main_call1_call0_v3 : Ref sig .tc := ⟨.hbm, 104, rfl⟩
abbrev main_call1_call0_v4 : Ref sig .tc := ⟨.hbm, 105, rfl⟩
abbrev main_call1_call0_v5 : Ref sig .tc := ⟨.hbm, 106, rfl⟩
abbrev main_call1_call0_v6 : Ref sig .tc := ⟨.hbm, 107, rfl⟩
abbrev main_call1_call0_v7 : Ref sig .tc := ⟨.hbm, 108, rfl⟩
abbrev main_call1_call0_v8 : Ref sig .tc := ⟨.hbm, 109, rfl⟩
abbrev main_call1_call0_v9 : Ref sig .tc := ⟨.hbm, 110, rfl⟩
abbrev main_call1_call0_v10 : Ref sig .tc := ⟨.hbm, 111, rfl⟩
abbrev main_call1_call0_v11 : Ref sig .tc := ⟨.hbm, 112, rfl⟩
abbrev main_call1_v1 : Ref sig .tc := ⟨.hbm, 113, rfl⟩
abbrev main_v65 : Ref sig .tc := ⟨.hbm, 114, rfl⟩
abbrev main_cst_11 : Ref sig .tc := ⟨.hbm, 115, rfl⟩
abbrev main_v66 : Ref sig .tc := ⟨.hbm, 116, rfl⟩
abbrev main_v67 : Ref sig .tc := ⟨.hbm, 117, rfl⟩
abbrev main_cst_12 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_cst_13 : Ref sig .tc := ⟨.hbm, 123, rfl⟩
abbrev main_v72 : Ref sig .tc := ⟨.hbm, 124, rfl⟩
abbrev main_v73 : Ref sig .tc := ⟨.hbm, 125, rfl⟩

abbrev nD : Nat := 1
abbrev τ : Topo := Topo.v7x

variable {F : FTy → Type} [FloatOps F]
-- ==== Proof.GlaReal.lean ====
module

public import Mathlib.Analysis.SpecialFunctions.Pow.Real
public import Mathlib.Algebra.BigOperators.Fin
public import Mathlib.Data.EReal.Operations

@[expose] public section

/-! # The gated linear attention over the reals

One head of one batch, as functions of the time step. `q`, `k`, `v` are the (scaled) queries, the keys and the values, `a`
the log decays. The attention's output at a step is the sum over the steps up to it, and so is the state; both can be
taken up at any step `c` from the state there. That is all a walk in tiles or in chunks, of whatever length, uses. -/

noncomputable section

namespace Gla

open Finset

/-- The sum of reals among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_sum_fin (n : ℕ) (f : ℕ → ℝ) : (∑ i : Fin n, ((f i.val : ℝ) : EReal)) = ((∑ i ∈ Finset.range n, f i : ℝ) : EReal) := by
  rw [Finset.sum_range, coe_sum]

/-- The running sum of the log decays before step `n`. -/
def cum (a : ℕ → ℕ → ℝ) (n d : ℕ) : ℝ := ∑ s ∈ range n, a s d

/-- The state before step `n`. -/
def stateR (k a v : ℕ → ℕ → ℝ) (n d e : ℕ) : ℝ := ∑ s ∈ range n, k s d * Real.exp (cum a n d - cum a (s + 1) d) * v s e

/-- The weight of step `s` at step `t`. -/
def wR (q k a : ℕ → ℕ → ℝ) (t s : ℕ) : ℝ := ∑ d ∈ range 64, q t d * k s d * Real.exp (cum a (t + 1) d - cum a (s + 1) d)

/-- The output at step `t`. -/
def outR (q k a v : ℕ → ℕ → ℝ) (t e : ℕ) : ℝ := ∑ s ∈ range (t + 1), wR q k a t s * v s e

variable (q k a v : ℕ → ℕ → ℝ)

/-- The sum of a stretch of log decays. -/
theorem cum_add (c i d : ℕ) : cum a (c + i) d - cum a c d = ∑ j ∈ range i, a (c + j) d := by
  unfold cum; rw [sum_range_add]; ring

theorem state_zero (d e : ℕ) : stateR k a v 0 d e = 0 := by simp [stateR]

/-- The state `n` steps on: decayed, and the steps between. -/
theorem state_add (c n d e : ℕ) :
    stateR k a v (c + n) d e = Real.exp (cum a (c + n) d - cum a c d) * stateR k a v c d e
      + ∑ i ∈ range n, k (c + i) d * Real.exp (cum a (c + n) d - cum a (c + i + 1) d) * v (c + i) e := by
  unfold stateR
  rw [sum_range_add, mul_sum]
  congr 1
  refine sum_congr rfl fun s _ => ?_
  rw [show cum a (c + n) d - cum a (s + 1) d = (cum a (c + n) d - cum a c d) + (cum a c d - cum a (s + 1) d) by ring, Real.exp_add]
  ring

/-- The output `i` steps on: from the state, and the steps between. -/
theorem out_add (c i e : ℕ) :
    outR q k a v (c + i) e = ∑ d ∈ range 64, q (c + i) d * Real.exp (cum a (c + i + 1) d - cum a c d) * stateR k a v c d e
      + ∑ j ∈ range (i + 1), wR q k a (c + i) (c + j) * v (c + j) e := by
  unfold outR
  rw [show c + i + 1 = c + (i + 1) by ring, sum_range_add]
  congr 1
  unfold wR stateR
  simp only [sum_mul, mul_sum]
  rw [sum_comm]
  refine sum_congr rfl fun d _ => sum_congr rfl fun s _ => ?_
  rw [show c + i + 1 = c + (i + 1) by ring,
    show cum a (c + (i + 1)) d - cum a (s + 1) d = (cum a (c + (i + 1)) d - cum a c d) + (cum a c d - cum a (s + 1) d) by ring, Real.exp_add]
  ring

/-- A power of two of a quotient by the logarithm of two is the exponential. -/
theorem two_rpow (x : ℝ) : Real.rpow 2 (x / Real.log 2) = Real.exp x := by
  show (2 : ℝ) ^ (x / Real.log 2) = Real.exp x
  rw [Real.rpow_def_of_pos (by norm_num), mul_div_cancel₀ _ (Real.log_pos (by norm_num)).ne']

/-- The sum of the terms up to `t` among `n`. -/
theorem sum_le {n t : ℕ} (h : t < n) (f : ℕ → ℝ) : (∑ s ∈ range n, if s ≤ t then f s else 0) = ∑ s ∈ range (t + 1), f s := by
  rw [← sum_filter]
  congr 1
  ext s
  simp only [mem_filter, mem_range]
  omega

end Gla

end
-- ==== Proof.GlaHeads.lean ====
module

public import proofs.«01_k».proof.Proof.GlaReal
public import Idealize.ShloMosaic.Lib.ValueIdx

@[expose] public section

/-! # The heads of the two arguments

The queries, keys, values and log decays of a batch and a head, as functions of the time step and the lane, read off
the two argument arrays. -/

noncomputable section

namespace Gla

open Idealize.ShloMosaic Idealize.ShloMosaic.ValueIdx

/-- An array's entry as a real, zero outside the array. -/
def rd {n m l : ℕ} (x : (⟨3, ![n, m, l]⟩ : Shape).Idx → EReal) (b t c : ℕ) : ℝ :=
  if h : b < n ∧ t < m ∧ c < l then (x (ix3 ⟨b, h.1⟩ ⟨t, h.2.1⟩ ⟨c, h.2.2⟩)).toReal else 0

/-- The entries of the columns from `lo` to `hi` are reals. -/
def RealCols {n m l : ℕ} (lo hi : ℕ) (x : (⟨3, ![n, m, l]⟩ : Shape).Idx → EReal) : Prop :=
  ∀ (b : Fin n) (t : Fin m) (c : Fin l), lo ≤ c.val → c.val < hi → x (ix3 b t c) ≠ ⊤ ∧ x (ix3 b t c) ≠ ⊥

theorem coe_rd {n m l lo hi : ℕ} {x : (⟨3, ![n, m, l]⟩ : Shape).Idx → EReal} (hx : RealCols lo hi x) (b : Fin n) (t : Fin m) (c : Fin l)
    (h0 : lo ≤ c.val) (h1 : c.val < hi) : x (ix3 b t c) = ((rd x b.val t.val c.val : ℝ) : EReal) := by
  unfold rd
  rw [dif_pos ⟨b.isLt, t.isLt, c.isLt⟩]
  exact (EReal.coe_toReal (hx b t c h0 h1).1 (hx b t c h0 h1).2).symm

section heads

variable (x : (⟨3, ![8, 2048, 3088]⟩ : Shape).Idx → EReal) (la : (⟨3, ![8, 2048, 256]⟩ : Shape).Idx → EReal) (b h : ℕ)

/-- The queries of a head, scaled. -/
def headQ (t d : ℕ) : ℝ := rd x b t (1536 + 64 * h + d) * (1 / 8)
/-- The keys of a head. -/
def headK (t d : ℕ) : ℝ := rd x b t (1792 + 64 * h + d)
/-- The values of a head. -/
def headV (t e : ℕ) : ℝ := rd x b t (2048 + 128 * h + e)
/-- The log decays of a head. -/
def headA (t d : ℕ) : ℝ := rd la b t (64 * h + d)

/-- The state of a head before a step. -/
def headState (n d e : ℕ) : ℝ := stateR (headK x b h) (headA la b h) (headV x b h) n d e
/-- The output of a head at a step. -/
def headOut (t e : ℕ) : ℝ := outR (headQ x b h) (headK x b h) (headA la b h) (headV x b h) t e

end heads

end Gla

end
-- ==== Proof.GlaEq.lean ====
module

public import proofs.«01_k».proof.Defs
public import proofs.«01_k».proof.Proof.GlaHeads
public import Idealize.ShloMosaic.Lib.Pointwise
public import Idealize.ShloMosaic.Lib.Pointwise.IndexBridge
public import Idealize.ShloMosaic.Lib.ReduceAll
public import Idealize.ShloMosaic.Lib.Affine

@[expose] public section

set_option maxRecDepth 16384

/-! # What the precondition gives -/

noncomputable section

namespace Cert.Proof

open Idealize.ShloMosaic
open Gla (RealCols)

instance facts : Cert.Pre_finite.Facts where
  slices_S8x2048x3088_S8x2048x1024_0_0_1536 := by decide
  bcast_S_S8x2048x1024 := by decide
  reducesTo_S8x2048x1024_S_d0_1_2 := by decide
  h_S_ := by decide
  bcast_S_S8x2048x256 := by decide
  reducesTo_S8x2048x256_S_d0_1_2 := by decide

theorem inf32 : Ideal.ofBits .f32 0x7F800000#32 = ⊤ := by simp [Ideal.ofBits, Ideal.ieee]

/-- An entry that the precondition's comparison accepts is a real. -/
theorem real_of_lt {y : EReal} (h : BitVec.ofBool (decide ((FloatOps.absf (F := Ideal) (φ := .f32) y : EReal) < Ideal.ofBits .f32 0x7F800000#32)) = 1#1) :
    y ≠ ⊤ ∧ y ≠ ⊥ := by
  rw [inf32] at h
  constructor <;> rintro rfl <;> revert h <;> simp [Ideal.absf_def]

theorem columns (x : FVec Ideal Pre_finite.S8x2048x3088 .f32) (la : FVec Ideal Pre_finite.S8x2048x256 .f32)
    (h : Cert.Pre_finite.fn x la = fun _ => 1#1) : RealCols 1536 2560 x ∧ RealCols 0 256 la := by
  have h0 := congrFun h ix0
  dsimp only [Cert.Pre_finite.fn] at h0
  obtain ⟨h1, h2⟩ := IntOp.andi_eq_one.1 h0
  constructor
  · intro b t l h0 h1'
    have e := Host.reduce_andi_all _ _ _ _ _ h1 (ix3 b t ⟨l.val - 1536, by omega⟩)
    pointwise at e
    have := real_of_lt e
    rw [← ix3_eq_valueIdx]
    rwa [show (⟨1536 + (l.val - 1536), by omega⟩ : Fin 3088) = l from Fin.ext (by dsimp only; omega)] at this
  · intro b t l _ _
    have e := Host.reduce_andi_all _ _ _ _ _ h2 (ix3 b t l)
    pointwise at e
    rw [← ix3_eq_valueIdx]
    exact real_of_lt e

end Cert.Proof

end
-- ==== Proof.GlaTile.lean ====
module

public import proofs.«01_k».proof.Proof.Gen.KernelIdeal.Frame

@[expose] public section

set_option maxRecDepth 16384

/-! # The words of one tile of the linear attention

One grid point walks four tiles of 256 rows. This module gives names to what one tile computes, as functions of the
tile's queries, keys, log decays, values and of the state it finds. The printed kernel computes each of them four
times, once for each tile; the same words describe all four. -/

noncomputable section

namespace Cert.KernelIdeal.Gen

open Idealize.ShloMosaic Idealize.ShloMosaic.TcCoe Idealize.ShloMosaic.Tactic

variable {F : FTy → Type} [FloatOps F]

/-- The row number of each entry of a tile. -/
abbrev rowNo : IVec S256x256 32 := iota .tc S256x256 32 [0] iota_S256x256_d0_w32

/-- The entries that belong to an odd head: the bit of 64 in the lane number. -/
abbrev oddLane : IVec S256x256 1 :=
  cmpi .ne (andi (iota .tc S256x256 32 [1] iota_S256x256_d1_w32) (broadcast S256x256 64#32)) (broadcast S256x256 0#32)

/-- One doubling step of the running sum: each row from row `k` on gains the row `k` above it. -/
def scanBy (k : BitVec 32) (b : FVec F S256x256 .f32) : FVec F S256x256 .f32 :=
  addf b (select (cmpi .sge rowNo (broadcast S256x256 k)) (dynamicRotate 0 k none b rotates_S256x256_d0)
    (broadcast S256x256 (Scalar.ofBits .f32 0x00000000#32)))

/-- The running sum of the log decays down the tile, in eight doubling steps. -/
def logSum (la : FVec F S256x256 .f32) : FVec F S256x256 .f32 :=
  scanBy 128#32 (scanBy 64#32 (scanBy 32#32 (scanBy 16#32 (scanBy 8#32 (scanBy 4#32 (scanBy 2#32 (scanBy 1#32 la)))))))

/-- The queries, scaled. -/
def scaledQ (q : FVec F S256x256 .bf16) : FVec F S256x256 .f32 :=
  mulf (extf .f32 q bitsLt_bf16_f32) (broadcast S256x256 (Scalar.ofBits .f32 0x3E000000#32))

/-- The keys of the even heads, zero elsewhere; -/
def evenOf (x : FVec F S256x256 .bf16) : FVec F S256x256 .bf16 :=
  select oddLane (broadcast S256x256 (Scalar.ofBits .bf16 0x0000#16)) x

/-- and those of the odd heads. -/
def oddOf (x : FVec F S256x256 .bf16) : FVec F S256x256 .bf16 :=
  select oddLane x (broadcast S256x256 (Scalar.ofBits .bf16 0x0000#16))

theorem blk_slices (r p : Fin 2) : S256x256.Slices ![128 * r.val, 128 * p.val] S128x128 :=
  (by decide : ∀ r p : Fin 2, S256x256.Slices ![128 * r.val, 128 * p.val] S128x128) r p

/-- A block of 128 rows and 128 lanes of a tile. -/
def blk (r p : Fin 2) (x : FVec F S256x256 .bf16) : FVec F S128x128 .bf16 :=
  extractStridedSlice S128x128 ![128 * r.val, 128 * p.val] x (blk_slices r p)

theorem half_slices (s : Fin 2) : S128x256.Slices ![0, 128 * s.val] S128x128 :=
  (by decide : ∀ s : Fin 2, S128x256.Slices ![0, 128 * s.val] S128x128) s

/-- The products, head by head, of block `rq` of the queries with block `rk` of the keys: the lanes of pair `p` against
    the even heads' keys and the odd heads' keys put one under the other, and the half that is head `s` of the pair. -/
def prods (rq rk p s : Fin 2) (x y : FVec F S256x256 .bf16) : FVec F S128x128 .f32 :=
  extractStridedSlice S128x128 ![0, 128 * s.val]
    (matmul dot_S128x128_S256x128_S128x256_1_1_0_0_n_n none (blk rq p x)
      (concatenate S256x128 0 [⟨S128x128, blk rk p (evenOf y)⟩, ⟨S128x128, blk rk p (oddOf y)⟩]
        concatenates_S128x128_S128x128_S256x128_d0)
      (constant S128x256 .f32 0x00000000#32)) (half_slices s)

/-- The level of a pair of rows of a block: the highest bit in which they differ, `-1` on the diagonal, `-2` above it. -/
abbrev levelNo : IVec S128x128 32 :=
  select (cmpi .sge (iota .tc S128x128 32 [0] iota_S128x128_d0_w32) (iota .tc S128x128 32 [1] iota_S128x128_d1_w32))
    (subi (broadcast S128x128 31#32)
      (ctlz (xori (iota .tc S128x128 32 [0] iota_S128x128_d0_w32) (iota .tc S128x128 32 [1] iota_S128x128_d1_w32))))
    (broadcast S128x128 4294967294#32)

/-- The entries at a level. -/
abbrev atLevel (l : BitVec 32) : IVec S128x128 1 := cmpi .eq levelNo (broadcast S128x128 l)

/-- One level's entries put into the weights. -/
abbrev putLevel (l : BitVec 32) (p acc : FVec F S128x128 .f32) : FVec F S128x128 .f32 := select (atLevel l) p acc

/-- The running sum at the end of each row's group, doubling the groups: the lower half of a group of `2·k` rows reads
    the upper half's. -/
def endBy (k k' : BitVec 32) (e : FVec F S256x256 .f32) : FVec F S256x256 .f32 :=
  select (cmpi .ne (andi rowNo (broadcast S256x256 k)) (broadcast S256x256 0#32)) e
    (dynamicRotate 0 k' none e rotates_S256x256_d0)

/-- The running sum at the end of each group of 2 rows; -/
def end1 (b : FVec F S256x256 .f32) : FVec F S256x256 .f32 := endBy 1#32 255#32 b
/-- of 4 rows; -/
def end2 (b : FVec F S256x256 .f32) : FVec F S256x256 .f32 := endBy 2#32 254#32 (end1 b)
/-- of 8 rows; -/
def end3 (b : FVec F S256x256 .f32) : FVec F S256x256 .f32 := endBy 4#32 252#32 (end2 b)
/-- of 16 rows; -/
def end4 (b : FVec F S256x256 .f32) : FVec F S256x256 .f32 := endBy 8#32 248#32 (end3 b)
/-- of 32 rows; -/
def end5 (b : FVec F S256x256 .f32) : FVec F S256x256 .f32 := endBy 16#32 240#32 (end4 b)
/-- of 64 rows; -/
def end6 (b : FVec F S256x256 .f32) : FVec F S256x256 .f32 := endBy 32#32 224#32 (end5 b)
/-- of 128 rows; -/
def end7 (b : FVec F S256x256 .f32) : FVec F S256x256 .f32 := endBy 64#32 192#32 (end6 b)
/-- of the tile. -/
def end8 (b : FVec F S256x256 .f32) : FVec F S256x256 .f32 := endBy 128#32 128#32 (end7 b)

/-- A level's queries: decayed from the end of the group `k` rows above. -/
def levelQ (k : BitVec 32) (q : FVec F S256x256 .bf16) (b e : FVec F S256x256 .f32) : FVec F S256x256 .bf16 :=
  mulf (truncf .bf16 (scaledQ q) bitsLt_bf16_f32)
    (truncf .bf16 (exp2 (subf b (dynamicRotate 0 k none e rotates_S256x256_d0))) bitsLt_bf16_f32)

/-- A level's keys: decayed to the end of their group. -/
def levelK (k : FVec F S256x256 .bf16) (b e : FVec F S256x256 .f32) : FVec F S256x256 .bf16 :=
  mulf k (truncf .bf16 (exp2 (subf e b)) bitsLt_bf16_f32)

section weights

variable (p s : Fin 2) (q k : FVec F S256x256 .bf16) (la : FVec F S256x256 .f32)

/-- The weights of a diagonal block of 128 rows: the diagonal first, then one level after the other. -/
def diagW (r : Fin 2) : FVec F S128x128 .f32 :=
  putLevel 6#32 (prods r r p s (levelQ 64#32 q (logSum la) (end6 (logSum la))) (levelK k (logSum la) (end6 (logSum la))))
  (putLevel 5#32 (prods r r p s (levelQ 32#32 q (logSum la) (end5 (logSum la))) (levelK k (logSum la) (end5 (logSum la))))
  (putLevel 4#32 (prods r r p s (levelQ 16#32 q (logSum la) (end4 (logSum la))) (levelK k (logSum la) (end4 (logSum la))))
  (putLevel 3#32 (prods r r p s (levelQ 8#32 q (logSum la) (end3 (logSum la))) (levelK k (logSum la) (end3 (logSum la))))
  (putLevel 2#32 (prods r r p s (levelQ 4#32 q (logSum la) (end2 (logSum la))) (levelK k (logSum la) (end2 (logSum la))))
  (putLevel 1#32 (prods r r p s (levelQ 2#32 q (logSum la) (end1 (logSum la))) (levelK k (logSum la) (end1 (logSum la))))

  (putLevel 0#32 (prods r r p s (levelQ 1#32 q (logSum la) (logSum la)) (levelK k (logSum la) (logSum la)))
  (putLevel 4294967295#32 (prods r r p s (truncf .bf16 (scaledQ q) bitsLt_bf16_f32)
      (truncf .bf16 (extf .f32 k bitsLt_bf16_f32) bitsLt_bf16_f32))
    (broadcast S128x128 (Scalar.ofBits .f32 0x00000000#32)))))))))

/-- The weights of the lower 128 rows with the upper 128. -/
def crossW : FVec F S128x128 .f32 :=
  prods 1 0 p s (levelQ 128#32 q (logSum la) (end7 (logSum la))) (levelK k (logSum la) (end7 (logSum la)))

end weights

/-- The queries decayed from the tile's start; -/
def queriesIn (q : FVec F S256x256 .bf16) (la : FVec F S256x256 .f32) : FVec F S256x256 .bf16 :=
  truncf .bf16 (mulf (scaledQ q) (exp2 (logSum la))) bitsLt_bf16_f32

/-- the keys decayed to the tile's end. -/
def keysOut (k : FVec F S256x256 .bf16) (la : FVec F S256x256 .f32) : FVec F S256x256 .bf16 :=
  truncf .bf16 (mulf (extf .f32 k bitsLt_bf16_f32) (exp2 (subf (end8 (logSum la)) (logSum la)))) bitsLt_bf16_f32

theorem in_slices (p : Fin 2) : S256x256.Slices ![0, 128 * p.val] S256x128 :=
  (by decide : ∀ p : Fin 2, S256x256.Slices ![0, 128 * p.val] S256x128) p

/-- The output rows of a tile for head `s` of pair `p`: the state's part and the weights'. -/
def tileOut (p s : Fin 2) (q k : FVec F S256x256 .bf16) (la : FVec F S256x256 .f32)
    (v : Vec F S256x128 .bf16) (st : Vec F S1x128x256 .f32) : Vec F S256x128 .bf16 :=
  truncf .bf16
    (addf
      (matmul dot_S256x128_S128x128_S256x128_1_1_0_0_n_n none
        (extractStridedSlice S256x128 ![0, 128 * p.val] (queriesIn q la) (in_slices p))
        (truncf .bf16 (extractStridedSlice S128x128 ![0, 128 * p.val] (shapeCast S128x256 st shapeCasts_S1x128x256_S128x256)
          (half_slices p)) bitsLt_bf16_f32)
        (constant S256x128 .f32 0x00000000#32))
      (concatenate S256x128 0
        [⟨S128x128, matmul dot_S128x128_S128x128_S128x128_1_0_0_1_n_n none (truncf .bf16 (diagW p s q k la 0) bitsLt_bf16_f32)
            (extractStridedSlice S128x128 ![0, 0] (shapeCast S256x128 v shapeCasts_S256x128_S256x128) slices_S256x128_o0_0_S128x128)
            (constant S128x128 .f32 0x00000000#32)⟩,
         ⟨S128x128, matmul dot_S128x256_S256x128_S128x128_1_0_0_1_n_n none
            (truncf .bf16 (concatenate S128x256 1 [⟨S128x128, crossW p s q k la⟩, ⟨S128x128, diagW p s q k la 1⟩]
              concatenates_S128x128_S128x128_S128x256_d1) bitsLt_bf16_f32)
            (shapeCast S256x128 v shapeCasts_S256x128_S256x128) (constant S128x128 .f32 0x00000000#32)⟩]
        concatenates_S128x128_S128x128_S256x128_d0))
    bitsLt_bf16_f32

/-- The state of head `s` of pair `p` after a tile: the old one decayed, and on the head's own lanes the tile's keys and values. -/
def tileState (p s : Fin 2) (k : FVec F S256x256 .bf16) (la : FVec F S256x256 .f32) (v : Vec F S256x128 .bf16)
    (st : Vec F S1x128x256 .f32) : FVec F S1x128x256 .f32 :=
  shapeCast S1x128x256
    (addf
      (mulf (shapeCast S128x256 st shapeCasts_S1x128x256_S128x256)
        (broadcastTo S128x256 (exp2 (extractStridedSlice S1x256 ![0, 0] (end8 (logSum la)) slices_S256x256_o0_0_S1x256))
          broadcasts_S1x256_S128x256))
      (select (andi (cmpi .sge (iota .tc S128x256 32 [1] iota_S128x256_d1_w32) (broadcast S128x256 (BitVec.ofNat 32 (64 * (2 * p.val + s.val)))))
          (cmpi .slt (iota .tc S128x256 32 [1] iota_S128x256_d1_w32) (broadcast S128x256 (BitVec.ofNat 32 (64 * (2 * p.val + s.val) + 64)))))
        (matmul dot_S128x256_S256x256_S128x256_1_0_0_1_n_n none
          (truncf .bf16 (transpose S128x256 [1, 0] (extf .f32 (shapeCast S256x128 v shapeCasts_S256x128_S256x128) bitsLt_bf16_f32)
            transposes_S256x128_p1_0_S128x256) bitsLt_bf16_f32)
          (keysOut k la) (constant S128x256 .f32 0x00000000#32))
        (broadcast S128x256 (Scalar.ofBits .f32 0x00000000#32))))
    shapeCasts_S128x256_S1x128x256

end Cert.KernelIdeal.Gen

end
-- ==== Proof.GlaUp.lean ====
module

public import proofs.«01_k».proof.Proof.GlaTile
public import proofs.«01_k».proof.Proof.GlaReal
public import Idealize.ShloMosaic.Lib.ValueIdx
public import Idealize.ShloMosaic.Lib.ValueLayout
public import Idealize.ShloMosaic.Lib.MatmulPlain
public import Idealize.ShloMosaic.Lib.KernelVsHost
public import Idealize.ShloMosaic.Lib.Pipeline.Value

@[expose] public section

set_option maxRecDepth 16384

/-! # The operations on matrices of reals

At the ideal values a matrix whose entries are real numbers is written `up g`, with `g` a function of the row number and
the column number. Each operation of the tile takes such matrices to such a matrix; this module says to which. -/

noncomputable section

namespace Cert.KernelIdeal.Gen

open Idealize.ShloMosaic Idealize.ShloMosaic.TcCoe Idealize.ShloMosaic.Tactic Idealize.ShloMosaic.ValueIdx
open Gla (coe_sum coe_sum_fin)

/-- The matrix of the reals `g`. -/
def up {n m : ℕ} {φ : FTy} (g : ℕ → ℕ → ℝ) : FVec Ideal (⟨2, ![n, m]⟩ : Shape) φ :=
  fun j => (((g (j 0).val (j 1).val : ℝ)) : EReal)

theorem up_apply {n m : ℕ} {φ : FTy} (g : ℕ → ℕ → ℝ) (a : Fin n) (b : Fin m) :
    (up (φ := φ) g : FVec Ideal (⟨2, ![n, m]⟩ : Shape) φ) (ix2 a b) = ((g a.val b.val : ℝ) : EReal) := rfl

/-- Two matrices of reals are the same when the entries are. -/
theorem up_congr {n m : ℕ} {φ : FTy} {g h : ℕ → ℕ → ℝ} (e : ∀ a < n, ∀ b < m, g a b = h a b) :
    (up g : FVec Ideal (⟨2, ![n, m]⟩ : Shape) φ) = up h :=
  funext fun j => congrArg (fun x : ℝ => (x : EReal)) (e _ (j 0).isLt _ (j 1).isLt)

section ops

variable {n m : ℕ} {φ : FTy} (g h : ℕ → ℕ → ℝ)

theorem up_add : addf (up g : FVec Ideal (⟨2, ![n, m]⟩ : Shape) φ) (up h) = up fun a b => g a b + h a b :=
  funext fun j => (EReal.coe_add _ _).symm

theorem up_sub : subf (up g : FVec Ideal (⟨2, ![n, m]⟩ : Shape) φ) (up h) = up fun a b => g a b - h a b :=
  funext fun j => (EReal.coe_sub _ _).symm

theorem up_mul : mulf (up g : FVec Ideal (⟨2, ![n, m]⟩ : Shape) φ) (up h) = up fun a b => g a b * h a b :=
  funext fun j => (EReal.coe_mul _ _).symm

theorem up_exp2 : exp2 (up g : FVec Ideal (⟨2, ![n, m]⟩ : Shape) φ) = up fun a b => Real.rpow 2 (g a b) :=
  funext fun j => Ideal.exp2_coe _

theorem up_truncf (ψ : FTy) (hb : ψ.bits < φ.bits) : truncf ψ (up g : FVec Ideal (⟨2, ![n, m]⟩ : Shape) φ) hb = up g := rfl

theorem up_extf (ψ : FTy) (hb : φ.bits < ψ.bits) : extf ψ (up g : FVec Ideal (⟨2, ![n, m]⟩ : Shape) φ) hb = up g := rfl

end ops

/-- A splat of a word that decodes to a real. -/
theorem up_splat {n m : ℕ} {φ : FTy} (w : BitVec φ.bits) (x : ℝ) (hw : (Scalar.ofBits φ w : Ideal φ) = (x : EReal)) :
    broadcast (⟨2, ![n, m]⟩ : Shape) (Scalar.ofBits φ w : Ideal φ) = up fun _ _ => x := funext fun _ => hw

theorem zero32 : (Scalar.ofBits .f32 0x00000000#32 : Ideal .f32) = ((0 : ℝ) : EReal) := by
  show Ideal.ofBits .f32 _ = _
  simp [Ideal.ofBits, Ideal.ieee]

theorem zero16 : (Scalar.ofBits .bf16 0x0000#16 : Ideal .bf16) = ((0 : ℝ) : EReal) := by
  show Ideal.ofBits .bf16 _ = _
  simp [Ideal.ofBits, Ideal.ieee]

theorem eighth32 : (Scalar.ofBits .f32 0x3E000000#32 : Ideal .f32) = ((1 / 8 : ℝ) : EReal) := by
  show Ideal.ofBits .f32 _ = _
  simp [Ideal.ofBits, Ideal.ieee]
  rw [← EReal.coe_mul]
  norm_num

theorem up_zero {n m : ℕ} : constant (F := Ideal) (⟨2, ![n, m]⟩ : Shape) .f32 0x00000000#32 = up fun _ _ => 0 :=
  funext fun _ => zero32

/-- A select whose condition is a decided one. -/
theorem up_select {n m : ℕ} {φ : FTy} (c : IVec (⟨2, ![n, m]⟩ : Shape) 1) (P : ℕ → ℕ → Prop) [∀ a b, Decidable (P a b)] (g h : ℕ → ℕ → ℝ)
    (hc : ∀ (a : Fin n) (b : Fin m), c (ix2 a b) = if P a.val b.val then 1#1 else 0#1) :
    select c (up g : FVec Ideal (⟨2, ![n, m]⟩ : Shape) φ) (up h) = up fun a b => if P a b then g a b else h a b := by
  funext j
  obtain ⟨a, b, rfl⟩ : ∃ a b, j = ix2 a b := ⟨_, _, eq_ix2 j⟩
  show (if c (ix2 a b) = 1#1 then (_ : EReal) else _) = _
  rw [hc, up_apply, up_apply, up_apply]
  by_cases hp : P a.val b.val <;> simp [hp]

/-- A rotation down the rows. -/
theorem up_rotate (k : BitVec 32) (hk : k.toNat < 256) (g : ℕ → ℕ → ℝ) (hr : S256x256.Rotates 0 none) :
    dynamicRotate 0 k none (up g : FVec Ideal S256x256 .f32) hr = up fun a b => g ((a + 256 - k.toNat) % 256) b := by
  funext j
  obtain ⟨a, b, rfl⟩ : ∃ a b, j = ix2 a b := ⟨_, _, eq_ix2 j⟩
  rw [dynamicRotate_apply 0 k _ hr _ (ix2 (n0 := 256) (n1 := 256) ⟨(a.val + 256 - k.toNat) % 256, Nat.mod_lt _ (by decide)⟩ b)]
  · rfl
  · intro d
    match d with
    | ⟨0, _⟩ => show (a.val + 256 - k.toNat) % 256 = (a.val + 256 - k.toNat % 256) % 256; rw [Nat.mod_eq_of_lt hk]
    | ⟨1, _⟩ => rfl

/-- A block of a matrix. -/
theorem up_slice {n m n' m' : ℕ} {φ : FTy} (o p : ℕ) (g : ℕ → ℕ → ℝ)
    (hs : (⟨2, ![n, m]⟩ : Shape).Slices ![o, p] (⟨2, ![n', m']⟩ : Shape)) :
    extractStridedSlice (⟨2, ![n', m']⟩ : Shape) ![o, p] (up g : FVec Ideal (⟨2, ![n, m]⟩ : Shape) φ) hs = up fun a b => g (o + a) (p + b) := by
  funext j
  show (((g _ _ : ℝ)) : EReal) = _
  rfl

/-- Two matrices one under the other. -/
theorem up_rows {n m n' n'' : ℕ} {φ : FTy} (g h : ℕ → ℕ → ℝ)
    (hc : Shape.Concatenates [(⟨2, ![n, m]⟩ : Shape), (⟨2, ![n', m]⟩ : Shape)] (⟨2, ![n'', m]⟩ : Shape) 0) :
    concatenate (⟨2, ![n'', m]⟩ : Shape) 0 [⟨(⟨2, ![n, m]⟩ : Shape), (up g : FVec Ideal (⟨2, ![n, m]⟩ : Shape) φ)⟩,
        ⟨(⟨2, ![n', m]⟩ : Shape), (up h : FVec Ideal (⟨2, ![n', m]⟩ : Shape) φ)⟩] hc
      = (up fun a b => if a < n then g a b else h (a - n) b : FVec Ideal (⟨2, ![n'', m]⟩ : Shape) φ) := by
  have hn : n + n' = n'' := by have := hc.2.2; simpa using this
  funext j
  obtain ⟨a, b, rfl⟩ : ∃ a b, j = ix2 a b := ⟨_, _, eq_ix2 j⟩
  by_cases ha : a.val < n
  · rw [concatenate_pair_apply_left 0 _ _ hc _ rfl (ix2 (n0 := n) (n1 := m) ⟨a.val, ha⟩ b) (fun d => match d with | ⟨0, _⟩ => rfl | ⟨1, _⟩ => rfl)]
    rw [up_apply, up_apply, if_pos ha]
  · rw [concatenate_pair_apply_right 0 _ _ hc _ rfl rfl (ix2 (n0 := n') (n1 := m) ⟨a.val - n, by have := a.isLt; omega⟩ b)
      (fun d => match d with | ⟨0, _⟩ => fun h => absurd rfl h | ⟨1, _⟩ => fun _ => rfl)
      (by show a.val - n + n = a.val; omega)]
    rw [up_apply, up_apply, if_neg ha]

/-- Two matrices side by side. -/
theorem up_cols {n m m' m'' : ℕ} {φ : FTy} (g h : ℕ → ℕ → ℝ)
    (hc : Shape.Concatenates [(⟨2, ![n, m]⟩ : Shape), (⟨2, ![n, m']⟩ : Shape)] (⟨2, ![n, m'']⟩ : Shape) 1) :
    concatenate (⟨2, ![n, m'']⟩ : Shape) 1 [⟨(⟨2, ![n, m]⟩ : Shape), (up g : FVec Ideal (⟨2, ![n, m]⟩ : Shape) φ)⟩,
        ⟨(⟨2, ![n, m']⟩ : Shape), (up h : FVec Ideal (⟨2, ![n, m']⟩ : Shape) φ)⟩] hc
      = (up fun a b => if b < m then g a b else h a (b - m) : FVec Ideal (⟨2, ![n, m'']⟩ : Shape) φ) := by
  have hn : m + m' = m'' := by have := hc.2.2; simpa using this
  funext j
  obtain ⟨a, b, rfl⟩ : ∃ a b, j = ix2 a b := ⟨_, _, eq_ix2 j⟩
  by_cases hb : b.val < m
  · rw [concatenate_pair_apply_left 1 _ _ hc _ rfl (ix2 (n0 := n) (n1 := m) a ⟨b.val, hb⟩) (fun d => match d with | ⟨0, _⟩ => rfl | ⟨1, _⟩ => rfl)]
    rw [up_apply, up_apply, if_pos hb]
  · rw [concatenate_pair_apply_right 1 _ _ hc _ rfl rfl (ix2 (n0 := n) (n1 := m') a ⟨b.val - m, by have := b.isLt; omega⟩)
      (fun d => match d with | ⟨0, _⟩ => fun _ => rfl | ⟨1, _⟩ => fun h => absurd rfl h)
      (by show b.val - m + m = b.val; omega)]
    rw [up_apply, up_apply, if_neg hb]

/-- A product into zero; -/
theorem up_plain {M K N : ℕ} {φ₁ φ₂ : FTy} (d : DotDims ⟨2, ![M, K]⟩ ⟨2, ![K, N]⟩ ⟨2, ![M, N]⟩) (hd : d = DotDims.plain M K N) (g h : ℕ → ℕ → ℝ) :
    matmul d none (up g : FVec Ideal ⟨2, ![M, K]⟩ φ₁) (up h : FVec Ideal ⟨2, ![K, N]⟩ φ₂) (constant ⟨2, ![M, N]⟩ .f32 0x00000000#32)
      = up fun a b => ∑ k ∈ Finset.range K, g a k * h k b := by
  subst hd
  funext j
  obtain ⟨a, b, rfl⟩ : ∃ a b, j = ix2 a b := ⟨_, _, eq_ix2 j⟩
  refine (Ideal.matmul_plain_apply none _ _ _ a b).trans ?_
  rw [up_zero, up_apply, up_apply, EReal.coe_zero, zero_add, ← coe_sum_fin]
  exact Finset.sum_congr rfl fun k _ => (EReal.coe_mul _ _).symm

/-- with the second matrix transposed. -/
theorem up_transposed {M K N : ℕ} {φ₁ φ₂ : FTy} (d : DotDims ⟨2, ![M, K]⟩ ⟨2, ![N, K]⟩ ⟨2, ![M, N]⟩) (hd : d = DotDims.transposedRhs M K N)
    (g h : ℕ → ℕ → ℝ) :
    matmul d none (up g : FVec Ideal ⟨2, ![M, K]⟩ φ₁) (up h : FVec Ideal ⟨2, ![N, K]⟩ φ₂) (constant ⟨2, ![M, N]⟩ .f32 0x00000000#32)
      = up fun a b => ∑ k ∈ Finset.range K, g a k * h b k := by
  subst hd
  funext j
  obtain ⟨a, b, rfl⟩ : ∃ a b, j = ix2 a b := ⟨_, _, eq_ix2 j⟩
  refine (Ideal.matmul_transposedRhs_apply none _ _ _ a b).trans ?_
  rw [up_zero, up_apply, up_apply, EReal.coe_zero, zero_add, ← coe_sum_fin]
  exact Finset.sum_congr rfl fun k _ => (EReal.coe_mul _ _).symm

/-- A transpose. -/
theorem up_transpose {n m : ℕ} {φ : FTy} (g : ℕ → ℕ → ℝ) (ht : (⟨2, ![n, m]⟩ : Shape).Transposes [1, 0] ⟨2, ![m, n]⟩) :
    transpose ⟨2, ![m, n]⟩ [1, 0] (up g : FVec Ideal (⟨2, ![n, m]⟩ : Shape) φ) ht = up fun a b => g b a := by
  funext j
  obtain ⟨a, b, rfl⟩ : ∃ a b, j = ix2 a b := ⟨_, _, eq_ix2 j⟩
  rw [transpose_ix2_apply]; rfl

/-- A row repeated down the rows. -/
theorem up_repeat {n m : ℕ} {φ : FTy} (g : ℕ → ℕ → ℝ) (hb : (⟨2, ![1, m]⟩ : Shape).Broadcasts ⟨2, ![n, m]⟩) :
    broadcastTo ⟨2, ![n, m]⟩ (up g : FVec Ideal (⟨2, ![1, m]⟩ : Shape) φ) hb = up fun _ b => g 0 b := by
  funext j
  obtain ⟨a, b, rfl⟩ : ∃ a b, j = ix2 a b := ⟨_, _, eq_ix2 j⟩
  rw [broadcastTo_1b_ab_apply]; rfl

end Cert.KernelIdeal.Gen

end
-- ==== Proof.GlaBits.lean ====
module

public import proofs.«01_k».proof.Proof.GlaUp

@[expose] public section

set_option maxRecDepth 16384

/-! # The row and lane numbers' bits

The masks of a tile are made of row and lane numbers. Each is decided here by an arithmetic condition. -/

noncomputable section

namespace Cert.KernelIdeal.Gen

open Idealize.ShloMosaic Idealize.ShloMosaic.TcCoe Idealize.ShloMosaic.Tactic Idealize.ShloMosaic.ValueIdx

theorem bit_ge : ∀ (k : Fin 8) (a : Fin 256), IntOp.cmpi .sge (BitVec.ofNat 32 a.val) (BitVec.ofNat 32 (2 ^ k.val)) = if 2 ^ k.val ≤ a.val then 1#1 else 0#1 := by
  decide +kernel

theorem bit_set : ∀ (k : Fin 8) (a : Fin 256),
    IntOp.cmpi .ne (IntOp.andi (BitVec.ofNat 32 a.val) (BitVec.ofNat 32 (2 ^ k.val))) 0#32 = if a.val / 2 ^ k.val % 2 = 1 then 1#1 else 0#1 := by
  decide +kernel

theorem bit_own : ∀ (h : Fin 4) (b : Fin 256),
    IntOp.andi (IntOp.cmpi .sge (BitVec.ofNat 32 b.val) (BitVec.ofNat 32 (64 * h.val)))
      (IntOp.cmpi .slt (BitVec.ofNat 32 b.val) (BitVec.ofNat 32 (64 * h.val + 64))) = if b.val / 64 = h.val then 1#1 else 0#1 := by
  decide +kernel

/-- The level of two rows, as a word: as the kernel computes it. -/
def levelWord (a b : ℕ) : BitVec 32 :=
  if IntOp.cmpi .sge (BitVec.ofNat 32 a) (BitVec.ofNat 32 b) = 1#1 then
    IntOp.subi 31#32 (IntOp.ctlz (IntOp.xori (BitVec.ofNat 32 a) (BitVec.ofNat 32 b))) else 4294967294#32

/-- Below the diagonal the level is the highest bit in which the two rows differ. -/
theorem level_below : ∀ (a b : Fin 128), b.val < a.val →
    ∃ l : Fin 7, levelWord a.val b.val = BitVec.ofNat 32 l.val ∧ a.val / 2 ^ l.val = b.val / 2 ^ l.val + 1 ∧ b.val / 2 ^ l.val % 2 = 0 := by
  decide +kernel

theorem level_diag : ∀ a : Fin 128, levelWord a.val a.val = 4294967295#32 := by decide +kernel

theorem level_above (a b : Fin 128) (h : a.val < b.val) : levelWord a.val b.val = 4294967294#32 := by
  have : ∀ a b : Fin 128, a.val < b.val → levelWord a.val b.val = 4294967294#32 := by decide +kernel
  exact this a b h

end Cert.KernelIdeal.Gen

end
-- ==== Proof.GlaWeights.lean ====
module

public import proofs.«01_k».proof.Proof.GlaBits

@[expose] public section

set_option maxRecDepth 16384

/-! # One tile over the reals

What the words of a tile are when its queries, keys, log decays, values and its state are real numbers. The levels the
kernel splits the weights into are all one formula: a pair of rows is in exactly one level, and the two factors its
level multiplies are the query decayed from, and the key decayed to, the same row between them. -/

noncomputable section

namespace Cert.KernelIdeal.Gen

open Idealize.ShloMosaic Idealize.ShloMosaic.TcCoe Idealize.ShloMosaic.Tactic Idealize.ShloMosaic.ValueIdx
open Finset (range)

/-! ## The running sum -/

/-- The sum of the last `w` entries down to row `t`. -/
def lastSum (x : ℕ → ℕ → ℝ) (w t j : ℕ) : ℝ := ∑ i ∈ range w, if i ≤ t then x (t - i) j else 0

/-- The running sum through row `t`. -/
def bSum (x : ℕ → ℕ → ℝ) (t j : ℕ) : ℝ := ∑ s ∈ range (t + 1), x s j

theorem rowNo_apply (a b : Fin 256) : rowNo (ix2 a b) = BitVec.ofNat 32 a.val := iota_single_apply _ _ _ _ _ _

theorem pow_lt_256 : ∀ l : Fin 8, 2 ^ l.val < 256 := by decide

theorem scan_up (l : Fin 8) (w : BitVec 32) (hw : w = BitVec.ofNat 32 (2 ^ l.val)) (x : ℕ → ℕ → ℝ) :
    scanBy w (up (lastSum x (2 ^ l.val)) : FVec Ideal S256x256 .f32) = up (lastSum x (2 ^ (l.val + 1))) := by
  have hk : w.toNat = 2 ^ l.val := by
    rw [hw]; exact Nat.mod_eq_of_lt (lt_trans (pow_lt_256 l) (by decide))
  have hlt : 2 ^ l.val < 256 := pow_lt_256 l
  unfold scanBy
  rw [up_rotate w (by rw [hk]; exact hlt), up_splat (n := 256) (m := 256) _ 0 zero32,
    up_select _ (fun a _ => 2 ^ l.val ≤ a) _ _ (fun a b => by
      show IntOp.cmpi .sge (rowNo (ix2 a b)) w = _
      rw [rowNo_apply, hw]; exact bit_ge l a), up_add]
  refine up_congr fun t ht j _ => ?_
  rw [hk]
  unfold lastSum
  rw [pow_succ, Nat.mul_two, Finset.sum_range_add]
  congr 1
  by_cases h : 2 ^ l.val ≤ t
  · rw [if_pos h]
    refine Finset.sum_congr rfl fun i _ => ?_
    rw [show (t + 256 - 2 ^ l.val) % 256 = t - 2 ^ l.val by omega]
    by_cases hi : i ≤ t - 2 ^ l.val
    · rw [if_pos hi, if_pos (by omega), Nat.sub_sub]
    · rw [if_neg hi, if_neg (by omega)]
  · rw [if_neg h]
    refine (Finset.sum_eq_zero fun i _ => ?_).symm
    rw [if_neg (by omega)]

theorem logSum_up (x : ℕ → ℕ → ℝ) : logSum (up x : FVec Ideal S256x256 .f32) = up (bSum x) := by
  unfold logSum
  rw [show (up x : FVec Ideal S256x256 .f32) = up (lastSum x (2 ^ (0 : Fin 8).val)) from up_congr fun t _ j _ => by simp [lastSum]]
  rw [show scanBy 1#32 (up (lastSum x (2 ^ (0 : Fin 8).val)) : FVec Ideal S256x256 .f32) = up (lastSum x (2 ^ ((1 : Fin 8).val))) from scan_up 0 1#32 rfl x]
  rw [show scanBy 2#32 (up (lastSum x (2 ^ (1 : Fin 8).val)) : FVec Ideal S256x256 .f32) = up (lastSum x (2 ^ ((2 : Fin 8).val))) from scan_up 1 2#32 rfl x]
  rw [show scanBy 4#32 (up (lastSum x (2 ^ (2 : Fin 8).val)) : FVec Ideal S256x256 .f32) = up (lastSum x (2 ^ ((3 : Fin 8).val))) from scan_up 2 4#32 rfl x]
  rw [show scanBy 8#32 (up (lastSum x (2 ^ (3 : Fin 8).val)) : FVec Ideal S256x256 .f32) = up (lastSum x (2 ^ ((4 : Fin 8).val))) from scan_up 3 8#32 rfl x]
  rw [show scanBy 16#32 (up (lastSum x (2 ^ (4 : Fin 8).val)) : FVec Ideal S256x256 .f32) = up (lastSum x (2 ^ ((5 : Fin 8).val))) from scan_up 4 16#32 rfl x]
  rw [show scanBy 32#32 (up (lastSum x (2 ^ (5 : Fin 8).val)) : FVec Ideal S256x256 .f32) = up (lastSum x (2 ^ ((6 : Fin 8).val))) from scan_up 5 32#32 rfl x]
  rw [show scanBy 64#32 (up (lastSum x (2 ^ (6 : Fin 8).val)) : FVec Ideal S256x256 .f32) = up (lastSum x (2 ^ ((7 : Fin 8).val))) from scan_up 6 64#32 rfl x]
  rw [show scanBy 128#32 (up (lastSum x (2 ^ (7 : Fin 8).val)) : FVec Ideal S256x256 .f32) = up (lastSum x (2 ^ ((7 : Fin 8).val + 1))) from scan_up 7 128#32 rfl x]
  refine up_congr fun t ht j _ => ?_
  unfold lastSum bSum
  rw [show 2 ^ ((7 : Fin 8).val + 1) = 256 from rfl, Gla.sum_le ht fun i => x (t - i) j]
  exact Finset.sum_range_reflect (fun s => x s j) (t + 1)

/-! ## The ends of the groups -/

/-- The last row of row `t`'s group of `2 ^ l` rows. -/
def endRow (l t : ℕ) : ℕ := t / 2 ^ l * 2 ^ l + (2 ^ l - 1)

theorem endRow_zero (t : ℕ) : endRow 0 t = t := by simp [endRow]

theorem endRow_set : ∀ (l : Fin 8) (t : Fin 256), t.val / 2 ^ l.val % 2 = 1 → endRow l.val t.val = endRow (l.val + 1) t.val := by decide +kernel

theorem endRow_unset : ∀ (l : Fin 8) (t : Fin 256), ¬ t.val / 2 ^ l.val % 2 = 1 →
    endRow l.val ((t.val + 256 - (256 - 2 ^ l.val)) % 256) = endRow (l.val + 1) t.val := by decide +kernel

theorem endBy_up (l : Fin 8) (w w' : BitVec 32) (hw : w = BitVec.ofNat 32 (2 ^ l.val)) (hw' : w'.toNat = 256 - 2 ^ l.val) (b : ℕ → ℕ → ℝ) :
    endBy w w' (up fun t j => b (endRow l.val t) j : FVec Ideal S256x256 .f32) = up fun t j => b (endRow (l.val + 1) t) j := by
  have hlt : 0 < 2 ^ l.val := Nat.pos_of_ne_zero (by simp)
  unfold endBy
  rw [up_rotate w' (by rw [hw']; omega),
    up_select _ (fun a _ => a / 2 ^ l.val % 2 = 1) _ _ (fun a b => by
      show IntOp.cmpi .ne (IntOp.andi (rowNo (ix2 a b)) w) 0#32 = _
      rw [rowNo_apply, hw]; exact bit_set l a)]
  refine up_congr fun t ht j _ => ?_
  rw [hw']
  by_cases h : t / 2 ^ l.val % 2 = 1
  · rw [if_pos h, endRow_set l ⟨t, ht⟩ h]
  · rw [if_neg h, endRow_unset l ⟨t, ht⟩ h]

/-- The running sum at the ends of the groups of `2 ^ l` rows. -/
abbrev ends (b : ℕ → ℕ → ℝ) (l : ℕ) : ℕ → ℕ → ℝ := fun t j => b (endRow l t) j

section ends

variable (b : ℕ → ℕ → ℝ)

theorem end0_up : (up b : FVec Ideal S256x256 .f32) = up (ends b 0) := up_congr fun t _ j _ => by rw [ends, endRow_zero]
theorem end1_up : end1 (up b : FVec Ideal S256x256 .f32) = up (ends b 1) := by
  unfold end1; rw [end0_up]; exact endBy_up 0 _ _ rfl rfl b
theorem end2_up : end2 (up b : FVec Ideal S256x256 .f32) = up (ends b 2) := by
  unfold end2; rw [end1_up]; exact endBy_up 1 _ _ rfl rfl b
theorem end3_up : end3 (up b : FVec Ideal S256x256 .f32) = up (ends b 3) := by
  unfold end3; rw [end2_up]; exact endBy_up 2 _ _ rfl rfl b
theorem end4_up : end4 (up b : FVec Ideal S256x256 .f32) = up (ends b 4) := by
  unfold end4; rw [end3_up]; exact endBy_up 3 _ _ rfl rfl b
theorem end5_up : end5 (up b : FVec Ideal S256x256 .f32) = up (ends b 5) := by
  unfold end5; rw [end4_up]; exact endBy_up 4 _ _ rfl rfl b
theorem end6_up : end6 (up b : FVec Ideal S256x256 .f32) = up (ends b 6) := by
  unfold end6; rw [end5_up]; exact endBy_up 5 _ _ rfl rfl b
theorem end7_up : end7 (up b : FVec Ideal S256x256 .f32) = up (ends b 7) := by
  unfold end7; rw [end6_up]; exact endBy_up 6 _ _ rfl rfl b
theorem end8_up : end8 (up b : FVec Ideal S256x256 .f32) = up fun _ j => b 255 j := by
  unfold end8; rw [end7_up]
  refine (endBy_up 7 _ _ rfl rfl b).trans (up_congr fun t ht j _ => ?_)
  have : ∀ t : Fin 256, endRow 8 t.val = 255 := by decide +kernel
  rw [show (7 : Fin 8).val + 1 = 8 from rfl, this ⟨t, ht⟩]

end ends

/-! ## The level's factors -/

section factors

variable (Q K b : ℕ → ℕ → ℝ)

theorem scaledQ_up : scaledQ (up Q : FVec Ideal S256x256 .bf16) = up fun t j => Q t j * (1 / 8) := by
  unfold scaledQ
  rw [up_extf, up_splat (n := 256) (m := 256) _ _ eighth32, up_mul]

theorem levelQ_up (l : Fin 8) (w : BitVec 32) (hw : w.toNat = 2 ^ l.val) :
    levelQ w (up Q : FVec Ideal S256x256 .bf16) (up b) (up (ends b l.val))
      = up fun t j => Q t j * (1 / 8) * Real.rpow 2 (b t j - b (endRow l.val ((t + 256 - 2 ^ l.val) % 256)) j) := by
  have hlt : 2 ^ l.val < 256 := pow_lt_256 l
  unfold levelQ
  rw [scaledQ_up, up_truncf, up_rotate w (by rw [hw]; exact hlt), up_sub, up_exp2, up_truncf, up_mul, hw]

theorem levelK_up (l : ℕ) :
    levelK (up K : FVec Ideal S256x256 .bf16) (up b) (up (ends b l)) = up fun t j => K t j * Real.rpow 2 (b (endRow l t) j - b t j) := by
  unfold levelK
  rw [up_sub, up_exp2, up_truncf, up_mul]

theorem oddLane_apply (a b : Fin 256) : oddLane (ix2 a b) = if b.val / 2 ^ 6 % 2 = 1 then 1#1 else 0#1 := by
  show IntOp.cmpi .ne (IntOp.andi (iota .tc S256x256 32 [1] iota_S256x256_d1_w32 (ix2 a b)) 64#32) 0#32 = _
  rw [iota_single_apply]
  exact bit_set 6 b

theorem evenOf_up (Y : ℕ → ℕ → ℝ) : evenOf (up Y : FVec Ideal S256x256 .bf16) = up fun a b => if b / 2 ^ 6 % 2 = 1 then 0 else Y a b := by
  unfold evenOf
  rw [up_splat (n := 256) (m := 256) _ 0 zero16, up_select _ (fun _ b => b / 2 ^ 6 % 2 = 1) _ _ oddLane_apply]

theorem oddOf_up (Y : ℕ → ℕ → ℝ) : oddOf (up Y : FVec Ideal S256x256 .bf16) = up fun a b => if b / 2 ^ 6 % 2 = 1 then Y a b else 0 := by
  unfold oddOf
  rw [up_splat (n := 256) (m := 256) _ 0 zero16, up_select _ (fun _ b => b / 2 ^ 6 % 2 = 1) _ _ oddLane_apply]

theorem prods_up (rq rk p s : Fin 2) (X Y : ℕ → ℕ → ℝ) :
    prods rq rk p s (up X : FVec Ideal S256x256 .bf16) (up Y)
      = up fun i j => ∑ d ∈ range 64, X (128 * rq.val + i) (64 * (2 * p.val + s.val) + d) * Y (128 * rk.val + j) (64 * (2 * p.val + s.val) + d) := by
  unfold prods blk
  rw [evenOf_up, oddOf_up]
  rw [show extractStridedSlice S128x128 ![128 * rq.val, 128 * p.val] (up X : FVec Ideal S256x256 .bf16) (blk_slices rq p)
      = up fun i c => X (128 * rq.val + i) (128 * p.val + c) from up_slice _ _ X _,
    show extractStridedSlice S128x128 ![128 * rk.val, 128 * p.val]
        (up (fun a b => if b / 2 ^ 6 % 2 = 1 then 0 else Y a b) : FVec Ideal S256x256 .bf16) (blk_slices rk p)
      = up fun i c => if (128 * p.val + c) / 2 ^ 6 % 2 = 1 then 0 else Y (128 * rk.val + i) (128 * p.val + c) from up_slice _ _ _ _,
    show extractStridedSlice S128x128 ![128 * rk.val, 128 * p.val]
        (up (fun a b => if b / 2 ^ 6 % 2 = 1 then Y a b else 0) : FVec Ideal S256x256 .bf16) (blk_slices rk p)
      = up fun i c => if (128 * p.val + c) / 2 ^ 6 % 2 = 1 then Y (128 * rk.val + i) (128 * p.val + c) else 0 from up_slice _ _ _ _]
  have hcat : concatenate S256x128 0
      [⟨S128x128, (up (fun i c => if (128 * p.val + c) / 2 ^ 6 % 2 = 1 then 0 else Y (128 * rk.val + i) (128 * p.val + c)) : FVec Ideal S128x128 .bf16)⟩,
        ⟨S128x128, (up (fun i c => if (128 * p.val + c) / 2 ^ 6 % 2 = 1 then Y (128 * rk.val + i) (128 * p.val + c) else 0) : FVec Ideal S128x128 .bf16)⟩]
      concatenates_S128x128_S128x128_S256x128_d0
      = (up fun a b => if a < 128 then (if (128 * p.val + b) / 2 ^ 6 % 2 = 1 then 0 else Y (128 * rk.val + a) (128 * p.val + b))
          else (if (128 * p.val + b) / 2 ^ 6 % 2 = 1 then Y (128 * rk.val + (a - 128)) (128 * p.val + b) else 0) : FVec Ideal S256x128 .bf16) :=
    up_rows _ _ _
  have hmul : matmul dot_S128x128_S256x128_S128x256_1_1_0_0_n_n none
      (up fun i c => X (128 * rq.val + i) (128 * p.val + c) : FVec Ideal S128x128 .bf16)
      (up fun a b => if a < 128 then (if (128 * p.val + b) / 2 ^ 6 % 2 = 1 then 0 else Y (128 * rk.val + a) (128 * p.val + b))
        else (if (128 * p.val + b) / 2 ^ 6 % 2 = 1 then Y (128 * rk.val + (a - 128)) (128 * p.val + b) else 0) : FVec Ideal S256x128 .bf16)
      (constant S128x256 .f32 0x00000000#32)
      = (up fun a b => ∑ k ∈ range 128, X (128 * rq.val + a) (128 * p.val + k) *
        (if b < 128 then (if (128 * p.val + k) / 2 ^ 6 % 2 = 1 then 0 else Y (128 * rk.val + b) (128 * p.val + k))
          else (if (128 * p.val + k) / 2 ^ 6 % 2 = 1 then Y (128 * rk.val + (b - 128)) (128 * p.val + k) else 0)) : FVec Ideal S128x256 .f32) :=
    up_transposed _ rfl _ _
  rw [hcat, hmul]
  refine (up_slice _ _ _ _).trans ?_
  refine up_congr fun i hi j hj => ?_
  have hs : s = 0 ∨ s = 1 := by omega
  have hp := p.isLt
  rw [show (128 : ℕ) = 64 + 64 from rfl, Finset.sum_range_add]
  rcases hs with rfl | rfl
  · rw [show (∑ x ∈ range 64, _ : ℝ) + ∑ x ∈ range 64, _ = (∑ d ∈ range 64, _) + 0 from congrArg₂ (· + ·) rfl (Finset.sum_eq_zero fun d hd => ?_), add_zero]
    · refine Finset.sum_congr rfl fun d hd => ?_
      have hd := Finset.mem_range.1 hd
      rw [if_pos (by simp; omega), if_neg (by omega)]
      congr 2 <;> simp <;> omega
    · have hd := Finset.mem_range.1 hd
      rw [if_pos (by simp; omega), if_pos (by omega), mul_zero]
  · rw [show (∑ x ∈ range 64, _ : ℝ) + ∑ x ∈ range 64, _ = 0 + (∑ d ∈ range 64, _) from congrArg₂ (· + ·) (Finset.sum_eq_zero fun d hd => ?_) rfl, zero_add]
    · refine Finset.sum_congr rfl fun d hd => ?_
      have hd := Finset.mem_range.1 hd
      rw [if_neg (by simp), if_pos (by omega)]
      congr 2 <;> simp <;> omega
    · have hd := Finset.mem_range.1 hd
      rw [if_neg (by simp), if_neg (by omega), mul_zero]

end factors

end Cert.KernelIdeal.Gen

end
-- ==== Proof.GlaTileReal.lean ====
module

public import proofs.«01_k».proof.Proof.GlaWeights

@[expose] public section

set_option maxRecDepth 16384

/-! # A tile's weights, output and state over the reals -/

noncomputable section

namespace Cert.KernelIdeal.Gen

open Idealize.ShloMosaic Idealize.ShloMosaic.TcCoe Idealize.ShloMosaic.Tactic Idealize.ShloMosaic.ValueIdx
open Finset (range)

section weights

variable (p s : Fin 2) (Q K x : ℕ → ℕ → ℝ)

/-- The head's first lane. -/
abbrev lane0 (p s : Fin 2) : ℕ := 64 * (2 * p.val + s.val)

/-- The weight of row `u` at row `t`, for head `s` of pair `p`. -/
def wTile (t u : ℕ) : ℝ :=
  ∑ d ∈ range 64, Q t (lane0 p s + d) * (1 / 8) * K u (lane0 p s + d) * Real.rpow 2 (bSum x t (lane0 p s + d) - bSum x u (lane0 p s + d))

theorem rpow_split (t u e : ℝ) : Real.rpow 2 (t - e) * Real.rpow 2 (e - u) = Real.rpow 2 (t - u) := by
  show (2 : ℝ) ^ (t - e) * (2 : ℝ) ^ (e - u) = (2 : ℝ) ^ (t - u)
  rw [← Real.rpow_add (by norm_num)]; congr 1; ring

/-- The two rows of a pair at a level meet at the same row. -/
theorem meet (l : Fin 8) (t u : ℕ) (ht : t < 256) (h : t / 2 ^ l.val = u / 2 ^ l.val + 1) :
    endRow l.val ((t + 256 - 2 ^ l.val) % 256) = endRow l.val u := by
  have hlt : 2 ^ l.val < 256 := pow_lt_256 l
  have hpos : 0 < 2 ^ l.val := Nat.pos_of_ne_zero (by simp)
  have hge : 2 ^ l.val ≤ t := by
    by_contra hc
    rw [Nat.div_eq_of_lt (by omega)] at h
    exact absurd h.symm (Nat.succ_ne_zero _)
  rw [show (t + 256 - 2 ^ l.val) % 256 = t - 2 ^ l.val by omega]
  unfold endRow
  have : (t - 2 ^ l.val) / 2 ^ l.val = t / 2 ^ l.val - 1 := by
    have := Nat.sub_mul_div t (2 ^ l.val) 1
    simpa using this
  rw [this, h, Nat.add_sub_cancel]

/-- A level's products are the weights, at the pairs of rows of that level. -/
theorem level_weight (l : Fin 8) (t u : ℕ) (ht : t < 256) (h : t / 2 ^ l.val = u / 2 ^ l.val + 1) :
    (∑ d ∈ range 64, Q t (lane0 p s + d) * (1 / 8) * Real.rpow 2 (bSum x t (lane0 p s + d)
          - bSum x (endRow l.val ((t + 256 - 2 ^ l.val) % 256)) (lane0 p s + d))
        * (K u (lane0 p s + d) * Real.rpow 2 (bSum x (endRow l.val u) (lane0 p s + d) - bSum x u (lane0 p s + d))))
      = wTile p s Q K x t u := by
  rw [meet l t u ht h]
  refine Finset.sum_congr rfl fun d _ => ?_
  rw [← rpow_split (bSum x t (lane0 p s + d)) (bSum x u (lane0 p s + d)) (bSum x (endRow l.val u) (lane0 p s + d))]
  ring

theorem levelNo_apply (a b : Fin 128) : levelNo (ix2 a b) = levelWord a.val b.val := by
  show (if IntOp.cmpi .sge (iota .tc S128x128 32 [0] iota_S128x128_d0_w32 (ix2 a b)) (iota .tc S128x128 32 [1] iota_S128x128_d1_w32 (ix2 a b)) = 1#1
    then IntOp.subi 31#32 (IntOp.ctlz (IntOp.xori (iota .tc S128x128 32 [0] iota_S128x128_d0_w32 (ix2 a b))
      (iota .tc S128x128 32 [1] iota_S128x128_d1_w32 (ix2 a b)))) else 4294967294#32) = _
  rw [iota_single_apply, iota_single_apply]
  rfl

theorem putLevel_apply (l : BitVec 32) (P acc : FVec Ideal S128x128 .f32) (a b : Fin 128) :
    putLevel l P acc (ix2 a b) = if levelWord a.val b.val = l then P (ix2 a b) else acc (ix2 a b) := by
  show (if IntOp.cmpi .eq (levelNo (ix2 a b)) l = 1#1 then P (ix2 a b) else acc (ix2 a b)) = _
  rw [levelNo_apply]
  by_cases h : levelWord a.val b.val = l
  · rw [if_pos h, if_pos (by simp [IntOp.cmpi, h])]
  · rw [if_neg h, if_neg]
    have hb : (levelWord a.val b.val == l) = false := by simpa using h
    show ¬ BitVec.ofBool (levelWord a.val b.val == l) = 1#1
    rw [hb]; decide

theorem levelP_apply (rq rk : Fin 2) (l : Fin 8) (w : BitVec 32) (hw : w.toNat = 2 ^ l.val) (e : FVec Ideal S256x256 .f32)
    (he : e = up (ends (bSum x) l.val)) (i j : Fin 128)
    (h : (128 * rq.val + i.val) / 2 ^ l.val = (128 * rk.val + j.val) / 2 ^ l.val + 1) :
    prods rq rk p s (levelQ w (up Q : FVec Ideal S256x256 .bf16) (logSum (up x : FVec Ideal S256x256 .f32)) e)
      (levelK (up K : FVec Ideal S256x256 .bf16) (logSum (up x : FVec Ideal S256x256 .f32)) e) (ix2 i j)
      = ((wTile p s Q K x (128 * rq.val + i.val) (128 * rk.val + j.val) : ℝ) : EReal) := by
  rw [he, logSum_up, levelQ_up Q (bSum x) l w hw, levelK_up, prods_up]
  exact congrArg (fun y : ℝ => (y : EReal)) (level_weight p s Q K x l (128 * rq.val + i.val) (128 * rk.val + j.val) (by omega) h)

theorem diagW_up (r : Fin 2) :
    diagW p s (up Q : FVec Ideal S256x256 .bf16) (up K) (up x : FVec Ideal S256x256 .f32) r
      = up fun i j => if j ≤ i then wTile p s Q K x (128 * r.val + i) (128 * r.val + j) else 0 := by
  funext y
  obtain ⟨i, j, rfl⟩ : ∃ i j, y = ix2 i j := ⟨_, _, eq_ix2 y⟩
  unfold diagW
  simp only [putLevel_apply]
  rw [up_apply]
  rcases lt_trichotomy j.val i.val with hji | hji | hji
  · rw [if_pos hji.le]
    obtain ⟨l, hl, hd, _⟩ := level_below i j hji
    rw [hl]
    have hh : ∀ l : Fin 7, i.val / 2 ^ l.val = j.val / 2 ^ l.val + 1 →
        (128 * r.val + i.val) / 2 ^ (l.castSucc : Fin 8).val = (128 * r.val + j.val) / 2 ^ (l.castSucc : Fin 8).val + 1 := by
      intro l h
      have : 128 * r.val = 2 ^ l.val * (2 ^ (7 - l.val) * r.val) := by
        rw [← mul_assoc, ← pow_add, show l.val + (7 - l.val) = 7 by omega]; norm_num
      show (128 * r.val + i.val) / 2 ^ l.val = (128 * r.val + j.val) / 2 ^ l.val + 1
      rw [this, Nat.mul_add_div (Nat.pos_of_ne_zero (by simp)), Nat.mul_add_div (Nat.pos_of_ne_zero (by simp)), h]; ring
    have h' := hh l hd
    match l, h' with
    | 0, h' => exact levelP_apply p s Q K x r r 0 1#32 rfl _ ((logSum_up x).trans (end0_up _)) i j h'
    | 1, h' => exact levelP_apply p s Q K x r r 1 2#32 rfl _ (by rw [logSum_up]; exact end1_up _) i j h'
    | 2, h' => exact levelP_apply p s Q K x r r 2 4#32 rfl _ (by rw [logSum_up]; exact end2_up _) i j h'
    | 3, h' => exact levelP_apply p s Q K x r r 3 8#32 rfl _ (by rw [logSum_up]; exact end3_up _) i j h'
    | 4, h' => exact levelP_apply p s Q K x r r 4 16#32 rfl _ (by rw [logSum_up]; exact end4_up _) i j h'
    | 5, h' => exact levelP_apply p s Q K x r r 5 32#32 rfl _ (by rw [logSum_up]; exact end5_up _) i j h'
    | 6, h' => exact levelP_apply p s Q K x r r 6 64#32 rfl _ (by rw [logSum_up]; exact end6_up _) i j h'
  · have e : i = j := Fin.ext hji.symm
    subst e
    rw [if_pos le_rfl, level_diag]
    simp only [show ¬ ((4294967295#32 : BitVec 32) = 6#32) by decide, show ¬ ((4294967295#32 : BitVec 32) = 5#32) by decide,
      show ¬ ((4294967295#32 : BitVec 32) = 4#32) by decide, show ¬ ((4294967295#32 : BitVec 32) = 3#32) by decide,
      show ¬ ((4294967295#32 : BitVec 32) = 2#32) by decide, show ¬ ((4294967295#32 : BitVec 32) = 1#32) by decide,
      show ¬ ((4294967295#32 : BitVec 32) = 0#32) by decide, if_false, if_true]
    rw [scaledQ_up, up_truncf, up_extf, up_truncf, prods_up, up_apply]
    refine congrArg (fun y : ℝ => (y : EReal)) (Finset.sum_congr rfl fun d _ => ?_)
    rw [sub_self, show Real.rpow 2 0 = 1 from Real.rpow_zero 2, mul_one]
  · rw [if_neg (show ¬ j.val ≤ i.val by omega), level_above i j hji]
    simp only [show ¬ ((4294967294#32 : BitVec 32) = 6#32) by decide, show ¬ ((4294967294#32 : BitVec 32) = 5#32) by decide,
      show ¬ ((4294967294#32 : BitVec 32) = 4#32) by decide, show ¬ ((4294967294#32 : BitVec 32) = 3#32) by decide,
      show ¬ ((4294967294#32 : BitVec 32) = 2#32) by decide, show ¬ ((4294967294#32 : BitVec 32) = 1#32) by decide,
      show ¬ ((4294967294#32 : BitVec 32) = 0#32) by decide, show ¬ ((4294967294#32 : BitVec 32) = 4294967295#32) by decide, if_false]
    exact zero32

theorem crossW_up :
    crossW p s (up Q : FVec Ideal S256x256 .bf16) (up K) (up x : FVec Ideal S256x256 .f32) = up fun i j => wTile p s Q K x (128 + i) j := by
  funext y
  obtain ⟨i, j, rfl⟩ : ∃ i j, y = ix2 i j := ⟨_, _, eq_ix2 y⟩
  unfold crossW
  refine (levelP_apply p s Q K x 1 0 7 128#32 rfl _ (by rw [logSum_up]; exact end7_up _) i j ?_).trans ?_
  · have := i.isLt; have := j.isLt
    show (128 * 1 + i.val) / 128 = (128 * 0 + j.val) / 128 + 1
    omega
  · rw [up_apply]
    simp

end weights

/-- A stack of one matrix of reals. -/
def up3 (g : ℕ → ℕ → ℝ) : Vec Ideal S1x128x256 .f32 := fun j => (((g (j 1).val (j 2).val : ℝ)) : EReal)

theorem cast_up3 (g : ℕ → ℕ → ℝ) : shapeCast S128x256 (up3 g) shapeCasts_S1x128x256_S128x256 = (up g : FVec Ideal S128x256 .f32) := by
  funext j
  obtain ⟨a, b, rfl⟩ : ∃ a b, j = ix2 a b := ⟨_, _, eq_ix2 j⟩
  exact shapeCast_1ab_ab_apply (up3 g) _ a b

theorem cast_up (g : ℕ → ℕ → ℝ) : shapeCast S1x128x256 (up g : FVec Ideal S128x256 .f32) shapeCasts_S128x256_S1x128x256 = up3 g := by
  funext j
  obtain ⟨u, a, b, rfl⟩ : ∃ u a b, j = ix3 u a b := ⟨_, _, _, eq_ix3 j⟩
  exact shapeCast_ab_1ab_apply (up g) _ u a b

theorem own_apply (p s : Fin 2) (a : Fin 128) (b : Fin 256) :
    andi (cmpi .sge (iota .tc S128x256 32 [1] iota_S128x256_d1_w32) (broadcast S128x256 (BitVec.ofNat 32 (64 * (2 * p.val + s.val)))))
      (cmpi .slt (iota .tc S128x256 32 [1] iota_S128x256_d1_w32) (broadcast S128x256 (BitVec.ofNat 32 (64 * (2 * p.val + s.val) + 64)))) (ix2 a b)
      = if b.val / 64 = 2 * p.val + s.val then 1#1 else 0#1 := by
  show IntOp.andi (IntOp.cmpi .sge (iota .tc S128x256 32 [1] iota_S128x256_d1_w32 (ix2 a b)) (BitVec.ofNat 32 (64 * (2 * p.val + s.val))))
    (IntOp.cmpi .slt (iota .tc S128x256 32 [1] iota_S128x256_d1_w32 (ix2 a b)) (BitVec.ofNat 32 (64 * (2 * p.val + s.val) + 64))) = _
  rw [iota_single_apply]
  exact bit_own ⟨2 * p.val + s.val, by omega⟩ b

section tile

variable (p s : Fin 2) (Q K x V σ : ℕ → ℕ → ℝ)

theorem tileState_up :
    tileState p s (up K : FVec Ideal S256x256 .bf16) (up x : FVec Ideal S256x256 .f32) (up V : FVec Ideal S256x128 .bf16) (up3 σ)
      = up3 fun e l => σ e l * Real.rpow 2 (bSum x 255 l)
          + if l / 64 = 2 * p.val + s.val then ∑ u ∈ range 256, V u e * (K u l * Real.rpow 2 (bSum x 255 l - bSum x u l)) else 0 := by
  unfold tileState keysOut
  rw [cast_up3, logSum_up, end8_up, up_sub, up_exp2, up_extf, up_mul, up_truncf]
  have hrow : extractStridedSlice S1x256 ![0, 0] (up (fun _ j => bSum x 255 j) : FVec Ideal S256x256 .f32) slices_S256x256_o0_0_S1x256
      = (up fun _ j => bSum x 255 (0 + j) : FVec Ideal S1x256 .f32) := up_slice _ _ _ _
  have hrep : broadcastTo S128x256 (up (fun _ j => Real.rpow 2 (bSum x 255 (0 + j))) : FVec Ideal S1x256 .f32) broadcasts_S1x256_S128x256
      = (up fun _ j => Real.rpow 2 (bSum x 255 (0 + j)) : FVec Ideal S128x256 .f32) := up_repeat _ _
  have hv : shapeCast S256x128 (up V : FVec Ideal S256x128 .bf16) shapeCasts_S256x128_S256x128 = up V := shapeCast_self _ _
  have ht : transpose S128x256 [1, 0] (up V : FVec Ideal S256x128 .f32) transposes_S256x128_p1_0_S128x256
      = (up fun e u => V u e : FVec Ideal S128x256 .f32) := up_transpose _ _
  have hm : matmul dot_S128x256_S256x256_S128x256_1_0_0_1_n_n none (up fun e u => V u e : FVec Ideal S128x256 .bf16)
      (up (fun t j => K t j * Real.rpow 2 (bSum x 255 j - bSum x t j)) : FVec Ideal S256x256 .bf16) (constant S128x256 .f32 0x00000000#32)
      = (up fun e l => ∑ u ∈ range 256, V u e * (K u l * Real.rpow 2 (bSum x 255 l - bSum x u l)) : FVec Ideal S128x256 .f32) :=
    up_plain _ rfl _ _
  rw [hrow, up_exp2, hrep, hv, up_extf, ht, up_truncf, hm, up_mul, up_splat (n := 128) (m := 256) _ 0 zero32,
    up_select _ (fun _ b => b / 64 = 2 * p.val + s.val) _ _ (own_apply p s), up_add, cast_up]
  simp only [Nat.zero_add]

theorem tileOut_up :
    tileOut p s (up Q : FVec Ideal S256x256 .bf16) (up K) (up x : FVec Ideal S256x256 .f32) (up V : FVec Ideal S256x128 .bf16) (up3 σ)
      = (up fun t e => (∑ c ∈ range 128, Q t (128 * p.val + c) * (1 / 8) * Real.rpow 2 (bSum x t (128 * p.val + c)) * σ e (128 * p.val + c))
          + ∑ u ∈ range (t + 1), wTile p s Q K x t u * V u e : FVec Ideal S256x128 .bf16) := by
  unfold tileOut queriesIn
  rw [cast_up3, logSum_up, scaledQ_up, up_exp2, up_mul, up_truncf, diagW_up, diagW_up, crossW_up]
  have h1 : extractStridedSlice S256x128 ![0, 128 * p.val] (up (fun t j => Q t j * (1 / 8) * Real.rpow 2 (bSum x t j)) : FVec Ideal S256x256 .bf16) (in_slices p)
      = (up fun t c => Q (0 + t) (128 * p.val + c) * (1 / 8) * Real.rpow 2 (bSum x (0 + t) (128 * p.val + c)) : FVec Ideal S256x128 .bf16) :=
    up_slice _ _ _ _
  have h2 : extractStridedSlice S128x128 ![0, 128 * p.val] (up σ : FVec Ideal S128x256 .f32) (half_slices p)
      = (up fun e c => σ (0 + e) (128 * p.val + c) : FVec Ideal S128x128 .f32) := up_slice _ _ _ _
  have h3 : matmul dot_S256x128_S128x128_S256x128_1_1_0_0_n_n none
      (up fun t c => Q (0 + t) (128 * p.val + c) * (1 / 8) * Real.rpow 2 (bSum x (0 + t) (128 * p.val + c)) : FVec Ideal S256x128 .bf16)
      (up fun e c => σ (0 + e) (128 * p.val + c) : FVec Ideal S128x128 .bf16) (constant S256x128 .f32 0x00000000#32)
      = (up fun t e => ∑ c ∈ range 128, Q (0 + t) (128 * p.val + c) * (1 / 8) * Real.rpow 2 (bSum x (0 + t) (128 * p.val + c)) * σ (0 + e) (128 * p.val + c) :
        FVec Ideal S256x128 .f32) := up_transposed _ rfl _ _
  have hv : shapeCast S256x128 (up V : FVec Ideal S256x128 .bf16) shapeCasts_S256x128_S256x128 = up V := shapeCast_self _ _
  have h4 : extractStridedSlice S128x128 ![0, 0] (up V : FVec Ideal S256x128 .bf16) slices_S256x128_o0_0_S128x128
      = (up fun u e => V (0 + u) (0 + e) : FVec Ideal S128x128 .bf16) := up_slice _ _ _ _
  have h5 : matmul dot_S128x128_S128x128_S128x128_1_0_0_1_n_n none
      (up fun i j => if j ≤ i then wTile p s Q K x (128 * (0 : Fin 2).val + i) (128 * (0 : Fin 2).val + j) else 0 : FVec Ideal S128x128 .bf16)
      (up fun u e => V (0 + u) (0 + e) : FVec Ideal S128x128 .bf16) (constant S128x128 .f32 0x00000000#32)
      = (up fun i e => ∑ u ∈ range 128, (if u ≤ i then wTile p s Q K x (128 * (0 : Fin 2).val + i) (128 * (0 : Fin 2).val + u) else 0) * V (0 + u) (0 + e) :
        FVec Ideal S128x128 .f32) := up_plain _ rfl _ _
  have h6 : concatenate S128x256 1 [⟨S128x128, (up fun i j => wTile p s Q K x (128 + i) j : FVec Ideal S128x128 .f32)⟩,
      ⟨S128x128, (up fun i j => if j ≤ i then wTile p s Q K x (128 * (1 : Fin 2).val + i) (128 * (1 : Fin 2).val + j) else 0 : FVec Ideal S128x128 .f32)⟩]
      concatenates_S128x128_S128x128_S128x256_d1
      = (up fun i j => if j < 128 then wTile p s Q K x (128 + i) j
          else (if j - 128 ≤ i then wTile p s Q K x (128 * (1 : Fin 2).val + i) (128 * (1 : Fin 2).val + (j - 128)) else 0) : FVec Ideal S128x256 .f32) :=
    up_cols _ _ _
  have h7 : matmul dot_S128x256_S256x128_S128x128_1_0_0_1_n_n none
      (up fun i j => if j < 128 then wTile p s Q K x (128 + i) j
          else (if j - 128 ≤ i then wTile p s Q K x (128 * (1 : Fin 2).val + i) (128 * (1 : Fin 2).val + (j - 128)) else 0) : FVec Ideal S128x256 .bf16)
      (up V : FVec Ideal S256x128 .bf16) (constant S128x128 .f32 0x00000000#32)
      = (up fun i e => ∑ u ∈ range 256, (if u < 128 then wTile p s Q K x (128 + i) u
          else (if u - 128 ≤ i then wTile p s Q K x (128 * (1 : Fin 2).val + i) (128 * (1 : Fin 2).val + (u - 128)) else 0)) * V u e :
        FVec Ideal S128x128 .f32) := up_plain _ rfl _ _
  have h8 : ∀ g h : ℕ → ℕ → ℝ, concatenate S256x128 0 [⟨S128x128, (up g : FVec Ideal S128x128 .f32)⟩, ⟨S128x128, (up h : FVec Ideal S128x128 .f32)⟩]
      concatenates_S128x128_S128x128_S256x128_d0 = (up fun a b => if a < 128 then g a b else h (a - 128) b : FVec Ideal S256x128 .f32) :=
    fun g h => up_rows g h _
  rw [h1, up_truncf, h2, up_truncf, h3, hv, h4, h5, h6, up_truncf, h7, h8, up_add, up_truncf]
  refine up_congr fun t ht e he => ?_
  simp only [Nat.zero_add]
  congr 1
  by_cases h : t < 128
  · rw [if_pos h, ← Gla.sum_le h]
    refine Finset.sum_congr rfl fun u hu => ?_
    simp only [Fin.val_zero, Nat.mul_zero, Nat.zero_add, ite_mul, zero_mul]
  · rw [if_neg h, ← Gla.sum_le ht]
    refine Finset.sum_congr rfl fun u hu => ?_
    have hu := Finset.mem_range.1 hu
    by_cases h1 : u < 128
    · rw [if_pos h1, if_pos (by omega), show 128 + (t - 128) = t by omega]
    · rw [if_neg h1]
      by_cases h2 : u ≤ t
      · rw [if_pos (by omega), if_pos h2]
        simp only [Fin.val_one, Nat.mul_one, show 128 + (t - 128) = t by omega, show 128 + (u - 128) = u by omega]
      · rw [if_neg (by omega), if_neg h2, zero_mul]

end tile

end Cert.KernelIdeal.Gen

end
-- ==== Proof.GlaPieces.lean ====
module

public import proofs.«01_k».proof.Proof.GlaTile

@[expose] public section

set_option maxRecDepth 16384

/-! # What one grid point stores

The kernel's body stores, at one grid point, sixteen output blocks and sixteen state blocks: four tiles, and in each tile
four heads. Here the stores are numbered (store `n` is head `n % 4` of tile `n / 4`), and the two cases' lists of stores
are shown to be these numbered ones. -/

noncomputable section

namespace Cert.KernelIdeal.Gen

open Idealize.ShloMosaic Idealize.ShloMosaic.TcCoe Idealize.ShloMosaic.Tactic

variable {F : FTy → Type} [FloatOps F]

/-- Store `n`'s tile; -/
def rOf (n : ℕ) : Fin 4 := ⟨n / 4 % 4, Nat.mod_lt _ (by decide)⟩
/-- its head, -/
def hOf (n : ℕ) : Fin 4 := ⟨n % 4, Nat.mod_lt _ (by decide)⟩
/-- the head's pair -/
def pOf (h : Fin 4) : Fin 2 := ⟨h.val / 2, by omega⟩
/-- and its place in the pair. -/
def sOf (h : Fin 4) : Fin 2 := ⟨h.val % 2, by omega⟩

theorem inb_tile (r : Fin 4) : ∀ a, (![256 * r.val, 0] : Fin 2 → ℕ) a + S256x256.size a ≤ S1024x256.size a := by
  revert r; decide
theorem inb_rows (r : Fin 4) : ∀ a, (![256 * r.val, 0] : Fin 2 → ℕ) a + S256x512.size a ≤ S1024x512.size a := by
  revert r; decide
theorem inb_cols (h : Fin 4) : ∀ a, (![0, 128 * h.val] : Fin 2 → ℕ) a + S256x128.size a ≤ S256x512.size a := by
  revert h; decide
theorem inb_out (r h : Fin 4) : ∀ a, (![256 * r.val, 128 * h.val] : Fin 2 → ℕ) a + S256x128.size a ≤ S1024x512.size a := by
  revert r h; decide
theorem inb_state (h : Fin 4) : ∀ a, (![h.val, 0, 0] : Fin 3 → ℕ) a + S1x128x256.size a ≤ S4x128x256.size a := by
  revert h; decide

/-- Where a head's state lies in the scratch. -/
abbrev stRect (h : Fin 4) : Rect S4x128x256 := Rect.unit (s := S4x128x256) ![h.val, 0, 0] S1x128x256.size (inb_state h)
/-- Where a tile's rows of a head lie in the output block. -/
abbrev outRect (r h : Fin 4) : Rect S1024x512 := Rect.unit (s := S1024x512) ![256 * r.val, 128 * h.val] S256x128.size (inb_out r h)

/-- A tile as it is loaded from a staging buffer. -/
def rawTile {e : EltTy} (r : Fin 4) (a : Memref sig .tc .vmem S1024x256 e) (ha : a.IsWhole) (x : Vec F S1024x256 e) : Vec F S256x256 e :=
  shapeCast S256x256 (View.readAt (Elt F) a.view (Rect.unit (s := S1024x256) ![256 * r.val, 0] S256x256.size (inb_tile r)).toLoadRect (ha.unread x))
    shapeCasts_S256x256_S256x256

/-- A head's values of a tile as they are loaded. -/
def rawVal (r h : Fin 4) (a : Memref sig .tc .vmem S1024x512 .bf16) (ha : a.IsWhole) (x : Vec F S1024x512 .bf16) : Vec F S256x128 .bf16 :=
  View.readAt (Elt F) a.view ((Rect.unit (s := S1024x512) ![256 * r.val, 0] S256x512.size (inb_rows r)).withinL
    (Rect.unit (s := S256x512) ![0, 128 * h.val] S256x128.size (inb_cols h)).toLoadRect (fun _ => rfl)) (ha.unread x)

section lists

variable (f : Fin 4 → Fin 4 → Vec F S1x128x256 .f32 → Vec F S1x128x256 .f32) (g : Fin 4 → Fin 4 → Vec F S1x128x256 .f32 → Vec F S256x128 .bf16)
variable (rd : ℕ → List (View.Piece (Elt F) S4x128x256 .f32) → Vec F S1x128x256 .f32) (L0 : List (View.Piece (Elt F) S4x128x256 .f32))

/-- The state's stores, the last first: each made by its tile and head (`f`) of the state read after the stores before it
    (`rd`). -/
def stList : ℕ → List (View.Piece (Elt F) S4x128x256 .f32)
  | 0 => L0
  | n + 1 => ⟨stRect (hOf n), f (rOf n) (hOf n) (rd n (stList n))⟩ :: stList n

/-- The output's stores, the last first. -/
def outList : ℕ → List (View.Piece (Elt F) S1024x512 .bf16)
  | 0 => []
  | n + 1 => ⟨outRect (rOf n) (hOf n), g (rOf n) (hOf n) (rd n (stList f rd L0 n))⟩ :: outList n

end lists

/-- A tile's step of a head's state, from the tiles' keys, log decays and values. -/
def stepOf (k : Fin 4 → FVec F S256x256 .bf16) (la : Fin 4 → FVec F S256x256 .f32) (v : Fin 4 → Fin 4 → Vec F S256x128 .bf16)
    (r h : Fin 4) (st : Vec F S1x128x256 .f32) : Vec F S1x128x256 .f32 :=
  tileState (pOf h) (sOf h) (k r) (la r) (v r h) st

/-- A tile's output for a head. -/
def yieldOf (q k : Fin 4 → FVec F S256x256 .bf16) (la : Fin 4 → FVec F S256x256 .f32) (v : Fin 4 → Fin 4 → Vec F S256x128 .bf16)
    (r h : Fin 4) (st : Vec F S1x128x256 .f32) : Vec F S256x128 .bf16 :=
  tileOut (pOf h) (sOf h) (q r) (k r) (la r) (v r h) st

section cases

variable (c : Dev nD) (i : grid0.Coords) (arg2 : Memref sig .tc .vmem S1024x256 .bf16) (harg2 : arg2.IsWhole)
  (arg3 : Memref sig .tc .vmem S1024x256 .bf16) (harg3 : arg3.IsWhole) (arg4 : Memref sig .tc .vmem S1024x512 .bf16) (harg4 : arg4.IsWhole)
  (arg5 : Memref sig .tc .vmem S1024x256 .f32) (harg5 : arg5.IsWhole) (arg6 : Memref sig .tc .vmem S1024x512 .bf16) (harg6 : arg6.IsWhole)
  (arg7 : Memref sig .tc .vmem S4x128x256 .f32) (harg7 : arg7.IsWhole)
  (x0 : Vec F S1024x256 .bf16) (x1 : Vec F S1024x256 .bf16) (x2 : Vec F S1024x512 .bf16) (x3 : Vec F S1024x256 .f32) (xs0 : Vec F S4x128x256 .f32)

/-- A state read after the stores so far. -/
def readSt (n : ℕ) (L : List (View.Piece (Elt F) S4x128x256 .f32)) : Vec F S1x128x256 .f32 :=
  arg7.view.readCov L (stRect (hOf n)).toLoadRect

/-- The same, but for the first tile's, which are read from what the point before left. -/
def readStB (n : ℕ) (L : List (View.Piece (Elt F) S4x128x256 .f32)) : Vec F S1x128x256 .f32 :=
  if n < 4 then View.readAt (Elt F) arg7.view (stRect (hOf n)).toLoadRect (harg7.unread xs0) else readSt arg7 n L

/-- The zero fill. -/
def zeroPiece : View.Piece (Elt F) S4x128x256 .f32 :=
  ⟨Rect.unit (s := S4x128x256) ![0, 0, 0] S4x128x256.size (by decide), broadcast S4x128x256 (Scalar.ofBits .f32 0x00000000#32)⟩

theorem stPieces_A (hc0 : cond0_0 i) :
    (kernelRun0_A c i arg2 harg2 arg3 harg3 arg4 harg4 arg5 harg5 arg6 harg6 arg7 harg7 hc0 x0 x1 x2 x3).2.1
      = stList (stepOf (fun r => rawTile r arg3 harg3 x1) (fun r => rawTile r arg5 harg5 x3) (fun r h => rawVal r h arg4 harg4 x2))
          (readSt arg7) [zeroPiece] 16 := by
  sl_kernel_rfl

theorem outPieces_A (hc0 : cond0_0 i) :
    (kernelRun0_A c i arg2 harg2 arg3 harg3 arg4 harg4 arg5 harg5 arg6 harg6 arg7 harg7 hc0 x0 x1 x2 x3).1
      = outList (stepOf (fun r => rawTile r arg3 harg3 x1) (fun r => rawTile r arg5 harg5 x3) (fun r h => rawVal r h arg4 harg4 x2))
          (yieldOf (fun r => rawTile r arg2 harg2 x0) (fun r => rawTile r arg3 harg3 x1) (fun r => rawTile r arg5 harg5 x3) (fun r h => rawVal r h arg4 harg4 x2))
          (readSt arg7) [zeroPiece] 16 := by
  sl_kernel_rfl

theorem stPieces_B (hc0 : ¬cond0_0 i) :
    (kernelRun0_B c i arg2 harg2 arg3 harg3 arg4 harg4 arg5 harg5 arg6 harg6 arg7 harg7 hc0 x0 x1 x2 x3 xs0).2.1
      = stList (stepOf (fun r => rawTile r arg3 harg3 x1) (fun r => rawTile r arg5 harg5 x3) (fun r h => rawVal r h arg4 harg4 x2))
          (readStB arg7 harg7 xs0) [] 16 := by
  sl_kernel_rfl

theorem outPieces_B (hc0 : ¬cond0_0 i) :
    (kernelRun0_B c i arg2 harg2 arg3 harg3 arg4 harg4 arg5 harg5 arg6 harg6 arg7 harg7 hc0 x0 x1 x2 x3 xs0).1
      = outList (stepOf (fun r => rawTile r arg3 harg3 x1) (fun r => rawTile r arg5 harg5 x3) (fun r h => rawVal r h arg4 harg4 x2))
          (yieldOf (fun r => rawTile r arg2 harg2 x0) (fun r => rawTile r arg3 harg3 x1) (fun r => rawTile r arg5 harg5 x3) (fun r h => rawVal r h arg4 harg4 x2))
          (readStB arg7 harg7 xs0) [] 16 := by
  sl_kernel_rfl

end cases

end Cert.KernelIdeal.Gen

end
-- ==== Proof.GlaPoint.lean ====
module

public import proofs.«01_k».proof.Proof.GlaPieces
public import Idealize.ShloMosaic.Lib.ValueIdx
public import Idealize.ShloMosaic.Lib.Pipeline.Value

@[expose] public section

set_option maxRecDepth 16384

/-! # What one grid point leaves

The stores of one grid point, read back: the state of a head goes through the four tiles one after the other, and the
output at a row and a column is what the row's tile gave for the column's head. -/

noncomputable section

namespace Cert.KernelIdeal.Gen

open Idealize.ShloMosaic Idealize.ShloMosaic.TcCoe Idealize.ShloMosaic.Tactic Idealize.ShloMosaic.ValueIdx

variable {F : FTy → Type} [FloatOps F]

attribute [local irreducible] stepOf yieldOf

/-- A tile of a staged block. -/
def tileAt {e : EltTy} (r : Fin 4) (x : Vec F S1024x256 e) : Vec F S256x256 e :=
  fun j => x (ix2 (n0 := 1024) (n1 := 256) ⟨256 * r.val + (j 0).val, by have := (j 0).isLt; have : (j 0).val < 256 := this; omega⟩ (j 1))

/-- A head's values of a tile. -/
def valAt (r h : Fin 4) (x : Vec F S1024x512 .bf16) : Vec F S256x128 .bf16 :=
  fun j => x (ix2 (n0 := 1024) (n1 := 512) ⟨256 * r.val + (j 0).val, by have := (j 0).isLt; have : (j 0).val < 256 := this; omega⟩
    ⟨128 * h.val + (j 1).val, by have := (j 1).isLt; have : (j 1).val < 128 := this; omega⟩)

/-- A head's state out of all the states. -/
def headAt (h : Fin 4) (x : Vec F S4x128x256 .f32) : Vec F S1x128x256 .f32 :=
  fun j => x (ix3 (n0 := 4) (n1 := 128) (n2 := 256) h (j 1) (j 2))

theorem rawTile_eq {e : EltTy} (r : Fin 4) (a : Memref sig .tc .vmem S1024x256 e) (ha : a.IsWhole) (x : Vec F S1024x256 e) :
    rawTile r a ha x = tileAt r x := by
  unfold rawTile
  refine (shapeCast_self (s := S256x256) _ _).trans ?_
  funext j
  rw [View.readAt_apply, ha.read_unread]
  unfold tileAt
  congr 1
  funext a
  apply Fin.ext
  rw [LoadRect.idx_apply]
  match a with
  | ⟨0, _⟩ => show 256 * r.val + 1 * (j 0).val = 256 * r.val + (j 0).val; omega
  | ⟨1, _⟩ => show 0 + 1 * (j 1).val = (j 1).val; omega

theorem rawVal_eq (r h : Fin 4) (a : Memref sig .tc .vmem S1024x512 .bf16) (ha : a.IsWhole) (x : Vec F S1024x512 .bf16) :
    rawVal r h a ha x = valAt r h x := by
  unfold rawVal
  funext j
  rw [View.readAt_apply, ha.read_unread]
  unfold valAt
  congr 1
  funext a
  apply Fin.ext
  rw [LoadRect.idx_apply]
  match a with
  | ⟨0, _⟩ => show (256 * r.val + 0) + 1 * (j 0).val = 256 * r.val + (j 0).val; omega
  | ⟨1, _⟩ => show (0 + 128 * h.val) + 1 * (j 1).val = 128 * h.val + (j 1).val; omega

theorem idx_stRect (h : Fin 4) (j : (⟨3, S1x128x256.size⟩ : Shape).Idx) :
    (stRect h).toLoadRect.idx j = ix3 (n0 := 4) (n1 := 128) (n2 := 256) h (j 1) (j 2) := by
  funext a
  apply Fin.ext
  rw [LoadRect.idx_apply]
  match a with
  | ⟨0, _⟩ =>
    have : (j 0).val < 1 := (j 0).isLt
    show h.val + 1 * (j 0).val = h.val; omega
  | ⟨1, _⟩ => show 0 + 1 * (j 1).val = (j 1).val; omega
  | ⟨2, _⟩ => show 0 + 1 * (j 2).val = (j 2).val; omega

theorem stRect_disjoint {h h' : Fin 4} (hh : h ≠ h') : Disjoint (stRect h).set (stRect h').toLoadRect.set :=
  Rect.unit_disjoint 0 (by
    have : h.val ≠ h'.val := fun e => hh (Fin.ext e)
    show h.val + 1 ≤ h'.val ∨ h'.val + 1 ≤ h.val
    omega)

theorem read_skip (m : Memref sig .tc .vmem S4x128x256 .f32) {h h' : Fin 4} (hh : h ≠ h') (w : Vec F S1x128x256 .f32)
    (L : List (View.Piece (Elt F) S4x128x256 .f32)) :
    m.view.readCov (⟨stRect h, w⟩ :: L) (stRect h').toLoadRect = m.view.readCov L (stRect h').toLoadRect :=
  View.readCov_cons_of_disjoint m.view ⟨stRect h, w⟩ L (stRect h').toLoadRect (stRect_disjoint hh)

theorem read_hit (m : Memref sig .tc .vmem S4x128x256 .f32) (h : Fin 4) (w : Vec F S1x128x256 .f32)
    (L : List (View.Piece (Elt F) S4x128x256 .f32)) :
    m.view.readCov (⟨stRect h, w⟩ :: L) (stRect h).toLoadRect = w :=
  View.readCov_cons_toLoadRect m.view (stRect h) w L

section lists

variable (f : Fin 4 → Fin 4 → Vec F S1x128x256 .f32 → Vec F S1x128x256 .f32) (g : Fin 4 → Fin 4 → Vec F S1x128x256 .f32 → Vec F S256x128 .bf16)
variable (init : Fin 4 → Vec F S1x128x256 .f32)

/-- A head's state before tile `r`. -/
def stTile (h : Fin 4) : ℕ → Vec F S1x128x256 .f32
  | 0 => init h
  | r + 1 => f ⟨r % 4, Nat.mod_lt _ (by decide)⟩ h (stTile h r)

variable (rd : ℕ → List (View.Piece (Elt F) S4x128x256 .f32) → Vec F S1x128x256 .f32) (L0 : List (View.Piece (Elt F) S4x128x256 .f32))
variable (arg7 : Memref sig .tc .vmem S4x128x256 .f32)

theorem read_before (h : Fin 4) (n : ℕ) (hn : n ≤ h.val) :
    arg7.view.readCov (stList f rd L0 n) (stRect h).toLoadRect = arg7.view.readCov L0 (stRect h).toLoadRect := by
  induction n with
  | zero => rfl
  | succ n ih =>
    rw [stList, read_skip arg7 ?_, ih (by omega)]
    intro e
    have : n % 4 = h.val := congrArg Fin.val e
    have := h.isLt
    omega

theorem read_stList
    (hrd : ∀ n, rd n (stList f rd L0 n)
      = if n < 4 then init (hOf n) else arg7.view.readCov (stList f rd L0 n) (stRect (hOf n)).toLoadRect) (n : ℕ) :
    (∀ h : Fin 4, h.val < n → arg7.view.readCov (stList f rd L0 n) (stRect h).toLoadRect = stTile f init h ((n + 3 - h.val) / 4))
      ∧ rd n (stList f rd L0 n) = stTile f init (hOf n) (n / 4) := by
  have key : ∀ n, (∀ h : Fin 4, h.val < n → arg7.view.readCov (stList f rd L0 n) (stRect h).toLoadRect
        = stTile f init h ((n + 3 - h.val) / 4))
      → rd n (stList f rd L0 n) = stTile f init (hOf n) (n / 4) := by
    intro n hA
    rw [hrd n]
    by_cases h4 : n < 4
    · rw [if_pos h4, Nat.div_eq_of_lt h4]; rfl
    · have hv : (hOf n).val = n % 4 := rfl
      rw [if_neg h4, hA (hOf n) (by rw [hv]; omega), hv, show (n + 3 - n % 4) / 4 = n / 4 by omega]
  have main : ∀ n, ∀ h : Fin 4, h.val < n → arg7.view.readCov (stList f rd L0 n) (stRect h).toLoadRect
        = stTile f init h ((n + 3 - h.val) / 4) := by
    intro n
    induction n with
    | zero => intro h hh; omega
    | succ n ih =>
      intro h hh
      rw [stList]
      by_cases e : hOf n = h
      · subst e
        have hv : (hOf n).val = n % 4 := rfl
        rw [read_hit, key n ih, hv, show (n + 1 + 3 - n % 4) / 4 = n / 4 + 1 by omega]
        rfl
      · have hv : n % 4 ≠ h.val := fun e' => e (Fin.ext e')
        have := h.isLt
        rw [read_skip arg7 e, ih h (by omega),
          show (n + 1 + 3 - h.val) / 4 = (n + 3 - h.val) / 4 by omega]
  exact ⟨main n, key n (main n)⟩

theorem canon_outList (hrd : ∀ n, rd n (stList f rd L0 n) = stTile f init (hOf n) (n / 4)) (r h : Fin 4) (a : Fin 256) (b : Fin 128)
    (n : ℕ) (hn : 4 * r.val + h.val < n) (hn' : n ≤ 16) :
    View.canon (outList f g rd L0 n) (ix2 (n0 := 1024) (n1 := 512) ⟨256 * r.val + a.val, by omega⟩ ⟨128 * h.val + b.val, by omega⟩)
      = g r h (stTile f init h r.val) (ix2 (n0 := 256) (n1 := 128) a b) := by
  induction n with
  | zero => omega
  | succ n ih =>
    rw [outList]
    by_cases e : 4 * r.val + h.val = n
    · have hr : rOf n = r := Fin.ext (by show n / 4 % 4 = r.val; omega)
      have hh : hOf n = h := Fin.ext (by show n % 4 = h.val; omega)
      have hq : n / 4 = r.val := by omega
      have hy : ix2 (n0 := 1024) (n1 := 512) ⟨256 * r.val + a.val, by omega⟩ ⟨128 * h.val + b.val, by omega⟩
          = (outRect (rOf n) (hOf n)).emb (ix2 (n0 := 256) (n1 := 128) a b) := by
        rw [hr, hh]
        funext d
        apply Fin.ext
        rw [Rect.emb_apply]
        match d with
        | ⟨0, _⟩ => show 256 * r.val + a.val = 256 * r.val + 1 * a.val; omega
        | ⟨1, _⟩ => show 128 * h.val + b.val = 128 * h.val + 1 * b.val; omega
      rw [hy, View.canon_cons_emb, hrd n, hr, hh, hq]
    · rw [View.canon_cons_of_not_mem, ih (by omega) (by omega)]
      rw [Rect.mem_set_unit]
      intro hm
      have h0 : 256 * (n / 4 % 4) ≤ 256 * r.val + a.val ∧ 256 * r.val + a.val < 256 * (n / 4 % 4) + 256 := hm 0
      have h1 : 128 * (n % 4) ≤ 128 * h.val + b.val ∧ 128 * h.val + b.val < 128 * (n % 4) + 128 := hm 1
      omega

end lists

section cases

variable (c : Dev nD) (i : grid0.Coords) (arg2 : Memref sig .tc .vmem S1024x256 .bf16) (harg2 : arg2.IsWhole)
  (arg3 : Memref sig .tc .vmem S1024x256 .bf16) (harg3 : arg3.IsWhole) (arg4 : Memref sig .tc .vmem S1024x512 .bf16) (harg4 : arg4.IsWhole)
  (arg5 : Memref sig .tc .vmem S1024x256 .f32) (harg5 : arg5.IsWhole) (arg6 : Memref sig .tc .vmem S1024x512 .bf16) (harg6 : arg6.IsWhole)
  (arg7 : Memref sig .tc .vmem S4x128x256 .f32) (harg7 : arg7.IsWhole)
  (x0 : Vec F S1024x256 .bf16) (x1 : Vec F S1024x256 .bf16) (x2 : Vec F S1024x512 .bf16) (x3 : Vec F S1024x256 .f32) (xs0 : Vec F S4x128x256 .f32)

/-- The zero state. -/
def zeroSt : Vec F S4x128x256 .f32 := broadcast S4x128x256 (Scalar.ofBits .f32 0x00000000#32)

/-- A head's state before tile `r` of the point. -/
abbrev stOf (x1 : Vec F S1024x256 .bf16) (x2 : Vec F S1024x512 .bf16) (x3 : Vec F S1024x256 .f32) (s0 : Vec F S4x128x256 .f32) (h : Fin 4) (r : ℕ) :
    Vec F S1x128x256 .f32 :=
  stTile (stepOf (fun r => tileAt r x1) (fun r => tileAt r x3) (fun r h => valAt r h x2)) (fun h => headAt h s0) h r

/-- The output of tile `r` of the point for a head. -/
abbrev oOf (x0 x1 : Vec F S1024x256 .bf16) (x2 : Vec F S1024x512 .bf16) (x3 : Vec F S1024x256 .f32) (s0 : Vec F S4x128x256 .f32) (r h : Fin 4) :
    Vec F S256x128 .bf16 :=
  yieldOf (fun r => tileAt r x0) (fun r => tileAt r x1) (fun r => tileAt r x3) (fun r h => valAt r h x2) r h (stOf x1 x2 x3 s0 h r.val)

theorem rd_A (n : ℕ) (f : Fin 4 → Fin 4 → Vec F S1x128x256 .f32 → Vec F S1x128x256 .f32) :
    readSt arg7 n (stList f (readSt arg7) [zeroPiece] n)
      = if n < 4 then headAt (hOf n) zeroSt else arg7.view.readCov (stList f (readSt arg7) [zeroPiece] n) (stRect (hOf n)).toLoadRect := by
  by_cases h4 : n < 4
  · rw [if_pos h4]
    unfold readSt
    rw [read_before _ _ _ _ _ _ (by show n ≤ n % 4; omega), View.readCov_eq_canon']
    funext j
    rw [idx_stRect]
    have hy : ix3 (n0 := 4) (n1 := 128) (n2 := 256) (hOf n) (j 1) (j 2)
        = (Rect.unit (s := S4x128x256) ![0, 0, 0] S4x128x256.size (by decide)).emb (ix3 (n0 := 4) (n1 := 128) (n2 := 256) (hOf n) (j 1) (j 2)) := by
      funext d
      apply Fin.ext
      rw [Rect.emb_apply]
      match d with
      | ⟨0, _⟩ => show n % 4 = 0 + 1 * (n % 4); omega
      | ⟨1, _⟩ => show (j 1).val = 0 + 1 * (j 1).val; omega
      | ⟨2, _⟩ => show (j 2).val = 0 + 1 * (j 2).val; omega
    rw [hy]
    exact View.canon_cons_emb _ _ _ _
  · rw [if_neg h4]; rfl

theorem rd_B (n : ℕ) (f : Fin 4 → Fin 4 → Vec F S1x128x256 .f32 → Vec F S1x128x256 .f32) :
    readStB arg7 harg7 xs0 n (stList f (readStB arg7 harg7 xs0) [] n)
      = if n < 4 then headAt (hOf n) xs0
        else arg7.view.readCov (stList f (readStB arg7 harg7 xs0) [] n) (stRect (hOf n)).toLoadRect := by
  by_cases h4 : n < 4
  · rw [if_pos h4]
    unfold readStB
    rw [if_pos h4]
    funext j
    rw [View.readAt_apply, harg7.read_unread, idx_stRect]
    rfl
  · rw [if_neg h4]
    conv_lhs => unfold readStB
    rw [if_neg h4]; rfl

theorem canon_stList (f : Fin 4 → Fin 4 → Vec F S1x128x256 .f32 → Vec F S1x128x256 .f32)
    (init : Fin 4 → Vec F S1x128x256 .f32)
    (rd : ℕ → List (View.Piece (Elt F) S4x128x256 .f32) → Vec F S1x128x256 .f32) (L0 : List (View.Piece (Elt F) S4x128x256 .f32))
    (hrd : ∀ n, rd n (stList f rd L0 n)
      = if n < 4 then init (hOf n) else arg7.view.readCov (stList f rd L0 n) (stRect (hOf n)).toLoadRect)
    (h : Fin 4) (e : Fin 128) (d : Fin 256) :
    View.canon (stList f rd L0 16) (ix3 (n0 := 4) (n1 := 128) (n2 := 256) h e d)
      = stTile f init h 4 (ix3 (n0 := 1) (n1 := 128) (n2 := 256) 0 e d) := by
  have h1 := (read_stList f init rd L0 arg7 hrd 16).1 h (by omega)
  rw [show (16 + 3 - h.val) / 4 = 4 by omega, View.readCov_eq_canon'] at h1
  rw [← h1]
  show _ = View.canon (stList f rd L0 16) ((stRect h).toLoadRect.idx (ix3 (n0 := 1) (n1 := 128) (n2 := 256) 0 e d))
  rw [idx_stRect]

theorem out_A (hc0 : cond0_0 i) (r h : Fin 4) (a : Fin 256) (b : Fin 128) :
    out0_A_4 c i arg2 harg2 arg3 harg3 arg4 harg4 arg5 harg5 arg6 harg6 arg7 harg7 hc0 x0 x1 x2 x3
        (ix2 (n0 := 1024) (n1 := 512) ⟨256 * r.val + a.val, by omega⟩ ⟨128 * h.val + b.val, by omega⟩)
      = oOf x0 x1 x2 x3 zeroSt r h (ix2 (n0 := 256) (n1 := 128) a b) := by
  unfold out0_A_4
  rw [View.read_writes_junk_eq_canon, outPieces_A]
  simp only [rawTile_eq, rawVal_eq]
  exact canon_outList _ _ (fun h => headAt h zeroSt) _ _ (fun n => (read_stList _ _ _ _ arg7 (fun n => rd_A arg7 n _) n).2) r h a b 16
    (by omega) le_rfl

theorem out_B (hc0 : ¬cond0_0 i) (r h : Fin 4) (a : Fin 256) (b : Fin 128) :
    out0_B_4 c i arg2 harg2 arg3 harg3 arg4 harg4 arg5 harg5 arg6 harg6 arg7 harg7 hc0 x0 x1 x2 x3 xs0
        (ix2 (n0 := 1024) (n1 := 512) ⟨256 * r.val + a.val, by omega⟩ ⟨128 * h.val + b.val, by omega⟩)
      = oOf x0 x1 x2 x3 xs0 r h (ix2 (n0 := 256) (n1 := 128) a b) := by
  unfold out0_B_4
  rw [View.read_writes_junk_eq_canon, outPieces_B]
  simp only [rawTile_eq, rawVal_eq]
  exact canon_outList _ _ (fun h => headAt h xs0) _ _ (fun n => (read_stList _ _ _ _ arg7 (fun n => rd_B arg7 harg7 xs0 n _) n).2) r h a b 16
    (by omega) le_rfl

theorem sout_A (hc0 : cond0_0 i) (h : Fin 4) (e : Fin 128) (d : Fin 256) :
    sout0_A_0 c i arg2 harg2 arg3 harg3 arg4 harg4 arg5 harg5 arg6 harg6 arg7 harg7 hc0 x0 x1 x2 x3 (ix3 (n0 := 4) (n1 := 128) (n2 := 256) h e d)
      = stOf x1 x2 x3 zeroSt h 4 (ix3 (n0 := 1) (n1 := 128) (n2 := 256) 0 e d) := by
  unfold sout0_A_0
  rw [View.read_writes_junk_eq_canon, stPieces_A]
  simp only [rawTile_eq, rawVal_eq]
  exact canon_stList arg7 _ _ _ _ (fun n => rd_A arg7 n _) h e d

theorem sout_B (hc0 : ¬cond0_0 i) (h : Fin 4) (e : Fin 128) (d : Fin 256) :
    sout0_B_0 c i arg2 harg2 arg3 harg3 arg4 harg4 arg5 harg5 arg6 harg6 arg7 harg7 hc0 x0 x1 x2 x3 xs0 (ix3 (n0 := 4) (n1 := 128) (n2 := 256) h e d)
      = stOf x1 x2 x3 xs0 h 4 (ix3 (n0 := 1) (n1 := 128) (n2 := 256) 0 e d) := by
  unfold sout0_B_0
  rw [View.read_writes_junk_eq_canon, stPieces_B]
  simp only [rawTile_eq, rawVal_eq]
  exact canon_stList arg7 _ _ _ _ (fun n => rd_B arg7 harg7 xs0 n _) h e d

end cases

end Cert.KernelIdeal.Gen

end
-- ==== Proof.GlaBlocks.lean ====
module

public import proofs.«01_k».proof.Proof.Gen.KernelIdeal.Value
public import Idealize.ShloMosaic.Lib.ValueIdx
public import Idealize.ShloMosaic.Lib.ValueLayout
public import Idealize.ShloMosaic.Lib.Pipeline.Value
public import Idealize.ShloMosaic.Lib.StableHlo.RunRead

@[expose] public section

set_option maxRecDepth 16384

/-! # What a grid point reads

The blocks of the four windows at a grid point, entry by entry, in terms of the two arguments. -/

noncomputable section

namespace Cert.KernelIdeal.Gen

open Idealize.ShloMosaic Idealize.ShloMosaic.TcCoe Idealize.ShloMosaic.Tactic Idealize.ShloMosaic.ValueIdx Idealize.ShloMosaic.StableHlo

variable {F : FTy → Type} [FloatOps F]
variable (m : (ℓ : Loc nD τ sig) → Buf (Elt F) ℓ)

/-- The projections without the gate's columns, as the kernel is given them. -/
def packed (x : Vec F S8x2048x3088 .f32) : Vec F S16384x3072 .bf16 :=
  shapeCast S16384x3072 (truncf .bf16 (concatenate S8x2048x3072 2
    [⟨S8x2048x2560, extractStridedSlice S8x2048x2560 ![0, 0, 0] x slices_S8x2048x3088_S8x2048x2560_0_0_0⟩,
     ⟨S8x2048x512, extractStridedSlice S8x2048x512 ![0, 0, 2576] x slices_S8x2048x3088_S8x2048x512_0_0_2576⟩]
    concatenates_S8x2048x2560_S8x2048x512_S8x2048x3072_d2) bitsLt_bf16_f32) shapeCasts_S8x2048x3072_S16384x3072

/-- The log decays to base two. -/
def halved (x : Vec F S8x2048x256 .f32) : Vec F S16384x256 .f32 :=
  shapeCast S16384x256 (Host.divf x (broadcastInDim S8x2048x256 ![] bcast_S_S8x2048x256 (Host.log (constant S_ .f32 0x40000000#32))))
    shapeCasts_S8x2048x256_S16384x256

theorem V_v4 (c : Dev nD) : V m c main_v4 = packed (m ((c : Thread nD τ).loc main_arg0)) := by
  unfold V packed
  after_reads_simp
  rfl

theorem V_v8 (c : Dev nD) : V m c main_v8 = halved (m ((c : Thread nD τ).loc main_arg1)) := by
  unfold V halved
  after_reads_simp
  rfl

theorem pt_facts : ∀ t : Fin cfg0.N, win0_0.index t 0 = t.val ∧ win0_0.index t 1 = 6 ∧ win0_1.index t 0 = t.val ∧ win0_1.index t 1 = 7
    ∧ win0_2.index t 0 = t.val ∧ win0_2.index t 1 = 4 ∧ win0_3.index t 0 = t.val ∧ win0_3.index t 1 = 0 :=
  (by decide +kernel : ∀ t : Fin grid0.N, _)

theorem lt16 (t : Fin cfg0.N) : t.val < 16 := lt_of_lt_of_eq t.isLt N_0

theorem blk_q (c : Dev nD) (t : Fin cfg0.N) (a : Fin 1024) (l : Fin 256) :
    (iblk m c 0 t : Vec F S1024x256 .bf16) (ix2 a l) = packed (m ((c : Thread nD τ).loc main_arg0))
      (ix2 (n0 := 16384) (n1 := 3072) ⟨1024 * t.val + a.val, by have := lt16 t; omega⟩ ⟨1536 + l.val, by omega⟩) := by
  rw [← V_v4 m c]
  unfold iblk
  rw [View.read_apply]
  show V m c main_v4 _ = V m c main_v4 _
  obtain ⟨e0, e1, -⟩ := pt_facts t
  congr 1
  funext d
  apply Fin.ext
  match d with
  | ⟨0, _⟩ => show win0_0.index t 0 * 1024 + 1 * a.val = _; rw [e0]; show _ = 1024 * t.val + a.val; omega
  | ⟨1, _⟩ => show win0_0.index t 1 * 256 + 1 * l.val = _; rw [e1]; show _ = 1536 + l.val; omega

theorem blk_k (c : Dev nD) (t : Fin cfg0.N) (a : Fin 1024) (l : Fin 256) :
    (iblk m c 1 t : Vec F S1024x256 .bf16) (ix2 a l) = packed (m ((c : Thread nD τ).loc main_arg0))
      (ix2 (n0 := 16384) (n1 := 3072) ⟨1024 * t.val + a.val, by have := lt16 t; omega⟩ ⟨1792 + l.val, by omega⟩) := by
  rw [← V_v4 m c]
  unfold iblk
  rw [View.read_apply]
  show V m c main_v4 _ = V m c main_v4 _
  obtain ⟨-, -, e0, e1, -⟩ := pt_facts t
  congr 1
  funext d
  apply Fin.ext
  match d with
  | ⟨0, _⟩ => show win0_1.index t 0 * 1024 + 1 * a.val = _; rw [e0]; show _ = 1024 * t.val + a.val; omega
  | ⟨1, _⟩ => show win0_1.index t 1 * 256 + 1 * l.val = _; rw [e1]; show _ = 1792 + l.val; omega

theorem blk_v (c : Dev nD) (t : Fin cfg0.N) (a : Fin 1024) (l : Fin 512) :
    (iblk m c 2 t : Vec F S1024x512 .bf16) (ix2 a l) = packed (m ((c : Thread nD τ).loc main_arg0))
      (ix2 (n0 := 16384) (n1 := 3072) ⟨1024 * t.val + a.val, by have := lt16 t; omega⟩ ⟨2048 + l.val, by omega⟩) := by
  rw [← V_v4 m c]
  unfold iblk
  rw [View.read_apply]
  show V m c main_v4 _ = V m c main_v4 _
  obtain ⟨-, -, -, -, e0, e1, -⟩ := pt_facts t
  congr 1
  funext d
  apply Fin.ext
  match d with
  | ⟨0, _⟩ => show win0_2.index t 0 * 1024 + 1 * a.val = _; rw [e0]; show _ = 1024 * t.val + a.val; omega
  | ⟨1, _⟩ => show win0_2.index t 1 * 512 + 1 * l.val = _; rw [e1]; show _ = 2048 + l.val; omega

theorem blk_a (c : Dev nD) (t : Fin cfg0.N) (a : Fin 1024) (l : Fin 256) :
    (iblk m c 3 t : Vec F S1024x256 .f32) (ix2 a l) = halved (m ((c : Thread nD τ).loc main_arg1))
      (ix2 (n0 := 16384) (n1 := 256) ⟨1024 * t.val + a.val, by have := lt16 t; omega⟩ l) := by
  rw [← V_v8 m c]
  unfold iblk
  rw [View.read_apply]
  show V m c main_v8 _ = V m c main_v8 _
  obtain ⟨-, -, -, -, -, -, e0, e1⟩ := pt_facts t
  congr 1
  funext d
  apply Fin.ext
  match d with
  | ⟨0, _⟩ => show win0_3.index t 0 * 1024 + 1 * a.val = _; rw [e0]; show _ = 1024 * t.val + a.val; omega
  | ⟨1, _⟩ => show win0_3.index t 1 * 256 + 1 * l.val = _; rw [e1]; show _ = l.val; omega

/-- An entry of the packed projections, of a column before the gate's. -/
theorem packed_apply (x : Vec Ideal S8x2048x3088 .f32) (b : Fin 8) (s : Fin 2048) (r : Fin 16384) (hr : r.val = 2048 * b.val + s.val)
    (l : Fin 3072) (hl : l.val < 2560) :
    packed x (ix2 r l) = x (ix3 (n0 := 8) (n1 := 2048) (n2 := 3088) b s ⟨l.val, by omega⟩) := by
  unfold packed
  rw [shapeCast_apply _ _ _ (ix3 (n0 := 8) (n1 := 2048) (n2 := 3072) b s l)]
  · show concatenate S8x2048x3072 2
        [⟨S8x2048x2560, extractStridedSlice S8x2048x2560 ![0, 0, 0] x slices_S8x2048x3088_S8x2048x2560_0_0_0⟩,
         ⟨S8x2048x512, extractStridedSlice S8x2048x512 ![0, 0, 2576] x slices_S8x2048x3088_S8x2048x512_0_0_2576⟩]
        concatenates_S8x2048x2560_S8x2048x512_S8x2048x3072_d2 (ix3 b s l) = _
    refine (concatenate_pair_apply_left (t := S8x2048x3072) (s₁ := S8x2048x2560) (s₂ := S8x2048x512) (2 : Fin 3) _ _ _ _ rfl (ix3 (n0 := 8) (n1 := 2048) (n2 := 2560) b s ⟨l.val, hl⟩) ?_).trans ?_
    · intro d
      match d with
      | ⟨0, _⟩ => rfl
      | ⟨1, _⟩ => rfl
      | ⟨2, _⟩ => rfl
    · unfold extractStridedSlice
      congr 1
      funext d
      apply Fin.ext
      match d with
      | ⟨0, _⟩ => exact Nat.zero_add _
      | ⟨1, _⟩ => exact Nat.zero_add _
      | ⟨2, _⟩ => exact Nat.zero_add _
  · rw [Shape.rowMajor_val_three, Shape.rowMajor_val_two]
    show (b.val * 2048 + s.val) * 3072 + l.val = r.val * 3072 + l.val
    rw [hr]; ring

theorem two32 : Ideal.ofBits .f32 0x40000000#32 = ((2 : ℝ) : EReal) := by
  simp [Ideal.ofBits, Ideal.ieee]
  rw [← EReal.coe_mul]
  norm_num

/-- An entry of the scaled log decays, where the log decay is a real. -/
theorem halved_apply (x : Vec Ideal S8x2048x256 .f32) (b : Fin 8) (s : Fin 2048) (r : Fin 16384) (hr : r.val = 2048 * b.val + s.val)
    (l : Fin 256) (y : ℝ) (hy : x (ix3 b s l) = (y : EReal)) :
    halved x (ix2 r l) = ((y / Real.log 2 : ℝ) : EReal) := by
  unfold halved
  rw [shapeCast_apply _ _ _ (ix3 (n0 := 8) (n1 := 2048) (n2 := 256) b s l)]
  · show Ideal.div (x (ix3 b s l)) (Ideal.log (Ideal.ofBits .f32 0x40000000#32)) = _
    rw [hy, two32, Ideal.log_coe, if_neg (show ¬ ((2 : ℝ) ≤ 0) by norm_num), Ideal.div_coe (Real.log_pos (by norm_num : (1 : ℝ) < 2)).ne', ← EReal.coe_mul]
    congr 1
    ring
  · rw [Shape.rowMajor_val_three, Shape.rowMajor_val_two]
    show (b.val * 2048 + s.val) * 256 + l.val = r.val * 256 + l.val
    rw [hr]; ring

end Cert.KernelIdeal.Gen

end
-- ==== Proof.GlaFold.lean ====
module

public import proofs.«01_k».proof.Proof.GlaTileReal
public import proofs.«01_k».proof.Proof.GlaPoint
public import proofs.«01_k».proof.Proof.GlaBlocks
public import proofs.«01_k».proof.Proof.GlaHeads

@[expose] public section

set_option maxRecDepth 16384

/-! # The tiles in time

A tile that starts at step `c` of a batch takes the head's state before step `c` to its state before step `c + 256`, and
gives the attention's output at the steps between. -/

noncomputable section

namespace Cert.KernelIdeal.Gen

open Idealize.ShloMosaic Idealize.ShloMosaic.TcCoe Idealize.ShloMosaic.Tactic Idealize.ShloMosaic.ValueIdx
open Finset (range)
open Gla (rd RealCols coe_rd headQ headK headV headA headState headOut)

theorem up3_congr {g h : ℕ → ℕ → ℝ} (e : ∀ a < 128, ∀ b < 256, g a b = h a b) : up3 g = up3 h :=
  funext fun j => congrArg (fun x : ℝ => (x : EReal)) (e _ (j 1).isLt _ (j 2).isLt)

/-- A sum over two halves of which one counts. -/
theorem sum_half (s : Fin 2) (f : ℕ → ℝ) : (∑ c ∈ range 128, if c / 64 = s.val then f c else 0) = ∑ d ∈ range 64, f (64 * s.val + d) := by
  rw [show (128 : ℕ) = 64 + 64 from rfl, Finset.sum_range_add]
  have h0 : ∀ c ∈ range 64, c / 64 = 0 := fun c hc => Nat.div_eq_of_lt (Finset.mem_range.1 hc)
  have h1 : ∀ c ∈ range 64, (64 + c) / 64 = 1 := fun c hc => by have := Finset.mem_range.1 hc; omega
  match s with
  | 0 =>
    rw [Finset.sum_eq_zero (s := range 64) (f := fun c => if (64 + c) / 64 = (0 : Fin 2).val then f (64 + c) else 0)
      (fun c hc => by rw [h1 c hc]; rfl), add_zero]
    refine Finset.sum_congr rfl fun c hc => ?_
    rw [if_pos (show c / 64 = (0 : Fin 2).val from h0 c hc)]; congr 1; exact (Nat.zero_add _).symm
  | 1 =>
    rw [Finset.sum_eq_zero (s := range 64) (f := fun c => if c / 64 = (1 : Fin 2).val then f c else 0)
      (fun c hc => by rw [h0 c hc]; rfl), zero_add]
    refine Finset.sum_congr rfl fun c hc => ?_
    rw [if_pos (show (64 + c) / 64 = (1 : Fin 2).val from h1 c hc)]; rfl

section time

variable (x : (⟨3, ![8, 2048, 3088]⟩ : Shape).Idx → EReal) (la : (⟨3, ![8, 2048, 256]⟩ : Shape).Idx → EReal) (b : ℕ)

/-- The queries of the tile that starts at step `c`; -/
def Qt (c t l : ℕ) : ℝ := rd x b (c + t) (1536 + l)
/-- its keys; -/
def Kt (c t l : ℕ) : ℝ := rd x b (c + t) (1792 + l)
/-- a head's values; -/
def Vt (h c t e : ℕ) : ℝ := rd x b (c + t) (2048 + 128 * h + e)
/-- its log decays to base two. -/
def At (c t l : ℕ) : ℝ := rd la b (c + t) l / Real.log 2

/-- A head's state before step `c` among all the lanes. -/
def St (h c e l : ℕ) : ℝ := if l / 64 = h then headState x la b h c (l - 64 * h) e else 0

theorem bSum_At (h c t d : ℕ) :
    bSum (At la b c) t (64 * h + d) = (Gla.cum (headA la b h) (c + (t + 1)) d - Gla.cum (headA la b h) c d) / Real.log 2 := by
  rw [Gla.cum_add]
  unfold bSum At headA
  rw [Finset.sum_div]

theorem decay_At (h c t d : ℕ) :
    Real.rpow 2 (bSum (At la b c) t (64 * h + d)) = Real.exp (Gla.cum (headA la b h) (c + (t + 1)) d - Gla.cum (headA la b h) c d) := by
  rw [bSum_At, Gla.two_rpow]

theorem ratio_At (h c t u d : ℕ) :
    Real.rpow 2 (bSum (At la b c) t (64 * h + d) - bSum (At la b c) u (64 * h + d))
      = Real.exp (Gla.cum (headA la b h) (c + (t + 1)) d - Gla.cum (headA la b h) (c + (u + 1)) d) := by
  rw [bSum_At, bSum_At, ← sub_div, Gla.two_rpow]
  congr 1
  ring

theorem state_tile (h : Fin 4) (c : ℕ) :
    tileState (pOf h) (sOf h) (up (Kt x b c) : FVec Ideal S256x256 .bf16) (up (At la b c) : FVec Ideal S256x256 .f32)
      (up (Vt x b h.val c) : FVec Ideal S256x128 .bf16) (up3 (St x la b h.val c)) = up3 (St x la b h.val (c + 256)) := by
  rw [tileState_up]
  refine up3_congr fun e he l hl => ?_
  have hp : 2 * (pOf h).val + (sOf h).val = h.val := by show 2 * (h.val / 2) + h.val % 2 = h.val; omega
  rw [hp]
  unfold St
  by_cases hh : l / 64 = h.val
  · rw [if_pos hh, if_pos hh, if_pos hh]
    obtain ⟨d, rfl⟩ : ∃ d, l = 64 * h.val + d := ⟨l - 64 * h.val, by omega⟩
    rw [Nat.add_sub_cancel_left]
    unfold headState
    rw [Gla.state_add, decay_At]
    congr 1
    · ring
    · refine Finset.sum_congr rfl fun u hu => ?_
      rw [ratio_At]
      unfold Vt Kt headV headK
      rw [show 1792 + (64 * h.val + d) = 1792 + 64 * h.val + d by ring, show c + (255 + 1) = c + 256 by ring, show c + (u + 1) = c + u + 1 by ring]
      ring
  · rw [if_neg hh, if_neg hh, if_neg hh]; ring

theorem out_tile (h : Fin 4) (c : ℕ) :
    tileOut (pOf h) (sOf h) (up (Qt x b c) : FVec Ideal S256x256 .bf16) (up (Kt x b c)) (up (At la b c) : FVec Ideal S256x256 .f32)
      (up (Vt x b h.val c) : FVec Ideal S256x128 .bf16) (up3 (St x la b h.val c))
      = (up fun t e => headOut x la b h.val (c + t) e : FVec Ideal S256x128 .bf16) := by
  rw [tileOut_up]
  refine up_congr fun t ht e he => ?_
  have hp : 2 * (pOf h).val + (sOf h).val = h.val := by show 2 * (h.val / 2) + h.val % 2 = h.val; omega
  unfold headOut
  rw [Gla.out_add]
  congr 1
  · refine Eq.trans ?_ ((sum_half (sOf h) (fun l => Qt x b c t (128 * (pOf h).val + l) * (1 / 8) * Real.rpow 2 (bSum (At la b c) t (128 * (pOf h).val + l))
      * headState x la b h.val c (128 * (pOf h).val + l - 64 * h.val) e)).trans ?_)
    · refine Finset.sum_congr rfl fun l hl => ?_
      have hl := Finset.mem_range.1 hl
      have hs := (sOf h).isLt
      unfold St
      by_cases hh : l / 64 = (sOf h).val
      · rw [if_pos hh, if_pos (by omega)]
      · rw [if_neg hh, if_neg (by omega), mul_zero]
    · refine Finset.sum_congr rfl fun d hd => ?_
      have e1 : 128 * (pOf h).val + (64 * (sOf h).val + d) = 64 * h.val + d := by omega
      rw [e1, decay_At, Nat.add_sub_cancel_left]
      unfold Qt headQ headState
      rw [show 1536 + (64 * h.val + d) = 1536 + 64 * h.val + d by ring, show c + (t + 1) = c + t + 1 by ring]
  · refine Finset.sum_congr rfl fun u hu => ?_
    unfold wTile Gla.wR
    congr 1
    refine Finset.sum_congr rfl fun d hd => ?_
    rw [show lane0 (pOf h) (sOf h) = 64 * h.val by show 64 * (2 * (pOf h).val + (sOf h).val) = _; rw [hp], ratio_At]
    unfold Qt Kt headQ headK
    rw [show 1536 + (64 * h.val + d) = 1536 + 64 * h.val + d by ring, show 1792 + (64 * h.val + d) = 1792 + 64 * h.val + d by ring,
      show c + (t + 1) = c + t + 1 by ring, show c + (u + 1) = c + u + 1 by ring]

section point

variable {x0 x1 : Vec Ideal S1024x256 .bf16} {x2 : Vec Ideal S1024x512 .bf16} {x3 : Vec Ideal S1024x256 .f32} {s0 : Vec Ideal S4x128x256 .f32} (c : ℕ)

/-- A point's tiles in a row. -/
theorem st_time (h1 : ∀ r : Fin 4, tileAt r x1 = (up (Kt x b (c + 256 * r.val)) : FVec Ideal S256x256 .bf16))
    (h2 : ∀ r h : Fin 4, valAt r h x2 = (up (Vt x b h.val (c + 256 * r.val)) : FVec Ideal S256x128 .bf16))
    (h3 : ∀ r : Fin 4, tileAt r x3 = (up (At la b (c + 256 * r.val)) : FVec Ideal S256x256 .f32))
    (hs : ∀ h : Fin 4, headAt h s0 = up3 (St x la b h.val c)) (h : Fin 4) :
    ∀ n ≤ 4, stOf x1 x2 x3 s0 h n = up3 (St x la b h.val (c + 256 * n)) := by
  intro n
  induction n with
  | zero => intro _; exact hs h
  | succ n ih =>
    intro hn
    show stepOf _ _ _ (⟨n % 4, _⟩ : Fin 4) h (stOf x1 x2 x3 s0 h n) = _
    rw [ih (by omega)]
    unfold stepOf
    dsimp only
    rw [h1, h2, h3]
    have e : n % 4 = n := Nat.mod_eq_of_lt (by omega)
    simp only [e]
    rw [state_tile]
    congr 2

theorem o_time (h0 : ∀ r : Fin 4, tileAt r x0 = (up (Qt x b (c + 256 * r.val)) : FVec Ideal S256x256 .bf16))
    (h1 : ∀ r : Fin 4, tileAt r x1 = (up (Kt x b (c + 256 * r.val)) : FVec Ideal S256x256 .bf16))
    (h2 : ∀ r h : Fin 4, valAt r h x2 = (up (Vt x b h.val (c + 256 * r.val)) : FVec Ideal S256x128 .bf16))
    (h3 : ∀ r : Fin 4, tileAt r x3 = (up (At la b (c + 256 * r.val)) : FVec Ideal S256x256 .f32))
    (hs : ∀ h : Fin 4, headAt h s0 = up3 (St x la b h.val c)) (r h : Fin 4) :
    oOf x0 x1 x2 x3 s0 r h = (up fun t e => headOut x la b h.val (c + 256 * r.val + t) e : FVec Ideal S256x128 .bf16) := by
  show yieldOf _ _ _ _ r h (stOf x1 x2 x3 s0 h r.val) = _
  rw [st_time x la b c h1 h2 h3 hs h r.val (by omega)]
  unfold yieldOf
  dsimp only
  rw [h0, h1, h2, h3]
  exact out_tile x la b h _

end point

end time

end Cert.KernelIdeal.Gen

end
-- ==== Proof.GlaResult.lean ====
module

public import proofs.«01_k».proof.Proof.GlaFold

@[expose] public section

set_option maxRecDepth 16384

/-! # What the kernel's array holds

Each batch is two grid points: the first starts from the zero state, the second from the state that the first left. -/

noncomputable section

namespace Cert.KernelIdeal.Gen

open Idealize.ShloMosaic Idealize.ShloMosaic.TcCoe Idealize.ShloMosaic.Tactic Idealize.ShloMosaic.ValueIdx
open Gla (rd RealCols coe_rd headQ headK headV headA headState headOut)

variable (m : (ℓ : Loc nD τ sig) → Buf (Elt Ideal) ℓ) (c : Dev nD)

/-- The projections, -/
abbrev argX : Vec Ideal S8x2048x3088 .f32 := m ((c : Thread nD τ).loc main_arg0)
/-- and the log decays. -/
abbrev argA : Vec Ideal S8x2048x256 .f32 := m ((c : Thread nD τ).loc main_arg1)

variable (hx : RealCols 1536 2560 (argX m c)) (ha : RealCols 0 256 (argA m c))

/-- The step of a batch at which a grid point starts. -/
abbrev t0 (t : Fin cfg0.N) : ℕ := 1024 * (t.val % 2)

theorem row_split (t : Fin cfg0.N) (r : Fin 4) (i : ℕ) (hi : i < 256) : t.val / 2 < 8 ∧ t0 t + 256 * r.val + i < 2048
    ∧ 1024 * t.val + (256 * r.val + i) = 2048 * (t.val / 2) + (t0 t + 256 * r.val + i) := by
  have := lt16 t
  refine ⟨by omega, by show 1024 * (t.val % 2) + _ + _ < _; omega, ?_⟩
  show _ = 2048 * (t.val / 2) + (1024 * (t.val % 2) + 256 * r.val + i)
  omega

include hx in
theorem tile_q (t : Fin cfg0.N) (r : Fin 4) :
    tileAt r (iblk m c 0 t : Vec Ideal S1024x256 .bf16) = (up (Qt (argX m c) (t.val / 2) (t0 t + 256 * r.val)) : FVec Ideal S256x256 .bf16) := by
  funext j
  obtain ⟨i, l, rfl⟩ : ∃ i l, j = ix2 i l := ⟨_, _, eq_ix2 j⟩
  obtain ⟨hb, hs, hr⟩ := row_split t r i.val i.isLt
  unfold tileAt
  rw [blk_q, packed_apply (argX m c) ⟨t.val / 2, hb⟩ ⟨_, hs⟩ _ hr _ (by show 1536 + l.val < 2560; omega),
    coe_rd hx _ _ _ (by show 1536 ≤ 1536 + l.val; omega) (by show 1536 + l.val < 2560; omega)]
  rfl

include hx in
theorem tile_k (t : Fin cfg0.N) (r : Fin 4) :
    tileAt r (iblk m c 1 t : Vec Ideal S1024x256 .bf16) = (up (Kt (argX m c) (t.val / 2) (t0 t + 256 * r.val)) : FVec Ideal S256x256 .bf16) := by
  funext j
  obtain ⟨i, l, rfl⟩ : ∃ i l, j = ix2 i l := ⟨_, _, eq_ix2 j⟩
  obtain ⟨hb, hs, hr⟩ := row_split t r i.val i.isLt
  unfold tileAt
  rw [blk_k, packed_apply (argX m c) ⟨t.val / 2, hb⟩ ⟨_, hs⟩ _ hr _ (by show 1792 + l.val < 2560; omega),
    coe_rd hx _ _ _ (by show 1536 ≤ 1792 + l.val; omega) (by show 1792 + l.val < 2560; omega)]
  rfl

include hx in
theorem tile_v (t : Fin cfg0.N) (r h : Fin 4) :
    valAt r h (iblk m c 2 t : Vec Ideal S1024x512 .bf16)
      = (up (Vt (argX m c) (t.val / 2) h.val (t0 t + 256 * r.val)) : FVec Ideal S256x128 .bf16) := by
  funext j
  obtain ⟨i, l, rfl⟩ : ∃ i l, j = ix2 i l := ⟨_, _, eq_ix2 j⟩
  obtain ⟨hb, hs, hr⟩ := row_split t r i.val i.isLt
  unfold valAt
  rw [blk_v, packed_apply (argX m c) ⟨t.val / 2, hb⟩ ⟨_, hs⟩ _ hr _ (by show 2048 + (128 * h.val + l.val) < 2560; omega),
    coe_rd hx _ _ _ (by show 1536 ≤ 2048 + (128 * h.val + l.val); omega) (by show 2048 + (128 * h.val + l.val) < 2560; omega)]
  exact congrArg (fun n => ((rd (argX m c) (t.val / 2) (t0 t + 256 * r.val + i.val) n : ℝ) : EReal)) (Nat.add_assoc 2048 (128 * h.val) l.val).symm

include ha in
theorem tile_a (t : Fin cfg0.N) (r : Fin 4) :
    tileAt r (iblk m c 3 t : Vec Ideal S1024x256 .f32) = (up (At (argA m c) (t.val / 2) (t0 t + 256 * r.val)) : FVec Ideal S256x256 .f32) := by
  funext j
  obtain ⟨i, l, rfl⟩ : ∃ i l, j = ix2 i l := ⟨_, _, eq_ix2 j⟩
  obtain ⟨hb, hs, hr⟩ := row_split t r i.val i.isLt
  unfold tileAt
  rw [blk_a, halved_apply (argA m c) ⟨t.val / 2, hb⟩ ⟨_, hs⟩ _ hr _ _ (coe_rd ha _ _ l (Nat.zero_le _) l.isLt)]
  rfl

theorem zero_state (b : ℕ) (h : Fin 4) : headAt h (zeroSt (F := Ideal)) = up3 (St (argX m c) (argA m c) b h.val 0) := by
  funext j
  show (Scalar.ofBits .f32 0x00000000#32 : Ideal .f32) = ((St (argX m c) (argA m c) b h.val 0 (j 1).val (j 2).val : ℝ) : EReal)
  rw [zero32]
  congr 1
  unfold St headState
  rw [Gla.state_zero, ite_self]

/-- The state in the scratch before a point, for a point that reads it. -/
def Carries (t : ℕ) (s0 : Vec Ideal S4x128x256 .f32) : Prop :=
  ∀ h : Fin 4, headAt h s0 = up3 (St (argX m c) (argA m c) (t / 2) h.val (1024 * (t % 2)))

include hx ha in
/-- The first point of a batch leaves the state at its middle. -/
theorem carries_odd (t : Fin cfg0.N) (ht : ¬ t.val % 2 = 0) :
    Carries m c t.val (outsAt0 m c (t.val - 1) (Nat.lt_of_le_of_lt (Nat.sub_le _ _) t.isLt)).2 := by
  intro h
  have hlt := lt16 t
  rw [outsAt0_A m c ⟨t.val - 1, Nat.lt_of_le_of_lt (Nat.sub_le _ _) t.isLt⟩ (by show (t.val - 1) % 2 = 0; omega)]
  funext j
  obtain ⟨z, d, e, rfl⟩ : ∃ z d e, j = ix3 z d e := ⟨_, _, _, eq_ix3 j⟩
  obtain rfl : z = 0 := Subsingleton.elim _ _
  unfold headAt
  dsimp only
  change sout0_A_0 c _ _ _ _ _ _ _ _ _ _ _ _ _ _ _ _ _ _ (ix3 (n0 := 4) (n1 := 128) (n2 := 256) h d e) = _
  rw [sout_A, st_time (argX m c) (argA m c) ((t.val - 1) / 2) 0 ?_ ?_ ?_ (fun h => zero_state m c _ h) h 4 le_rfl]
  · rw [show (t.val - 1) / 2 = t.val / 2 by omega, show 1024 * (t.val % 2) = 0 + 256 * 4 by omega]
  · intro r
    have e : t0 ⟨t.val - 1, Nat.lt_of_le_of_lt (Nat.sub_le _ _) t.isLt⟩ = 0 := by show 1024 * ((t.val - 1) % 2) = 0; omega
    have := tile_k m c hx ⟨t.val - 1, Nat.lt_of_le_of_lt (Nat.sub_le _ _) t.isLt⟩ r
    rwa [e] at this
  · intro r h
    have e : t0 ⟨t.val - 1, Nat.lt_of_le_of_lt (Nat.sub_le _ _) t.isLt⟩ = 0 := by show 1024 * ((t.val - 1) % 2) = 0; omega
    have := tile_v m c hx ⟨t.val - 1, Nat.lt_of_le_of_lt (Nat.sub_le _ _) t.isLt⟩ r h
    rwa [e] at this
  · intro r
    have e : t0 ⟨t.val - 1, Nat.lt_of_le_of_lt (Nat.sub_le _ _) t.isLt⟩ = 0 := by show 1024 * ((t.val - 1) % 2) = 0; omega
    have := tile_a m c ha ⟨t.val - 1, Nat.lt_of_le_of_lt (Nat.sub_le _ _) t.isLt⟩ r
    rwa [e] at this

include hx ha in
/-- What a grid point leaves in the output block. -/
theorem point_value (t : Fin cfg0.N) (r h : Fin 4) (i : Fin 256) (e : Fin 128) :
    (outsAt0 m c t.val t.isLt).1 (ix2 (n0 := 1024) (n1 := 512) ⟨256 * r.val + i.val, by omega⟩ ⟨128 * h.val + e.val, by omega⟩)
      = ((headOut (argX m c) (argA m c) (t.val / 2) h.val (t0 t + 256 * r.val + i.val) e.val : ℝ) : EReal) := by
  by_cases ht : t.val % 2 = 0
  · rw [outsAt0_A m c t ht]
    dsimp only
    rw [out_A, o_time (argX m c) (argA m c) (t.val / 2) (t0 t) (tile_q m c hx t) (tile_k m c hx t) (tile_v m c hx t) (tile_a m c ha t)
      (fun h => by rw [show t0 t = 0 by show 1024 * (t.val % 2) = 0; omega]; exact zero_state m c _ h)]
    rfl
  · rw [outsAt0_B m c t ht]
    dsimp only
    rw [out_B, o_time (argX m c) (argA m c) (t.val / 2) (t0 t) (tile_q m c hx t) (tile_k m c hx t) (tile_v m c hx t) (tile_a m c ha t)
      (carries_odd m c hx ha t ht)]
    rfl

include hx ha in
/-- The kernel's array: row `2048·b + t`, column `128·h + e` is the output of head `h` of batch `b` at step `t`. -/
theorem kernel_value (b : Fin 8) (h : Fin 4) (t : Fin 2048) (e : Fin 128) :
    Value.G4 m c (ix2 (n0 := 16384) (n1 := 512) ⟨2048 * b.val + t.val, by omega⟩ ⟨128 * h.val + e.val, by omega⟩)
      = ((headOut (argX m c) (argA m c) b.val h.val t.val e.val : ℝ) : EReal) := by
  have hq : Value.pt4Of (ix2 (n0 := 16384) (n1 := 512) ⟨2048 * b.val + t.val, by omega⟩ ⟨128 * h.val + e.val, by omega⟩)
      = 2 * b.val + t.val / 1024 := by
    show 1 * ((2048 * b.val + t.val) / 1024 - 0) + 1 * ((128 * h.val + e.val) / 512 - 0) = _
    omega
  have hN : 2 * b.val + t.val / 1024 < cfg0.N := lt_of_lt_of_eq (by omega : _ < 16) N_0.symm
  unfold Value.G4
  rw [dif_pos (by rw [hq]; exact hN), Value.fold0_congr m c _ _ _ (by omega) hq, ← Value.outsAt0_sweep m c _ hN]
  have hl : Value.loc4Of (ix2 (n0 := 16384) (n1 := 512) ⟨2048 * b.val + t.val, by omega⟩ ⟨128 * h.val + e.val, by omega⟩)
      = ix2 (n0 := 1024) (n1 := 512) ⟨256 * (⟨t.val / 256 % 4, by omega⟩ : Fin 4).val + (⟨t.val % 256, by omega⟩ : Fin 256).val, by dsimp only; omega⟩
        ⟨128 * h.val + e.val, by omega⟩ := by
    funext a
    apply Fin.ext
    match a with
    | ⟨0, _⟩ => show (2048 * b.val + t.val) % 1024 = 256 * (t.val / 256 % 4) + t.val % 256; omega
    | ⟨1, _⟩ => show (128 * h.val + e.val) % 512 = 128 * h.val + e.val; omega
  rw [hl, point_value m c hx ha ⟨2 * b.val + t.val / 1024, hN⟩ ⟨t.val / 256 % 4, by omega⟩ h ⟨t.val % 256, by omega⟩ e]
  congr 2
  · show (2 * b.val + t.val / 1024) / 2 = b.val; omega
  · show 1024 * ((2 * b.val + t.val / 1024) % 2) + 256 * (t.val / 256 % 4) + t.val % 256 = t.val; omega

end Cert.KernelIdeal.Gen

end
-- ==== Proof.GlaRef.lean ====
module

public import proofs.«01_k».proof.Proof.GlaHeads
public import proofs.«01_k».proof.Proof.Gen.ReferenceIdeal.Run
public import Idealize.ShloMosaic.Lib.Pointwise
public import Idealize.ShloMosaic.Lib.Pointwise.IndexBridge
public import Idealize.ShloMosaic.Lib.DynamicIndex
public import Idealize.ShloMosaic.Lib.Tactic.CleanTypes

@[expose] public section

set_option maxRecDepth 16384

/-! # One trip of the reference's scan, at an index -/

noncomputable section

namespace Cert.ReferenceIdeal.Value

open Idealize.ShloMosaic Idealize.ShloMosaic.TcCoe Idealize.ShloMosaic.Tactic
open Idealize.ShloMosaic.StableHlo

/-- A left fold of additions is the sum. -/
theorem foldl_add {N : ℕ} (g : Fin N → EReal) (v : EReal) : (List.finRange N).foldl (fun r n => r + g n) v = v + ∑ n, g n := by
  rw [Fin.sum_univ_def]
  generalize List.finRange N = l
  induction l generalizing v with
  | nil => simp
  | cons a l ih => rw [List.foldl_cons, ih, List.map_cons, List.sum_cons, add_assoc]

variable (V0 : Valuation τ sig (Elt Ideal)) (n : Fin 32)

/-- The contents at the start of trip `n`. -/
def AtTrip : Prop := V0 (Proc.devRef .tc main_v31_5) = fun _ => BitVec.ofNat 32 n.val

variable (hn : AtTrip V0 n)

abbrev chunkQ : Vec Ideal S32x8x4x64x64 .f32 := V0 (Proc.devRef .tc main_v31_0)
abbrev chunkK : Vec Ideal S32x8x4x64x64 .f32 := V0 (Proc.devRef .tc main_v31_1)
abbrev chunkV : Vec Ideal S32x8x4x64x128 .f32 := V0 (Proc.devRef .tc main_v31_2)
abbrev chunkA : Vec Ideal S32x8x4x64x64 .f32 := V0 (Proc.devRef .tc main_v31_3)
abbrev maskT : IVec S64x64x1 1 := V0 (Proc.devRef .tc main_v31_4)
abbrev stateT : Vec Ideal S8x4x64x128 .f32 := V0 (Proc.devRef .tc main_v31_6)
abbrev outT : Vec Ideal S32x8x4x64x128 .f32 := V0 (Proc.devRef .tc main_v31_7)

theorem toInt_lt (n : Fin 32) : (BitVec.ofNat 32 n.val).toInt = (n.val : Int) := by
  revert n; decide

/-- A scan's chunk is cut out at the trip's number. -/
def cut : Fin 5 → ℕ := ![n.val, 0, 0, 0, 0]

include hn in
theorem start_eq (k : Fin 5) : (((![V0 (Proc.devRef .tc main_v31_5), constantI S_ 32 0#32, constantI S_ 32 0#32, constantI S_ 32 0#32,
    constantI S_ 32 0#32] : Fin 5 → (⟨S_, .i32⟩ : BufTy).Contents (Elt Ideal))) k (Shape.Idx.first Gen.h_S_)).toInt = (cut n k : Int) := by
  rw [hn]
  match k with
  | ⟨0, _⟩ => exact toInt_lt n
  | ⟨1, _⟩ => rfl
  | ⟨2, _⟩ => rfl
  | ⟨3, _⟩ => rfl
  | ⟨4, _⟩ => rfl

theorem fits64 : S32x8x4x64x64.Slices (cut n) S1x8x4x64x64 := by
  revert n; unfold cut; decide

theorem fits128 : S32x8x4x64x128.Slices (cut n) S1x8x4x64x128 := by
  revert n; unfold cut; decide

include hn in
theorem trip_q (b : Fin 8) (h : Fin 4) (t d : Fin 64) :
    (res_main_while0b_v37 V0 : Vec Ideal S8x4x64x64 .f32) (ix4 b h t d) = chunkQ V0 (ix5 n b h t d) := by
  unfold res_main_while0b_v37
  rw [Host.dynamicSlice_eq_extractStridedSlice _ _ _ (cut n) _ (fits64 n) (start_eq V0 n hn)]
  clean_types
  pointwise [cut]

include hn in
theorem trip_k (b : Fin 8) (h : Fin 4) (t d : Fin 64) :
    (res_main_while0b_v38 V0 : Vec Ideal S8x4x64x64 .f32) (ix4 b h t d) = chunkK V0 (ix5 n b h t d) := by
  unfold res_main_while0b_v38
  rw [Host.dynamicSlice_eq_extractStridedSlice _ _ _ (cut n) _ (fits64 n) (start_eq V0 n hn)]
  clean_types
  pointwise [cut]

include hn in
theorem trip_v (b : Fin 8) (h : Fin 4) (t : Fin 64) (e : Fin 128) :
    (res_main_while0b_v39 V0 : Vec Ideal S8x4x64x128 .f32) (ix4 b h t e) = chunkV V0 (ix5 n b h t e) := by
  unfold res_main_while0b_v39
  rw [Host.dynamicSlice_eq_extractStridedSlice _ _ _ (cut n) _ (fits128 n) (start_eq V0 n hn)]
  clean_types
  pointwise [cut]

include hn in
theorem trip_a (b : Fin 8) (h : Fin 4) (t d : Fin 64) :
    (shapeCast S8x4x64x64 (Host.dynamicSlice S1x8x4x64x64 (chunkA V0) (fun k => (((![V0 (Proc.devRef .tc main_v31_5), constantI S_ 32 0#32, constantI S_ 32 0#32, constantI S_ 32 0#32, constantI S_ 32 0#32] : Fin 5 → (⟨S_, .i32⟩ : BufTy).Contents (Elt Ideal))) k (Shape.Idx.first Gen.h_S_)).toInt) Gen.sliceFits_S32x8x4x64x64_S1x8x4x64x64) Gen.shapeCasts_S1x8x4x64x64_S8x4x64x64 : Vec Ideal S8x4x64x64 .f32) (ix4 b h t d) = chunkA V0 (ix5 n b h t d) := by
  rw [Host.dynamicSlice_eq_extractStridedSlice _ _ _ (cut n) _ (fits64 n) (start_eq V0 n hn)]
  clean_types
  pointwise [cut]

/-- A running sum over a window of the 64 rows up to a row. -/
theorem sum_window (f : ℕ → ℝ) (t : Fin 64) :
    (∑ k : Fin 64, if 63 ≤ t.val + k.val then ((f (t.val + k.val - 63) : ℝ) : EReal) else 0)
      = ((∑ i ∈ Finset.range (t.val + 1), f i : ℝ) : EReal) := by
  have e : ∀ k : Fin 64, (if 63 ≤ t.val + k.val then ((f (t.val + k.val - 63) : ℝ) : EReal) else 0)
      = (((fun k : ℕ => if 63 ≤ t.val + k then f (t.val + k - 63) else 0) k.val : ℝ) : EReal) := by
    intro k; dsimp only; split <;> simp
  rw [Finset.sum_congr rfl fun k _ => e k, Gla.coe_sum_fin 64 (fun k : ℕ => if 63 ≤ t.val + k then f (t.val + k - 63) else 0),
    show Finset.range 64 = Finset.range ((63 - t.val) + (t.val + 1)) by congr 1; omega, Finset.sum_range_add,
    Finset.sum_eq_zero (s := Finset.range (63 - t.val)) fun k hk => if_neg (by have := Finset.mem_range.1 hk; omega), zero_add]
  congr 1
  refine Finset.sum_congr rfl fun k _ => ?_
  rw [if_pos (by omega)]
  congr 1
  omega

theorem cum_apply (x : FVec Ideal S8x4x64x64 .f32) (init : FVec Ideal S_ .f32) (hu) (b : Fin 8) (h : Fin 4) (t d : Fin 64) :
    (Host.reduceWindowAdd ![1, 1, 64, 1] ![1, 1, 1, 1] ![0, 0, 63, 0] ![0, 0, 0, 0] x init
        Gen.reduceWindows_S8x4x64x64_S8x4x64x64_w1s1p0_0_w1s1p0_0_w64s1p63_0_w1s1p0_0 hu : FVec Ideal S8x4x64x64 .f32) (ix4 b h t d)
      = (init ix0 : EReal)
        + ∑ k : Fin 64, if hk : 63 ≤ t.val + k.val then (x (ix4 b h ⟨t.val + k.val - 63, by omega⟩ d) : EReal) else init ix0 := by
  unfold Host.reduceWindowAdd
  rw [Ideal.hostReduceWindowAdd_def]
  unfold Ideal.hostReduceWindowAdd Host.reduceWindow
  dsimp only
  rw [foldl_add]
  congr 1
  · exact congrArg init (Subsingleton.elim _ _)
  refine (Finset.sum_congr rfl fun w _ => ?_).trans (Eq.trans (Equiv.sum_comp (Shape.rowMajor (⟨4, ![1, 1, 64, 1]⟩ : Shape)).symm (fun w : (⟨4, ![1, 1, 64, 1]⟩ : Shape).Idx =>
    (if hin : ∀ a : Fin 4, (![0, 0, 63, 0] : Fin 4 → ℕ) a ≤ (ix4 b h t d a).val * (![1, 1, 1, 1] : Fin 4 → ℕ) a + (w a).val
        ∧ (ix4 b h t d a).val * (![1, 1, 1, 1] : Fin 4 → ℕ) a + (w a).val - (![0, 0, 63, 0] : Fin 4 → ℕ) a < S8x4x64x64.size a
      then x (fun a => ⟨_, (hin a).2⟩) else init (Shape.Idx.first hu) : EReal))) ?_)
  · exact dite_congr rfl (fun _ => rfl) (fun _ => rfl)
  rw [sum_idx4]
  simp only [Finset.univ_unique, Finset.sum_singleton]
  refine Finset.sum_congr rfl fun k _ => ?_
  split
  · rename_i hin
    have h2 := (hin 2).1
    have h2' : 63 ≤ t.val * 1 + k.val := h2
    rw [dif_pos (by omega)]
    congr 1
    funext a
    apply Fin.ext
    match a with
    | ⟨0, _⟩ => show b.val * 1 + 0 - 0 = b.val; omega
    | ⟨1, _⟩ => show h.val * 1 + 0 - 0 = h.val; omega
    | ⟨2, _⟩ => show t.val * 1 + k.val - 63 = t.val + k.val - 63; omega
    | ⟨3, _⟩ => show d.val * 1 + 0 - 0 = d.val; omega
  · rename_i hin
    rw [dif_neg]
    · exact congrArg init (Subsingleton.elim _ _)
    · intro hk
      apply hin
      intro a
      match a with
      | ⟨0, _⟩ => show 0 ≤ b.val * 1 + 0 ∧ b.val * 1 + 0 - 0 < 8; omega
      | ⟨1, _⟩ => show 0 ≤ h.val * 1 + 0 ∧ h.val * 1 + 0 - 0 < 4; omega
      | ⟨2, _⟩ => show 63 ≤ t.val * 1 + k.val ∧ t.val * 1 + k.val - 63 < 64; omega
      | ⟨3, _⟩ => show 0 ≤ d.val * 1 + 0 ∧ d.val * 1 + 0 - 0 < 64; omega

abbrev tripQ : S8x4x64x64.Idx → EReal := res_main_while0b_v37 V0
abbrev tripK : S8x4x64x64.Idx → EReal := res_main_while0b_v38 V0
abbrev tripV : S8x4x64x128.Idx → EReal := res_main_while0b_v39 V0
/-- The running sums of a chunk's log decays. -/
abbrev tripB : S8x4x64x64.Idx → EReal := res_main_while0b_v41 V0

theorem step_state (b : Fin 8) (h : Fin 4) (d : Fin 64) (e : Fin 128) :
    (step_main_v31_6 V0 : S8x4x64x128.Idx → EReal) (ix4 b h d e) =
      Ideal.exp (tripB V0 (ix4 b h 63 d)) * (stateT V0 (ix4 b h d e) : EReal)
        + ∑ x : Fin 64, tripK V0 (ix4 b h x d) * Ideal.exp (tripB V0 (ix4 b h 63 d) - tripB V0 (ix4 b h x d)) * tripV V0 (ix4 b h x e) := by
  unfold step_main_v31_6 res_main_while0b_v60
  rw [id_eq]
  clean_types
  pointwise

include hn in
theorem step_out (j : Fin 32) (b : Fin 8) (h : Fin 4) (i : Fin 64) (e : Fin 128) :
    (step_main_v31_7 V0 : S32x8x4x64x128.Idx → EReal) (ix5 j b h i e) =
      if n.val ≤ j.val ∧ j.val < n.val + 1 then
        (∑ d : Fin 64, tripQ V0 (ix4 b h i d) * Ideal.exp (tripB V0 (ix4 b h i d)) * (stateT V0 (ix4 b h d e) : EReal))
          + ∑ x : Fin 64, (∑ d : Fin 64, tripQ V0 (ix4 b h i d) * tripK V0 (ix4 b h x d)
              * Ideal.exp (Scalar.select (maskT V0 (ix3 i x 0)) (tripB V0 (ix4 b h i d) - tripB V0 (ix4 b h x d)) (Ideal.ofBits .f32 0xFF800000#32)))
            * tripV V0 (ix4 b h x e)
      else (outT V0 (ix5 j b h i e) : EReal) := by
  unfold step_main_v31_7
  rw [id_eq, Host.dynamicUpdateSlice_eq_updateSlice (s := S32x8x4x64x128) _ _ _ _ (cut n)
    (fun a => by rw [start_eq V0 n hn a]; have := (fits128 n).2 a; omega) (fits128 n)]
  clean_types
  pointwise [cut, id_eq]
  rw [dite_eq_ite]

end Cert.ReferenceIdeal.Value

end
-- ==== Proof.GlaScan.lean ====
module

public import proofs.«01_k».proof.Proof.GlaRef

@[expose] public section

set_option maxRecDepth 16384

/-! # The reference's scan

Over real arguments the scan's carried state before trip `n` is the attention's state before step `64·n`, and the chunks
it has written are the attention's outputs. -/

noncomputable section

namespace Cert.ReferenceIdeal.Value

open Idealize.ShloMosaic Idealize.ShloMosaic.TcCoe Idealize.ShloMosaic.Tactic
open Idealize.ShloMosaic.StableHlo
open Gla (rd RealCols coe_rd headQ headK headV headA headState headOut coe_sum_fin cum wR)

variable (x : S8x2048x3088.Idx → EReal) (la : S8x2048x256.Idx → EReal)

/-- The contents before trip `n`: the chunks of the arguments, the mask, and what the scan carries. -/
structure Holds (n : ℕ) (V0 : Valuation τ sig (Elt Ideal)) : Prop where
  ctr : V0 (Proc.devRef .tc main_v31_5) = fun _ => BitVec.ofNat 32 n
  q : ∀ j b h t d, (chunkQ V0 (ix5 j b h t d) : EReal) = ((headQ x b.val h.val (64 * j.val + t.val) d.val : ℝ) : EReal)
  k : ∀ j b h t d, (chunkK V0 (ix5 j b h t d) : EReal) = ((headK x b.val h.val (64 * j.val + t.val) d.val : ℝ) : EReal)
  v : ∀ j b h t e, (chunkV V0 (ix5 j b h t e) : EReal) = ((headV x b.val h.val (64 * j.val + t.val) e.val : ℝ) : EReal)
  a : ∀ j b h t d, (chunkA V0 (ix5 j b h t d) : EReal) = ((headA la b.val h.val (64 * j.val + t.val) d.val : ℝ) : EReal)
  mask : ∀ i j, maskT V0 (ix3 i j 0) = if j.val ≤ i.val then 1#1 else 0#1
  state : ∀ b h d e, (stateT V0 (ix4 b h d e) : EReal) = ((headState x la b.val h.val (64 * n) d.val e.val : ℝ) : EReal)
  out : ∀ j b h i e, j.val < n → (outT V0 (ix5 j b h i e) : EReal) = ((headOut x la b.val h.val (64 * j.val + i.val) e.val : ℝ) : EReal)

section trip

variable {x la} {V0 : Valuation τ sig (Elt Ideal)} (n : Fin 32) (H : Holds x la n.val V0)

include H in
/-- The running sums of the trip's log decays. -/
theorem trip_b (b : Fin 8) (h : Fin 4) (t d : Fin 64) : tripB V0 (ix4 b h t d)
    = ((cum (headA la b.val h.val) (64 * n.val + (t.val + 1)) d.val - cum (headA la b.val h.val) (64 * n.val) d.val : ℝ) : EReal) := by
  rw [Gla.cum_add]
  unfold tripB res_main_while0b_v41
  refine (cum_apply _ _ _ b h t d).trans ?_
  have z : (broadcastInDim S_ ![] Gen.bcast_S_S_ (constant S_ .f32 0x00000000#32) : FVec Ideal S_ .f32) ix0 = (0 : EReal) := by
    show Ideal.ofBits .f32 0x00000000#32 = 0
    exact Ideal.ofBits_zero_f32
  rw [z, zero_add, ← sum_window (fun i => headA la b.val h.val (64 * n.val + i) d.val)]
  refine Finset.sum_congr rfl fun k _ => ?_
  rw [← dite_eq_ite]
  refine dite_congr rfl (fun hk => ?_) (fun _ => rfl)
  exact (trip_a V0 n H.ctr b h _ d).trans (H.a n b h _ d)

include H in
theorem trip_state (b : Fin 8) (h : Fin 4) (d : Fin 64) (e : Fin 128) : (step_main_v31_6 V0 : S8x4x64x128.Idx → EReal) (ix4 b h d e)
    = ((headState x la b.val h.val (64 * (n.val + 1)) d.val e.val : ℝ) : EReal) := by
  rw [step_state, trip_b n H, H.state, Ideal.exp_coe, ← EReal.coe_mul, show 64 * (n.val + 1) = 64 * n.val + 64 by ring]
  unfold headState
  rw [Gla.state_add, EReal.coe_add, ← coe_sum_fin 64 (fun i => headK x b.val h.val (64 * n.val + i) d.val
    * Real.exp (cum (headA la b.val h.val) (64 * n.val + 64) d.val - cum (headA la b.val h.val) (64 * n.val + i + 1) d.val)
    * headV x b.val h.val (64 * n.val + i) e.val)]
  congr 1
  refine Finset.sum_congr rfl fun i _ => ?_
  rw [trip_b n H, show tripK V0 (ix4 b h i d) = _ from (trip_k V0 n H.ctr b h i d).trans (H.k n b h i d),
    show tripV V0 (ix4 b h i e) = _ from (trip_v V0 n H.ctr b h i e).trans (H.v n b h i e), ← EReal.coe_sub, Ideal.exp_coe,
    ← EReal.coe_mul, ← EReal.coe_mul]
  congr 4
  show _ = _ - cum _ (64 * n.val + (i.val + 1)) _
  rw [show ((63 : Fin 64).val + 1) = 64 from rfl]
  ring

theorem neg_inf : Ideal.ofBits .f32 0xFF800000#32 = ⊥ := by simp [Ideal.ofBits, Ideal.ieee]

include H in
/-- A step's weight in its chunk. -/
theorem trip_weight (b : Fin 8) (h : Fin 4) (i s : Fin 64) :
    (∑ d : Fin 64, tripQ V0 (ix4 b h i d) * tripK V0 (ix4 b h s d)
        * Ideal.exp (Scalar.select (maskT V0 (ix3 i s 0)) (tripB V0 (ix4 b h i d) - tripB V0 (ix4 b h s d)) (Ideal.ofBits .f32 0xFF800000#32)))
      = (((if s.val ≤ i.val then wR (headQ x b.val h.val) (headK x b.val h.val) (headA la b.val h.val) (64 * n.val + i.val) (64 * n.val + s.val) else 0) : ℝ) : EReal) := by
  by_cases hs : s.val ≤ i.val
  · rw [if_pos hs]
    unfold wR
    rw [← coe_sum_fin 64 (fun d => headQ x b.val h.val (64 * n.val + i.val) d * headK x b.val h.val (64 * n.val + s.val) d
      * Real.exp (cum (headA la b.val h.val) (64 * n.val + i.val + 1) d - cum (headA la b.val h.val) (64 * n.val + s.val + 1) d))]
    refine Finset.sum_congr rfl fun d _ => ?_
    rw [H.mask, if_pos hs, trip_b n H, trip_b n H, show tripQ V0 (ix4 b h i d) = _ from (trip_q V0 n H.ctr b h i d).trans (H.q n b h i d),
      show tripK V0 (ix4 b h s d) = _ from (trip_k V0 n H.ctr b h s d).trans (H.k n b h s d)]
    show _ * _ * Ideal.exp (_ - _) = _
    rw [← EReal.coe_sub, Ideal.exp_coe, ← EReal.coe_mul, ← EReal.coe_mul]
    congr 3
    rw [Nat.add_assoc, Nat.add_assoc]
    ring
  · rw [if_neg hs, EReal.coe_zero]
    refine Finset.sum_eq_zero fun d _ => ?_
    rw [H.mask, if_neg hs, neg_inf]
    show _ * Ideal.exp ⊥ = _
    rw [Ideal.exp_bot, mul_zero]

include H in
theorem trip_out (b : Fin 8) (h : Fin 4) (i : Fin 64) (e : Fin 128) : (step_main_v31_7 V0 : S32x8x4x64x128.Idx → EReal) (ix5 n b h i e)
    = ((headOut x la b.val h.val (64 * n.val + i.val) e.val : ℝ) : EReal) := by
  rw [step_out V0 n H.ctr, if_pos ⟨le_rfl, Nat.lt_succ_self _⟩]
  unfold headOut
  rw [Gla.out_add, EReal.coe_add, ← coe_sum_fin 64 (fun d => headQ x b.val h.val (64 * n.val + i.val) d
    * Real.exp (cum (headA la b.val h.val) (64 * n.val + i.val + 1) d - cum (headA la b.val h.val) (64 * n.val) d)
    * Gla.stateR (headK x b.val h.val) (headA la b.val h.val) (headV x b.val h.val) (64 * n.val) d e.val), ← Gla.sum_le i.isLt, ← coe_sum_fin 64]
  congr 1
  · refine Finset.sum_congr rfl fun d _ => ?_
    rw [trip_b n H, H.state, show tripQ V0 (ix4 b h i d) = _ from (trip_q V0 n H.ctr b h i d).trans (H.q n b h i d), Ideal.exp_coe,
      ← EReal.coe_mul, ← EReal.coe_mul]
    rfl
  · refine Finset.sum_congr rfl fun s _ => ?_
    rw [trip_weight n H, show tripV V0 (ix4 b h s e) = _ from (trip_v V0 n H.ctr b h s e).trans (H.v n b h s e), ← EReal.coe_mul]
    congr 1
    split
    · rfl
    · rw [zero_mul]

include H in
theorem holds_step : Holds x la (n.val + 1) (STEP V0) where
  ctr := by
    rw [STEP_main_v31_5]; unfold step_main_v31_5; rw [H.ctr]
    funext j
    show BitVec.ofNat 32 n.val + 1#32 = _
    rw [BitVec.ofNat_add]
  q := by intro j b h t d; unfold chunkQ; rw [STEP_main_v31_0]; exact H.q j b h t d
  k := by intro j b h t d; unfold chunkK; rw [STEP_main_v31_1]; exact H.k j b h t d
  v := by intro j b h t d; unfold chunkV; rw [STEP_main_v31_2]; exact H.v j b h t d
  a := by intro j b h t d; unfold chunkA; rw [STEP_main_v31_3]; exact H.a j b h t d
  mask := by intro i j; unfold maskT; rw [STEP_main_v31_4]; exact H.mask i j
  state := by intro b h d e; unfold stateT; rw [STEP_main_v31_6]; exact trip_state n H b h d e
  out := by
    intro j b h i e hj
    unfold outT
    rw [STEP_main_v31_7]
    rcases Nat.lt_or_ge j.val n.val with h1 | h1
    · refine (step_out V0 n H.ctr j b h i e).trans ?_
      rw [if_neg (by omega)]
      exact H.out j b h i e h1
    · obtain rfl : j = n := Fin.ext (by omega)
      exact trip_out j H b h i e

end trip

theorem holds_iter (V0 : Valuation τ sig (Elt Ideal)) (H : Holds x la 0 V0) : ∀ n, n ≤ 32 → Holds x la n (STEP^[n] V0)
  | 0, _ => H
  | n + 1, hn => by
    rw [Function.iterate_succ_apply']
    exact holds_step ⟨n, by omega⟩ (holds_iter V0 H n (by omega))

section result

variable (m : (ℓ : Loc nD τ sig) → Buf (Elt Ideal) ℓ) (c : Dev nD)

abbrev argX : S8x2048x3088.Idx → EReal := m ((c : Thread nD τ).loc main_arg0)
abbrev argA : S8x2048x256.Idx → EReal := m ((c : Thread nD τ).loc main_arg1)

theorem at_eq {n k l : ℕ} (y : (⟨3, ![n, k, l]⟩ : Shape).Idx → EReal) (b : Fin n) {t t' : Fin k} {d d' : Fin l} (ht : t.val = t'.val)
    (hd : d.val = d'.val) : y (ix3 b t d) = y (ix3 b t' d') := by
  rw [Fin.ext ht, Fin.ext hd]

theorem entry_q (j : Fin 32) (b : Fin 8) (h : Fin 4) (t d : Fin 64) : (chunkQ (entryContents preI m c) (ix5 j b h t d) : EReal)
    = argX m c (ix3 b ⟨64 * j.val + t.val, by omega⟩ ⟨1536 + 64 * h.val + d.val, by omega⟩) * Ideal.ofBits .f32 0x3E000000#32 := by
  unfold chunkQ
  simp only [entryContents, afterL_cons, afterL_nil]
  after_reads_simp
  rw [id_eq]
  clean_types
  pointwise
  exact congrArg (· * Ideal.ofBits .f32 0x3E000000#32) (at_eq (argX m c) b (by dsimp only; omega) (by dsimp only; omega))

theorem entry_k (j : Fin 32) (b : Fin 8) (h : Fin 4) (t d : Fin 64) : (chunkK (entryContents preI m c) (ix5 j b h t d) : EReal)
    = argX m c (ix3 b ⟨64 * j.val + t.val, by omega⟩ ⟨1792 + 64 * h.val + d.val, by omega⟩) := by
  unfold chunkK
  simp only [entryContents, afterL_cons, afterL_nil]
  after_reads_simp
  rw [id_eq]
  clean_types
  pointwise
  exact at_eq (argX m c) b (by dsimp only; omega) (by dsimp only; omega)

theorem entry_v (j : Fin 32) (b : Fin 8) (h : Fin 4) (t : Fin 64) (e : Fin 128) : (chunkV (entryContents preI m c) (ix5 j b h t e) : EReal)
    = argX m c (ix3 b ⟨64 * j.val + t.val, by omega⟩ ⟨2048 + 128 * h.val + e.val, by omega⟩) := by
  unfold chunkV
  simp only [entryContents, afterL_cons, afterL_nil]
  after_reads_simp
  rw [id_eq]
  clean_types
  pointwise
  exact at_eq (argX m c) b (by dsimp only; omega) (by dsimp only; omega)

theorem entry_a (j : Fin 32) (b : Fin 8) (h : Fin 4) (t d : Fin 64) : (chunkA (entryContents preI m c) (ix5 j b h t d) : EReal)
    = argA m c (ix3 b ⟨64 * j.val + t.val, by omega⟩ ⟨64 * h.val + d.val, by omega⟩) := by
  unfold chunkA
  simp only [entryContents, afterL_cons, afterL_nil]
  after_reads_simp
  rw [id_eq]
  clean_types
  pointwise
  exact at_eq (argA m c) b (by dsimp only; omega) (by dsimp only; omega)

theorem tri (i j : Fin 64) : Scalar.select (IntOp.cmpi .sge (BitVec.ofNat 32 i.val + 0#32) (BitVec.ofNat 32 j.val)) (1#1) (0#1)
    = if j.val ≤ i.val then 1#1 else 0#1 := by
  revert i j; decide +kernel

theorem mask_eq : maskT (entryContents preI m c) = (broadcastInDim S64x64x1 ![0, 1] Gen.bcast_S64x64_S64x64x1_0_1
    (select (cmpi .sge (addi (iotaInDim S64x64 32 0) (broadcastInDim S64x64 ![] Gen.bcast_S_S64x64 (constantI S_ 32 0#32))) (iotaInDim S64x64 32 1))
      (broadcastInDim S64x64 ![] Gen.bcast_S_S64x64 (constantI S_ 1 1#1)) (broadcastInDim S64x64 ![] Gen.bcast_S_S64x64 (constantI S_ 1 0#1))) : IVec S64x64x1 1) := by
  unfold maskT
  simp only [entryContents, afterL_cons, afterL_nil]
  after_reads_simp
  rfl

theorem entry_mask (i j : Fin 64) : maskT (entryContents preI m c) (ix3 i j 0) = if j.val ≤ i.val then 1#1 else 0#1 := by
  rw [mask_eq]
  pointwise
  exact tri i j

theorem entry_state (b : Fin 8) (h : Fin 4) (d : Fin 64) (e : Fin 128) : (stateT (entryContents preI m c) (ix4 b h d e) : EReal) = 0 := by
  unfold stateT
  simp only [entryContents, afterL_cons, afterL_nil]
  after_reads_simp
  rw [id_eq]
  clean_types
  pointwise

theorem result (V0 : Valuation τ sig (Elt Ideal)) (b : Fin 8) (h : Fin 4) (t : Fin 2048) (e : Fin 128) :
  (out_main_v36 V0 : S16384x512.Idx → EReal) (ix2 ⟨2048 * b.val + t.val, by omega⟩ ⟨128 * h.val + e.val, by omega⟩)
    = outT V0 (ix5 ⟨t.val / 64, by omega⟩ b h ⟨t.val % 64, by omega⟩ e) := by
  unfold out_main_v36
  clean_types
  pointwise

variable (hx : RealCols 1536 2560 (argX m c)) (ha : RealCols 0 256 (argA m c))

include hx in
theorem arg_x (b : Fin 8) (t : Fin 2048) (l : Fin 3088) (h0 : 1536 ≤ l.val) (h1 : l.val < 2560) :
    argX m c (ix3 b t l) = ((rd (argX m c) b.val t.val l.val : ℝ) : EReal) := by
  rw [ix3_eq_valueIdx]; exact coe_rd hx b t l h0 h1

include ha in
theorem arg_a (b : Fin 8) (t : Fin 2048) (l : Fin 256) : argA m c (ix3 b t l) = ((rd (argA m c) b.val t.val l.val : ℝ) : EReal) := by
  rw [ix3_eq_valueIdx]; exact coe_rd ha b t l (Nat.zero_le _) l.isLt

theorem eighth : Ideal.ofBits .f32 0x3E000000#32 = ((1 / 8 : ℝ) : EReal) := by
  simp only [Ideal.ofBits, Ideal.ieee]; simp; rw [← EReal.coe_mul]; norm_num

include hx ha in
theorem holds_entry : Holds (argX m c) (argA m c) 0 (entryContents preI m c) where
  ctr := ctr_entry m c
  q := by
    intro j b h t d
    rw [entry_q, arg_x m c hx _ _ _ (by dsimp only; omega) (by dsimp only; omega), eighth, ← EReal.coe_mul]; rfl
  k := by
    intro j b h t d
    rw [entry_k, arg_x m c hx _ _ _ (by dsimp only; omega) (by dsimp only; omega)]; rfl
  v := by
    intro j b h t e
    rw [entry_v, arg_x m c hx _ _ _ (by dsimp only; omega) (by dsimp only; omega)]; rfl
  a := by
    intro j b h t d
    rw [entry_a, arg_a m c ha]; rfl
  mask := entry_mask m c
  state := by
    intro b h d e
    rw [entry_state]; unfold headState; rw [Nat.mul_zero, Gla.state_zero, EReal.coe_zero]
  out := fun j b h i e hj => absurd hj (Nat.not_lt_zero _)

include hx ha in
/-- The reference's array: row `2048·b + t`, column `128·h + e` is the output of head `h` of batch `b` at step `t`. -/
theorem reference_value (b : Fin 8) (h : Fin 4) (t : Fin 2048) (e : Fin 128) :
    (out_main_v36 (STEP^[32] (entryContents preI m c)) : S16384x512.Idx → EReal)
        (ix2 ⟨2048 * b.val + t.val, by omega⟩ ⟨128 * h.val + e.val, by omega⟩)
      = ((headOut (argX m c) (argA m c) b.val h.val t.val e.val : ℝ) : EReal) := by
  rw [result, (holds_iter _ _ _ (holds_entry m c hx ha) 32 le_rfl).out _ _ _ _ _ (by dsimp only; omega)]
  dsimp only
  rw [Nat.div_add_mod]

end result

end Cert.ReferenceIdeal.Value

end
-- ==== Proof.MixTile.lean ====
module

public import proofs.«01_k».proof.Proof.Gen.Kernel2Ideal.Frame

@[expose] public section

set_option maxRecDepth 16384

/-! # One tile of the last call

The call that mixes the two attentions' outputs and applies the second feed-forward half works on tiles of 256 rows. Here
is what it computes of one tile, with the operations in the kernel's order: the normed and gated head groups side by side,
their projection added to the residual stream, the feed-forward half's hidden columns in chunks of 256, and the result. -/

noncomputable section

namespace Cert.Kernel2Ideal.Gen

open Idealize.ShloMosaic Idealize.ShloMosaic.TcCoe Idealize.ShloMosaic.Tactic

variable {F : FTy → Type} [FloatOps F]

/-- The rows' root mean squares, as what each row is multiplied with: of 512 columns, -/
def scale512 (x : FVec F S256x512 .f32) : FVec F S256x1 .f32 :=
  rsqrt (addf (divf (shapeCast S256x1 (multiReduction .add [1] S256 (mulf x x) 0x00000000#32 reduces_S256x512_S256 (.inl rfl) rfl) shapeCasts_S256_S256x1)
    (broadcast S256x1 (Scalar.ofBits .f32 0x44000000#32))) (broadcast S256x1 (Scalar.ofBits .f32 0x358637BD#32)))

/-- of 128, -/
def scale128 (x : FVec F S256x128 .f32) : FVec F S256x1 .f32 :=
  rsqrt (addf (divf (shapeCast S256x1 (multiReduction .add [1] S256 (mulf x x) 0x00000000#32 reduces_S256x128_S256 (.inl rfl) rfl) shapeCasts_S256_S256x1)
    (broadcast S256x1 (Scalar.ofBits .f32 0x43000000#32))) (broadcast S256x1 (Scalar.ofBits .f32 0x358637BD#32)))

/-- and of 1024. -/
def scale1024 (x : FVec F S256x1024 .f32) : FVec F S256x1 .f32 :=
  rsqrt (addf (divf (shapeCast S256x1 (multiReduction .add [1] S256 (mulf x x) 0x00000000#32 reduces_S256x1024_S256 (.inl rfl) rfl) shapeCasts_S256_S256x1)
    (broadcast S256x1 (Scalar.ofBits .f32 0x44800000#32))) (broadcast S256x1 (Scalar.ofBits .f32 0x358637BD#32)))

/-- The norm of 512 columns, -/
def norm512 (x : FVec F S256x512 .f32) (g : Vec F S1x512 .f32) : FVec F S256x512 .f32 :=
  mulf (mulf x (broadcastTo S256x512 (scale512 x) broadcasts_S256x1_S256x512))
    (broadcastTo S256x512 (shapeCast S1x512 g shapeCasts_S1x512_S1x512) broadcasts_S1x512_S256x512)

/-- of 128, -/
def norm128 (x : FVec F S256x128 .f32) (g : Vec F S1x128 .f32) : FVec F S256x128 .f32 :=
  mulf (mulf x (broadcastTo S256x128 (scale128 x) broadcasts_S256x1_S256x128))
    (broadcastTo S256x128 (shapeCast S1x128 g shapeCasts_S1x128_S1x128) broadcasts_S1x128_S256x128)

/-- and of 1024. -/
def norm1024 (x : FVec F S256x1024 .f32) (g : Vec F S1x1024 .f32) : FVec F S256x1024 .f32 :=
  mulf (mulf x (broadcastTo S256x1024 (scale1024 x) broadcasts_S256x1_S256x1024))
    (broadcastTo S256x1024 (shapeCast S1x1024 g shapeCasts_S1x1024_S1x1024) broadcasts_S1x1024_S256x1024)

/-- The gate function. -/
def gateFn {s : Shape} (x : FVec F s .f32) : FVec F s .f32 :=
  divf x (addf (broadcast s (Scalar.ofBits .f32 0x3F800000#32)) (exp (subf (broadcast s (Scalar.ofBits .f32 0x00000000#32)) x)))

theorem head_slices (h : Fin 4) : S256x512.Slices ![0, 128 * h.val] S256x128 := by revert h; decide

/-- A head of the linear attention: its norm, gated. -/
def headIn (h : Fin 4) (og gr : Vec F S256x512 .bf16) (g : Vec F S1x128 .f32) : FVec F S256x128 .bf16 :=
  truncf .bf16 (mulf (norm128 (extractStridedSlice S256x128 ![0, 128 * h.val] (extf .f32 og bitsLt_bf16_f32) (head_slices h)) g)
    (extractStridedSlice S256x128 ![0, 128 * h.val] (gateFn (extf .f32 gr bitsLt_bf16_f32)) (head_slices h))) bitsLt_bf16_f32

/-- Both head groups side by side. -/
def mixIn (om og gr : Vec F S256x512 .bf16) (mg : Vec F S1x512 .f32) (gg : Fin 4 → Vec F S1x128 .f32) : FVec F S256x1024 .bf16 :=
  concatenate S256x1024 1 [⟨S256x512, truncf .bf16 (norm512 (extf .f32 om bitsLt_bf16_f32) mg) bitsLt_bf16_f32⟩, ⟨S256x128, headIn 0 og gr (gg 0)⟩,
    ⟨S256x128, headIn 1 og gr (gg 1)⟩, ⟨S256x128, headIn 2 og gr (gg 2)⟩, ⟨S256x128, headIn 3 og gr (gg 3)⟩]
    concatenates_S256x512_S256x128_S256x128_S256x128_S256x128_S256x1024_d1

/-- The output projection, -/
def mixOut (mi : FVec F S256x1024 .bf16) (wo : Vec F S1024x1024 .bf16) : FVec F S256x1024 .f32 :=
  matmul dot_S256x1024_S1024x1024_S256x1024_1_0_0_1_n_n none mi (shapeCast S1024x1024 wo shapeCasts_S1024x1024_S1024x1024) (constant S256x1024 .f32 0x00000000#32)

/-- and the residual stream with it. -/
def stream (x : Vec F S256x1024 .f32) (mi : FVec F S256x1024 .bf16) (wo : Vec F S1024x1024 .bf16) (mp : Vec F S1x1024 .f32) : FVec F S256x1024 .f32 :=
  addf x (norm1024 (mixOut mi wo) mp)

/-- The feed-forward half's input, -/
def ffnIn (x2 : FVec F S256x1024 .f32) (pre : Vec F S1x1024 .f32) : FVec F S256x1024 .bf16 :=
  truncf .bf16 (norm1024 x2 pre) bitsLt_bf16_f32

/-- a product with 256 of its columns, -/
def up256 (xn : FVec F S256x1024 .bf16) (w : Vec F S1024x256 .bf16) : FVec F S256x256 .f32 :=
  matmul dot_S256x1024_S1024x256_S256x256_1_0_0_1_n_n none xn (shapeCast S1024x256 w shapeCasts_S1024x256_S1024x256) (constant S256x256 .f32 0x00000000#32)

/-- a chunk of its hidden columns, -/
def hidden (xn : FVec F S256x1024 .bf16) (wg wu : Vec F S1024x256 .bf16) : FVec F S256x256 .bf16 :=
  shapeCast S256x256 (truncf .bf16 (mulf (gateFn (up256 xn wg)) (up256 xn wu)) bitsLt_bf16_f32) shapeCasts_S256x256_S256x256

/-- its last product, -/
def down (h : Vec F S256x2816 .bf16) (wd : Vec F S2816x1024 .bf16) : FVec F S256x1024 .f32 :=
  matmul dot_S256x2816_S2816x1024_S256x1024_1_0_0_1_n_n none h (shapeCast S2816x1024 wd shapeCasts_S2816x1024_S2816x1024) (constant S256x1024 .f32 0x00000000#32)

/-- and the tile's result. -/
def finish (x2 : FVec F S256x1024 .f32) (h : Vec F S256x2816 .bf16) (wd : Vec F S2816x1024 .bf16) (post : Vec F S1x1024 .f32) : FVec F S256x1024 .f32 :=
  addf x2 (mulf (broadcast S256x1024 (Scalar.ofBits .f32 0x3F000000#32)) (norm1024 (down h wd) post))

end Cert.Kernel2Ideal.Gen

end
-- ==== Proof.MixPieces.lean ====
module

public import proofs.«01_k».proof.Proof.MixTile

@[expose] public section

set_option maxRecDepth 16384

/-! # What one grid point of the last call stores

A grid point has four tiles, each of which stores its hidden columns in eleven chunks and then its result. The tiles'
work is interleaved: a later tile's chunks are stored between an earlier one's. Here the order of the stores is written
down, and the body's lists of stores are shown to be these. -/

noncomputable section

namespace Cert.Kernel2Ideal.Gen

open Idealize.ShloMosaic Idealize.ShloMosaic.TcCoe Idealize.ShloMosaic.Tactic

variable {F : FTy → Type} [FloatOps F]

theorem inb_stream (r : Fin 4) : ∀ a, (![256 * r.val, 0] : Fin 2 → ℕ) a + S256x1024.size a ≤ S1024x1024.size a := by
  revert r; decide
theorem inb_group (r : Fin 4) : ∀ a, (![256 * r.val, 0] : Fin 2 → ℕ) a + S256x512.size a ≤ S1024x512.size a := by
  revert r; decide
theorem inb_gain (h : Fin 4) : ∀ a, (![0, 128 * h.val] : Fin 2 → ℕ) a + S1x128.size a ≤ S1x512.size a := by
  revert h; decide
theorem inb_up (k : Fin 11) : ∀ a, (![0, 256 * k.val] : Fin 2 → ℕ) a + S1024x256.size a ≤ S1024x2816.size a := by
  revert k; decide
theorem inb_hid (r : Fin 4) (k : Fin 11) : ∀ a, (![256 * r.val, 256 * k.val] : Fin 2 → ℕ) a + S256x256.size a ≤ S1024x2816.size a := by
  revert r k; decide
theorem inb_hidRow (r : Fin 4) : ∀ a, (![256 * r.val, 0] : Fin 2 → ℕ) a + S256x2816.size a ≤ S1024x2816.size a := by
  revert r; decide

/-- Where a chunk of a tile's hidden columns lies in the scratch, -/
abbrev hidRect (r : Fin 4) (k : Fin 11) : Rect S1024x2816 := Rect.unit (s := S1024x2816) ![256 * r.val, 256 * k.val] S256x256.size (inb_hid r k)
/-- where a tile's rows lie in it, -/
abbrev hidRowRect (r : Fin 4) : Rect S1024x2816 := Rect.unit (s := S1024x2816) ![256 * r.val, 0] S256x2816.size (inb_hidRow r)
/-- and where they lie in the output block. -/
abbrev outRect (r : Fin 4) : Rect S1024x1024 := Rect.unit (s := S1024x1024) ![256 * r.val, 0] S256x1024.size (inb_stream r)

/-- The chunks (tile, chunk) in the order in which they are stored, the last first. -/
def order : List (Fin 4 × Fin 11) :=
  [(3, 10), (3, 9), (3, 8), (3, 7), (3, 6), (2, 10), (3, 5), (2, 9), (3, 4), (2, 8), (3, 3), (2, 7), (3, 2), (2, 6), (1, 10), (3, 1),
    (2, 5), (1, 9), (3, 0), (2, 4), (1, 8), (2, 3), (1, 7), (2, 2), (1, 6), (0, 10), (2, 1), (1, 5), (0, 9), (2, 0), (1, 4), (0, 8),
    (1, 3), (0, 7), (1, 2), (0, 6), (1, 1), (0, 5), (1, 0), (0, 4), (0, 3), (0, 2), (0, 1), (0, 0)]

/-- How many chunks are stored after a tile has read its hidden columns. -/
def later : Fin 4 → ℕ := ![23, 12, 4, 0]

section body

variable (arg1 : Memref sig .tc .vmem S1024x1024 .f32) (harg1 : arg1.IsWhole) (arg2 : Memref sig .tc .vmem S1024x512 .bf16) (harg2 : arg2.IsWhole)
  (arg3 : Memref sig .tc .vmem S1024x512 .bf16) (harg3 : arg3.IsWhole) (arg4 : Memref sig .tc .vmem S1024x512 .bf16) (harg4 : arg4.IsWhole)
  (arg5 : Memref sig .tc .vmem S1x512 .f32) (harg5 : arg5.IsWhole) (arg6 : Memref sig .tc .vmem S1x512 .f32) (harg6 : arg6.IsWhole)
  (arg7 : Memref sig .tc .vmem S1024x1024 .bf16) (harg7 : arg7.IsWhole) (arg8 : Memref sig .tc .vmem S1x1024 .f32) (harg8 : arg8.IsWhole)
  (arg9 : Memref sig .tc .vmem S1x1024 .f32) (harg9 : arg9.IsWhole) (arg10 : Memref sig .tc .vmem S1024x2816 .bf16) (harg10 : arg10.IsWhole)
  (arg11 : Memref sig .tc .vmem S1024x2816 .bf16) (harg11 : arg11.IsWhole) (arg12 : Memref sig .tc .vmem S2816x1024 .bf16) (harg12 : arg12.IsWhole)
  (arg13 : Memref sig .tc .vmem S1x1024 .f32) (harg13 : arg13.IsWhole)

/-- A tile's rows of the residual stream as they are loaded, -/
def rawStream (a : Memref sig .tc .vmem S1024x1024 .f32) (ha : a.IsWhole) (x : Vec F S1024x1024 .f32) (r : Fin 4) : Vec F S256x1024 .f32 :=
  View.readAt (Elt F) a.view (Rect.unit (s := S1024x1024) ![256 * r.val, 0] S256x1024.size (inb_stream r)).toLoadRect (ha.unread x)

/-- of a head group, -/
def rawGroup (a : Memref sig .tc .vmem S1024x512 .bf16) (ha : a.IsWhole) (x : Vec F S1024x512 .bf16) (r : Fin 4) : Vec F S256x512 .bf16 :=
  View.readAt (Elt F) a.view (Rect.unit (s := S1024x512) ![256 * r.val, 0] S256x512.size (inb_group r)).toLoadRect (ha.unread x)

/-- a head's gains, -/
def rawGain (a : Memref sig .tc .vmem S1x512 .f32) (ha : a.IsWhole) (x : Vec F S1x512 .f32) (h : Fin 4) : Vec F S1x128 .f32 :=
  View.readAt (Elt F) a.view (Rect.unit (s := S1x512) ![0, 128 * h.val] S1x128.size (inb_gain h)).toLoadRect (ha.unread x)

/-- a chunk of an upward weight, -/
def rawUp (a : Memref sig .tc .vmem S1024x2816 .bf16) (ha : a.IsWhole) (x : Vec F S1024x2816 .bf16) (k : Fin 11) : Vec F S1024x256 .bf16 :=
  View.readAt (Elt F) a.view (Rect.unit (s := S1024x2816) ![0, 256 * k.val] S1024x256.size (inb_up k)).toLoadRect (ha.unread x)

/-- and what is loaded whole. -/
def rawAll {m n : ℕ} {e : EltTy} (a : Memref sig .tc .vmem ⟨2, ![m, n]⟩ e) (ha : a.IsWhole) (x : Vec F ⟨2, ![m, n]⟩ e)
    (inb : ∀ d, (![0, 0] : Fin 2 → ℕ) d + (⟨2, ![m, n]⟩ : Shape).size d ≤ (⟨2, ![m, n]⟩ : Shape).size d) : Vec F ⟨2, ![m, n]⟩ e :=
  View.readAt (Elt F) a.view (Rect.unit (s := ⟨2, ![m, n]⟩) ![0, 0] (⟨2, ![m, n]⟩ : Shape).size inb).toLoadRect (ha.unread x)

section tiles

variable (x : Fin 4 → Vec F S256x1024 .f32) (om og gr : Fin 4 → Vec F S256x512 .bf16) (mg : Vec F S1x512 .f32) (gg : Fin 4 → Vec F S1x128 .f32)
  (wo : Vec F S1024x1024 .bf16) (mp pre : Vec F S1x1024 .f32) (wg wu : Fin 11 → Vec F S1024x256 .bf16) (wd : Vec F S2816x1024 .bf16)
  (post : Vec F S1x1024 .f32)

/-- A tile's residual stream after the mixing, -/
def tileStream (r : Fin 4) : FVec F S256x1024 .f32 := stream (x r) (mixIn (om r) (og r) (gr r) mg gg) wo mp

/-- a chunk of its hidden columns, -/
def tileHidden (r : Fin 4) (k : Fin 11) : FVec F S256x256 .bf16 := hidden (ffnIn (tileStream x om og gr mg gg wo mp r) pre) (wg k) (wu k)

/-- the stores of the chunks in `l`, -/
def hidList (l : List (Fin 4 × Fin 11)) : List (View.Piece (Elt F) S1024x2816 .bf16) :=
  l.map fun p => ⟨hidRect p.1 p.2, tileHidden x om og gr mg gg wo mp pre wg wu p.1 p.2⟩

/-- its hidden columns as it reads them, -/
def readHid (arg15 : Memref sig .tc .vmem S1024x2816 .bf16) (r : Fin 4) : Vec F S256x2816 .bf16 :=
  arg15.view.readCov (hidList x om og gr mg gg wo mp pre wg wu (order.drop (later r))) (hidRowRect r).toLoadRect

/-- and its result. -/
def tileOut (arg15 : Memref sig .tc .vmem S1024x2816 .bf16) (r : Fin 4) : FVec F S256x1024 .f32 :=
  finish (tileStream x om og gr mg gg wo mp r) (readHid x om og gr mg gg wo mp pre wg wu arg15 r) wd post

/-- The stores of the results, the last first. -/
def outList (arg15 : Memref sig .tc .vmem S1024x2816 .bf16) : List (View.Piece (Elt F) S1024x1024 .f32) :=
  [3, 2, 1, 0].map fun r => ⟨outRect r, tileOut x om og gr mg gg wo mp pre wg wu wd post arg15 r⟩

end tiles

variable (c : Dev nD) (i : grid0.Coords)
  (arg14 : Memref sig .tc .vmem S1024x1024 .f32) (harg14 : arg14.IsWhole) (arg15 : Memref sig .tc .vmem S1024x2816 .bf16) (harg15 : arg15.IsWhole)
  (x0 : Vec F S1024x1024 .f32) (x1 : Vec F S1024x512 .bf16) (x2 : Vec F S1024x512 .bf16) (x3 : Vec F S1024x512 .bf16) (x4 : Vec F S1x512 .f32)
  (x5 : Vec F S1x512 .f32) (x6 : Vec F S1024x1024 .bf16) (x7 : Vec F S1x1024 .f32) (x8 : Vec F S1x1024 .f32) (x9 : Vec F S1024x2816 .bf16)
  (x10 : Vec F S1024x2816 .bf16) (x11 : Vec F S2816x1024 .bf16) (x12 : Vec F S1x1024 .f32)

theorem outPieces :
    (kernelRun0_A c i arg1 harg1 arg2 harg2 arg3 harg3 arg4 harg4 arg5 harg5 arg6 harg6 arg7 harg7 arg8 harg8 arg9 harg9 arg10 harg10 arg11 harg11
        arg12 harg12 arg13 harg13 arg14 harg14 arg15 harg15 x0 x1 x2 x3 x4 x5 x6 x7 x8 x9 x10 x11 x12).1
      = outList (rawStream arg1 harg1 x0) (rawGroup arg2 harg2 x1) (rawGroup arg3 harg3 x2) (rawGroup arg4 harg4 x3)
          (rawAll arg5 harg5 x4 (by decide)) (rawGain arg6 harg6 x5) (rawAll arg7 harg7 x6 (by decide)) (rawAll arg8 harg8 x7 (by decide))
          (rawAll arg9 harg9 x8 (by decide)) (rawUp arg10 harg10 x9) (rawUp arg11 harg11 x10) (rawAll arg12 harg12 x11 (by decide))
          (rawAll arg13 harg13 x12 (by decide)) arg15 := by
  sl_kernel_rfl

end body

end Cert.Kernel2Ideal.Gen

end
-- ==== Proof.MixSpec.lean ====
module

public import Idealize.ShloMosaic.Lib.Pointwise

@[expose] public section

set_option maxRecDepth 16384

/-! # One row of the last call

Each row of the result depends on the same row of the arguments alone. Here is that row as a function over the extended
reals: both programs are read down to it. -/

noncomputable section

namespace Mix

open Idealize.ShloMosaic

/-- The small number under the roots, -/
abbrev eps : EReal := Ideal.ofBits .f32 0x358637BD#32
/-- the half that the feed-forward half is weighted with, -/
abbrev half : EReal := Ideal.ofBits .f32 0x3F000000#32
/-- and the widths of the norms. -/
abbrev c128 : EReal := Ideal.ofBits .f32 0x43000000#32
abbrev c512 : EReal := Ideal.ofBits .f32 0x44000000#32
abbrev c1024 : EReal := Ideal.ofBits .f32 0x44800000#32

/-- The reciprocal root of a row's mean square, -/
def scale {n : ℕ} (w : EReal) (x : Fin n → EReal) : EReal := Ideal.rsqrt (Ideal.div (∑ k, x k * x k) w + eps)

/-- and the row's norm with gains `g`. -/
def rms {n : ℕ} (w : EReal) (x g : Fin n → EReal) (k : Fin n) : EReal := x k * scale w x * g k

/-- The gate function. -/
def gate (x : EReal) : EReal := Ideal.div x (1 + Ideal.exp (-x))

theorem one_add_exp_pos (x : EReal) : 0 < 1 + Ideal.exp x := by
  have h : 0 ≤ Ideal.exp x := by
    induction x with
    | bot => exact le_refl (0 : EReal)
    | top => exact (le_top : (0 : EReal) ≤ ⊤)
    | coe r => rw [Ideal.exp_coe]; exact_mod_cast (Real.exp_pos r).le
  calc (0 : EReal) < 1 := zero_lt_one
    _ = 1 + 0 := (add_zero 1).symm
    _ ≤ 1 + Ideal.exp x := add_le_add_right h 1

/-- The same gate, with the reciprocal taken first. -/
theorem mul_recip (x : EReal) : x * Ideal.div 1 (1 + Ideal.exp (-x)) = gate x := by
  unfold gate Ideal.div
  rw [if_neg (one_add_exp_pos _).ne', if_neg (one_add_exp_pos _).ne', one_mul]

/-- Column `128 * h + d` of the four heads of 128. -/
abbrev col (h : Fin 4) (d : Fin 128) : Fin 512 := ⟨128 * h.val + d.val, by omega⟩

/-- A head's norm, gated. -/
def head (og gr gg : Fin 512 → EReal) (h : Fin 4) (d : Fin 128) : EReal :=
  rms c128 (fun k => og (col h k)) (fun k => gg (col h k)) d * gate (gr (col h d))

/-- Both head groups side by side, -/
def mixed (om og gr mg gg : Fin 512 → EReal) (k : Fin 1024) : EReal :=
  if h : k.val < 512 then rms c512 om mg ⟨k.val, h⟩
  else head og gr gg ⟨(k.val - 512) / 128, by omega⟩ ⟨(k.val - 512) % 128, by omega⟩

/-- their product with the output weights, -/
def prod {m n : ℕ} (x : Fin m → EReal) (w : Fin m → Fin n → EReal) (c : Fin n) : EReal := ∑ k, x k * w k c

/-- the residual stream with its norm, -/
def stream (x : Fin 1024 → EReal) (mi : Fin 1024 → EReal) (wo : Fin 1024 → Fin 1024 → EReal) (mp : Fin 1024 → EReal) (c : Fin 1024) : EReal :=
  x c + rms c1024 (prod mi wo) mp c

/-- the hidden columns, -/
def hid (xn : Fin 1024 → EReal) (wg wu : Fin 1024 → Fin 2816 → EReal) (f : Fin 2816) : EReal := gate (prod xn wg f) * prod xn wu f

/-- the result, -/
def finish (x2 : Fin 1024 → EReal) (h : Fin 2816 → EReal) (wd : Fin 2816 → Fin 1024 → EReal) (post : Fin 1024 → EReal) (c : Fin 1024) : EReal :=
  x2 c + half * rms c1024 (prod h wd) post c

/-- and all of it. -/
def row (x : Fin 1024 → EReal) (om og gr mg gg : Fin 512 → EReal) (wo : Fin 1024 → Fin 1024 → EReal) (mp pre : Fin 1024 → EReal)
    (wg wu : Fin 1024 → Fin 2816 → EReal) (wd : Fin 2816 → Fin 1024 → EReal) (post : Fin 1024 → EReal) : Fin 1024 → EReal :=
  let x2 := stream x (mixed om og gr mg gg) wo mp
  finish x2 (hid (rms c1024 x2 pre) wg wu) wd post

/-- The result's rows, of the call's arguments. -/
def result (x0 : (⟨2, ![16384, 1024]⟩ : Shape).Idx → EReal) (x1 x2 : (⟨2, ![16384, 512]⟩ : Shape).Idx → EReal)
    (x3 : (⟨2, ![16384, 3072]⟩ : Shape).Idx → EReal) (x4 : (⟨1, ![512]⟩ : Shape).Idx → EReal) (x5 : (⟨2, ![4, 128]⟩ : Shape).Idx → EReal)
    (x6 : (⟨2, ![1024, 1024]⟩ : Shape).Idx → EReal) (x7 x8 : (⟨1, ![1024]⟩ : Shape).Idx → EReal)
    (x9 x10 : (⟨2, ![1024, 2816]⟩ : Shape).Idx → EReal) (x11 : (⟨2, ![2816, 1024]⟩ : Shape).Idx → EReal)
    (x12 : (⟨1, ![1024]⟩ : Shape).Idx → EReal) (q : Fin 16384) : Fin 1024 → EReal :=
  row (fun k => x0 (ix2 q k)) (fun k => x1 (ix2 q k)) (fun k => x2 (ix2 q k)) (fun k => x3 (ix2 q ⟨2560 + k.val, by omega⟩)) (fun k => x4 (ix1 k))
    (fun k => x5 (ix2 ⟨k.val / 128, by omega⟩ ⟨k.val % 128, by omega⟩)) (fun a b => x6 (ix2 a b)) (fun k => x7 (ix1 k)) (fun k => x8 (ix1 k))
    (fun a b => x9 (ix2 a b)) (fun a b => x10 (ix2 a b)) (fun a b => x11 (ix2 a b)) (fun k => x12 (ix1 k))

end Mix

end
-- ==== Proof.MixRow.lean ====
module

public import proofs.«01_k».proof.Proof.MixTile
public import proofs.«01_k».proof.Proof.MixSpec

@[expose] public section

set_option maxRecDepth 16384

/-! # A tile of the last call, row by row

Over the extended reals each row of a tile is the row function of the same row of its operands. -/

noncomputable section

namespace Cert.Kernel2Ideal.Gen

open Idealize.ShloMosaic Idealize.ShloMosaic.TcCoe Idealize.ShloMosaic.Tactic

/-- A row of a matrix. -/
abbrev rowOf {m n : ℕ} {e : EltTy} (x : Vec Ideal ⟨2, ![m, n]⟩ e) (f : Elt Ideal e → EReal) (i : Fin m) : Fin n → EReal := fun k => f (x (ix2 i k))

variable (i : Fin 256)

theorem norm512_row (x : FVec Ideal S256x512 .f32) (g : Vec Ideal S1x512 .f32) (k : Fin 512) :
    norm512 x g (ix2 i k) = Mix.rms Mix.c512 (fun k => x (ix2 i k)) (fun k => g (ix2 0 k)) k := by
  unfold norm512 scale512 Mix.rms Mix.scale
  pointwise

theorem norm128_row (x : FVec Ideal S256x128 .f32) (g : Vec Ideal S1x128 .f32) (k : Fin 128) :
    norm128 x g (ix2 i k) = Mix.rms Mix.c128 (fun k => x (ix2 i k)) (fun k => g (ix2 0 k)) k := by
  unfold norm128 scale128 Mix.rms Mix.scale
  pointwise

theorem norm1024_row (x : FVec Ideal S256x1024 .f32) (g : Vec Ideal S1x1024 .f32) (k : Fin 1024) :
    norm1024 x g (ix2 i k) = Mix.rms Mix.c1024 (fun k => x (ix2 i k)) (fun k => g (ix2 0 k)) k := by
  unfold norm1024 scale1024 Mix.rms Mix.scale
  pointwise

theorem gateFn_at {s : Shape} (x : FVec Ideal s .f32) (j : s.Idx) : gateFn x j = Mix.gate (x j) := by
  unfold gateFn Mix.gate
  pointwise
  rw [zero_sub]

theorem headIn_row (h : Fin 4) (og gr : Vec Ideal S256x512 .bf16) (g : Vec Ideal S1x128 .f32) (d : Fin 128) :
    (headIn h og gr g (ix2 i d) : EReal)
      = Mix.rms Mix.c128 (fun k => og (ix2 i (Mix.col h k))) (fun k => g (ix2 0 k)) d * Mix.gate (gr (ix2 i (Mix.col h d))) := by
  unfold headIn
  pointwise
  rw [norm128_row]
  pointwise
  rw [gateFn_at]
  pointwise

theorem up256_row (xn : FVec Ideal S256x1024 .bf16) (w : Vec Ideal S1024x256 .bf16) (c : Fin 256) :
    (up256 xn w (ix2 i c) : EReal) = Mix.prod (fun k => xn (ix2 i k)) (fun k c => w (ix2 k c)) c := by
  unfold up256 Mix.prod
  pointwise

theorem mixOut_row (mi : FVec Ideal S256x1024 .bf16) (wo : Vec Ideal S1024x1024 .bf16) (c : Fin 1024) :
    (mixOut mi wo (ix2 i c) : EReal) = Mix.prod (fun k => mi (ix2 i k)) (fun k c => wo (ix2 k c)) c := by
  unfold mixOut Mix.prod
  pointwise

theorem down_row (h : Vec Ideal S256x2816 .bf16) (wd : Vec Ideal S2816x1024 .bf16) (c : Fin 1024) :
    (down h wd (ix2 i c) : EReal) = Mix.prod (fun k => h (ix2 i k)) (fun k c => wd (ix2 k c)) c := by
  unfold down Mix.prod
  pointwise

theorem hidden_row (xn : FVec Ideal S256x1024 .bf16) (wg wu : Vec Ideal S1024x256 .bf16) (c : Fin 256) :
    (hidden xn wg wu (ix2 i c) : EReal)
      = Mix.gate (Mix.prod (fun k => xn (ix2 i k)) (fun k c => wg (ix2 k c)) c) * Mix.prod (fun k => xn (ix2 i k)) (fun k c => wu (ix2 k c)) c := by
  rw [← up256_row, ← up256_row]
  unfold hidden
  pointwise
  rw [gateFn_at]

theorem stream_row (x : Vec Ideal S256x1024 .f32) (mi : FVec Ideal S256x1024 .bf16) (wo : Vec Ideal S1024x1024 .bf16) (mp : Vec Ideal S1x1024 .f32)
    (c : Fin 1024) :
    (stream x mi wo mp (ix2 i c) : EReal)
      = Mix.stream (fun k => x (ix2 i k)) (fun k => mi (ix2 i k)) (fun k c => wo (ix2 k c)) (fun k => mp (ix2 0 k)) c := by
  unfold stream Mix.stream
  rw [← funext fun c => mixOut_row i mi wo c, ← norm1024_row]
  pointwise

theorem ffnIn_row (x2 : FVec Ideal S256x1024 .f32) (pre : Vec Ideal S1x1024 .f32) (k : Fin 1024) :
    (ffnIn x2 pre (ix2 i k) : EReal) = Mix.rms Mix.c1024 (fun k => x2 (ix2 i k)) (fun k => pre (ix2 0 k)) k := by
  rw [← norm1024_row]
  unfold ffnIn
  pointwise

theorem finish_row (x2 : FVec Ideal S256x1024 .f32) (h : Vec Ideal S256x2816 .bf16) (wd : Vec Ideal S2816x1024 .bf16) (post : Vec Ideal S1x1024 .f32)
    (c : Fin 1024) :
    (finish x2 h wd post (ix2 i c) : EReal)
      = Mix.finish (fun k => x2 (ix2 i k)) (fun k => h (ix2 i k)) (fun k c => wd (ix2 k c)) (fun k => post (ix2 0 k)) c := by
  unfold finish Mix.finish
  rw [← funext fun c => down_row i h wd c, ← norm1024_row]
  pointwise

theorem mixIn_row (om og gr : Vec Ideal S256x512 .bf16) (mg : Vec Ideal S1x512 .f32) (gg : Fin 4 → Vec Ideal S1x128 .f32) (gf : Fin 512 → EReal)
    (hg : ∀ h d, (gg h (ix2 0 d) : EReal) = gf (Mix.col h d)) (k : Fin 1024) :
    (mixIn om og gr mg gg (ix2 i k) : EReal)
      = Mix.mixed (fun k => om (ix2 i k)) (fun k => og (ix2 i k)) (fun k => gr (ix2 i k)) (fun k => mg (ix2 0 k)) gf k := by
  unfold mixIn
  pointwise
  unfold Mix.mixed Mix.head
  split
  · rw [norm512_row]
    pointwise
  have hd : ∀ (h : Fin 4) (d : Fin 128), k.val - 512 = 128 * h.val + d.val →
      headIn h og gr (gg h) (ix2 i d) =
        Mix.head (fun k => og (ix2 i k)) (fun k => gr (ix2 i k)) gf ⟨(k.val - 512) / 128, by omega⟩ ⟨(k.val - 512) % 128, by omega⟩ := by
    intro h d e
    have eh : (⟨(k.val - 512) / 128, by omega⟩ : Fin 4) = h := Fin.ext (by show (k.val - 512) / 128 = h.val; omega)
    have ed : (⟨(k.val - 512) % 128, by omega⟩ : Fin 128) = d := Fin.ext (by show (k.val - 512) % 128 = d.val; omega)
    rw [eh, ed]
    rw [headIn_row, funext fun d => hg _ d]
    rfl
  split
  · exact hd 0 _ (by show _ = 128 * 0 + (k.val - 512); omega)
  split
  · exact hd 1 _ (by show _ = 128 * 1 + (k.val - 512 - 128); omega)
  split
  · exact hd 2 _ (by show _ = 128 * 2 + (k.val - 512 - 128 - 128); omega)
  · exact hd 3 _ (by show _ = 128 * 3 + (k.val - 512 - 128 - 128 - 128); omega)

end Cert.Kernel2Ideal.Gen

end
-- ==== Proof.MixPoint.lean ====
module

public import proofs.«01_k».proof.Proof.MixPieces
public import proofs.«01_k».proof.Proof.MixRow
public import Idealize.ShloMosaic.Lib.Pipeline.Value

@[expose] public section

set_option maxRecDepth 16384

/-! # What one grid point of the last call leaves

The stores of one grid point, read back: every row of the output block is the row function of the same row of the
operands' blocks. -/

noncomputable section

namespace Cert.Kernel2Ideal.Gen

open Idealize.ShloMosaic Idealize.ShloMosaic.TcCoe Idealize.ShloMosaic.Tactic

section reads

variable {F : FTy → Type} [FloatOps F]

/-- A row of a tile, in its block. -/
abbrev trow (r : Fin 4) (i : Fin 256) : Fin 1024 := ⟨256 * r.val + i.val, by omega⟩

theorem rawStream_at (a : Memref sig .tc .vmem S1024x1024 .f32) (ha : a.IsWhole) (x : Vec F S1024x1024 .f32) (r : Fin 4) (i : Fin 256) (k : Fin 1024) :
    rawStream a ha x r (ix2 i k) = x (ix2 (trow r i) k) := by
  unfold rawStream
  rw [View.readAt_apply, ha.read_unread]
  congr 1
  funext d
  apply Fin.ext
  rw [LoadRect.idx_apply]
  match d with
  | ⟨0, _⟩ => show 256 * r.val + 1 * i.val = 256 * r.val + i.val; omega
  | ⟨1, _⟩ => show 0 + 1 * k.val = k.val; omega

theorem rawGroup_at (a : Memref sig .tc .vmem S1024x512 .bf16) (ha : a.IsWhole) (x : Vec F S1024x512 .bf16) (r : Fin 4) (i : Fin 256) (k : Fin 512) :
    rawGroup a ha x r (ix2 i k) = x (ix2 (trow r i) k) := by
  unfold rawGroup
  rw [View.readAt_apply, ha.read_unread]
  congr 1
  funext d
  apply Fin.ext
  rw [LoadRect.idx_apply]
  match d with
  | ⟨0, _⟩ => show 256 * r.val + 1 * i.val = 256 * r.val + i.val; omega
  | ⟨1, _⟩ => show 0 + 1 * k.val = k.val; omega

theorem rawGain_at (a : Memref sig .tc .vmem S1x512 .f32) (ha : a.IsWhole) (x : Vec F S1x512 .f32) (h : Fin 4) (k : Fin 128) :
    rawGain a ha x h (ix2 0 k) = x (ix2 0 (Mix.col h k)) := by
  unfold rawGain
  rw [View.readAt_apply, ha.read_unread]
  congr 1
  funext d
  apply Fin.ext
  rw [LoadRect.idx_apply]
  match d with
  | ⟨0, _⟩ => rfl
  | ⟨1, _⟩ => show 128 * h.val + 1 * k.val = 128 * h.val + k.val; omega

theorem rawUp_at (a : Memref sig .tc .vmem S1024x2816 .bf16) (ha : a.IsWhole) (x : Vec F S1024x2816 .bf16) (k : Fin 11) (i : Fin 1024) (j : Fin 256) :
    rawUp a ha x k (ix2 i j) = x (ix2 i ⟨256 * k.val + j.val, by omega⟩) := by
  unfold rawUp
  rw [View.readAt_apply, ha.read_unread]
  congr 1
  funext d
  apply Fin.ext
  rw [LoadRect.idx_apply]
  match d with
  | ⟨0, _⟩ => show 0 + 1 * i.val = i.val; omega
  | ⟨1, _⟩ => show 256 * k.val + 1 * j.val = 256 * k.val + j.val; omega

theorem rawAll_eq {m n : ℕ} {e : EltTy} (a : Memref sig .tc .vmem ⟨2, ![m, n]⟩ e) (ha : a.IsWhole) (x : Vec F ⟨2, ![m, n]⟩ e)
    (inb : ∀ d, (![0, 0] : Fin 2 → ℕ) d + (⟨2, ![m, n]⟩ : Shape).size d ≤ (⟨2, ![m, n]⟩ : Shape).size d) : rawAll a ha x inb = x := by
  unfold rawAll
  funext j
  rw [View.readAt_apply, ha.read_unread]
  congr 1
  funext d
  apply Fin.ext
  rw [LoadRect.idx_apply]
  match d with
  | ⟨0, _⟩ => show 0 + 1 * (j 0).val = (j 0).val; omega
  | ⟨1, _⟩ => show 0 + 1 * (j 1).val = (j 1).val; omega

theorem order_all : ∀ (r : Fin 4) (k : Fin 11), (r, k) ∈ order.drop (later r) := by decide

variable (x : Fin 4 → Vec F S256x1024 .f32) (om og gr : Fin 4 → Vec F S256x512 .bf16) (mg : Vec F S1x512 .f32) (gg : Fin 4 → Vec F S1x128 .f32)
  (wo : Vec F S1024x1024 .bf16) (mp pre : Vec F S1x1024 .f32) (wg wu : Fin 11 → Vec F S1024x256 .bf16) (wd : Vec F S2816x1024 .bf16)
  (post : Vec F S1x1024 .f32)

theorem canon_hidList (r : Fin 4) (k : Fin 11) (i j : Fin 256) (l : List (Fin 4 × Fin 11)) (hl : (r, k) ∈ l) :
    View.canon (hidList x om og gr mg gg wo mp pre wg wu l) (ix2 (n0 := 1024) (n1 := 2816) (trow r i) ⟨256 * k.val + j.val, by omega⟩)
      = tileHidden x om og gr mg gg wo mp pre wg wu r k (ix2 i j) := by
  induction l with
  | nil => exact absurd hl List.not_mem_nil
  | cons p l ih =>
    show View.canon (⟨hidRect p.1 p.2, tileHidden x om og gr mg gg wo mp pre wg wu p.1 p.2⟩ :: hidList x om og gr mg gg wo mp pre wg wu l) _ = _
    by_cases e : (r, k) = p
    · subst e
      have hy : ix2 (n0 := 1024) (n1 := 2816) (trow r i) ⟨256 * k.val + j.val, by omega⟩ = (hidRect r k).emb (ix2 (n0 := 256) (n1 := 256) i j) := by
        funext d
        apply Fin.ext
        rw [Rect.emb_apply]
        match d with
        | ⟨0, _⟩ => show 256 * r.val + i.val = 256 * r.val + 1 * i.val; omega
        | ⟨1, _⟩ => show 256 * k.val + j.val = 256 * k.val + 1 * j.val; omega
      rw [hy]
      exact View.canon_cons_emb _ _ _ _
    · rw [View.canon_cons_of_not_mem, ih ((List.mem_cons.mp hl).resolve_left e)]
      rw [Rect.mem_set_unit]
      intro hm
      have h0 : 256 * p.1.val ≤ 256 * r.val + i.val ∧ 256 * r.val + i.val < 256 * p.1.val + 256 := hm 0
      have h1 : 256 * p.2.val ≤ 256 * k.val + j.val ∧ 256 * k.val + j.val < 256 * p.2.val + 256 := hm 1
      exact e (Prod.ext (Fin.ext (by show r.val = p.1.val; omega)) (Fin.ext (by show k.val = p.2.val; omega)))

theorem readHid_at (arg15 : Memref sig .tc .vmem S1024x2816 .bf16) (r : Fin 4) (i : Fin 256) (k : Fin 11) (j : Fin 256) :
    readHid x om og gr mg gg wo mp pre wg wu arg15 r (ix2 (n0 := 256) (n1 := 2816) i ⟨256 * k.val + j.val, by omega⟩)
      = tileHidden x om og gr mg gg wo mp pre wg wu r k (ix2 i j) := by
  unfold readHid
  rw [View.readCov_eq_canon']
  rw [← canon_hidList x om og gr mg gg wo mp pre wg wu r k i j _ (order_all r k)]
  show View.canon _ ((hidRowRect r).toLoadRect.idx (ix2 (n0 := 256) (n1 := 2816) i ⟨256 * k.val + j.val, by omega⟩)) = _
  congr 1
  funext d
  apply Fin.ext
  rw [LoadRect.idx_apply]
  match d with
  | ⟨0, _⟩ => show 256 * r.val + 1 * i.val = 256 * r.val + i.val; omega
  | ⟨1, _⟩ => show 0 + 1 * (256 * k.val + j.val) = 256 * k.val + j.val; omega

theorem canon_outs (f : Fin 4 → FVec F S256x1024 .f32) (r : Fin 4) (i : Fin 256) (c : Fin 1024) (l : List (Fin 4)) (hl : r ∈ l) :
    View.canon (l.map fun r => (⟨outRect r, f r⟩ : View.Piece (Elt F) S1024x1024 .f32)) (ix2 (n0 := 1024) (n1 := 1024) (trow r i) c)
      = f r (ix2 i c) := by
  induction l with
  | nil => exact absurd hl List.not_mem_nil
  | cons p l ih =>
    show View.canon (⟨outRect p, f p⟩ :: l.map fun r => (⟨outRect r, f r⟩ : View.Piece (Elt F) S1024x1024 .f32)) _ = _
    by_cases e : r = p
    · subst e
      have hy : ix2 (n0 := 1024) (n1 := 1024) (trow r i) c = (outRect r).emb (ix2 (n0 := 256) (n1 := 1024) i c) := by
        funext d
        apply Fin.ext
        rw [Rect.emb_apply]
        match d with
        | ⟨0, _⟩ => show 256 * r.val + i.val = 256 * r.val + 1 * i.val; omega
        | ⟨1, _⟩ => show c.val = 0 + 1 * c.val; omega
      rw [hy]
      exact View.canon_cons_emb _ _ _ _
    · rw [View.canon_cons_of_not_mem, ih ((List.mem_cons.mp hl).resolve_left e)]
      rw [Rect.mem_set_unit]
      intro hm
      have h0 : 256 * p.val ≤ 256 * r.val + i.val ∧ 256 * r.val + i.val < 256 * p.val + 256 := hm 0
      exact e (Fin.ext (by omega))

end reads

section values

variable (c : Dev nD) (i : grid0.Coords)
  (arg1 : Memref sig .tc .vmem S1024x1024 .f32) (harg1 : arg1.IsWhole) (arg2 : Memref sig .tc .vmem S1024x512 .bf16) (harg2 : arg2.IsWhole)
  (arg3 : Memref sig .tc .vmem S1024x512 .bf16) (harg3 : arg3.IsWhole) (arg4 : Memref sig .tc .vmem S1024x512 .bf16) (harg4 : arg4.IsWhole)
  (arg5 : Memref sig .tc .vmem S1x512 .f32) (harg5 : arg5.IsWhole) (arg6 : Memref sig .tc .vmem S1x512 .f32) (harg6 : arg6.IsWhole)
  (arg7 : Memref sig .tc .vmem S1024x1024 .bf16) (harg7 : arg7.IsWhole) (arg8 : Memref sig .tc .vmem S1x1024 .f32) (harg8 : arg8.IsWhole)
  (arg9 : Memref sig .tc .vmem S1x1024 .f32) (harg9 : arg9.IsWhole) (arg10 : Memref sig .tc .vmem S1024x2816 .bf16) (harg10 : arg10.IsWhole)
  (arg11 : Memref sig .tc .vmem S1024x2816 .bf16) (harg11 : arg11.IsWhole) (arg12 : Memref sig .tc .vmem S2816x1024 .bf16) (harg12 : arg12.IsWhole)
  (arg13 : Memref sig .tc .vmem S1x1024 .f32) (harg13 : arg13.IsWhole)
  (arg14 : Memref sig .tc .vmem S1024x1024 .f32) (harg14 : arg14.IsWhole) (arg15 : Memref sig .tc .vmem S1024x2816 .bf16) (harg15 : arg15.IsWhole)
  (x0 : Vec Ideal S1024x1024 .f32) (x1 : Vec Ideal S1024x512 .bf16) (x2 : Vec Ideal S1024x512 .bf16) (x3 : Vec Ideal S1024x512 .bf16)
  (x4 : Vec Ideal S1x512 .f32) (x5 : Vec Ideal S1x512 .f32) (x6 : Vec Ideal S1024x1024 .bf16) (x7 : Vec Ideal S1x1024 .f32)
  (x8 : Vec Ideal S1x1024 .f32) (x9 : Vec Ideal S1024x2816 .bf16) (x10 : Vec Ideal S1024x2816 .bf16) (x11 : Vec Ideal S2816x1024 .bf16)
  (x12 : Vec Ideal S1x1024 .f32)

/-- A row of the output block. -/
theorem out_row (q : Fin 1024) (k : Fin 1024) :
    (out0_A_13 c i arg1 harg1 arg2 harg2 arg3 harg3 arg4 harg4 arg5 harg5 arg6 harg6 arg7 harg7 arg8 harg8 arg9 harg9 arg10 harg10 arg11 harg11
        arg12 harg12 arg13 harg13 arg14 harg14 arg15 harg15 x0 x1 x2 x3 x4 x5 x6 x7 x8 x9 x10 x11 x12 (ix2 q k) : EReal)
      = Mix.row (fun k => x0 (ix2 q k)) (fun k => x1 (ix2 q k)) (fun k => x2 (ix2 q k)) (fun k => x3 (ix2 q k)) (fun k => x4 (ix2 0 k))
          (fun k => x5 (ix2 0 k)) (fun a b => x6 (ix2 a b)) (fun k => x7 (ix2 0 k)) (fun k => x8 (ix2 0 k)) (fun a b => x9 (ix2 a b))
          (fun a b => x10 (ix2 a b)) (fun a b => x11 (ix2 a b)) (fun k => x12 (ix2 0 k)) k := by
  obtain ⟨r, j, rfl⟩ : ∃ r j, q = trow r j :=
    ⟨⟨q.val / 256, by omega⟩, ⟨q.val % 256, Nat.mod_lt _ (by decide)⟩, Fin.ext (by show q.val = 256 * (q.val / 256) + q.val % 256; omega)⟩
  unfold out0_A_13
  rw [View.read_writes_junk_eq_canon, outPieces]
  unfold outList
  rw [canon_outs _ r j k _ (by revert r; decide)]
  unfold tileOut
  simp only [rawAll_eq]
  rw [finish_row]
  have hs : (fun k => (tileStream (rawStream arg1 harg1 x0) (rawGroup arg2 harg2 x1) (rawGroup arg3 harg3 x2) (rawGroup arg4 harg4 x3) x4
        (rawGain arg6 harg6 x5) x6 x7 r (ix2 j k) : EReal))
      = Mix.stream (fun k => x0 (ix2 (trow r j) k)) (Mix.mixed (fun k => x1 (ix2 (trow r j) k)) (fun k => x2 (ix2 (trow r j) k))
          (fun k => x3 (ix2 (trow r j) k)) (fun k => x4 (ix2 0 k)) (fun k => x5 (ix2 0 k))) (fun a b => x6 (ix2 a b)) (fun k => x7 (ix2 0 k)) := by
    funext k
    unfold tileStream
    rw [stream_row, funext fun k => mixIn_row j _ _ _ _ _ (fun k => x5 (ix2 0 k)) (fun h d => rawGain_at arg6 harg6 x5 h d) k]
    simp only [rawStream_at, rawGroup_at]
  unfold Mix.row
  rw [hs]
  congr 1
  funext f
  obtain ⟨g, l, rfl⟩ : ∃ (g : Fin 11) (l : Fin 256), f = ⟨256 * g.val + l.val, by omega⟩ :=
    ⟨⟨f.val / 256, by omega⟩, ⟨f.val % 256, Nat.mod_lt _ (by decide)⟩, Fin.ext (by show f.val = 256 * (f.val / 256) + f.val % 256; omega)⟩
  rw [readHid_at]
  unfold tileHidden
  rw [hidden_row, funext fun k => ffnIn_row j _ _ k, hs]
  unfold Mix.hid Mix.prod
  simp only [rawUp_at]

end values

end Cert.Kernel2Ideal.Gen

end
-- ==== Proof.MixBlocks.lean ====
module

public import proofs.«01_k».proof.Proof.Gen.Kernel2Ideal.Value
public import proofs.«01_k».proof.Proof.MixPoint
public import Idealize.ShloMosaic.Lib.StableHlo.RunRead

@[expose] public section

set_option maxRecDepth 16384

/-! # What a grid point of the last call reads

The blocks of the thirteen input windows at a grid point, entry by entry, in terms of the arguments; and with them the
result, row by row. -/

noncomputable section

namespace Cert.Kernel2Ideal.Gen

open Idealize.ShloMosaic Idealize.ShloMosaic.TcCoe Idealize.ShloMosaic.Tactic Idealize.ShloMosaic.StableHlo

variable (m : (ℓ : Loc nD τ sig) → Buf (Elt Ideal) ℓ) (c : Dev nD) (t : Fin cfg0.N)

theorem lt16 : t.val < 16 := lt_of_lt_of_eq t.isLt N_0

/-- A row of a grid point's blocks, in the whole arrays. -/
abbrev grow (a : Fin 1024) : Fin 16384 := ⟨1024 * t.val + a.val, by have := lt16 t; omega⟩

/-- The windows of the rows move with the grid point, and the others stay. -/
theorem row_facts : ∀ t : Fin cfg0.N, win0_0.index t 0 = t.val ∧ win0_0.index t 1 = 0 ∧ win0_1.index t 0 = t.val ∧ win0_1.index t 1 = 0
    ∧ win0_2.index t 0 = t.val ∧ win0_2.index t 1 = 0 ∧ win0_3.index t 0 = t.val ∧ win0_3.index t 1 = 5
    ∧ win0_13.index t 0 = t.val ∧ win0_13.index t 1 = 0 :=
  (by decide +kernel : ∀ t : Fin grid0.N, _)

theorem whole_facts : ∀ t : Fin cfg0.N, win0_4.index t 0 = 0 ∧ win0_4.index t 1 = 0 ∧ win0_5.index t 0 = 0 ∧ win0_5.index t 1 = 0 ∧ win0_6.index t 0 = 0 ∧ win0_6.index t 1 = 0 ∧ win0_7.index t 0 = 0 ∧ win0_7.index t 1 = 0 ∧ win0_8.index t 0 = 0 ∧ win0_8.index t 1 = 0 ∧ win0_9.index t 0 = 0 ∧ win0_9.index t 1 = 0 ∧ win0_10.index t 0 = 0 ∧ win0_10.index t 1 = 0 ∧ win0_11.index t 0 = 0 ∧ win0_11.index t 1 = 0 ∧ win0_12.index t 0 = 0 ∧ win0_12.index t 1 = 0 :=
  (by decide +kernel : ∀ t : Fin grid0.N, _)

theorem blk0 (a : Fin 1024) (k : Fin 1024) : (iblk m c 0 t : Vec Ideal S1024x1024 .f32) (ix2 a k)
    = (m ((c : Thread nD τ).loc main_arg0) : Vec Ideal S16384x1024 .f32) (ix2 (grow t a) k) := by
  rw [← V_main_arg0 m c]
  unfold iblk
  rw [View.read_apply]
  show V m c main_arg0 _ = V m c main_arg0 _
  obtain ⟨e0, e1, -⟩ := row_facts t
  congr 1
  funext d
  apply Fin.ext
  match d with
  | ⟨0, _⟩ => show win0_0.index t 0 * 1024 + 1 * a.val = _; rw [e0]; show _ = 1024 * t.val + a.val; omega
  | ⟨1, _⟩ => show win0_0.index t 1 * 1024 + 1 * k.val = _; rw [e1]; show _ = k.val; omega

theorem blk1 (a : Fin 1024) (k : Fin 512) : (iblk m c 1 t : Vec Ideal S1024x512 .bf16) (ix2 a k)
    = (m ((c : Thread nD τ).loc main_arg1) : Vec Ideal S16384x512 .bf16) (ix2 (grow t a) k) := by
  rw [← V_main_arg1 m c]
  unfold iblk
  rw [View.read_apply]
  show V m c main_arg1 _ = V m c main_arg1 _
  obtain ⟨-, -, e0, e1, -⟩ := row_facts t
  congr 1
  funext d
  apply Fin.ext
  match d with
  | ⟨0, _⟩ => show win0_1.index t 0 * 1024 + 1 * a.val = _; rw [e0]; show _ = 1024 * t.val + a.val; omega
  | ⟨1, _⟩ => show win0_1.index t 1 * 512 + 1 * k.val = _; rw [e1]; show _ = k.val; omega

theorem blk2 (a : Fin 1024) (k : Fin 512) : (iblk m c 2 t : Vec Ideal S1024x512 .bf16) (ix2 a k)
    = (m ((c : Thread nD τ).loc main_arg2) : Vec Ideal S16384x512 .bf16) (ix2 (grow t a) k) := by
  rw [← V_main_arg2 m c]
  unfold iblk
  rw [View.read_apply]
  show V m c main_arg2 _ = V m c main_arg2 _
  obtain ⟨-, -, -, -, e0, e1, -⟩ := row_facts t
  congr 1
  funext d
  apply Fin.ext
  match d with
  | ⟨0, _⟩ => show win0_2.index t 0 * 1024 + 1 * a.val = _; rw [e0]; show _ = 1024 * t.val + a.val; omega
  | ⟨1, _⟩ => show win0_2.index t 1 * 512 + 1 * k.val = _; rw [e1]; show _ = k.val; omega

theorem blk3 (a : Fin 1024) (k : Fin 512) : (iblk m c 3 t : Vec Ideal S1024x512 .bf16) (ix2 a k)
    = (m ((c : Thread nD τ).loc main_arg3) : Vec Ideal S16384x3072 .bf16) (ix2 (grow t a) ⟨2560 + k.val, by omega⟩) := by
  rw [← V_main_arg3 m c]
  unfold iblk
  rw [View.read_apply]
  show V m c main_arg3 _ = V m c main_arg3 _
  obtain ⟨-, -, -, -, -, -, e0, e1, -⟩ := row_facts t
  congr 1
  funext d
  apply Fin.ext
  match d with
  | ⟨0, _⟩ => show win0_3.index t 0 * 1024 + 1 * a.val = _; rw [e0]; show _ = 1024 * t.val + a.val; omega
  | ⟨1, _⟩ => show win0_3.index t 1 * 512 + 1 * k.val = _; rw [e1]; show _ = 2560 + k.val; omega

theorem gains_at (x : Vec Ideal S4x128 .f32) (k : Fin 512) :
    shapeCast S1x512 x shapeCasts_S4x128_S1x512 (ix2 0 k) = x (ix2 ⟨k.val / 128, by omega⟩ ⟨k.val % 128, by omega⟩) := by
  pointwise

theorem host0 : V m c main_v0 = broadcastInDim S1x512 ![1] bcast_S512_S1x512_1 (m ((c : Thread nD τ).loc main_arg4)) := by
  unfold V
  after_reads_simp

theorem blk4 (k : Fin 512) : ((iblk m c 4 t : Vec Ideal S1x512 .f32) (ix2 0 k) : EReal)
    = (m ((c : Thread nD τ).loc main_arg4) : Vec Ideal S512 .f32) (ix1 k) := by
  have h : (V m c main_v0 : Vec Ideal S1x512 .f32) (ix2 0 k) = (m ((c : Thread nD τ).loc main_arg4) : Vec Ideal S512 .f32) (ix1 k) := by
    rw [host0]
    pointwise
  rw [← h]
  unfold iblk
  rw [View.read_apply]
  show V m c main_v0 _ = V m c main_v0 _
  obtain ⟨e0, e1, -⟩ := whole_facts t
  congr 1
  funext d
  apply Fin.ext
  match d with
  | ⟨0, _⟩ => show win0_4.index t 0 * 1 + 1 * (0 : Fin 1).val = _; rw [e0]; show _ = (0 : Fin 1).val; omega
  | ⟨1, _⟩ => show win0_4.index t 1 * 512 + 1 * k.val = _; rw [e1]; show _ = k.val; omega

theorem host1 : V m c main_v1 = shapeCast S1x512 (m ((c : Thread nD τ).loc main_arg5)) shapeCasts_S4x128_S1x512 := by
  unfold V
  after_reads_simp
  rfl

theorem blk5 (k : Fin 512) : ((iblk m c 5 t : Vec Ideal S1x512 .f32) (ix2 0 k) : EReal)
    = (m ((c : Thread nD τ).loc main_arg5) : Vec Ideal S4x128 .f32) (ix2 ⟨k.val / 128, by omega⟩ ⟨k.val % 128, by omega⟩) := by
  have h : (V m c main_v1 : Vec Ideal S1x512 .f32) (ix2 0 k) = (m ((c : Thread nD τ).loc main_arg5) : Vec Ideal S4x128 .f32) (ix2 ⟨k.val / 128, by omega⟩ ⟨k.val % 128, by omega⟩) := by
    rw [host1]
    exact gains_at _ k
  rw [← h]
  unfold iblk
  rw [View.read_apply]
  show V m c main_v1 _ = V m c main_v1 _
  obtain ⟨-, -, e0, e1, -⟩ := whole_facts t
  congr 1
  funext d
  apply Fin.ext
  match d with
  | ⟨0, _⟩ => show win0_5.index t 0 * 1 + 1 * (0 : Fin 1).val = _; rw [e0]; show _ = (0 : Fin 1).val; omega
  | ⟨1, _⟩ => show win0_5.index t 1 * 512 + 1 * k.val = _; rw [e1]; show _ = k.val; omega

theorem host2 : V m c main_v2 = (truncf .bf16 (m ((c : Thread nD τ).loc main_arg6) : FVec Ideal S1024x1024 .f32) bitsLt_bf16_f32 : FVec Ideal S1024x1024 .bf16) := by
  unfold V
  after_reads_simp

theorem blk6 (a : Fin 1024) (k : Fin 1024) : ((iblk m c 6 t : Vec Ideal S1024x1024 .bf16) (ix2 a k) : EReal)
    = (m ((c : Thread nD τ).loc main_arg6) : Vec Ideal S1024x1024 .f32) (ix2 a k) := by
  have h : (V m c main_v2 : Vec Ideal S1024x1024 .bf16) (ix2 a k) = (m ((c : Thread nD τ).loc main_arg6) : Vec Ideal S1024x1024 .f32) (ix2 a k) := by
    rw [host2]
    rfl
  rw [← h]
  unfold iblk
  rw [View.read_apply]
  show V m c main_v2 _ = V m c main_v2 _
  obtain ⟨-, -, -, -, e0, e1, -⟩ := whole_facts t
  congr 1
  funext d
  apply Fin.ext
  match d with
  | ⟨0, _⟩ => show win0_6.index t 0 * 1024 + 1 * a.val = _; rw [e0]; show _ = a.val; omega
  | ⟨1, _⟩ => show win0_6.index t 1 * 1024 + 1 * k.val = _; rw [e1]; show _ = k.val; omega

theorem host3 : V m c main_v3 = broadcastInDim S1x1024 ![1] bcast_S1024_S1x1024_1 (m ((c : Thread nD τ).loc main_arg7)) := by
  unfold V
  after_reads_simp

theorem blk7 (k : Fin 1024) : ((iblk m c 7 t : Vec Ideal S1x1024 .f32) (ix2 0 k) : EReal)
    = (m ((c : Thread nD τ).loc main_arg7) : Vec Ideal S1024 .f32) (ix1 k) := by
  have h : (V m c main_v3 : Vec Ideal S1x1024 .f32) (ix2 0 k) = (m ((c : Thread nD τ).loc main_arg7) : Vec Ideal S1024 .f32) (ix1 k) := by
    rw [host3]
    pointwise
  rw [← h]
  unfold iblk
  rw [View.read_apply]
  show V m c main_v3 _ = V m c main_v3 _
  obtain ⟨-, -, -, -, -, -, e0, e1, -⟩ := whole_facts t
  congr 1
  funext d
  apply Fin.ext
  match d with
  | ⟨0, _⟩ => show win0_7.index t 0 * 1 + 1 * (0 : Fin 1).val = _; rw [e0]; show _ = (0 : Fin 1).val; omega
  | ⟨1, _⟩ => show win0_7.index t 1 * 1024 + 1 * k.val = _; rw [e1]; show _ = k.val; omega

theorem host4 : V m c main_v4 = broadcastInDim S1x1024 ![1] bcast_S1024_S1x1024_1 (m ((c : Thread nD τ).loc main_arg8)) := by
  unfold V
  after_reads_simp

theorem blk8 (k : Fin 1024) : ((iblk m c 8 t : Vec Ideal S1x1024 .f32) (ix2 0 k) : EReal)
    = (m ((c : Thread nD τ).loc main_arg8) : Vec Ideal S1024 .f32) (ix1 k) := by
  have h : (V m c main_v4 : Vec Ideal S1x1024 .f32) (ix2 0 k) = (m ((c : Thread nD τ).loc main_arg8) : Vec Ideal S1024 .f32) (ix1 k) := by
    rw [host4]
    pointwise
  rw [← h]
  unfold iblk
  rw [View.read_apply]
  show V m c main_v4 _ = V m c main_v4 _
  obtain ⟨-, -, -, -, -, -, -, -, e0, e1, -⟩ := whole_facts t
  congr 1
  funext d
  apply Fin.ext
  match d with
  | ⟨0, _⟩ => show win0_8.index t 0 * 1 + 1 * (0 : Fin 1).val = _; rw [e0]; show _ = (0 : Fin 1).val; omega
  | ⟨1, _⟩ => show win0_8.index t 1 * 1024 + 1 * k.val = _; rw [e1]; show _ = k.val; omega

theorem host5 : V m c main_v5 = (truncf .bf16 (m ((c : Thread nD τ).loc main_arg9) : FVec Ideal S1024x2816 .f32) bitsLt_bf16_f32 : FVec Ideal S1024x2816 .bf16) := by
  unfold V
  after_reads_simp

theorem blk9 (a : Fin 1024) (k : Fin 2816) : ((iblk m c 9 t : Vec Ideal S1024x2816 .bf16) (ix2 a k) : EReal)
    = (m ((c : Thread nD τ).loc main_arg9) : Vec Ideal S1024x2816 .f32) (ix2 a k) := by
  have h : (V m c main_v5 : Vec Ideal S1024x2816 .bf16) (ix2 a k) = (m ((c : Thread nD τ).loc main_arg9) : Vec Ideal S1024x2816 .f32) (ix2 a k) := by
    rw [host5]
    rfl
  rw [← h]
  unfold iblk
  rw [View.read_apply]
  show V m c main_v5 _ = V m c main_v5 _
  obtain ⟨-, -, -, -, -, -, -, -, -, -, e0, e1, -⟩ := whole_facts t
  congr 1
  funext d
  apply Fin.ext
  match d with
  | ⟨0, _⟩ => show win0_9.index t 0 * 1024 + 1 * a.val = _; rw [e0]; show _ = a.val; omega
  | ⟨1, _⟩ => show win0_9.index t 1 * 2816 + 1 * k.val = _; rw [e1]; show _ = k.val; omega

theorem host6 : V m c main_v6 = (truncf .bf16 (m ((c : Thread nD τ).loc main_arg10) : FVec Ideal S1024x2816 .f32) bitsLt_bf16_f32 : FVec Ideal S1024x2816 .bf16) := by
  unfold V
  after_reads_simp

theorem blk10 (a : Fin 1024) (k : Fin 2816) : ((iblk m c 10 t : Vec Ideal S1024x2816 .bf16) (ix2 a k) : EReal)
    = (m ((c : Thread nD τ).loc main_arg10) : Vec Ideal S1024x2816 .f32) (ix2 a k) := by
  have h : (V m c main_v6 : Vec Ideal S1024x2816 .bf16) (ix2 a k) = (m ((c : Thread nD τ).loc main_arg10) : Vec Ideal S1024x2816 .f32) (ix2 a k) := by
    rw [host6]
    rfl
  rw [← h]
  unfold iblk
  rw [View.read_apply]
  show V m c main_v6 _ = V m c main_v6 _
  obtain ⟨-, -, -, -, -, -, -, -, -, -, -, -, e0, e1, -⟩ := whole_facts t
  congr 1
  funext d
  apply Fin.ext
  match d with
  | ⟨0, _⟩ => show win0_10.index t 0 * 1024 + 1 * a.val = _; rw [e0]; show _ = a.val; omega
  | ⟨1, _⟩ => show win0_10.index t 1 * 2816 + 1 * k.val = _; rw [e1]; show _ = k.val; omega

theorem host7 : V m c main_v7 = (truncf .bf16 (m ((c : Thread nD τ).loc main_arg11) : FVec Ideal S2816x1024 .f32) bitsLt_bf16_f32 : FVec Ideal S2816x1024 .bf16) := by
  unfold V
  after_reads_simp

theorem blk11 (a : Fin 2816) (k : Fin 1024) : ((iblk m c 11 t : Vec Ideal S2816x1024 .bf16) (ix2 a k) : EReal)
    = (m ((c : Thread nD τ).loc main_arg11) : Vec Ideal S2816x1024 .f32) (ix2 a k) := by
  have h : (V m c main_v7 : Vec Ideal S2816x1024 .bf16) (ix2 a k) = (m ((c : Thread nD τ).loc main_arg11) : Vec Ideal S2816x1024 .f32) (ix2 a k) := by
    rw [host7]
    rfl
  rw [← h]
  unfold iblk
  rw [View.read_apply]
  show V m c main_v7 _ = V m c main_v7 _
  obtain ⟨-, -, -, -, -, -, -, -, -, -, -, -, -, -, e0, e1, -⟩ := whole_facts t
  congr 1
  funext d
  apply Fin.ext
  match d with
  | ⟨0, _⟩ => show win0_11.index t 0 * 2816 + 1 * a.val = _; rw [e0]; show _ = a.val; omega
  | ⟨1, _⟩ => show win0_11.index t 1 * 1024 + 1 * k.val = _; rw [e1]; show _ = k.val; omega

theorem host8 : V m c main_v8 = broadcastInDim S1x1024 ![1] bcast_S1024_S1x1024_1 (m ((c : Thread nD τ).loc main_arg12)) := by
  unfold V
  after_reads_simp

theorem blk12 (k : Fin 1024) : ((iblk m c 12 t : Vec Ideal S1x1024 .f32) (ix2 0 k) : EReal)
    = (m ((c : Thread nD τ).loc main_arg12) : Vec Ideal S1024 .f32) (ix1 k) := by
  have h : (V m c main_v8 : Vec Ideal S1x1024 .f32) (ix2 0 k) = (m ((c : Thread nD τ).loc main_arg12) : Vec Ideal S1024 .f32) (ix1 k) := by
    rw [host8]
    pointwise
  rw [← h]
  unfold iblk
  rw [View.read_apply]
  show V m c main_v8 _ = V m c main_v8 _
  obtain ⟨-, -, -, -, -, -, -, -, -, -, -, -, -, -, -, -, e0, e1⟩ := whole_facts t
  congr 1
  funext d
  apply Fin.ext
  match d with
  | ⟨0, _⟩ => show win0_12.index t 0 * 1 + 1 * (0 : Fin 1).val = _; rw [e0]; show _ = (0 : Fin 1).val; omega
  | ⟨1, _⟩ => show win0_12.index t 1 * 1024 + 1 * k.val = _; rw [e1]; show _ = k.val; omega

end Cert.Kernel2Ideal.Gen

end
-- ==== Proof.MixResult.lean ====
module

public import proofs.«01_k».proof.Proof.MixBlocks

@[expose] public section

set_option maxRecDepth 16384

/-! # What the last call's array holds -/

noncomputable section

namespace Cert.Kernel2Ideal.Gen

open Idealize.ShloMosaic Idealize.ShloMosaic.TcCoe Idealize.ShloMosaic.Tactic

variable (m : (ℓ : Loc nD τ sig) → Buf (Elt Ideal) ℓ) (c : Dev nD)

theorem flushes : ∀ t : Fin cfg0.N, (cfg0.win 13).flush t = true := (by decide +kernel : ∀ t : Fin grid0.N, _)

/-- A row of the array after the run. -/
theorem kernel_row (q : Fin 16384) (k : Fin 1024) :
    ((dats m 0 c).arrAt 13 cfg0.N : S16384x1024.Idx → EReal) (ix2 q k)
      = Mix.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) q k := by
  obtain ⟨t, a, rfl⟩ : ∃ t a, q = grow t a :=
    ⟨⟨q.val / 1024, by rw [show cfg0.N = 16 from N_0]; omega⟩, ⟨q.val % 1024, Nat.mod_lt _ (by decide)⟩,
      Fin.ext (by show q.val = 1024 * (q.val / 1024) + q.val % 1024; omega)⟩
  have h := congrFun (Value.blocks13 m c t (flushes t)) (ix2 (n0 := 1024) (n1 := 1024) a k)
  rw [View.read_apply, Value.flushed13] at h
  have hy : ((cfg0.win 13).blk t).view.emb (ix2 (n0 := 1024) (n1 := 1024) a k) = ix2 (n0 := 16384) (n1 := 1024) (grow t a) k := by
    obtain ⟨-, -, -, -, -, -, -, -, e0, e1⟩ := row_facts t
    funext d
    apply Fin.ext
    match d with
    | ⟨0, _⟩ => show win0_13.index t 0 * 1024 + 1 * a.val = _; rw [e0]; show _ = 1024 * t.val + a.val; omega
    | ⟨1, _⟩ => show win0_13.index t 1 * 1024 + 1 * k.val = _; rw [e1]; show _ = k.val; omega
  rw [hy] at h
  refine h.trans ?_
  show outsAt0 m c t (ix2 a k) = _
  unfold outsAt0
  rw [out_row]
  unfold Mix.result
  simp only [blk0, blk1, blk2, blk3, blk4, blk5, blk6, blk7, blk8, blk9, blk10, blk11, blk12]

end Cert.Kernel2Ideal.Gen

end
-- ==== Proof.MixRef.lean ====
module

public import proofs.«01_k».proof.Proof.Gen.Reference2Ideal.Run
public import proofs.«01_k».proof.Proof.MixSpec

@[expose] public section

set_option maxRecDepth 16384

/-! # The reference of the last call, row by row -/

noncomputable section

namespace Cert.Reference2Ideal.Value

open Idealize.ShloMosaic Idealize.ShloMosaic.TcCoe Idealize.ShloMosaic.Tactic
open Idealize.ShloMosaic.StableHlo
open Cert.Reference2Ideal.Gen

/-- The reference's norm of 1024 columns, -/
def rnorm1024 (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- of 512, -/
def rnorm512 (x : FVec Ideal S16384x512 .f32) (g : FVec Ideal S512 .f32) : FVec Ideal S16384x512 .f32 :=
  mulf (mulf x (broadcastInDim S16384x512 ![0, 1] bcast_S16384x1_S16384x512_0_1 (Host.rsqrt (addf (Host.divf (broadcastInDim S16384x1 ![0] bcast_S16384_S16384x1_0 (Host.reduceAdd (mulf x x) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32))))))
    (broadcastInDim S16384x512 ![0, 1] bcast_S1x512_S16384x512_0_1 (broadcastInDim S1x512 ![1] bcast_S512_S1x512_1 g))

/-- and of each head. -/
def rnormHeads (x : FVec Ideal S16384x4x128 .f32) (g : FVec Ideal S4x128 .f32) : FVec Ideal S16384x4x128 .f32 :=
  mulf (mulf x (broadcastInDim S16384x4x128 ![0, 1, 2] bcast_S16384x4x1_S16384x4x128_0_1_2 (Host.rsqrt (addf (Host.divf (broadcastInDim S16384x4x1 ![0, 1] bcast_S16384x4_S16384x4x1_0_1 (Host.reduceAdd (mulf x x) (constant S_ .f32 0x00000000#32) reducesTo_S16384x4x128_S16384x4_d2 h_S_)) (broadcastInDim S16384x4x1 ![] bcast_S_S16384x4x1 (constant S_ .f32 0x43000000#32))) (broadcastInDim S16384x4x1 ![] bcast_S_S16384x4x1 (constant S_ .f32 0x358637BD#32))))))
    (broadcastInDim S16384x4x128 ![0, 1, 2] bcast_S1x4x128_S16384x4x128_0_1_2 (broadcastInDim S1x4x128 ![1, 2] bcast_S4x128_S1x4x128_1_2 g))

/-- The reference's gate. -/
def rgate512 (x : FVec Ideal S16384x512 .f32) : FVec Ideal S16384x512 .f32 :=
  mulf x (Host.divf (broadcastInDim S16384x512 ![] bcast_S_S16384x512 (constant S_ .f32 0x3F800000#32)) (addf (broadcastInDim S16384x512 ![] bcast_S_S16384x512 (constant S_ .f32 0x3F800000#32)) (Host.exp (Host.negf x))))
def rgate2816 (x : FVec Ideal S16384x2816 .f32) : FVec Ideal S16384x2816 .f32 :=
  mulf x (Host.divf (broadcastInDim S16384x2816 ![] bcast_S_S16384x2816 (constant S_ .f32 0x3F800000#32)) (addf (broadcastInDim S16384x2816 ![] bcast_S_S16384x2816 (constant S_ .f32 0x3F800000#32)) (Host.exp (Host.negf x))))

section rows

variable (q : Fin 16384)

theorem rnorm1024_row (x : FVec Ideal S16384x1024 .f32) (g : FVec Ideal S1024 .f32) (k : Fin 1024) :
    (rnorm1024 x g (ix2 q k) : EReal) = Mix.rms Mix.c1024 (fun k => x (ix2 q k)) (fun k => g (ix1 k)) k := by
  unfold rnorm1024 Mix.rms Mix.scale
  pointwise

theorem rnorm512_row (x : FVec Ideal S16384x512 .f32) (g : FVec Ideal S512 .f32) (k : Fin 512) :
    (rnorm512 x g (ix2 q k) : EReal) = Mix.rms Mix.c512 (fun k => x (ix2 q k)) (fun k => g (ix1 k)) k := by
  unfold rnorm512 Mix.rms Mix.scale
  pointwise

theorem rnormHeads_row (x : FVec Ideal S16384x4x128 .f32) (g : FVec Ideal S4x128 .f32) (h : Fin 4) (d : Fin 128) :
    (rnormHeads x g (ix3 q h d) : EReal) = Mix.rms Mix.c128 (fun k => x (ix3 q h k)) (fun k => g (ix2 h k)) d := by
  unfold rnormHeads Mix.rms Mix.scale
  pointwise

theorem rgate512_row (x : FVec Ideal S16384x512 .f32) (k : Fin 512) : (rgate512 x (ix2 q k) : EReal) = Mix.gate (x (ix2 q k)) := by
  rw [← Mix.mul_recip]
  unfold rgate512
  pointwise

theorem rgate2816_row (x : FVec Ideal S16384x2816 .f32) (k : Fin 2816) : (rgate2816 x (ix2 q k) : EReal) = Mix.gate (x (ix2 q k)) := by
  rw [← Mix.mul_recip]
  unfold rgate2816
  pointwise

/-- The heads side by side. -/
theorem flat_row (x : FVec Ideal S16384x4x128 .f32) (k : Fin 512) :
    (shapeCast S16384x512 x shapeCasts_S16384x4x128_S16384x512 (ix2 q k) : EReal) = x (ix3 q ⟨k.val / 128, by omega⟩ ⟨k.val % 128, by omega⟩) := by
  pointwise

theorem heads_row (x : FVec Ideal S16384x512 .f32) (h : Fin 4) (d : Fin 128) :
    (shapeCast S16384x4x128 x shapeCasts_S16384x512_S16384x4x128 (ix3 q h d) : EReal) = x (ix2 q (Mix.col h d)) := by
  pointwise
  congr 2
  apply Fin.ext
  show h.val * 128 + d.val = 128 * h.val + d.val
  omega

theorem mixProd_row (x : FVec Ideal S16384x1024 .f32) (w : FVec Ideal S1024x1024 .f32) (k : Fin 1024) :
    (Host.dotGeneral dot_S16384x1024_S1024x1024_S16384x1024_1_0_0_1_n_n none x w (ix2 q k) : EReal)
      = Mix.prod (fun k => x (ix2 q k)) (fun a b => w (ix2 a b)) k := by
  unfold Mix.prod
  pointwise

theorem upProd_row (x : FVec Ideal S16384x1024 .f32) (w : FVec Ideal S1024x2816 .f32) (k : Fin 2816) :
    (Host.dotGeneral dot_S16384x1024_S1024x2816_S16384x2816_1_0_0_1_n_n none x w (ix2 q k) : EReal)
      = Mix.prod (fun k => x (ix2 q k)) (fun a b => w (ix2 a b)) k := by
  unfold Mix.prod
  pointwise

theorem downProd_row (x : FVec Ideal S16384x2816 .f32) (w : FVec Ideal S2816x1024 .f32) (k : Fin 1024) :
    (Host.dotGeneral dot_S16384x2816_S2816x1024_S16384x1024_1_0_0_1_n_n none x w (ix2 q k) : EReal)
      = Mix.prod (fun k => x (ix2 q k)) (fun a b => w (ix2 a b)) k := by
  unfold Mix.prod
  pointwise

theorem side_row (a b : FVec Ideal S16384x512 .f32) (k : Fin 1024) :
    (concatenate S16384x1024 1 [⟨S16384x512, a⟩, ⟨S16384x512, b⟩] concatenates_S16384x512_S16384x512_S16384x1024_d1 (ix2 q k) : EReal)
      = if h : k.val < 512 then a (ix2 q ⟨k.val, h⟩) else b (ix2 q ⟨k.val - 512, by omega⟩) := by
  pointwise

end rows

section terms

variable (V0 : Valuation τ sig (Elt Ideal))

abbrev a0 : FVec Ideal S16384x1024 .f32 := V0 (Proc.devRef .tc main_arg0)
abbrev a1 : FVec Ideal S16384x512 .bf16 := V0 (Proc.devRef .tc main_arg1)
abbrev a2 : FVec Ideal S16384x512 .bf16 := V0 (Proc.devRef .tc main_arg2)
abbrev a3 : FVec Ideal S16384x3072 .bf16 := V0 (Proc.devRef .tc main_arg3)
abbrev a4 : FVec Ideal S512 .f32 := V0 (Proc.devRef .tc main_arg4)
abbrev a5 : FVec Ideal S4x128 .f32 := V0 (Proc.devRef .tc main_arg5)
abbrev a6 : FVec Ideal S1024x1024 .f32 := V0 (Proc.devRef .tc main_arg6)
abbrev a7 : FVec Ideal S1024 .f32 := V0 (Proc.devRef .tc main_arg7)
abbrev a8 : FVec Ideal S1024 .f32 := V0 (Proc.devRef .tc main_arg8)
abbrev a9 : FVec Ideal S1024x2816 .f32 := V0 (Proc.devRef .tc main_arg9)
abbrev a10 : FVec Ideal S1024x2816 .f32 := V0 (Proc.devRef .tc main_arg10)
abbrev a11 : FVec Ideal S2816x1024 .f32 := V0 (Proc.devRef .tc main_arg11)
abbrev a12 : FVec Ideal S1024 .f32 := V0 (Proc.devRef .tc main_arg12)

/-- The gate's columns of the projection, -/
def rgr : FVec Ideal S16384x512 .f32 := extf .f32 (extractStridedSlice S16384x512 ![0, 2560] (a3 V0) slices_S16384x3072_S16384x512_0_2560) bitsLt_bf16_f32
/-- the linear attention's heads, normed and gated, -/
def rheads : FVec Ideal S16384x512 .f32 :=
  mulf (shapeCast S16384x512 (rnormHeads (shapeCast S16384x4x128 (extf .f32 (a2 V0) bitsLt_bf16_f32) shapeCasts_S16384x512_S16384x4x128) (a5 V0)) shapeCasts_S16384x4x128_S16384x512)
    (rgate512 (rgr V0))
/-- and all the heads. -/
def rmixed : FVec Ideal S16384x1024 .f32 :=
  concatenate S16384x1024 1 [⟨S16384x512, rnorm512 (extf .f32 (a1 V0) bitsLt_bf16_f32) (a4 V0)⟩, ⟨S16384x512, rheads V0⟩]
    concatenates_S16384x512_S16384x512_S16384x1024_d1
/-- The residual stream, -/
def rstream : FVec Ideal S16384x1024 .f32 :=
  addf (a0 V0) (rnorm1024 (Host.dotGeneral dot_S16384x1024_S1024x1024_S16384x1024_1_0_0_1_n_n none (rmixed V0) (a6 V0)) (a7 V0))
/-- the hidden columns, -/
def rhid : FVec Ideal S16384x2816 .f32 :=
  mulf (rgate2816 (Host.dotGeneral dot_S16384x1024_S1024x2816_S16384x2816_1_0_0_1_n_n none (rnorm1024 (rstream V0) (a8 V0)) (a9 V0)))
    (Host.dotGeneral dot_S16384x1024_S1024x2816_S16384x2816_1_0_0_1_n_n none (rnorm1024 (rstream V0) (a8 V0)) (a10 V0))
/-- and the result. -/
def rresult : FVec Ideal S16384x1024 .f32 :=
  addf (rstream V0) (mulf (broadcastInDim S16384x1024 ![] bcast_S_S16384x1024 (constant S_ .f32 0x3F000000#32))
    (rnorm1024 (Host.dotGeneral dot_S16384x2816_S2816x1024_S16384x1024_1_0_0_1_n_n none (rhid V0) (a11 V0)) (a12 V0)))

variable (q : Fin 16384)

theorem rheads_row (k : Fin 512) : (rheads V0 (ix2 q k) : EReal)
    = Mix.head (fun k => a2 V0 (ix2 q k)) (fun k => a3 V0 (ix2 q ⟨2560 + k.val, by omega⟩))
        (fun k => a5 V0 (ix2 ⟨k.val / 128, by omega⟩ ⟨k.val % 128, by omega⟩)) ⟨k.val / 128, by omega⟩ ⟨k.val % 128, by omega⟩ := by
  unfold rheads
  rw [mulf_apply, Ideal.mulf_def, flat_row, rgate512_row, rnormHeads_row]
  unfold Mix.head
  congr 1
  · congr 1
    · funext d
      rw [heads_row]
      rfl
    · funext d
      congr 2
      · apply Fin.ext
        show k.val / 128 = (128 * (k.val / 128) + d.val) / 128
        omega
      · apply Fin.ext
        show d.val = (128 * (k.val / 128) + d.val) % 128
        omega
  · congr 1
    have : k = Mix.col ⟨k.val / 128, by omega⟩ ⟨k.val % 128, by omega⟩ := Fin.ext (by show k.val = 128 * (k.val / 128) + k.val % 128; omega)
    rw [← this]
    unfold rgr
    pointwise

theorem rmixed_row (k : Fin 1024) : (rmixed V0 (ix2 q k) : EReal)
    = Mix.mixed (fun k => a1 V0 (ix2 q k)) (fun k => a2 V0 (ix2 q k)) (fun k => a3 V0 (ix2 q ⟨2560 + k.val, by omega⟩)) (fun k => a4 V0 (ix1 k))
        (fun k => a5 V0 (ix2 ⟨k.val / 128, by omega⟩ ⟨k.val % 128, by omega⟩)) k := by
  unfold rmixed Mix.mixed
  rw [side_row]
  split
  · rw [rnorm512_row]
    rfl
  · rw [rheads_row]

theorem rstream_row (k : Fin 1024) : (rstream V0 (ix2 q k) : EReal)
    = Mix.stream (fun k => a0 V0 (ix2 q k)) (fun k => rmixed V0 (ix2 q k)) (fun a b => a6 V0 (ix2 a b)) (fun k => a7 V0 (ix1 k)) k := by
  unfold rstream Mix.stream
  rw [addf_apply, Ideal.addf_def, rnorm1024_row, funext fun c => mixProd_row q _ _ c]

theorem rhid_row (k : Fin 2816) : (rhid V0 (ix2 q k) : EReal)
    = Mix.hid (Mix.rms Mix.c1024 (fun k => rstream V0 (ix2 q k)) (fun k => a8 V0 (ix1 k))) (fun a b => a9 V0 (ix2 a b)) (fun a b => a10 V0 (ix2 a b)) k := by
  unfold rhid Mix.hid
  rw [mulf_apply, Ideal.mulf_def, rgate2816_row, upProd_row, upProd_row, funext fun c => rnorm1024_row q (rstream V0) (a8 V0) c]

theorem rresult_row (k : Fin 1024) : (rresult V0 (ix2 q k) : EReal)
    = Mix.result (a0 V0) (a1 V0) (a2 V0) (a3 V0) (a4 V0) (a5 V0) (a6 V0) (a7 V0) (a8 V0) (a9 V0) (a10 V0) (a11 V0) (a12 V0) q k := by
  unfold Mix.result Mix.row
  rw [← funext fun k => rmixed_row V0 q k, ← funext fun k => rstream_row V0 q k]
  rw [← funext fun k => rhid_row V0 q k]
  unfold rresult Mix.finish
  rw [addf_apply, Ideal.addf_def, mulf_apply, Ideal.mulf_def, rnorm1024_row, funext fun c => downProd_row q _ _ c]
  rfl

/-- The generated run's result is this one. -/
theorem result_eq : (addf (res_main_v49 V0) (mulf (broadcastInDim S16384x1024 ![] bcast_S_S16384x1024 (constant S_ .f32 0x3F000000#32)) (mulf (mulf (res_main_v67 V0) (broadcastInDim S16384x1024 ![0, 1] bcast_S16384x1_S16384x1024_0_1 (Host.rsqrt (addf (Host.divf (broadcastInDim S16384x1 ![0] bcast_S16384_S16384x1_0 (Host.reduceAdd (mulf (res_main_v67 V0) (res_main_v67 V0)) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (a12 V0))))) : FVec Ideal S16384x1024 .f32)
    = rresult V0 := by
  have e49 : res_main_v49 V0 = rstream V0 := rfl
  have e62 : res_main_v62 V0 = rnorm1024 (rstream V0) (a8 V0) := by unfold res_main_v62; rw [e49]; rfl
  have e67 : res_main_v67 V0 = Host.dotGeneral dot_S16384x2816_S2816x1024_S16384x1024_1_0_0_1_n_n none (rhid V0) (a11 V0) := by
    unfold res_main_v67 res_main_v63; rw [e62]; rfl
  rw [e49, e67]
  rfl

end terms

end Cert.Reference2Ideal.Value

end
-- ==== Proof.ProjSplit.lean ====
module

public import proofs.«01_k».proof.Proof.Gen.Kernel3Ideal.Skeleton
public import proofs.«01_k».proof.Proof.Gen.Kernel3Ideal.Launch

@[expose] public section

/-! The body of the feed-forward and projection call as two programs in a row: filling the bfloat16
weights (the first grid point only), and the point's own work. -/

set_option synthInstance.maxSize 4096

noncomputable section

namespace Cert.Kernel3Ideal.Gen

open Idealize.ShloMosaic Idealize.SL.Sem

variable {F : FTy → Type} [FloatOps F]

/-- The first point's work: the copies of the weights' pieces, three at a time, each cast into its
place. -/
noncomputable def fillProg (i : grid0.Coords) (arg1 : Memref sig .tc .vmem S512x1024 .f32) (harg1 : arg1.IsWhole) (arg2 : Memref sig .tc .vmem S1x1024 .f32) (harg2 : arg2.IsWhole) (arg3 : Memref sig .tc .hbm S1024x2816 .f32) (harg3 : arg3.IsWhole) (arg4 : Memref sig .tc .hbm S1024x2816 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .hbm S3088x1024 .f32) (harg8 : arg8.IsWhole) (arg9 : Memref sig .tc .vmem S128x256 .bf16) (harg9 : arg9.IsWhole) (arg10 : Memref sig .tc .vmem S1x256 .f32) (harg10 : arg10.IsWhole) (arg11 : Memref sig .tc .vmem S32x1024 .f32) (harg11 : arg11.IsWhole) (arg12 : Memref sig .tc .vmem S32x2816 .f32) (harg12 : arg12.IsWhole) (arg13 : Memref sig .tc .vmem S32x2816 .f32) (harg13 : arg13.IsWhole) (arg14 : Memref sig .tc .vmem S176x1024 .f32) (harg14 : arg14.IsWhole) (arg15 : Memref sig .tc .vmem S512x1024 .f32) (harg15 : arg15.IsWhole) (arg16 : Memref sig .tc .vmem S512x3072 .bf16) (harg16 : arg16.IsWhole) (arg17 : Memref sig .tc .vmem S2x1x512 .f32) (harg17 : arg17.IsWhole) (arg18 : Memref sig .tc .vmem S512x256 .f32) (harg18 : arg18.IsWhole) (arg19 : Memref sig .tc .vmem S32x1024 .bf16) (harg19 : arg19.IsWhole) (arg20 : Memref sig .tc .vmem S32x2816 .bf16) (harg20 : arg20.IsWhole) (arg21 : Memref sig .tc .vmem S32x2816 .bf16) (harg21 : arg21.IsWhole) (arg22 : Memref sig .tc .vmem S176x1024 .bf16) (harg22 : arg22.IsWhole) (arg23 : Memref sig .tc .vmem S512x2816 .bf16) (harg23 : arg23.IsWhole) (arg24 : Memref sig .tc .vmem S1024x2816 .bf16) (harg24 : arg24.IsWhole) (arg25 : Memref sig .tc .vmem S1024x2816 .bf16) (harg25 : arg25.IsWhole) (arg26 : Memref sig .tc .vmem S2816x1024 .bf16) (harg26 : arg26.IsWhole) (arg27 : Memref sig .tc .vmem S1024x2560 .bf16) (harg27 : arg27.IsWhole) (arg28 : Memref sig .tc .vmem S1024x512 .bf16) (harg28 : arg28.IsWhole) (arg29 : Memref sig .tc .vmem S128x1024 .bf16) (harg29 : arg29.IsWhole) (arg30 : Memref sig .tc .vmem S3x256x2816 .f32) (harg30 : arg30.IsWhole) (arg31 : DmaSems sig S3) :
    Prog (TpuEff nD τ sig (Elt F) Λ₀ .tc) PUnit := do
  k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31
  k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31
  k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31
  let v667 : FVec F S128x1024 .bf16 ← k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31
  k0_part5 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 v667
  k0_part6 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31
  let v749 : FVec F S256x1024 .bf16 ← k0_part7 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31
  k0_part8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 v749
  k0_part9 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31
  let v830 : FVec F S256x2816 .bf16 ← k0_part10 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31
  k0_part11 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 v830
  k0_part12 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31
  let v911 : FVec F S256x1024 .f32 ← k0_part13 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31
  k0_part14 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 v911
  k0_part15 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31
  k0_part16 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31
  k0_part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31
  k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31
  k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31
  let v1076 : DmaSems sig S1 := arg31.slice (Rect.unit (s := S3) ![1] S1.size inb_S3_S1_1)
  let v1077 : DmaSems sig S_ := v1076.squeeze S_ squeezes_S1_S_
  let v1078 : Memref sig .tc .vmem S1x256x1024 .f32 := arg30.slice (Rect.unit (s := S3x256x2816) ![1, 0, 0] S1x256x1024.size inb_S3x256x2816_S1x256x1024_1_0_0) (fun _ => rfl)
  let v1079 : Memref sig .tc .vmem S256x1024 .f32 := v1078.squeeze S256x1024 squeezes_S1x256x1024_S256x1024
  let v1080 : Memref sig .tc .hbm S256x1024 .f32 := arg5.slice (Rect.unit (s := S2816x1024) ![2560, 0] S256x1024.size inb_S2816x1024_S256x1024_2560_0) (fun _ => rfl)
  Prog.lift (.waitDma2 v1077.sem v1080 v1079 (View.wordExact_bits rfl) ((View.wordExact_bits rfl).reshape _ _))
  let v1081 : Vec F S1x256x1024 .f32 ← Prog.lift (.load arg30 (Rect.unit (s := S3x256x2816) ![1, 0, 0] S1x256x1024.size inb_S3x256x2816_S1x256x1024_1_0_0).toLoadRect (View.loadsAt_vmem h_S1x256x1024))
  let v1084 : Vec F S256x1024 .bf16 ← Prog.lift (.load arg26 (Rect.unit (s := S2816x1024) ![2560, 0] S256x1024.size inb_S2816x1024_S256x1024_2560_0).toLoadRect (View.loadsAt_vmem h_S256x1024))
  Prog.lift (.store arg26 (Rect.unit (s := S2816x1024) ![2560, 0] S256x1024.size inb_S2816x1024_S256x1024_2560_0) (k0_pay41 v1081) Finset.univ (View.stores_vmem h_S256x1024 (harg26.storeExact_slice rfl _ packedbf16_S2816x1024_S256x1024_2560_0) (fun _ => rfl)) (.inl rfl))
  pure ⟨⟩

/-- Every point's work: two groups of 256 rows. -/
noncomputable def workProg (i : grid0.Coords) (arg1 : Memref sig .tc .vmem S512x1024 .f32) (harg1 : arg1.IsWhole) (arg2 : Memref sig .tc .vmem S1x1024 .f32) (harg2 : arg2.IsWhole) (arg3 : Memref sig .tc .hbm S1024x2816 .f32) (harg3 : arg3.IsWhole) (arg4 : Memref sig .tc .hbm S1024x2816 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .hbm S3088x1024 .f32) (harg8 : arg8.IsWhole) (arg9 : Memref sig .tc .vmem S128x256 .bf16) (harg9 : arg9.IsWhole) (arg10 : Memref sig .tc .vmem S1x256 .f32) (harg10 : arg10.IsWhole) (arg11 : Memref sig .tc .vmem S32x1024 .f32) (harg11 : arg11.IsWhole) (arg12 : Memref sig .tc .vmem S32x2816 .f32) (harg12 : arg12.IsWhole) (arg13 : Memref sig .tc .vmem S32x2816 .f32) (harg13 : arg13.IsWhole) (arg14 : Memref sig .tc .vmem S176x1024 .f32) (harg14 : arg14.IsWhole) (arg15 : Memref sig .tc .vmem S512x1024 .f32) (harg15 : arg15.IsWhole) (arg16 : Memref sig .tc .vmem S512x3072 .bf16) (harg16 : arg16.IsWhole) (arg17 : Memref sig .tc .vmem S2x1x512 .f32) (harg17 : arg17.IsWhole) (arg18 : Memref sig .tc .vmem S512x256 .f32) (harg18 : arg18.IsWhole) (arg19 : Memref sig .tc .vmem S32x1024 .bf16) (harg19 : arg19.IsWhole) (arg20 : Memref sig .tc .vmem S32x2816 .bf16) (harg20 : arg20.IsWhole) (arg21 : Memref sig .tc .vmem S32x2816 .bf16) (harg21 : arg21.IsWhole) (arg22 : Memref sig .tc .vmem S176x1024 .bf16) (harg22 : arg22.IsWhole) (arg23 : Memref sig .tc .vmem S512x2816 .bf16) (harg23 : arg23.IsWhole) (arg24 : Memref sig .tc .vmem S1024x2816 .bf16) (harg24 : arg24.IsWhole) (arg25 : Memref sig .tc .vmem S1024x2816 .bf16) (harg25 : arg25.IsWhole) (arg26 : Memref sig .tc .vmem S2816x1024 .bf16) (harg26 : arg26.IsWhole) (arg27 : Memref sig .tc .vmem S1024x2560 .bf16) (harg27 : arg27.IsWhole) (arg28 : Memref sig .tc .vmem S1024x512 .bf16) (harg28 : arg28.IsWhole) (arg29 : Memref sig .tc .vmem S128x1024 .bf16) (harg29 : arg29.IsWhole) (arg30 : Memref sig .tc .vmem S3x256x2816 .f32) (harg30 : arg30.IsWhole) (arg31 : DmaSems sig S3) :
    Prog (TpuEff nD τ sig (Elt F) Λ₀ .tc) PUnit := do
  let v3 : Vec F S256x1024 .f32 ← Prog.lift (.load arg1 (Rect.unit (s := S512x1024) ![0, 0] S256x1024.size inb_S512x1024_S256x1024_0_0).toLoadRect (View.loadsAt_vmem h_S256x1024))
  let v4 : Vec F S1x1024 .f32 ← Prog.lift (.load arg2 (Rect.unit (s := S1x1024) ![0, 0] S1x1024.size inb_S1x1024_S1x1024_0_0).toLoadRect (View.loadsAt_vmem h_S1x1024))
  let v19 : Vec F S1024x256 .bf16 ← Prog.lift (.load arg24 (Rect.unit (s := S1024x2816) ![0, 0] S1024x256.size inb_S1024x2816_S1024x256_0_0).toLoadRect (View.loadsAt_vmem h_S1024x256))
  let v21 : Vec F S1024x256 .bf16 ← Prog.lift (.load arg25 (Rect.unit (s := S1024x2816) ![0, 0] S1024x256.size inb_S1024x2816_S1024x256_0_0).toLoadRect (View.loadsAt_vmem h_S1024x256))
  let v31 : Vec F S256x256 .bf16 ← Prog.lift (.load arg23 (Rect.unit (s := S512x2816) ![0, 0] S256x256.size inb_S512x2816_S256x256_0_0).toLoadRect (View.loadsAt_vmem h_S256x256))
  Prog.lift (.store arg23 (Rect.unit (s := S512x2816) ![0, 0] S256x256.size inb_S512x2816_S256x256_0_0) (k0_pay43 v3 v4 v19 v21) Finset.univ (View.stores_vmem h_S256x256 (harg23.storeExact_slice rfl _ packedbf16_S512x2816_S256x256_0_0) (fun _ => rfl)) (.inl rfl))
  let v34 : Vec F S1024x256 .bf16 ← Prog.lift (.load arg24 (Rect.unit (s := S1024x2816) ![0, 256] S1024x256.size inb_S1024x2816_S1024x256_0_256).toLoadRect (View.loadsAt_vmem h_S1024x256))
  have cst_17 : FVec F S256x256 .f32 := constant S256x256 .f32 0x00000000#32
  let ⟨v65, v67, v68⟩ : Σ' (v65 : FVec F S256x256 .f32) (v67 : FVec F S256x256 .f32), FVec F S256x256 .f32 ← k0_part21 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 (k0_pay42 v3 v4) v34 cst_17
  let ⟨v94, v106, v107⟩ : Σ' (v94 : FVec F S256x1024 .bf16) (v106 : FVec F S256x256 .bf16), Vec F S256x256 .bf16 ← k0_part22 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 (k0_pay42 v3 v4) v65 v67 v68
  let v141 : FVec F S256x256 .f32 ← k0_part23 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 (k0_pay42 v3 v4) v94 v106 v107
  let ⟨v171, v173, v175⟩ : Σ' (v171 : FVec F S256x256 .f32) (v173 : FVec F S256x256 .f32), FVec F S256x256 .f32 ← k0_part24 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 (k0_pay42 v3 v4) v94 v141
  let v211 : FVec F S256x256 .bf16 ← k0_part25 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 (k0_pay42 v3 v4) v94 v171 v173 v175
  let v245 : Vec F S1024x256 .bf16 ← k0_part26 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 (k0_pay42 v3 v4) v94 v211
  let ⟨v276, v278, cst_169⟩ : Σ' (v276 : FVec F S256x256 .f32) (v278 : FVec F S256x256 .f32), F .f32 ← k0_part27 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 (k0_pay42 v3 v4) v94 v245
  let ⟨v307, v309, v311, cst_194⟩ : Σ' (v307 : FVec F S256x1024 .f32) (v309 : FVec F S256x256 .f32) (v311 : FVec F S256x256 .f32), F .f32 ← k0_part28 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 v94 v276 v278 cst_169
  let ⟨v340, v343, v351⟩ : Σ' (v340 : FVec F S256x1024 .f32) (v343 : FVec F S1x1024 .f32), FVec F S256x1 .f32 ← k0_part29 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 v307 v309 v311 cst_194
  let ⟨v356, v379, v381, v384, v385⟩ : Σ' (v356 : FVec F S256x1024 .bf16) (v379 : FVec F S256x256 .f32) (v381 : FVec F S256x256 .f32) (v384 : FVec F S256x256 .f32), FVec F S256x256 .f32 ← k0_part30 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 v94 v340 v343 v351
  k0_part31 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 v94 v356 v379 v381 v384 v385
  let ⟨v447, v449⟩ : Σ' (v447 : FVec F S256x1024 .f32), Vec F S1x1024 .f32 ← k0_part32 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 v356
  let ⟨v463, v479⟩ : Σ' (v463 : FVec F S256x1024 .bf16), FVec F S256x512 .f32 ← k0_part33 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 v356 v447 v449
  let v514 : FVec F S256x512 .bf16 ← k0_part34 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 v356 v463 v479
  let ⟨v539, v545⟩ : Σ' (v539 : FVec F S256x256 .f32), FVec F S256x256 .f32 ← k0_part35 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 v463 v514
  let v550 : Vec F S256x256 .f32 ← Prog.lift (.load arg18 (Rect.unit (s := S512x256) ![256, 0] S256x256.size inb_S512x256_S256x256_256_0).toLoadRect (View.loadsAt_vmem h_S256x256))
  Prog.lift (.store arg18 (Rect.unit (s := S512x256) ![256, 0] S256x256.size inb_S512x256_S256x256_256_0) (k0_pay1 v539 v545) Finset.univ (View.stores_vmem_bits_univ h_S256x256 rfl) (.inl rfl))
  let v551 : Vec F S32x1024 .f32 ← Prog.lift (.load arg11 (Rect.unit (s := S32x1024) ![0, 0] S32x1024.size inb_S32x1024_S32x1024_0_0).toLoadRect (View.loadsAt_vmem h_S32x1024))
  let v553 : Vec F S32x1024 .bf16 ← Prog.lift (.load arg19 (Rect.unit (s := S32x1024) ![0, 0] S32x1024.size inb_S32x1024_S32x1024_0_0).toLoadRect (View.loadsAt_vmem h_S32x1024))
  Prog.lift (.store arg19 (Rect.unit (s := S32x1024) ![0, 0] S32x1024.size inb_S32x1024_S32x1024_0_0) (k0_pay2 v551) Finset.univ (View.stores_vmem h_S32x1024 (harg19.storeExact_slice rfl _ packedbf16_S32x1024_S32x1024_0_0) (fun _ => rfl)) (.inl rfl))
  let v554 : Vec F S32x2816 .f32 ← Prog.lift (.load arg12 (Rect.unit (s := S32x2816) ![0, 0] S32x2816.size inb_S32x2816_S32x2816_0_0).toLoadRect (View.loadsAt_vmem h_S32x2816))
  let v556 : Vec F S32x2816 .bf16 ← Prog.lift (.load arg20 (Rect.unit (s := S32x2816) ![0, 0] S32x2816.size inb_S32x2816_S32x2816_0_0).toLoadRect (View.loadsAt_vmem h_S32x2816))
  Prog.lift (.store arg20 (Rect.unit (s := S32x2816) ![0, 0] S32x2816.size inb_S32x2816_S32x2816_0_0) (k0_pay3 v554) Finset.univ (View.stores_vmem h_S32x2816 (harg20.storeExact_slice rfl _ packedbf16_S32x2816_S32x2816_0_0) (fun _ => rfl)) (.inl rfl))
  let v557 : Vec F S32x2816 .f32 ← Prog.lift (.load arg13 (Rect.unit (s := S32x2816) ![0, 0] S32x2816.size inb_S32x2816_S32x2816_0_0).toLoadRect (View.loadsAt_vmem h_S32x2816))
  let v559 : Vec F S32x2816 .bf16 ← Prog.lift (.load arg21 (Rect.unit (s := S32x2816) ![0, 0] S32x2816.size inb_S32x2816_S32x2816_0_0).toLoadRect (View.loadsAt_vmem h_S32x2816))
  Prog.lift (.store arg21 (Rect.unit (s := S32x2816) ![0, 0] S32x2816.size inb_S32x2816_S32x2816_0_0) (k0_pay4 v557) Finset.univ (View.stores_vmem h_S32x2816 (harg21.storeExact_slice rfl _ packedbf16_S32x2816_S32x2816_0_0) (fun _ => rfl)) (.inl rfl))
  let v560 : Vec F S176x1024 .f32 ← Prog.lift (.load arg14 (Rect.unit (s := S176x1024) ![0, 0] S176x1024.size inb_S176x1024_S176x1024_0_0).toLoadRect (View.loadsAt_vmem h_S176x1024))
  let v562 : Vec F S176x1024 .bf16 ← Prog.lift (.load arg22 (Rect.unit (s := S176x1024) ![0, 0] S176x1024.size inb_S176x1024_S176x1024_0_0).toLoadRect (View.loadsAt_vmem h_S176x1024))
  Prog.lift (.store arg22 (Rect.unit (s := S176x1024) ![0, 0] S176x1024.size inb_S176x1024_S176x1024_0_0) (k0_pay5 v560) Finset.univ (View.stores_vmem h_S176x1024 (harg22.storeExact_slice rfl _ packedbf16_S176x1024_S176x1024_0_0) (fun _ => rfl)) (.inl rfl))
  pure ⟨⟩

set_option maxRecDepth 65536 in
set_option maxHeartbeats 4000000 in
/-- At the first point the body is the filling and then the work. -/
theorem body_fill (i : grid0.Coords) (arg1 : Memref sig .tc .vmem S512x1024 .f32) (harg1 : arg1.IsWhole) (arg2 : Memref sig .tc .vmem S1x1024 .f32) (harg2 : arg2.IsWhole) (arg3 : Memref sig .tc .hbm S1024x2816 .f32) (harg3 : arg3.IsWhole) (arg4 : Memref sig .tc .hbm S1024x2816 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .hbm S3088x1024 .f32) (harg8 : arg8.IsWhole) (arg9 : Memref sig .tc .vmem S128x256 .bf16) (harg9 : arg9.IsWhole) (arg10 : Memref sig .tc .vmem S1x256 .f32) (harg10 : arg10.IsWhole) (arg11 : Memref sig .tc .vmem S32x1024 .f32) (harg11 : arg11.IsWhole) (arg12 : Memref sig .tc .vmem S32x2816 .f32) (harg12 : arg12.IsWhole) (arg13 : Memref sig .tc .vmem S32x2816 .f32) (harg13 : arg13.IsWhole) (arg14 : Memref sig .tc .vmem S176x1024 .f32) (harg14 : arg14.IsWhole) (arg15 : Memref sig .tc .vmem S512x1024 .f32) (harg15 : arg15.IsWhole) (arg16 : Memref sig .tc .vmem S512x3072 .bf16) (harg16 : arg16.IsWhole) (arg17 : Memref sig .tc .vmem S2x1x512 .f32) (harg17 : arg17.IsWhole) (arg18 : Memref sig .tc .vmem S512x256 .f32) (harg18 : arg18.IsWhole) (arg19 : Memref sig .tc .vmem S32x1024 .bf16) (harg19 : arg19.IsWhole) (arg20 : Memref sig .tc .vmem S32x2816 .bf16) (harg20 : arg20.IsWhole) (arg21 : Memref sig .tc .vmem S32x2816 .bf16) (harg21 : arg21.IsWhole) (arg22 : Memref sig .tc .vmem S176x1024 .bf16) (harg22 : arg22.IsWhole) (arg23 : Memref sig .tc .vmem S512x2816 .bf16) (harg23 : arg23.IsWhole) (arg24 : Memref sig .tc .vmem S1024x2816 .bf16) (harg24 : arg24.IsWhole) (arg25 : Memref sig .tc .vmem S1024x2816 .bf16) (harg25 : arg25.IsWhole) (arg26 : Memref sig .tc .vmem S2816x1024 .bf16) (harg26 : arg26.IsWhole) (arg27 : Memref sig .tc .vmem S1024x2560 .bf16) (harg27 : arg27.IsWhole) (arg28 : Memref sig .tc .vmem S1024x512 .bf16) (harg28 : arg28.IsWhole) (arg29 : Memref sig .tc .vmem S128x1024 .bf16) (harg29 : arg29.IsWhole) (arg30 : Memref sig .tc .vmem S3x256x2816 .f32) (harg30 : arg30.IsWhole) (arg31 : DmaSems sig S3)
    (h : (Scalar.cmpi .ne (Scalar.extui (Scalar.cmpi .eq (BitVec.ofNat 32 (i 0).val) 0#32)) 0#32) = 1#1) :
    cc0_ffn_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 = fillProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 >>= fun _ => workProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 := by
  rw [cc0_ffn_proj_eq_skeleton]
  unfold cc0_ffn_proj_skel fillProg workProg
  rw [k0_part20_eq_skeleton]
  unfold k0_part20_skel
  simp only [dif_pos h, Prog.bind_assoc]
  rfl

set_option maxRecDepth 65536 in
set_option maxHeartbeats 4000000 in
/-- At a later point the body is the work alone. -/
theorem body_work (i : grid0.Coords) (arg1 : Memref sig .tc .vmem S512x1024 .f32) (harg1 : arg1.IsWhole) (arg2 : Memref sig .tc .vmem S1x1024 .f32) (harg2 : arg2.IsWhole) (arg3 : Memref sig .tc .hbm S1024x2816 .f32) (harg3 : arg3.IsWhole) (arg4 : Memref sig .tc .hbm S1024x2816 .f32) (harg4 : arg4.IsWhole) (arg5 : Memref sig .tc .hbm S2816x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .hbm S3088x1024 .f32) (harg8 : arg8.IsWhole) (arg9 : Memref sig .tc .vmem S128x256 .bf16) (harg9 : arg9.IsWhole) (arg10 : Memref sig .tc .vmem S1x256 .f32) (harg10 : arg10.IsWhole) (arg11 : Memref sig .tc .vmem S32x1024 .f32) (harg11 : arg11.IsWhole) (arg12 : Memref sig .tc .vmem S32x2816 .f32) (harg12 : arg12.IsWhole) (arg13 : Memref sig .tc .vmem S32x2816 .f32) (harg13 : arg13.IsWhole) (arg14 : Memref sig .tc .vmem S176x1024 .f32) (harg14 : arg14.IsWhole) (arg15 : Memref sig .tc .vmem S512x1024 .f32) (harg15 : arg15.IsWhole) (arg16 : Memref sig .tc .vmem S512x3072 .bf16) (harg16 : arg16.IsWhole) (arg17 : Memref sig .tc .vmem S2x1x512 .f32) (harg17 : arg17.IsWhole) (arg18 : Memref sig .tc .vmem S512x256 .f32) (harg18 : arg18.IsWhole) (arg19 : Memref sig .tc .vmem S32x1024 .bf16) (harg19 : arg19.IsWhole) (arg20 : Memref sig .tc .vmem S32x2816 .bf16) (harg20 : arg20.IsWhole) (arg21 : Memref sig .tc .vmem S32x2816 .bf16) (harg21 : arg21.IsWhole) (arg22 : Memref sig .tc .vmem S176x1024 .bf16) (harg22 : arg22.IsWhole) (arg23 : Memref sig .tc .vmem S512x2816 .bf16) (harg23 : arg23.IsWhole) (arg24 : Memref sig .tc .vmem S1024x2816 .bf16) (harg24 : arg24.IsWhole) (arg25 : Memref sig .tc .vmem S1024x2816 .bf16) (harg25 : arg25.IsWhole) (arg26 : Memref sig .tc .vmem S2816x1024 .bf16) (harg26 : arg26.IsWhole) (arg27 : Memref sig .tc .vmem S1024x2560 .bf16) (harg27 : arg27.IsWhole) (arg28 : Memref sig .tc .vmem S1024x512 .bf16) (harg28 : arg28.IsWhole) (arg29 : Memref sig .tc .vmem S128x1024 .bf16) (harg29 : arg29.IsWhole) (arg30 : Memref sig .tc .vmem S3x256x2816 .f32) (harg30 : arg30.IsWhole) (arg31 : DmaSems sig S3)
    (h : ¬ (Scalar.cmpi .ne (Scalar.extui (Scalar.cmpi .eq (BitVec.ofNat 32 (i 0).val) 0#32)) 0#32) = 1#1) :
    cc0_ffn_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 = workProg i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 := by
  rw [cc0_ffn_proj_eq_skeleton]
  unfold cc0_ffn_proj_skel workProg
  rw [k0_part20_eq_skeleton]
  unfold k0_part20_skel
  simp only [dif_neg h, Prog.bind_assoc]
  rfl

end Cert.Kernel3Ideal.Gen

end
-- ==== Proof.ProjSetup.lean ====
module

public import proofs.«01_k».proof.Proof.ProjSplit
public import proofs.«01_k».proof.Proof.Gen.Kernel3Ideal.Frame
public import proofs.«01_k».proof.Proof.Gen.Kernel3Ideal.Points
public import Idealize.ShloMosaic.Lib.Exec

@[expose] public section

/-! What the feed-forward and projection call keeps between its grid points: its own buffers, its
own semaphores and the weights it copies. -/

set_option maxRecDepth 65536

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main up to the region -/

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 1 % 32 := Pipeline.Grid.coords_val t 0 (by decide) rfl
    simp only [cond0_0, e0]
    word_cmp
   : ∀ t : Fin grid0.N, cond0_0 (grid0.coords t) ↔ t.val % 32 = 0)

/-! ## The kernel body on any staging memrefs: a subtype the run finds -/

/-- One staging buffer of output window 10, through which its contents are stated (`View.read_writes_of_cover`: the
    choice does not matter). -/
abbrev VO0_10 : View sig .tc .vmem S512x1024 .f32 := (Memref.whole cc0_stg10_0 : Memref sig .tc .vmem S512x1024 .f32).view
/-- One staging buffer of output window 11, through which its contents are stated (`View.read_writes_of_cover`: the
    choice does not matter). -/
abbrev VO0_11 : View sig .tc .vmem S512x3072 .bf16 := (Memref.whole cc0_stg11_0 : Memref sig .tc .vmem S512x3072 .bf16).view
/-- One staging buffer of output window 12, through which its contents are stated (`View.read_writes_of_cover`: the
    choice does not matter). -/
abbrev VO0_12 : View sig .tc .vmem S2x1x512 .f32 := (Memref.whole cc0_stg12_0 : Memref sig .tc .vmem S2x1x512 .f32).view
/-- One staging buffer of output window 13, through which its contents are stated (`View.read_writes_of_cover`: the
    choice does not matter). -/
abbrev VO0_13 : View sig .tc .vmem S512x256 .f32 := (Memref.whole cc0_stg13_0 : Memref sig .tc .vmem S512x256 .f32).view
/-- One staging buffer of output window 14, through which its contents are stated (`View.read_writes_of_cover`: the
    choice does not matter). -/
abbrev VO0_14 : View sig .tc .vmem S32x1024 .bf16 := (Memref.whole cc0_stg14_0 : Memref sig .tc .vmem S32x1024 .bf16).view
/-- One staging buffer of output window 15, through which its contents are stated (`View.read_writes_of_cover`: the
    choice does not matter). -/
abbrev VO0_15 : View sig .tc .vmem S32x2816 .bf16 := (Memref.whole cc0_stg15_0 : Memref sig .tc .vmem S32x2816 .bf16).view
/-- One staging buffer of output window 16, through which its contents are stated (`View.read_writes_of_cover`: the
    choice does not matter). -/
abbrev VO0_16 : View sig .tc .vmem S32x2816 .bf16 := (Memref.whole cc0_stg16_0 : Memref sig .tc .vmem S32x2816 .bf16).view
/-- One staging buffer of output window 17, through which its contents are stated (`View.read_writes_of_cover`: the
    choice does not matter). -/
abbrev VO0_17 : View sig .tc .vmem S176x1024 .bf16 := (Memref.whole cc0_stg17_0 : Memref sig .tc .vmem S176x1024 .bf16).view
/-- Each window's current staging memref at point `t`, spelled as the pipeline passes it (`bodyAt0`), and its wholeness. -/
abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S32x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x2816 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x2816 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S176x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x3072 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x1x512 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S32x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S32x2816 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S32x2816 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S176x1024 .bf16 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S512x2816 .bf16 := Memref.whole cc0_scratch0
abbrev scM0_1 : Memref sig .tc .vmem S1024x2816 .bf16 := Memref.whole cc0_scratch1
abbrev scM0_2 : Memref sig .tc .vmem S1024x2816 .bf16 := Memref.whole cc0_scratch2
abbrev scM0_3 : Memref sig .tc .vmem S2816x1024 .bf16 := Memref.whole cc0_scratch3
abbrev scM0_4 : Memref sig .tc .vmem S1024x2560 .bf16 := Memref.whole cc0_scratch4
abbrev scM0_5 : Memref sig .tc .vmem S1024x512 .bf16 := Memref.whole cc0_scratch5
abbrev scM0_6 : Memref sig .tc .vmem S128x1024 .bf16 := Memref.whole cc0_scratch6
abbrev scM0_7 : Memref sig .tc .vmem S3x256x2816 .f32 := Memref.whole cc0_scratch7
/-- The scratch `arg24` the kernel carries between points, as a view: what it holds is stated through it. -/
abbrev VS0_1 : View sig .tc .vmem S1024x2816 .bf16 := scM0_1.view
/-- The scratch `arg25` the kernel carries between points, as a view: what it holds is stated through it. -/
abbrev VS0_2 : View sig .tc .vmem S1024x2816 .bf16 := scM0_2.view
/-- The scratch `arg26` the kernel carries between points, as a view: what it holds is stated through it. -/
abbrev VS0_3 : View sig .tc .vmem S2816x1024 .bf16 := scM0_3.view
/-- The scratch `arg27` the kernel carries between points, as a view: what it holds is stated through it. -/
abbrev VS0_4 : View sig .tc .vmem S1024x2560 .bf16 := scM0_4.view
/-- The scratch `arg28` the kernel carries between points, as a view: what it holds is stated through it. -/
abbrev VS0_5 : View sig .tc .vmem S1024x512 .bf16 := scM0_5.view
/-- The scratch `arg29` the kernel carries between points, as a view: what it holds is stated through it. -/
abbrev VS0_6 : View sig .tc .vmem S128x1024 .bf16 := scM0_6.view
/-- The operands left in HBM that the body copies into scratch itself, whole. -/
abbrev hbM0_0 : Memref sig .tc .hbm S1024x2816 .f32 := Memref.whole main_arg2
abbrev hbM0_1 : Memref sig .tc .hbm S1024x2816 .f32 := Memref.whole main_arg3
abbrev hbM0_2 : Memref sig .tc .hbm S2816x1024 .f32 := Memref.whole main_arg4
abbrev hbM0_3 : Memref sig .tc .hbm S3088x1024 .f32 := Memref.whole main_v5
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- A copied array held to read, under the share of one semaphore's copies: two copies may read
overlapping parts of it at once. -/
abbrev hbTok (c : Dev nD) {sp : Space} {S : Shape} {e : EltTy} (M : Memref sig .tc sp S e) (j : ℕ) (f : HbBuf0 (F := F) c M) : sProp 𝕄 :=
  M.view.loc (c : Thread nD τ) ↦{Transfers.shareTokN fullShare j} f

/-- The body's own DMA semaphores, cell by cell (their numbers in the pool): the kernel's own semaphores for the launch
    (`Pipeline.OwnSemFacts`: none is a window's). -/
abbrev osem0 : Fin 3 → SemLoc sig := fun j => (![SemLoc.dma 31, SemLoc.dma 32, SemLoc.dma 33] : Fin 3 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 31) 0 ∗ semVal ((c : Thread nD τ), SemLoc.dma 32) 0 ∗ semVal ((c : Thread nD τ), SemLoc.dma 33) 0) := by
  rw [Pipeline.ownSems0_eq_of_list c osem0 [0, 1, 2] (by decide) (by decide)]; rfl
/-- The HBM operands the body moves, as references: unscoped, no window's array (`Pipeline.restRefs`). -/
def H0 : Finset (Ref sig .tc) := {main_arg2, main_arg3, main_arg4, main_v5}
theorem H0_sub : H0 ⊆ Pipeline.restRefs sig spec0 := by decide
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg2) ∗ hbPt0 c hbM0_1 (V m c main_arg3) ∗ hbPt0 c hbM0_2 (V m c main_arg4) ∗ hbPt0 c hbM0_3 (V m c main_v5)) := by
  rw [BI.bigSep_eq_bigSepL_of_eq [main_arg2, main_arg3, main_arg4, main_v5] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 31) 0 ∗ semVal ((c : Thread nD τ), SemLoc.dma 32) 0 ∗ semVal ((c : Thread nD τ), SemLoc.dma 33) 0) ∗ iprop(hbPt0 c hbM0_0 (V m c main_arg2) ∗ hbPt0 c hbM0_1 (V m c main_arg3) ∗ hbPt0 c hbM0_2 (V m c main_arg4) ∗ hbPt0 c hbM0_3 (V m c main_v5))) := by
  rw [Pipeline.ΦD_eq, scopedRest0_eq, ownSems00_eq, hbmPts0_eq]; simp only [scM0_0, scM0_1, scM0_2, scM0_3, scM0_4, scM0_5, scM0_6, scM0_7, owns_whole]; try rfl

end Cert.Kernel3Ideal.Gen

end
-- ==== Proof.ProjFill.lean ====
module

public import proofs.«01_k».proof.Proof.ProjSetup

@[expose] public section

/-! The run of the filling of the weights, on any buffers. -/

set_option maxRecDepth 65536

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 30000000 in
set_option sl_exec.dmaWindow true in
set_option sl_exec.dmaWindowSet true in
set_option sl_exec.squeezeSlice true in
/-- The filling of the weights, run: what each of the six buffers is written with, and that the
copied arrays and the semaphores are as before. -/
noncomputable def fillRun (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S1x1024 .f32) (harg6 : arg6.IsWhole) (arg7 : Memref sig .tc .vmem S1x1024 .f32) (harg7 : arg7.IsWhole) (arg9 : Memref sig .tc .vmem S128x256 .bf16) (harg9 : arg9.IsWhole) (arg10 : Memref sig .tc .vmem S1x256 .f32) (harg10 : arg10.IsWhole) (arg11 : Memref sig .tc .vmem S32x1024 .f32) (harg11 : arg11.IsWhole) (arg12 : Memref sig .tc .vmem S32x2816 .f32) (harg12 : arg12.IsWhole) (arg13 : Memref sig .tc .vmem S32x2816 .f32) (harg13 : arg13.IsWhole) (arg14 : Memref sig .tc .vmem S176x1024 .f32) (harg14 : arg14.IsWhole) (arg15 : Memref sig .tc .vmem S512x1024 .f32) (harg15 : arg15.IsWhole) (arg16 : Memref sig .tc .vmem S512x3072 .bf16) (harg16 : arg16.IsWhole) (arg17 : Memref sig .tc .vmem S2x1x512 .f32) (harg17 : arg17.IsWhole) (arg18 : Memref sig .tc .vmem S512x256 .f32) (harg18 : arg18.IsWhole) (arg19 : Memref sig .tc .vmem S32x1024 .bf16) (harg19 : arg19.IsWhole) (arg20 : Memref sig .tc .vmem S32x2816 .bf16) (harg20 : arg20.IsWhole) (arg21 : Memref sig .tc .vmem S32x2816 .bf16) (harg21 : arg21.IsWhole) (arg22 : Memref sig .tc .vmem S176x1024 .bf16) (harg22 : arg22.IsWhole) (arg23 : Memref sig .tc .vmem S512x2816 .bf16) (harg23 : arg23.IsWhole) (arg24 : Memref sig .tc .vmem S1024x2816 .bf16) (harg24 : arg24.IsWhole) (arg25 : Memref sig .tc .vmem S1024x2816 .bf16) (harg25 : arg25.IsWhole) (arg26 : Memref sig .tc .vmem S2816x1024 .bf16) (harg26 : arg26.IsWhole) (arg27 : Memref sig .tc .vmem S1024x2560 .bf16) (harg27 : arg27.IsWhole) (arg28 : Memref sig .tc .vmem S1024x512 .bf16) (harg28 : arg28.IsWhole) (arg29 : Memref sig .tc .vmem S128x1024 .bf16) (harg29 : arg29.IsWhole) (arg30 : Memref sig .tc .vmem S3x256x2816 .f32) (harg30 : arg30.IsWhole)
    (fh0 : HbBuf0 (F := F) c hbM0_0) (fh1 : HbBuf0 (F := F) c hbM0_1) (fh2 : HbBuf0 (F := F) c hbM0_2) (fh3 : HbBuf0 (F := F) c hbM0_3)
    (u0 u1 u2 : Buf (Elt F) (arg30.view.loc (c : Thread nD τ))) :
    Σ' (LS1 : List (View.Piece (Elt F) S1024x2816 .bf16)), Σ' (LS2 : List (View.Piece (Elt F) S1024x2816 .bf16)), Σ' (LS3 : List (View.Piece (Elt F) S2816x1024 .bf16)), Σ' (LS4 : List (View.Piece (Elt F) S1024x2560 .bf16)), Σ' (LS5 : List (View.Piece (Elt F) S1024x512 .bf16)), Σ' (LS6 : List (View.Piece (Elt F) S128x1024 .bf16)),
      PLift (∀ (W : Waits sig Unit) (K : PUnit → sProp 𝕄),
        iprop((∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (arg30.view.loc (c : Thread nD τ) ↦[arg30.view.setOn (Rect.unit (s := S3x256x2816) ![0, 0, 0] S1x256x2816.size inb_S3x256x2816_S1x256x2816_0_0_0).set]{fullShare} u0) ∗ (arg30.view.loc (c : Thread nD τ) ↦[arg30.view.setOn (Rect.unit (s := S3x256x2816) ![1, 0, 0] S1x256x2816.size inb_S3x256x2816_S1x256x2816_1_0_0).set]{fullShare} u1) ∗ (arg30.view.loc (c : Thread nD τ) ↦[arg30.view.setOn (Rect.unit (s := S3x256x2816) ![2, 0, 0] S1x256x2816.size inb_S3x256x2816_S1x256x2816_2_0_0).set]{fullShare} u2) ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ hbPt0 c hbM0_1 fh1 ∗ hbPt0 c hbM0_2 fh2 ∗ hbTok c hbM0_3 31 fh3 ∗ hbTok c hbM0_3 32 fh3 ∗ hbTok c hbM0_3 33 fh3 ∗ owes (c : Thread nD τ) 0 W
            ∗ (iprop((∃ f, arg24.view.loc (c : Thread nD τ) ↦[arg24.view.set]{fullShare} arg24.view.writes (Elt F) f LS1) ∗ (∃ f, arg25.view.loc (c : Thread nD τ) ↦[arg25.view.set]{fullShare} arg25.view.writes (Elt F) f LS2) ∗ (∃ f, arg26.view.loc (c : Thread nD τ) ↦[arg26.view.set]{fullShare} arg26.view.writes (Elt F) f LS3) ∗ (∃ f, arg27.view.loc (c : Thread nD τ) ↦[arg27.view.set]{fullShare} arg27.view.writes (Elt F) f LS4) ∗ (∃ f, arg28.view.loc (c : Thread nD τ) ↦[arg28.view.set]{fullShare} arg28.view.writes (Elt F) f LS5) ∗ (∃ f, arg29.view.loc (c : Thread nD τ) ↦[arg29.view.set]{fullShare} arg29.view.writes (Elt F) f LS6) ∗ (∃ f, arg30.view.loc (c : Thread nD τ) ↦[arg30.view.setOn (Rect.unit (s := S3x256x2816) ![0, 0, 0] S1x256x2816.size inb_S3x256x2816_S1x256x2816_0_0_0).set]{fullShare} f) ∗ (∃ f, arg30.view.loc (c : Thread nD τ) ↦[arg30.view.setOn (Rect.unit (s := S3x256x2816) ![1, 0, 0] S1x256x2816.size inb_S3x256x2816_S1x256x2816_1_0_0).set]{fullShare} f) ∗ (∃ f, arg30.view.loc (c : Thread nD τ) ↦[arg30.view.setOn (Rect.unit (s := S3x256x2816) ![2, 0, 0] S1x256x2816.size inb_S3x256x2816_S1x256x2816_2_0_0).set]{fullShare} f) ∗ semVal ((c : Thread nD τ), SemLoc.dma 31) 0 ∗ semVal ((c : Thread nD τ), SemLoc.dma 32) 0 ∗ semVal ((c : Thread nD τ), SemLoc.dma 33) 0 ∗ hbPt0 c hbM0_0 fh0 ∗ hbPt0 c hbM0_1 fh1 ∗ hbPt0 c hbM0_2 fh2 ∗ hbTok c hbM0_3 31 fh3 ∗ hbTok c hbM0_3 32 fh3 ∗ hbTok c hbM0_3 33 fh3 ∗ (∃ W', owes (c : Thread nD τ) 0 W')) -∗ K ⟨⟩))
          ⊢ wp frame (wpE (defs₀ (F := F)) Variants.none c none) Set.univ (fillProg (F := F) i arg1 harg1 arg2 harg2 (Memref.whole main_arg2) (Memref.isWhole_whole _) (Memref.whole main_arg3) (Memref.isWhole_whole _) (Memref.whole main_arg4) (Memref.isWhole_whole _) arg6 harg6 arg7 harg7 (Memref.whole main_v5) (Memref.isWhole_whole _) arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 cc0_scratch8) K) := by
  refine ⟨?_, ?_, ?_, ?_, ?_, ?_, ⟨fun W K => ?run⟩⟩
  case run =>
    unfold fillProg
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, HT0, HT1, HT2, Hq0, Hq1, Hq2, Hh0, Hh1, Hh2, Hh31, Hh32, Hh33, HW, Hk⟩
    sl_exec
    sl_step
    iapply Hk
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HT0]; · iexists _; iexact HT0
    isplitl [HT1]; · iexists _; iexact HT1
    isplitl [HT2]; · iexists _; iexact HT2
    isplitl [Hq0]; · iexact Hq0
    isplitl [Hq1]; · iexact Hq1
    isplitl [Hq2]; · iexact Hq2
    isplitl [Hh0]; · iexact Hh0
    isplitl [Hh1]; · iexact Hh1
    isplitl [Hh2]; · iexact Hh2
    isplitl [Hh31]; · iexact Hh31
    isplitl [Hh32]; · iexact Hh32
    isplitl [Hh33]; · iexact Hh33
    iexists _; iexact HW

end Cert.Kernel3Ideal.Gen

end
-- ==== Proof.ProjWeights.lean ====
module

public import proofs.«01_k».proof.Proof.ProjFill
public import Idealize.ShloMosaic.Lib.Pipeline.Value
public import Idealize.ShloMosaic.Lib.Pointwise

@[expose] public section

/-! The six bfloat16 weights the first point leaves: the rounding of the arrays they are copied from. -/

set_option maxRecDepth 65536

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The gate weights, rounded. -/
def wGate (g : S1024x2816.Idx → F .f32) : Vec F S1024x2816 .bf16 := fun y => FloatOps.truncf .bf16 bitsLt_bf16_f32 (g y)
/-- The down weights, rounded. -/
def wDown (g : S2816x1024.Idx → F .f32) : Vec F S2816x1024 .bf16 := fun y => FloatOps.truncf .bf16 bitsLt_bf16_f32 (g y)
/-- Where column `y 1` of the weights is found in the transposed array. -/
def turned (y : S1024x2560.Idx) : S3088x1024.Idx :=
  ix2 (⟨(y 1).val, lt_of_lt_of_le (y 1).isLt (by decide)⟩ : Fin 3088) (⟨(y 0).val, (y 0).isLt⟩ : Fin 1024)
/-- The same from row 2576 on. -/
def turnedLast (y : S1024x512.Idx) : S3088x1024.Idx :=
  ix2 (⟨2576 + (y 1).val, lt_of_lt_of_le (Nat.add_lt_add_left (y 1).isLt 2576) (by decide)⟩ : Fin 3088) (⟨(y 0).val, (y 0).isLt⟩ : Fin 1024)
/-- The projection's columns up to the keys of the gated linear attention, rounded. -/
def wMain (g : S3088x1024.Idx → F .f32) : Vec F S1024x2560 .bf16 := fun y => FloatOps.truncf .bf16 bitsLt_bf16_f32 (g (turned y))
/-- The projection's columns of the output gate, rounded. -/
def wLast (g : S3088x1024.Idx → F .f32) : Vec F S1024x512 .bf16 := fun y => FloatOps.truncf .bf16 bitsLt_bf16_f32 (g (turnedLast y))
/-- The row of the transposed projection 2560 rows on. -/
def lower (y : S128x1024.Idx) : S3088x1024.Idx :=
  ix2 (⟨2560 + (y 0).val, lt_of_lt_of_le (Nat.add_lt_add_left (y 0).isLt 2560) (by decide)⟩ : Fin 3088) (⟨(y 1).val, (y 1).isLt⟩ : Fin 1024)
/-- The low-rank gate's rows and those after, rounded. -/
def wLow (g : S3088x1024.Idx → F .f32) : Vec F S128x1024 .bf16 := fun y => FloatOps.truncf .bf16 bitsLt_bf16_f32 (g (lower y))

/-- What a copy put into a slot of the stage, loaded from that slot, is the copied block. -/
theorem staged (M : Memref sig .tc .vmem S3x256x2816 .f32) (R : Rect S3x256x2816) (h : ∀ a, R.stride a = 1) (S : Shape)
    (hs : R.shape.Squeezes S) (hc : R.shape.ShapeCasts S) (g : M.view.ty.Contents (Elt F)) (p : S.Idx → F .f32) :
    shapeCast S (View.readAt (Elt F) M.view R.toLoadRect (View.write (Elt F) ((M.slice R h).squeeze S hs).view g p Finset.univ)) hc = p :=
  View.read_write_univ (v := ((M.slice R h).squeeze S hs).view) g p

/-- The same, rounded. -/
theorem staged_cast (M : Memref sig .tc .vmem S3x256x2816 .f32) (R : Rect S3x256x2816) (h : ∀ a, R.stride a = 1) (S : Shape)
    (hs : R.shape.Squeezes S) (hc : R.shape.ShapeCasts S) (h2 : S.ShapeCasts S) (g : M.view.ty.Contents (Elt F)) (p : S.Idx → F .f32) (x : S.Idx) :
    shapeCast S (truncf .bf16 (shapeCast S (View.readAt (Elt F) M.view R.toLoadRect (View.write (Elt F) ((M.slice R h).squeeze S hs).view g p Finset.univ)) hc : FVec F S .f32) bitsLt_bf16_f32) h2 x
      = FloatOps.truncf .bf16 bitsLt_bf16_f32 (p x) := by
  rw [staged M R h S hs hc g p, shapeCast_self]; rfl

/-- The same, turned and rounded. -/
theorem staged_turn (M : Memref sig .tc .vmem S3x256x2816 .f32) (R : Rect S3x256x2816) (h : ∀ a, R.stride a = 1)
    (hs : R.shape.Squeezes S256x1024) (hc : R.shape.ShapeCasts S256x1024) (g : M.view.ty.Contents (Elt F)) (p : S256x1024.Idx → F .f32) (x : S1024x256.Idx) :
    shapeCast S1024x256 (truncf .bf16 (transpose S1024x256 [1, 0] (shapeCast S256x1024 (View.readAt (Elt F) M.view R.toLoadRect (View.write (Elt F) ((M.slice R h).squeeze S256x1024 hs).view g p Finset.univ)) hc : FVec F S256x1024 .f32) transposes_S256x1024_p1_0_S1024x256) bitsLt_bf16_f32) shapeCasts_S1024x256_S1024x256 x
      = FloatOps.truncf .bf16 bitsLt_bf16_f32 (p (transposes_S256x1024_p1_0_S1024x256.src x)) := by
  rw [staged M R h S256x1024 hs hc g p, shapeCast_self]; rfl

variable (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S1x1024 .f32) (harg6 : arg6.IsWhole) (arg7 : Memref sig .tc .vmem S1x1024 .f32) (harg7 : arg7.IsWhole) (arg9 : Memref sig .tc .vmem S128x256 .bf16) (harg9 : arg9.IsWhole) (arg10 : Memref sig .tc .vmem S1x256 .f32) (harg10 : arg10.IsWhole) (arg11 : Memref sig .tc .vmem S32x1024 .f32) (harg11 : arg11.IsWhole) (arg12 : Memref sig .tc .vmem S32x2816 .f32) (harg12 : arg12.IsWhole) (arg13 : Memref sig .tc .vmem S32x2816 .f32) (harg13 : arg13.IsWhole) (arg14 : Memref sig .tc .vmem S176x1024 .f32) (harg14 : arg14.IsWhole) (arg15 : Memref sig .tc .vmem S512x1024 .f32) (harg15 : arg15.IsWhole) (arg16 : Memref sig .tc .vmem S512x3072 .bf16) (harg16 : arg16.IsWhole) (arg17 : Memref sig .tc .vmem S2x1x512 .f32) (harg17 : arg17.IsWhole) (arg18 : Memref sig .tc .vmem S512x256 .f32) (harg18 : arg18.IsWhole) (arg19 : Memref sig .tc .vmem S32x1024 .bf16) (harg19 : arg19.IsWhole) (arg20 : Memref sig .tc .vmem S32x2816 .bf16) (harg20 : arg20.IsWhole) (arg21 : Memref sig .tc .vmem S32x2816 .bf16) (harg21 : arg21.IsWhole) (arg22 : Memref sig .tc .vmem S176x1024 .bf16) (harg22 : arg22.IsWhole) (arg23 : Memref sig .tc .vmem S512x2816 .bf16) (harg23 : arg23.IsWhole) (arg24 : Memref sig .tc .vmem S1024x2816 .bf16) (harg24 : arg24.IsWhole) (arg25 : Memref sig .tc .vmem S1024x2816 .bf16) (harg25 : arg25.IsWhole) (arg26 : Memref sig .tc .vmem S2816x1024 .bf16) (harg26 : arg26.IsWhole) (arg27 : Memref sig .tc .vmem S1024x2560 .bf16) (harg27 : arg27.IsWhole) (arg28 : Memref sig .tc .vmem S1024x512 .bf16) (harg28 : arg28.IsWhole) (arg29 : Memref sig .tc .vmem S128x1024 .bf16) (harg29 : arg29.IsWhole) (arg30 : Memref sig .tc .vmem S3x256x2816 .f32) (harg30 : arg30.IsWhole)
    (fh0 : HbBuf0 (F := F) c hbM0_0) (fh1 : HbBuf0 (F := F) c hbM0_1) (fh2 : HbBuf0 (F := F) c hbM0_2) (fh3 : HbBuf0 (F := F) c hbM0_3)
    (u0 u1 u2 : Buf (Elt F) (arg30.view.loc (c : Thread nD τ)))

theorem fillPieces1 : (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).1 = ([⟨Rect.unit ![768, 0] S256x2816.size inb_S1024x2816_S256x2816_768_0, k0_pay24 (fillRun.sl.r_2 c arg30 fh0 fh3 u0)⟩, ⟨Rect.unit ![512, 0] S256x2816.size inb_S1024x2816_S256x2816_512_0, k0_pay19 (fillRun.sl.v763 c arg30 fh0 fh1 fh3 u2)⟩, ⟨Rect.unit ![256, 0] S256x2816.size inb_S1024x2816_S256x2816_256_0, k0_pay13 (fillRun.sl.v681 c arg30 fh0 fh3 u0)⟩, ⟨Rect.unit ![0, 0] S256x2816.size inb_S1024x2816_S256x2816_0_0, k0_pay6 (fillRun.sl.v583 c arg30 fh0 u0)⟩] : List (View.Piece (Elt F) S1024x2816 .bf16)) := by
  sl_kernel_rfl

theorem fillAgree1 : ∀ p ∈ (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).1, ∀ x : p.1.shape.Idx, p.2 x = wGate fh0 (p.1.emb x) := by
  rw [fillPieces1]
  simp only [List.forall_mem_cons, List.not_mem_nil, false_imp_iff, implies_true, and_true]
  refine ⟨?_, ?_, ?_, ?_⟩ <;> exact fun x => (staged_cast _ _ _ _ _ _ _ _ _ x).trans rfl

theorem fillCover1 (y : S1024x2816.Idx) : ∃ p ∈ (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).1, y ∈ p.1.set :=
  View.cover_of_tiledL (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).1 ![256, 2816] (by sl_kernel_rfl) y

theorem fillRead1 (f : Buf (Elt F) (arg24.view.loc (c : Thread nD τ))) :
    arg24.view.read (Elt F) (arg24.view.writes (Elt F) f (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).1) = wGate fh0 :=
  (View.read_writes_eq_canon arg24.view f (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).1 (fillCover1 c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2)).trans
    (funext fun y => View.canon_apply_of_pieces (wGate fh0) (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).1 (fillAgree1 c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2) y (fillCover1 c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2 y))

theorem fillPieces2 : (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.1 = ([⟨Rect.unit ![768, 0] S256x2816.size inb_S1024x2816_S256x2816_768_0, k0_pay26 (fillRun.sl.v861 c arg30 fh0 fh1 fh2 fh3 u2)⟩, ⟨Rect.unit ![512, 0] S256x2816.size inb_S1024x2816_S256x2816_512_0, k0_pay21 (fillRun.sl.v796 c arg30 fh1 fh2 fh3 u1)⟩, ⟨Rect.unit ![256, 0] S256x2816.size inb_S1024x2816_S256x2816_256_0, k0_pay15 (fillRun.sl.v714 c arg30 fh1 fh3 u2)⟩, ⟨Rect.unit ![0, 0] S256x2816.size inb_S1024x2816_S256x2816_0_0, k0_pay8 (fillRun.sl.v616 c arg30 fh1 u2)⟩] : List (View.Piece (Elt F) S1024x2816 .bf16)) := by
  sl_kernel_rfl

theorem fillAgree2 : ∀ p ∈ (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.1, ∀ x : p.1.shape.Idx, p.2 x = wGate fh1 (p.1.emb x) := by
  rw [fillPieces2]
  simp only [List.forall_mem_cons, List.not_mem_nil, false_imp_iff, implies_true, and_true]
  refine ⟨?_, ?_, ?_, ?_⟩ <;> exact fun x => (staged_cast _ _ _ _ _ _ _ _ _ x).trans rfl

theorem fillCover2 (y : S1024x2816.Idx) : ∃ p ∈ (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.1, y ∈ p.1.set :=
  View.cover_of_tiledL (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.1 ![256, 2816] (by sl_kernel_rfl) y

theorem fillRead2 (f : Buf (Elt F) (arg25.view.loc (c : Thread nD τ))) :
    arg25.view.read (Elt F) (arg25.view.writes (Elt F) f (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.1) = wGate fh1 :=
  (View.read_writes_eq_canon arg25.view f (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.1 (fillCover2 c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2)).trans
    (funext fun y => View.canon_apply_of_pieces (wGate fh1) (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.1 (fillAgree2 c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2) y (fillCover2 c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2 y))

theorem fillPieces3 : (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.1 = ([⟨Rect.unit ![2560, 0] ![256, 1024] inb_S2816x1024_S256x1024_2560_0, k0_pay41 (fillRun.sl.v1081 c arg30 fh1 fh2 fh3 u1)⟩, ⟨Rect.unit ![2304, 0] S256x1024.size inb_S2816x1024_S256x1024_2304_0, k0_pay40 (fillRun.sl.v1070 c arg30 fh0 fh2 fh3 u0)⟩, ⟨Rect.unit ![2048, 0] S256x1024.size inb_S2816x1024_S256x1024_2048_0, k0_pay38 (fillRun.sl.v1042 c arg30 fh1 fh2 fh3 u1)⟩, ⟨Rect.unit ![1792, 0] S256x1024.size inb_S2816x1024_S256x1024_1792_0, k0_pay36 (fillRun.sl.v1009 c arg30 fh0 fh1 fh2 fh3 u2)⟩, ⟨Rect.unit ![1536, 0] S256x1024.size inb_S2816x1024_S256x1024_1536_0, k0_pay34 (fillRun.sl.v976 c arg30 fh0 fh2 fh3 u0)⟩, ⟨Rect.unit ![1280, 0] S256x1024.size inb_S2816x1024_S256x1024_1280_0, k0_pay32 (fillRun.sl.v943 c arg30 fh1 fh2 fh3 u1)⟩, ⟨Rect.unit ![1024, 0] S256x1024.size inb_S2816x1024_S256x1024_1024_0, k0_pay30 (fillRun.sl.r_3 c arg30 fh0 fh1 fh2 fh3 u2)⟩, ⟨Rect.unit ![768, 0] S256x1024.size inb_S2816x1024_S256x1024_768_0, k0_pay27 (fillRun.sl.v877 c arg30 fh0 fh2 fh3 u0)⟩, ⟨Rect.unit ![512, 0] S256x1024.size inb_S2816x1024_S256x1024_512_0, k0_pay22 (fillRun.sl.v812 c arg30 fh0 fh1 fh2 fh3 u2)⟩, ⟨Rect.unit ![256, 0] S256x1024.size inb_S2816x1024_S256x1024_256_0, k0_pay18 (fillRun.sl.r_1 c arg30 fh2 fh3 u1)⟩, ⟨Rect.unit ![0, 0] S256x1024.size inb_S2816x1024_S256x1024_0_0, k0_pay10 (fillRun.sl.v649 c arg30 fh2 fh3 u1)⟩] : List (View.Piece (Elt F) S2816x1024 .bf16)) := by
  sl_kernel_rfl

theorem fillAgree3 : ∀ p ∈ (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.1, ∀ x : p.1.shape.Idx, p.2 x = wDown fh2 (p.1.emb x) := by
  rw [fillPieces3]
  simp only [List.forall_mem_cons, List.not_mem_nil, false_imp_iff, implies_true, and_true]
  refine ⟨?_, ?_, ?_, ?_, ?_, ?_, ?_, ?_, ?_, ?_, ?_⟩ <;> exact fun x => (staged_cast _ _ _ _ _ _ _ _ _ x).trans rfl

theorem fillCover3 (y : S2816x1024.Idx) : ∃ p ∈ (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.1, y ∈ p.1.set :=
  View.cover_of_tiledL (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.1 ![256, 1024] (by sl_kernel_rfl) y

theorem fillRead3 (f : Buf (Elt F) (arg26.view.loc (c : Thread nD τ))) :
    arg26.view.read (Elt F) (arg26.view.writes (Elt F) f (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.1) = wDown fh2 :=
  (View.read_writes_eq_canon arg26.view f (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.1 (fillCover3 c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2)).trans
    (funext fun y => View.canon_apply_of_pieces (wDown fh2) (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.1 (fillAgree3 c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2) y (fillCover3 c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2 y))

theorem fillPieces4 : (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.1 = ([⟨Rect.unit ![0, 2304] S1024x256.size inb_S1024x2560_S1024x256_0_2304, k0_pay39 (fillRun.sl.v1058 c arg30 fh0 fh1 fh2 fh3 u2)⟩, ⟨Rect.unit ![0, 2048] S1024x256.size inb_S1024x2560_S1024x256_0_2048, k0_pay37 (fillRun.sl.v1025 c arg30 fh0 fh2 fh3 u0)⟩, ⟨Rect.unit ![0, 1792] S1024x256.size inb_S1024x2560_S1024x256_0_1792, k0_pay35 (fillRun.sl.v992 c arg30 fh1 fh2 fh3 u1)⟩, ⟨Rect.unit ![0, 1536] S1024x256.size inb_S1024x2560_S1024x256_0_1536, k0_pay33 (fillRun.sl.v959 c arg30 fh0 fh1 fh2 fh3 u2)⟩, ⟨Rect.unit ![0, 1280] S1024x256.size inb_S1024x2560_S1024x256_0_1280, k0_pay31 (fillRun.sl.v926 c arg30 fh0 fh2 fh3 u0)⟩, ⟨Rect.unit ![0, 1024] S1024x256.size inb_S1024x2560_S1024x256_0_1024, k0_pay28 (fillRun.sl.v893 c arg30 fh1 fh2 fh3 u1)⟩, ⟨Rect.unit ![0, 768] S1024x256.size inb_S1024x2560_S1024x256_0_768, k0_pay25 (fillRun.sl.v844 c arg30 fh1 fh2 fh3 u1)⟩, ⟨Rect.unit ![0, 512] S1024x256.size inb_S1024x2560_S1024x256_0_512, k0_pay20 (fillRun.sl.v779 c arg30 fh0 fh3 u0)⟩, ⟨Rect.unit ![0, 256] S1024x256.size inb_S1024x2560_S1024x256_0_256, k0_pay14 (fillRun.sl.v697 c arg30 fh2 fh3 u1)⟩, ⟨Rect.unit ![0, 0] S1024x256.size inb_S1024x2560_S1024x256_0_0, k0_pay7 (fillRun.sl.v599 c arg30 fh3 u1)⟩] : List (View.Piece (Elt F) S1024x2560 .bf16)) := by
  sl_kernel_rfl

theorem fillAgree4 : ∀ p ∈ (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.1, ∀ x : p.1.shape.Idx, p.2 x = wMain fh3 (p.1.emb x) := by
  rw [fillPieces4]
  simp only [List.forall_mem_cons, List.not_mem_nil, false_imp_iff, implies_true, and_true]
  refine ⟨?_, ?_, ?_, ?_, ?_, ?_, ?_, ?_, ?_, ?_⟩ <;> exact fun x => (staged_turn _ _ _ _ _ _ _ x).trans (congrArg (fun z => FloatOps.truncf (F := F) .bf16 bitsLt_bf16_f32 (fh3 z)) (by funext a; fin_cases a <;> exact Fin.ext (by first | rfl | exact Nat.add_assoc 2576 256 (1 * (x 1).val) | exact Nat.add_assoc 2576 0 (1 * (x 1).val) | exact Nat.add_assoc 2560 0 (1 * (x 0).val))))

theorem fillCover4 (y : S1024x2560.Idx) : ∃ p ∈ (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.1, y ∈ p.1.set :=
  View.cover_of_tiledL (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.1 ![1024, 256] (by sl_kernel_rfl) y

theorem fillRead4 (f : Buf (Elt F) (arg27.view.loc (c : Thread nD τ))) :
    arg27.view.read (Elt F) (arg27.view.writes (Elt F) f (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.1) = wMain fh3 :=
  (View.read_writes_eq_canon arg27.view f (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.1 (fillCover4 c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2)).trans
    (funext fun y => View.canon_apply_of_pieces (wMain fh3) (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.1 (fillAgree4 c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2) y (fillCover4 c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2 y))

theorem fillPieces5 : (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.2.1 = ([⟨Rect.unit ![0, 256] S1024x256.size inb_S1024x512_S1024x256_0_256, k0_pay16 (fillRun.sl.v730 c arg30 fh0 fh3 u0)⟩, ⟨Rect.unit ![0, 0] S1024x256.size inb_S1024x512_S1024x256_0_0, k0_pay9 (fillRun.sl.v632 c arg30 fh0 fh3 u0)⟩] : List (View.Piece (Elt F) S1024x512 .bf16)) := by
  sl_kernel_rfl

theorem fillAgree5 : ∀ p ∈ (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.2.1, ∀ x : p.1.shape.Idx, p.2 x = wLast fh3 (p.1.emb x) := by
  rw [fillPieces5]
  simp only [List.forall_mem_cons, List.not_mem_nil, false_imp_iff, implies_true, and_true]
  refine ⟨?_, ?_⟩ <;> exact fun x => (staged_turn _ _ _ _ _ _ _ x).trans (congrArg (fun z => FloatOps.truncf (F := F) .bf16 bitsLt_bf16_f32 (fh3 z)) (by funext a; fin_cases a <;> exact Fin.ext (by first | rfl | exact Nat.add_assoc 2576 256 (1 * (x 1).val) | exact Nat.add_assoc 2576 0 (1 * (x 1).val) | exact Nat.add_assoc 2560 0 (1 * (x 0).val))))

theorem fillCover5 (y : S1024x512.Idx) : ∃ p ∈ (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.2.1, y ∈ p.1.set :=
  View.cover_of_tiledL (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.2.1 ![1024, 256] (by sl_kernel_rfl) y

theorem fillRead5 (f : Buf (Elt F) (arg28.view.loc (c : Thread nD τ))) :
    arg28.view.read (Elt F) (arg28.view.writes (Elt F) f (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.2.1) = wLast fh3 :=
  (View.read_writes_eq_canon arg28.view f (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.2.1 (fillCover5 c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2)).trans
    (funext fun y => View.canon_apply_of_pieces (wLast fh3) (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.2.1 (fillAgree5 c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2) y (fillCover5 c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2 y))

theorem fillPieces6 : (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.2.2.1 = ([⟨Rect.unit ![0, 0] S128x1024.size inb_S128x1024_S128x1024_0_0, k0_pay12 (fillRun.sl.r c arg30 fh1 fh3 u2)⟩] : List (View.Piece (Elt F) S128x1024 .bf16)) := by
  sl_kernel_rfl

theorem fillAgree6 : ∀ p ∈ (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.2.2.1, ∀ x : p.1.shape.Idx, p.2 x = wLow fh3 (p.1.emb x) := by
  rw [fillPieces6]
  simp only [List.forall_mem_cons, List.not_mem_nil, false_imp_iff, implies_true, and_true]
  exact fun x => (staged_cast _ _ _ _ _ _ _ _ _ x).trans (congrArg (fun z => FloatOps.truncf (F := F) .bf16 bitsLt_bf16_f32 (fh3 z)) (by funext a; fin_cases a <;> exact Fin.ext (by first | rfl | exact Nat.add_assoc 2576 256 (1 * (x 1).val) | exact Nat.add_assoc 2576 0 (1 * (x 1).val) | exact Nat.add_assoc 2560 0 (1 * (x 0).val))))

theorem fillCover6 (y : S128x1024.Idx) : ∃ p ∈ (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.2.2.1, y ∈ p.1.set :=
  View.cover_of_tiledL (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.2.2.1 ![128, 1024] (by sl_kernel_rfl) y

theorem fillRead6 (f : Buf (Elt F) (arg29.view.loc (c : Thread nD τ))) :
    arg29.view.read (Elt F) (arg29.view.writes (Elt F) f (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.2.2.1) = wLow fh3 :=
  (View.read_writes_eq_canon arg29.view f (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.2.2.1 (fillCover6 c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2)).trans
    (funext fun y => View.canon_apply_of_pieces (wLow fh3) (fillRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2).2.2.2.2.2.1 (fillAgree6 c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2) y (fillCover6 c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 fh0 fh1 fh2 fh3 u0 u1 u2 y))

end Cert.Kernel3Ideal.Gen

end
-- ==== Proof.ProjHold.lean ====
module

public import proofs.«01_k».proof.Proof.ProjFill
public import proofs.«01_k».proof.Proof.ProjWeights
public import Idealize.ShloMosaic.Lib.Pipeline.Value
public import Idealize.ShloMosaic.Lib.Pointwise

@[expose] public section

/-! The stage's three slots and the projection's read tokens, taken apart and put together; the weights' filling at the first point. -/

set_option maxRecDepth 65536

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem slots_apart (j k : ℕ) (hj : ∀ a, (![j, 0, 0] : Fin 3 → ℕ) a + S1x256x2816.size a ≤ S3x256x2816.size a) (hk : ∀ a, (![k, 0, 0] : Fin 3 → ℕ) a + S1x256x2816.size a ≤ S3x256x2816.size a) (h : j + 1 ≤ k) :
    Disjoint (scM0_7.view.setOn (Rect.unit (s := S3x256x2816) ![j, 0, 0] S1x256x2816.size hj).set) (scM0_7.view.setOn (Rect.unit (s := S3x256x2816) ![k, 0, 0] S1x256x2816.size hk).set) :=
  View.disjoint_setOn _ (Rect.unit_disjoint 0 (Or.inl h))

theorem slots_all : (Finset.univ : Finset S3x256x2816.Idx) = (Rect.unit (s := S3x256x2816) ![0, 0, 0] S1x256x2816.size inb_S3x256x2816_S1x256x2816_0_0_0).set ∪ ((Rect.unit (s := S3x256x2816) ![1, 0, 0] S1x256x2816.size inb_S3x256x2816_S1x256x2816_1_0_0).set ∪ (Rect.unit (s := S3x256x2816) ![2, 0, 0] S1x256x2816.size inb_S3x256x2816_S1x256x2816_2_0_0).set) := by
  refine (Finset.eq_univ_iff_forall.mpr fun x => ?_).symm
  have h0 := (x 0).isLt; have h1 := (x 1).isLt; have h2 := (x 2).isLt
  have e0 : S3x256x2816.size 0 = 3 := rfl
  have e1 : S3x256x2816.size 1 = 256 := rfl
  have e2 : S3x256x2816.size 2 = 2816 := rfl
  have h : (x 0).val = 0 ∨ (x 0).val = 1 ∨ (x 0).val = 2 := by omega
  have key : ∀ j : ℕ, (x 0).val = j → ∀ a : Fin 3, (![j, 0, 0] : Fin 3 → ℕ) a ≤ x a ∧ (x a : ℕ) < (![j, 0, 0] : Fin 3 → ℕ) a + S1x256x2816.size a := by
    intro j hj a
    fin_cases a
    · exact ⟨le_of_eq hj.symm, lt_of_eq_of_lt hj (Nat.lt_succ_self j)⟩
    · exact ⟨Nat.zero_le _, lt_of_lt_of_eq h1 (Nat.zero_add _).symm⟩
    · exact ⟨Nat.zero_le _, lt_of_lt_of_eq h2 (Nat.zero_add _).symm⟩
  rcases h with h | h | h
  · exact Finset.mem_union_left _ (Rect.mem_set_unit.mpr (key 0 h))
  · exact Finset.mem_union_right _ (Finset.mem_union_left _ (Rect.mem_set_unit.mpr (key 1 h)))
  · exact Finset.mem_union_right _ (Finset.mem_union_right _ (Rect.mem_set_unit.mpr (key 2 h)))

theorem slots_cover : scM0_7.view.set = (scM0_7.view.setOn (Rect.unit (s := S3x256x2816) ![0, 0, 0] S1x256x2816.size inb_S3x256x2816_S1x256x2816_0_0_0).set) ∪ ((scM0_7.view.setOn (Rect.unit (s := S3x256x2816) ![1, 0, 0] S1x256x2816.size inb_S3x256x2816_S1x256x2816_1_0_0).set) ∪ (scM0_7.view.setOn (Rect.unit (s := S3x256x2816) ![2, 0, 0] S1x256x2816.size inb_S3x256x2816_S1x256x2816_2_0_0).set)) :=
  (congrArg scM0_7.view.setOn slots_all).trans ((Finset.map_union _ _).trans (congrArg (fun S => (scM0_7.view.setOn (Rect.unit (s := S3x256x2816) ![0, 0, 0] S1x256x2816.size inb_S3x256x2816_S1x256x2816_0_0_0).set) ∪ S) (Finset.map_union _ _)))

theorem slots_apart' : Disjoint (scM0_7.view.setOn (Rect.unit (s := S3x256x2816) ![0, 0, 0] S1x256x2816.size inb_S3x256x2816_S1x256x2816_0_0_0).set) ((scM0_7.view.setOn (Rect.unit (s := S3x256x2816) ![1, 0, 0] S1x256x2816.size inb_S3x256x2816_S1x256x2816_1_0_0).set) ∪ (scM0_7.view.setOn (Rect.unit (s := S3x256x2816) ![2, 0, 0] S1x256x2816.size inb_S3x256x2816_S1x256x2816_2_0_0).set)) :=
  Finset.disjoint_union_right.mpr ⟨slots_apart 0 1 _ _ (by decide), slots_apart 0 2 _ _ (by decide)⟩

/-- The stage as its three slots. -/
theorem stage_split (c : Dev nD) :
    (∃ d, owns (c : Thread nD τ) scM0_7 fullShare d) ⊢ (iprop(∃ u : Buf (Elt F) (scM0_7.view.loc (c : Thread nD τ)), (scM0_7.view.loc (c : Thread nD τ) ↦[scM0_7.view.setOn (Rect.unit (s := S3x256x2816) ![0, 0, 0] S1x256x2816.size inb_S3x256x2816_S1x256x2816_0_0_0).set]{fullShare} u) ∗ (scM0_7.view.loc (c : Thread nD τ) ↦[scM0_7.view.setOn (Rect.unit (s := S3x256x2816) ![1, 0, 0] S1x256x2816.size inb_S3x256x2816_S1x256x2816_1_0_0).set]{fullShare} u) ∗ (scM0_7.view.loc (c : Thread nD τ) ↦[scM0_7.view.setOn (Rect.unit (s := S3x256x2816) ![2, 0, 0] S1x256x2816.size inb_S3x256x2816_S1x256x2816_2_0_0).set]{fullShare} u)) : sProp 𝕄) := by
  unfold owns
  iintro ⟨%d, %u, -, H⟩
  iexists u
  rw [slots_cover]
  iapply (((pointsTo_union slots_apart').1).trans (Laws.sep_mono_right (pointsTo_union (slots_apart 1 2 _ _ (by decide))).1))
  iexact H

/-- The three slots as the stage. -/
theorem stage_join (c : Dev nD) :
    iprop((∃ u, (scM0_7.view.loc (c : Thread nD τ) ↦[scM0_7.view.setOn (Rect.unit (s := S3x256x2816) ![0, 0, 0] S1x256x2816.size inb_S3x256x2816_S1x256x2816_0_0_0).set]{fullShare} u)) ∗ (∃ u, (scM0_7.view.loc (c : Thread nD τ) ↦[scM0_7.view.setOn (Rect.unit (s := S3x256x2816) ![1, 0, 0] S1x256x2816.size inb_S3x256x2816_S1x256x2816_1_0_0).set]{fullShare} u)) ∗ (∃ u, (scM0_7.view.loc (c : Thread nD τ) ↦[scM0_7.view.setOn (Rect.unit (s := S3x256x2816) ![2, 0, 0] S1x256x2816.size inb_S3x256x2816_S1x256x2816_2_0_0).set]{fullShare} u))) ⊢ ((∃ d, owns (c : Thread nD τ) scM0_7 fullShare d) : sProp 𝕄) := by
  iintro ⟨⟨%u0, H0⟩, ⟨%u1, H1⟩, ⟨%u2, H2⟩⟩
  unfold owns
  iexists _; iexists _; isplitr
  swap
  · rw [slots_cover]
    iapply (pointsTo_join slots_apart')
    isplitl [H0]; · iexact H0
    iapply (pointsTo_join (slots_apart 1 2 _ _ (by decide)))
    isplitl [H1]; · iexact H1
    iexact H2
  ipureintro; rfl

/-- What of an array is not lent to the last three of 34 readers. -/
abbrev hbRest (c : Dev nD) {sp : Space} {S : Shape} {e : EltTy} (M : Memref sig .tc sp S e) (f : HbBuf0 (F := F) c M) : sProp 𝕄 :=
  iprop((M.view.loc (c : Thread nD τ) ↦{Transfers.shareDrop fullShare 34} f) ∗ bigSep (Finset.range 31) (fun i => M.view.loc (c : Thread nD τ) ↦{Transfers.shareTokN fullShare i} f))

theorem run_succ (k : ℕ) (A : ℕ → sProp 𝕄) : bigSep (Finset.range (k + 1)) A = iprop(A k ∗ bigSep (Finset.range k) A) := by
  rw [Finset.range_add_one, bigSep_insert Finset.notMem_range_self]; rfl

theorem toks_eq (c : Dev nD) (f : HbBuf0 (F := F) c hbM0_3) :
    (hbPt0 c hbM0_3 f : sProp 𝕄) ⊣⊢ iprop((hbM0_3.view.loc (c : Thread nD τ) ↦{Transfers.shareDrop fullShare 34} f) ∗ hbTok c hbM0_3 33 f ∗ hbTok c hbM0_3 32 f ∗ hbTok c hbM0_3 31 f ∗ bigSep (Finset.range 31) (fun i => hbM0_3.view.loc (c : Thread nD τ) ↦{Transfers.shareTokN fullShare i} f)) := by
  have h := Transfers.pointsTo_toks_range (nD := nD) (τ := τ) (sig := sig) (Ix := Unit) (Val := Elt F) (Name := ℕ) (U := Pipeline.UD sig nD τ) (Lvl := ℕ) (ℓ := hbM0_3.view.loc (c : Thread nD τ)) (S := Finset.univ) (f := f) fullShare 34
  rw [show (34 : ℕ) = 33 + 1 from rfl, run_succ, show (33 : ℕ) = 32 + 1 from rfl, run_succ, show (32 : ℕ) = 31 + 1 from rfl, run_succ] at h
  exact h

/-- The first point's filling, run: the weights at the roundings of the arrays, everything else as before. -/
theorem fill_point (c : Dev nD) (t : Fin cfg0.N) (W : Waits sig Unit) (K : PUnit → sProp 𝕄) :
    iprop((∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ semVal ((c : Thread nD τ), SemLoc.dma 31) 0 ∗ semVal ((c : Thread nD τ), SemLoc.dma 32) 0 ∗ semVal ((c : Thread nD τ), SemLoc.dma 33) 0 ∗ hbPt0 c hbM0_0 (V m c main_arg2) ∗ hbPt0 c hbM0_1 (V m c main_arg3) ∗ hbPt0 c hbM0_2 (V m c main_arg4) ∗ hbPt0 c hbM0_3 (V m c main_v5) ∗ owes (c : Thread nD τ) 0 W
        ∗ (iprop(owns (c : Thread nD τ) scM0_1 fullShare (wGate (V m c main_arg2)) ∗ owns (c : Thread nD τ) scM0_2 fullShare (wGate (V m c main_arg3)) ∗ owns (c : Thread nD τ) scM0_3 fullShare (wDown (V m c main_arg4)) ∗ owns (c : Thread nD τ) scM0_4 fullShare (wMain (V m c main_v5)) ∗ owns (c : Thread nD τ) scM0_5 fullShare (wLast (V m c main_v5)) ∗ owns (c : Thread nD τ) scM0_6 fullShare (wLow (V m c main_v5)) ∗ (∃ d, owns (c : Thread nD τ) scM0_7 fullShare d) ∗ semVal ((c : Thread nD τ), SemLoc.dma 31) 0 ∗ semVal ((c : Thread nD τ), SemLoc.dma 32) 0 ∗ semVal ((c : Thread nD τ), SemLoc.dma 33) 0 ∗ hbPt0 c hbM0_0 (V m c main_arg2) ∗ hbPt0 c hbM0_1 (V m c main_arg3) ∗ hbPt0 c hbM0_2 (V m c main_arg4) ∗ hbPt0 c hbM0_3 (V m c main_v5) ∗ (∃ W', owes (c : Thread nD τ) 0 W')) -∗ K ⟨⟩))
      ⊢ wp frame (wpE (defs₀ (F := F)) Variants.none c none) Set.univ (fillProg (F := F) (grid0.coords t) (ms0_0 t) (hs0_0 t) (ms0_1 t) (hs0_1 t) (Memref.whole main_arg2) (Memref.isWhole_whole _) (Memref.whole main_arg3) (Memref.isWhole_whole _) (Memref.whole main_arg4) (Memref.isWhole_whole _) (ms0_2 t) (hs0_2 t) (ms0_3 t) (hs0_3 t) (Memref.whole main_v5) (Memref.isWhole_whole _) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) cc0_scratch8) K := by
  iintro ⟨HS1, HS2, HS3, HS4, HS5, HS6, HS7, Hq0, Hq1, Hq2, Hh0, Hh1, Hh2, Hh3, HW, Hk⟩
  ihave HT := (stage_split c) $$ HS7
  icases HT with ⟨%u, HT0, HT1, HT2⟩
  ihave Ht := (toks_eq c (V m c main_v5)).1 $$ Hh3
  icases Ht with ⟨Hd, Hh33, Hh32, Hh31, Hr⟩
  iapply ((fillRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (V m c main_arg2) (V m c main_arg3) (V m c main_arg4) (V m c main_v5) u u u).2.2.2.2.2.2.down W K)
  isplitl [HS1]; · iexact HS1
  isplitl [HS2]; · iexact HS2
  isplitl [HS3]; · iexact HS3
  isplitl [HS4]; · iexact HS4
  isplitl [HS5]; · iexact HS5
  isplitl [HS6]; · iexact HS6
  isplitl [HT0]; · iexact HT0
  isplitl [HT1]; · iexact HT1
  isplitl [HT2]; · iexact HT2
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [Hh31]; · iexact Hh31
  isplitl [Hh32]; · iexact Hh32
  isplitl [Hh33]; · iexact Hh33
  isplitl [HW]; · iexact HW
  iintro ⟨⟨%e1, HS1⟩, ⟨%e2, HS2⟩, ⟨%e3, HS3⟩, ⟨%e4, HS4⟩, ⟨%e5, HS5⟩, ⟨%e6, HS6⟩, HT0, HT1, HT2, Hq0, Hq1, Hq2, Hh0, Hh1, Hh2, Hh31, Hh32, Hh33, HW⟩
  iapply Hk
  isplitl [HS1]
  · unfold owns; iexists _; isplitr
    swap; · iexact HS1
    ipureintro; exact fillRead1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [HS2]
  · unfold owns; iexists _; isplitr
    swap; · iexact HS2
    ipureintro; exact fillRead2 _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [HS3]
  · unfold owns; iexists _; isplitr
    swap; · iexact HS3
    ipureintro; exact fillRead3 _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [HS4]
  · unfold owns; iexists _; isplitr
    swap; · iexact HS4
    ipureintro; exact fillRead4 _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [HS5]
  · unfold owns; iexists _; isplitr
    swap; · iexact HS5
    ipureintro; exact fillRead5 _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [HS6]
  · unfold owns; iexists _; isplitr
    swap; · iexact HS6
    ipureintro; exact fillRead6 _ _ _ _ _ _ _ _ _ _ _ _ _ _ _ _ _ _ _ _ _ _ _ _ _ _ _ _ _ _ _ _ _ _ _ _ _ _ _ _ _ _ _ _ _ _ _ _ _ _ _ _ _ _ _ _ _ _ _ _ _ _
  isplitl [HT0 HT1 HT2]
  · iapply (stage_join c)
    isplitl [HT0]; · iexact HT0
    isplitl [HT1]; · iexact HT1
    iexact HT2
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [Hd Hh31 Hh32 Hh33 Hr]
  · iapply (toks_eq c (V m c main_v5)).2
    isplitl [Hd]; · iexact Hd
    isplitl [Hh33]; · iexact Hh33
    isplitl [Hh32]; · iexact Hh32
    isplitl [Hh31]; · iexact Hh31
    iexact Hr
  iexact HW

end Cert.Kernel3Ideal.Gen

end
-- ==== Proof.ProjWork.lean ====
module

public import proofs.«01_k».proof.Proof.ProjSetup

@[expose] public section

/-! The run of a point's own work, on any buffers holding the point's blocks and the weights. -/

set_option maxRecDepth 65536

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 30000000 in
/-- A point's work, run: what each output's buffer is written with, the inputs and the weights being
as before. -/
noncomputable def workRun (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S1x1024 .f32) (harg6 : arg6.IsWhole) (arg7 : Memref sig .tc .vmem S1x1024 .f32) (harg7 : arg7.IsWhole) (arg9 : Memref sig .tc .vmem S128x256 .bf16) (harg9 : arg9.IsWhole) (arg10 : Memref sig .tc .vmem S1x256 .f32) (harg10 : arg10.IsWhole) (arg11 : Memref sig .tc .vmem S32x1024 .f32) (harg11 : arg11.IsWhole) (arg12 : Memref sig .tc .vmem S32x2816 .f32) (harg12 : arg12.IsWhole) (arg13 : Memref sig .tc .vmem S32x2816 .f32) (harg13 : arg13.IsWhole) (arg14 : Memref sig .tc .vmem S176x1024 .f32) (harg14 : arg14.IsWhole) (arg15 : Memref sig .tc .vmem S512x1024 .f32) (harg15 : arg15.IsWhole) (arg16 : Memref sig .tc .vmem S512x3072 .bf16) (harg16 : arg16.IsWhole) (arg17 : Memref sig .tc .vmem S2x1x512 .f32) (harg17 : arg17.IsWhole) (arg18 : Memref sig .tc .vmem S512x256 .f32) (harg18 : arg18.IsWhole) (arg19 : Memref sig .tc .vmem S32x1024 .bf16) (harg19 : arg19.IsWhole) (arg20 : Memref sig .tc .vmem S32x2816 .bf16) (harg20 : arg20.IsWhole) (arg21 : Memref sig .tc .vmem S32x2816 .bf16) (harg21 : arg21.IsWhole) (arg22 : Memref sig .tc .vmem S176x1024 .bf16) (harg22 : arg22.IsWhole) (arg23 : Memref sig .tc .vmem S512x2816 .bf16) (harg23 : arg23.IsWhole) (arg24 : Memref sig .tc .vmem S1024x2816 .bf16) (harg24 : arg24.IsWhole) (arg25 : Memref sig .tc .vmem S1024x2816 .bf16) (harg25 : arg25.IsWhole) (arg26 : Memref sig .tc .vmem S2816x1024 .bf16) (harg26 : arg26.IsWhole) (arg27 : Memref sig .tc .vmem S1024x2560 .bf16) (harg27 : arg27.IsWhole) (arg28 : Memref sig .tc .vmem S1024x512 .bf16) (harg28 : arg28.IsWhole) (arg29 : Memref sig .tc .vmem S128x1024 .bf16) (harg29 : arg29.IsWhole) (arg30 : Memref sig .tc .vmem S3x256x2816 .f32) (harg30 : arg30.IsWhole)
    (x0 : Vec F S512x1024 .f32) (x1 : Vec F S1x1024 .f32) (x2 : Vec F S1x1024 .f32) (x3 : Vec F S1x1024 .f32) (x4 : Vec F S128x256 .bf16) (x5 : Vec F S1x256 .f32) (x6 : Vec F S32x1024 .f32) (x7 : Vec F S32x2816 .f32) (x8 : Vec F S32x2816 .f32) (x9 : Vec F S176x1024 .f32)
    (w1 : Vec F S1024x2816 .bf16) (w2 : Vec F S1024x2816 .bf16) (w3 : Vec F S2816x1024 .bf16) (w4 : Vec F S1024x2560 .bf16) (w5 : Vec F S1024x512 .bf16) (w6 : Vec F S128x1024 .bf16) :
    Σ' (L10 : List (View.Piece (Elt F) S512x1024 .f32)), Σ' (L11 : List (View.Piece (Elt F) S512x3072 .bf16)), Σ' (L12 : List (View.Piece (Elt F) S2x1x512 .f32)), Σ' (L13 : List (View.Piece (Elt F) S512x256 .f32)), Σ' (L14 : List (View.Piece (Elt F) S32x1024 .bf16)), Σ' (L15 : List (View.Piece (Elt F) S32x2816 .bf16)), Σ' (L16 : List (View.Piece (Elt F) S32x2816 .bf16)), Σ' (L17 : List (View.Piece (Elt F) S176x1024 .bf16)),
      PLift (∀ (W : Waits sig Unit) (K : PUnit → sProp 𝕄),
        iprop(owns (c : Thread nD τ) arg1 fullShare x0 ∗ owns (c : Thread nD τ) arg2 fullShare x1 ∗ owns (c : Thread nD τ) arg6 fullShare x2 ∗ owns (c : Thread nD τ) arg7 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg24 fullShare w1 ∗ owns (c : Thread nD τ) arg25 fullShare w2 ∗ owns (c : Thread nD τ) arg26 fullShare w3 ∗ owns (c : Thread nD τ) arg27 fullShare w4 ∗ owns (c : Thread nD τ) arg28 fullShare w5 ∗ owns (c : Thread nD τ) arg29 fullShare w6 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owes (c : Thread nD τ) 0 W
            ∗ (iprop(owns (c : Thread nD τ) arg1 fullShare x0 ∗ owns (c : Thread nD τ) arg2 fullShare x1 ∗ owns (c : Thread nD τ) arg6 fullShare x2 ∗ owns (c : Thread nD τ) arg7 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare x8 ∗ owns (c : Thread nD τ) arg14 fullShare x9 ∗ owns (c : Thread nD τ) arg24 fullShare w1 ∗ owns (c : Thread nD τ) arg25 fullShare w2 ∗ owns (c : Thread nD τ) arg26 fullShare w3 ∗ owns (c : Thread nD τ) arg27 fullShare w4 ∗ owns (c : Thread nD τ) arg28 fullShare w5 ∗ owns (c : Thread nD τ) arg29 fullShare w6 ∗ (∃ f, arg15.view.loc (c : Thread nD τ) ↦[arg15.view.set]{fullShare} arg15.view.writes (Elt F) f L10) ∗ (∃ f, arg16.view.loc (c : Thread nD τ) ↦[arg16.view.set]{fullShare} arg16.view.writes (Elt F) f L11) ∗ (∃ f, arg17.view.loc (c : Thread nD τ) ↦[arg17.view.set]{fullShare} arg17.view.writes (Elt F) f L12) ∗ (∃ f, arg18.view.loc (c : Thread nD τ) ↦[arg18.view.set]{fullShare} arg18.view.writes (Elt F) f L13) ∗ (∃ f, arg19.view.loc (c : Thread nD τ) ↦[arg19.view.set]{fullShare} arg19.view.writes (Elt F) f L14) ∗ (∃ f, arg20.view.loc (c : Thread nD τ) ↦[arg20.view.set]{fullShare} arg20.view.writes (Elt F) f L15) ∗ (∃ f, arg21.view.loc (c : Thread nD τ) ↦[arg21.view.set]{fullShare} arg21.view.writes (Elt F) f L16) ∗ (∃ f, arg22.view.loc (c : Thread nD τ) ↦[arg22.view.set]{fullShare} arg22.view.writes (Elt F) f L17) ∗ (∃ f, arg23.view.loc (c : Thread nD τ) ↦[arg23.view.set]{fullShare} f) ∗ (∃ W', owes (c : Thread nD τ) 0 W')) -∗ K ⟨⟩))
          ⊢ wp frame (wpE (defs₀ (F := F)) Variants.none c none) Set.univ (workProg (F := F) i arg1 harg1 arg2 harg2 (Memref.whole main_arg2) (Memref.isWhole_whole _) (Memref.whole main_arg3) (Memref.isWhole_whole _) (Memref.whole main_arg4) (Memref.isWhole_whole _) arg6 harg6 arg7 harg7 (Memref.whole main_v5) (Memref.isWhole_whole _) arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 cc0_scratch8) K) := by
  refine ⟨?_, ?_, ?_, ?_, ?_, ?_, ?_, ?_, ⟨fun W K => ?run⟩⟩
  case run =>
    unfold workProg
    simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%g1, %hg1, HS1⟩, ⟨%g2, %hg2, HS2⟩, ⟨%g3, %hg3, HS3⟩, ⟨%g4, %hg4, HS4⟩, ⟨%g5, %hg5, HS5⟩, ⟨%g6, %hg6, HS6⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%ds0, %fs0, -, HS0⟩, HW, Hk⟩
    obtain rfl := harg1.eq_unread hf0; obtain rfl := harg2.eq_unread hf1; obtain rfl := harg6.eq_unread hf2; obtain rfl := harg7.eq_unread hf3; obtain rfl := harg9.eq_unread hf4; obtain rfl := harg10.eq_unread hf5; obtain rfl := harg11.eq_unread hf6; obtain rfl := harg12.eq_unread hf7; obtain rfl := harg13.eq_unread hf8; obtain rfl := harg14.eq_unread hf9; obtain rfl := harg24.eq_unread hg1; obtain rfl := harg25.eq_unread hg2; obtain rfl := harg26.eq_unread hg3; obtain rfl := harg27.eq_unread hg4; obtain rfl := harg28.eq_unread hg5; obtain rfl := harg29.eq_unread hg6
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [H9]
    · iexists _; isplitr; · ipureintro; exact harg14.read_unread _
      iexact H9
    isplitl [HS1]
    · iexists _; isplitr; · ipureintro; exact harg24.read_unread _
      iexact HS1
    isplitl [HS2]
    · iexists _; isplitr; · ipureintro; exact harg25.read_unread _
      iexact HS2
    isplitl [HS3]
    · iexists _; isplitr; · ipureintro; exact harg26.read_unread _
      iexact HS3
    isplitl [HS4]
    · iexists _; isplitr; · ipureintro; exact harg27.read_unread _
      iexact HS4
    isplitl [HS5]
    · iexists _; isplitr; · ipureintro; exact harg28.read_unread _
      iexact HS5
    isplitl [HS6]
    · iexists _; isplitr; · ipureintro; exact harg29.read_unread _
      iexact HS6
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HS0]; · iexists _; iexact HS0
    iexists _; iexact HW

end Cert.Kernel3Ideal.Gen

end
-- ==== Proof.ProjOut.lean ====
module

public import proofs.«01_k».proof.Proof.ProjWork
public import proofs.«01_k».proof.Proof.ProjWeights
public import Idealize.ShloMosaic.Lib.Pipeline.Value
public import Idealize.ShloMosaic.Lib.Pointwise

@[expose] public section

/-! What a point's work leaves in the outputs, and the work run at a point's own buffers. -/

set_option maxRecDepth 65536

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem workCover10 (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S1x1024 .f32) (harg6 : arg6.IsWhole) (arg7 : Memref sig .tc .vmem S1x1024 .f32) (harg7 : arg7.IsWhole) (arg9 : Memref sig .tc .vmem S128x256 .bf16) (harg9 : arg9.IsWhole) (arg10 : Memref sig .tc .vmem S1x256 .f32) (harg10 : arg10.IsWhole) (arg11 : Memref sig .tc .vmem S32x1024 .f32) (harg11 : arg11.IsWhole) (arg12 : Memref sig .tc .vmem S32x2816 .f32) (harg12 : arg12.IsWhole) (arg13 : Memref sig .tc .vmem S32x2816 .f32) (harg13 : arg13.IsWhole) (arg14 : Memref sig .tc .vmem S176x1024 .f32) (harg14 : arg14.IsWhole) (arg15 : Memref sig .tc .vmem S512x1024 .f32) (harg15 : arg15.IsWhole) (arg16 : Memref sig .tc .vmem S512x3072 .bf16) (harg16 : arg16.IsWhole) (arg17 : Memref sig .tc .vmem S2x1x512 .f32) (harg17 : arg17.IsWhole) (arg18 : Memref sig .tc .vmem S512x256 .f32) (harg18 : arg18.IsWhole) (arg19 : Memref sig .tc .vmem S32x1024 .bf16) (harg19 : arg19.IsWhole) (arg20 : Memref sig .tc .vmem S32x2816 .bf16) (harg20 : arg20.IsWhole) (arg21 : Memref sig .tc .vmem S32x2816 .bf16) (harg21 : arg21.IsWhole) (arg22 : Memref sig .tc .vmem S176x1024 .bf16) (harg22 : arg22.IsWhole) (arg23 : Memref sig .tc .vmem S512x2816 .bf16) (harg23 : arg23.IsWhole) (arg24 : Memref sig .tc .vmem S1024x2816 .bf16) (harg24 : arg24.IsWhole) (arg25 : Memref sig .tc .vmem S1024x2816 .bf16) (harg25 : arg25.IsWhole) (arg26 : Memref sig .tc .vmem S2816x1024 .bf16) (harg26 : arg26.IsWhole) (arg27 : Memref sig .tc .vmem S1024x2560 .bf16) (harg27 : arg27.IsWhole) (arg28 : Memref sig .tc .vmem S1024x512 .bf16) (harg28 : arg28.IsWhole) (arg29 : Memref sig .tc .vmem S128x1024 .bf16) (harg29 : arg29.IsWhole) (arg30 : Memref sig .tc .vmem S3x256x2816 .f32) (harg30 : arg30.IsWhole)
    (x0 : Vec F S512x1024 .f32) (x1 : Vec F S1x1024 .f32) (x2 : Vec F S1x1024 .f32) (x3 : Vec F S1x1024 .f32) (x4 : Vec F S128x256 .bf16) (x5 : Vec F S1x256 .f32) (x6 : Vec F S32x1024 .f32) (x7 : Vec F S32x2816 .f32) (x8 : Vec F S32x2816 .f32) (x9 : Vec F S176x1024 .f32) (w1 : Vec F S1024x2816 .bf16) (w2 : Vec F S1024x2816 .bf16) (w3 : Vec F S2816x1024 .bf16) (w4 : Vec F S1024x2560 .bf16) (w5 : Vec F S1024x512 .bf16) (w6 : Vec F S128x1024 .bf16) (y : S512x1024.Idx) :
    ∃ p ∈ (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).1, y ∈ p.1.set :=
  View.cover_of_tiledL (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).1 S256x1024.size (by sl_kernel_rfl) y

theorem workCover11 (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S1x1024 .f32) (harg6 : arg6.IsWhole) (arg7 : Memref sig .tc .vmem S1x1024 .f32) (harg7 : arg7.IsWhole) (arg9 : Memref sig .tc .vmem S128x256 .bf16) (harg9 : arg9.IsWhole) (arg10 : Memref sig .tc .vmem S1x256 .f32) (harg10 : arg10.IsWhole) (arg11 : Memref sig .tc .vmem S32x1024 .f32) (harg11 : arg11.IsWhole) (arg12 : Memref sig .tc .vmem S32x2816 .f32) (harg12 : arg12.IsWhole) (arg13 : Memref sig .tc .vmem S32x2816 .f32) (harg13 : arg13.IsWhole) (arg14 : Memref sig .tc .vmem S176x1024 .f32) (harg14 : arg14.IsWhole) (arg15 : Memref sig .tc .vmem S512x1024 .f32) (harg15 : arg15.IsWhole) (arg16 : Memref sig .tc .vmem S512x3072 .bf16) (harg16 : arg16.IsWhole) (arg17 : Memref sig .tc .vmem S2x1x512 .f32) (harg17 : arg17.IsWhole) (arg18 : Memref sig .tc .vmem S512x256 .f32) (harg18 : arg18.IsWhole) (arg19 : Memref sig .tc .vmem S32x1024 .bf16) (harg19 : arg19.IsWhole) (arg20 : Memref sig .tc .vmem S32x2816 .bf16) (harg20 : arg20.IsWhole) (arg21 : Memref sig .tc .vmem S32x2816 .bf16) (harg21 : arg21.IsWhole) (arg22 : Memref sig .tc .vmem S176x1024 .bf16) (harg22 : arg22.IsWhole) (arg23 : Memref sig .tc .vmem S512x2816 .bf16) (harg23 : arg23.IsWhole) (arg24 : Memref sig .tc .vmem S1024x2816 .bf16) (harg24 : arg24.IsWhole) (arg25 : Memref sig .tc .vmem S1024x2816 .bf16) (harg25 : arg25.IsWhole) (arg26 : Memref sig .tc .vmem S2816x1024 .bf16) (harg26 : arg26.IsWhole) (arg27 : Memref sig .tc .vmem S1024x2560 .bf16) (harg27 : arg27.IsWhole) (arg28 : Memref sig .tc .vmem S1024x512 .bf16) (harg28 : arg28.IsWhole) (arg29 : Memref sig .tc .vmem S128x1024 .bf16) (harg29 : arg29.IsWhole) (arg30 : Memref sig .tc .vmem S3x256x2816 .f32) (harg30 : arg30.IsWhole)
    (x0 : Vec F S512x1024 .f32) (x1 : Vec F S1x1024 .f32) (x2 : Vec F S1x1024 .f32) (x3 : Vec F S1x1024 .f32) (x4 : Vec F S128x256 .bf16) (x5 : Vec F S1x256 .f32) (x6 : Vec F S32x1024 .f32) (x7 : Vec F S32x2816 .f32) (x8 : Vec F S32x2816 .f32) (x9 : Vec F S176x1024 .f32) (w1 : Vec F S1024x2816 .bf16) (w2 : Vec F S1024x2816 .bf16) (w3 : Vec F S2816x1024 .bf16) (w4 : Vec F S1024x2560 .bf16) (w5 : Vec F S1024x512 .bf16) (w6 : Vec F S128x1024 .bf16) (y : S512x3072.Idx) :
    ∃ p ∈ (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).2.1, y ∈ p.1.set :=
  View.cover_of_tiledL (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).2.1 S256x512.size (by sl_kernel_rfl) y

theorem workCover12 (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S1x1024 .f32) (harg6 : arg6.IsWhole) (arg7 : Memref sig .tc .vmem S1x1024 .f32) (harg7 : arg7.IsWhole) (arg9 : Memref sig .tc .vmem S128x256 .bf16) (harg9 : arg9.IsWhole) (arg10 : Memref sig .tc .vmem S1x256 .f32) (harg10 : arg10.IsWhole) (arg11 : Memref sig .tc .vmem S32x1024 .f32) (harg11 : arg11.IsWhole) (arg12 : Memref sig .tc .vmem S32x2816 .f32) (harg12 : arg12.IsWhole) (arg13 : Memref sig .tc .vmem S32x2816 .f32) (harg13 : arg13.IsWhole) (arg14 : Memref sig .tc .vmem S176x1024 .f32) (harg14 : arg14.IsWhole) (arg15 : Memref sig .tc .vmem S512x1024 .f32) (harg15 : arg15.IsWhole) (arg16 : Memref sig .tc .vmem S512x3072 .bf16) (harg16 : arg16.IsWhole) (arg17 : Memref sig .tc .vmem S2x1x512 .f32) (harg17 : arg17.IsWhole) (arg18 : Memref sig .tc .vmem S512x256 .f32) (harg18 : arg18.IsWhole) (arg19 : Memref sig .tc .vmem S32x1024 .bf16) (harg19 : arg19.IsWhole) (arg20 : Memref sig .tc .vmem S32x2816 .bf16) (harg20 : arg20.IsWhole) (arg21 : Memref sig .tc .vmem S32x2816 .bf16) (harg21 : arg21.IsWhole) (arg22 : Memref sig .tc .vmem S176x1024 .bf16) (harg22 : arg22.IsWhole) (arg23 : Memref sig .tc .vmem S512x2816 .bf16) (harg23 : arg23.IsWhole) (arg24 : Memref sig .tc .vmem S1024x2816 .bf16) (harg24 : arg24.IsWhole) (arg25 : Memref sig .tc .vmem S1024x2816 .bf16) (harg25 : arg25.IsWhole) (arg26 : Memref sig .tc .vmem S2816x1024 .bf16) (harg26 : arg26.IsWhole) (arg27 : Memref sig .tc .vmem S1024x2560 .bf16) (harg27 : arg27.IsWhole) (arg28 : Memref sig .tc .vmem S1024x512 .bf16) (harg28 : arg28.IsWhole) (arg29 : Memref sig .tc .vmem S128x1024 .bf16) (harg29 : arg29.IsWhole) (arg30 : Memref sig .tc .vmem S3x256x2816 .f32) (harg30 : arg30.IsWhole)
    (x0 : Vec F S512x1024 .f32) (x1 : Vec F S1x1024 .f32) (x2 : Vec F S1x1024 .f32) (x3 : Vec F S1x1024 .f32) (x4 : Vec F S128x256 .bf16) (x5 : Vec F S1x256 .f32) (x6 : Vec F S32x1024 .f32) (x7 : Vec F S32x2816 .f32) (x8 : Vec F S32x2816 .f32) (x9 : Vec F S176x1024 .f32) (w1 : Vec F S1024x2816 .bf16) (w2 : Vec F S1024x2816 .bf16) (w3 : Vec F S2816x1024 .bf16) (w4 : Vec F S1024x2560 .bf16) (w5 : Vec F S1024x512 .bf16) (w6 : Vec F S128x1024 .bf16) (y : S2x1x512.Idx) :
    ∃ p ∈ (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).2.2.1, y ∈ p.1.set :=
  View.cover_of_tiledL (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).2.2.1 S1x1x512.size (by sl_kernel_rfl) y

theorem workCover13 (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S1x1024 .f32) (harg6 : arg6.IsWhole) (arg7 : Memref sig .tc .vmem S1x1024 .f32) (harg7 : arg7.IsWhole) (arg9 : Memref sig .tc .vmem S128x256 .bf16) (harg9 : arg9.IsWhole) (arg10 : Memref sig .tc .vmem S1x256 .f32) (harg10 : arg10.IsWhole) (arg11 : Memref sig .tc .vmem S32x1024 .f32) (harg11 : arg11.IsWhole) (arg12 : Memref sig .tc .vmem S32x2816 .f32) (harg12 : arg12.IsWhole) (arg13 : Memref sig .tc .vmem S32x2816 .f32) (harg13 : arg13.IsWhole) (arg14 : Memref sig .tc .vmem S176x1024 .f32) (harg14 : arg14.IsWhole) (arg15 : Memref sig .tc .vmem S512x1024 .f32) (harg15 : arg15.IsWhole) (arg16 : Memref sig .tc .vmem S512x3072 .bf16) (harg16 : arg16.IsWhole) (arg17 : Memref sig .tc .vmem S2x1x512 .f32) (harg17 : arg17.IsWhole) (arg18 : Memref sig .tc .vmem S512x256 .f32) (harg18 : arg18.IsWhole) (arg19 : Memref sig .tc .vmem S32x1024 .bf16) (harg19 : arg19.IsWhole) (arg20 : Memref sig .tc .vmem S32x2816 .bf16) (harg20 : arg20.IsWhole) (arg21 : Memref sig .tc .vmem S32x2816 .bf16) (harg21 : arg21.IsWhole) (arg22 : Memref sig .tc .vmem S176x1024 .bf16) (harg22 : arg22.IsWhole) (arg23 : Memref sig .tc .vmem S512x2816 .bf16) (harg23 : arg23.IsWhole) (arg24 : Memref sig .tc .vmem S1024x2816 .bf16) (harg24 : arg24.IsWhole) (arg25 : Memref sig .tc .vmem S1024x2816 .bf16) (harg25 : arg25.IsWhole) (arg26 : Memref sig .tc .vmem S2816x1024 .bf16) (harg26 : arg26.IsWhole) (arg27 : Memref sig .tc .vmem S1024x2560 .bf16) (harg27 : arg27.IsWhole) (arg28 : Memref sig .tc .vmem S1024x512 .bf16) (harg28 : arg28.IsWhole) (arg29 : Memref sig .tc .vmem S128x1024 .bf16) (harg29 : arg29.IsWhole) (arg30 : Memref sig .tc .vmem S3x256x2816 .f32) (harg30 : arg30.IsWhole)
    (x0 : Vec F S512x1024 .f32) (x1 : Vec F S1x1024 .f32) (x2 : Vec F S1x1024 .f32) (x3 : Vec F S1x1024 .f32) (x4 : Vec F S128x256 .bf16) (x5 : Vec F S1x256 .f32) (x6 : Vec F S32x1024 .f32) (x7 : Vec F S32x2816 .f32) (x8 : Vec F S32x2816 .f32) (x9 : Vec F S176x1024 .f32) (w1 : Vec F S1024x2816 .bf16) (w2 : Vec F S1024x2816 .bf16) (w3 : Vec F S2816x1024 .bf16) (w4 : Vec F S1024x2560 .bf16) (w5 : Vec F S1024x512 .bf16) (w6 : Vec F S128x1024 .bf16) (y : S512x256.Idx) :
    ∃ p ∈ (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).2.2.2.1, y ∈ p.1.set :=
  View.cover_of_tiledL (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).2.2.2.1 S256x256.size (by sl_kernel_rfl) y

theorem workCover14 (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S1x1024 .f32) (harg6 : arg6.IsWhole) (arg7 : Memref sig .tc .vmem S1x1024 .f32) (harg7 : arg7.IsWhole) (arg9 : Memref sig .tc .vmem S128x256 .bf16) (harg9 : arg9.IsWhole) (arg10 : Memref sig .tc .vmem S1x256 .f32) (harg10 : arg10.IsWhole) (arg11 : Memref sig .tc .vmem S32x1024 .f32) (harg11 : arg11.IsWhole) (arg12 : Memref sig .tc .vmem S32x2816 .f32) (harg12 : arg12.IsWhole) (arg13 : Memref sig .tc .vmem S32x2816 .f32) (harg13 : arg13.IsWhole) (arg14 : Memref sig .tc .vmem S176x1024 .f32) (harg14 : arg14.IsWhole) (arg15 : Memref sig .tc .vmem S512x1024 .f32) (harg15 : arg15.IsWhole) (arg16 : Memref sig .tc .vmem S512x3072 .bf16) (harg16 : arg16.IsWhole) (arg17 : Memref sig .tc .vmem S2x1x512 .f32) (harg17 : arg17.IsWhole) (arg18 : Memref sig .tc .vmem S512x256 .f32) (harg18 : arg18.IsWhole) (arg19 : Memref sig .tc .vmem S32x1024 .bf16) (harg19 : arg19.IsWhole) (arg20 : Memref sig .tc .vmem S32x2816 .bf16) (harg20 : arg20.IsWhole) (arg21 : Memref sig .tc .vmem S32x2816 .bf16) (harg21 : arg21.IsWhole) (arg22 : Memref sig .tc .vmem S176x1024 .bf16) (harg22 : arg22.IsWhole) (arg23 : Memref sig .tc .vmem S512x2816 .bf16) (harg23 : arg23.IsWhole) (arg24 : Memref sig .tc .vmem S1024x2816 .bf16) (harg24 : arg24.IsWhole) (arg25 : Memref sig .tc .vmem S1024x2816 .bf16) (harg25 : arg25.IsWhole) (arg26 : Memref sig .tc .vmem S2816x1024 .bf16) (harg26 : arg26.IsWhole) (arg27 : Memref sig .tc .vmem S1024x2560 .bf16) (harg27 : arg27.IsWhole) (arg28 : Memref sig .tc .vmem S1024x512 .bf16) (harg28 : arg28.IsWhole) (arg29 : Memref sig .tc .vmem S128x1024 .bf16) (harg29 : arg29.IsWhole) (arg30 : Memref sig .tc .vmem S3x256x2816 .f32) (harg30 : arg30.IsWhole)
    (x0 : Vec F S512x1024 .f32) (x1 : Vec F S1x1024 .f32) (x2 : Vec F S1x1024 .f32) (x3 : Vec F S1x1024 .f32) (x4 : Vec F S128x256 .bf16) (x5 : Vec F S1x256 .f32) (x6 : Vec F S32x1024 .f32) (x7 : Vec F S32x2816 .f32) (x8 : Vec F S32x2816 .f32) (x9 : Vec F S176x1024 .f32) (w1 : Vec F S1024x2816 .bf16) (w2 : Vec F S1024x2816 .bf16) (w3 : Vec F S2816x1024 .bf16) (w4 : Vec F S1024x2560 .bf16) (w5 : Vec F S1024x512 .bf16) (w6 : Vec F S128x1024 .bf16) (y : S32x1024.Idx) :
    ∃ p ∈ (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).2.2.2.2.1, y ∈ p.1.set :=
  View.cover_of_tiledL (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).2.2.2.2.1 S32x1024.size (by sl_kernel_rfl) y

theorem workCover15 (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S1x1024 .f32) (harg6 : arg6.IsWhole) (arg7 : Memref sig .tc .vmem S1x1024 .f32) (harg7 : arg7.IsWhole) (arg9 : Memref sig .tc .vmem S128x256 .bf16) (harg9 : arg9.IsWhole) (arg10 : Memref sig .tc .vmem S1x256 .f32) (harg10 : arg10.IsWhole) (arg11 : Memref sig .tc .vmem S32x1024 .f32) (harg11 : arg11.IsWhole) (arg12 : Memref sig .tc .vmem S32x2816 .f32) (harg12 : arg12.IsWhole) (arg13 : Memref sig .tc .vmem S32x2816 .f32) (harg13 : arg13.IsWhole) (arg14 : Memref sig .tc .vmem S176x1024 .f32) (harg14 : arg14.IsWhole) (arg15 : Memref sig .tc .vmem S512x1024 .f32) (harg15 : arg15.IsWhole) (arg16 : Memref sig .tc .vmem S512x3072 .bf16) (harg16 : arg16.IsWhole) (arg17 : Memref sig .tc .vmem S2x1x512 .f32) (harg17 : arg17.IsWhole) (arg18 : Memref sig .tc .vmem S512x256 .f32) (harg18 : arg18.IsWhole) (arg19 : Memref sig .tc .vmem S32x1024 .bf16) (harg19 : arg19.IsWhole) (arg20 : Memref sig .tc .vmem S32x2816 .bf16) (harg20 : arg20.IsWhole) (arg21 : Memref sig .tc .vmem S32x2816 .bf16) (harg21 : arg21.IsWhole) (arg22 : Memref sig .tc .vmem S176x1024 .bf16) (harg22 : arg22.IsWhole) (arg23 : Memref sig .tc .vmem S512x2816 .bf16) (harg23 : arg23.IsWhole) (arg24 : Memref sig .tc .vmem S1024x2816 .bf16) (harg24 : arg24.IsWhole) (arg25 : Memref sig .tc .vmem S1024x2816 .bf16) (harg25 : arg25.IsWhole) (arg26 : Memref sig .tc .vmem S2816x1024 .bf16) (harg26 : arg26.IsWhole) (arg27 : Memref sig .tc .vmem S1024x2560 .bf16) (harg27 : arg27.IsWhole) (arg28 : Memref sig .tc .vmem S1024x512 .bf16) (harg28 : arg28.IsWhole) (arg29 : Memref sig .tc .vmem S128x1024 .bf16) (harg29 : arg29.IsWhole) (arg30 : Memref sig .tc .vmem S3x256x2816 .f32) (harg30 : arg30.IsWhole)
    (x0 : Vec F S512x1024 .f32) (x1 : Vec F S1x1024 .f32) (x2 : Vec F S1x1024 .f32) (x3 : Vec F S1x1024 .f32) (x4 : Vec F S128x256 .bf16) (x5 : Vec F S1x256 .f32) (x6 : Vec F S32x1024 .f32) (x7 : Vec F S32x2816 .f32) (x8 : Vec F S32x2816 .f32) (x9 : Vec F S176x1024 .f32) (w1 : Vec F S1024x2816 .bf16) (w2 : Vec F S1024x2816 .bf16) (w3 : Vec F S2816x1024 .bf16) (w4 : Vec F S1024x2560 .bf16) (w5 : Vec F S1024x512 .bf16) (w6 : Vec F S128x1024 .bf16) (y : S32x2816.Idx) :
    ∃ p ∈ (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).2.2.2.2.2.1, y ∈ p.1.set :=
  View.cover_of_tiledL (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).2.2.2.2.2.1 S32x2816.size (by sl_kernel_rfl) y

theorem workCover16 (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S1x1024 .f32) (harg6 : arg6.IsWhole) (arg7 : Memref sig .tc .vmem S1x1024 .f32) (harg7 : arg7.IsWhole) (arg9 : Memref sig .tc .vmem S128x256 .bf16) (harg9 : arg9.IsWhole) (arg10 : Memref sig .tc .vmem S1x256 .f32) (harg10 : arg10.IsWhole) (arg11 : Memref sig .tc .vmem S32x1024 .f32) (harg11 : arg11.IsWhole) (arg12 : Memref sig .tc .vmem S32x2816 .f32) (harg12 : arg12.IsWhole) (arg13 : Memref sig .tc .vmem S32x2816 .f32) (harg13 : arg13.IsWhole) (arg14 : Memref sig .tc .vmem S176x1024 .f32) (harg14 : arg14.IsWhole) (arg15 : Memref sig .tc .vmem S512x1024 .f32) (harg15 : arg15.IsWhole) (arg16 : Memref sig .tc .vmem S512x3072 .bf16) (harg16 : arg16.IsWhole) (arg17 : Memref sig .tc .vmem S2x1x512 .f32) (harg17 : arg17.IsWhole) (arg18 : Memref sig .tc .vmem S512x256 .f32) (harg18 : arg18.IsWhole) (arg19 : Memref sig .tc .vmem S32x1024 .bf16) (harg19 : arg19.IsWhole) (arg20 : Memref sig .tc .vmem S32x2816 .bf16) (harg20 : arg20.IsWhole) (arg21 : Memref sig .tc .vmem S32x2816 .bf16) (harg21 : arg21.IsWhole) (arg22 : Memref sig .tc .vmem S176x1024 .bf16) (harg22 : arg22.IsWhole) (arg23 : Memref sig .tc .vmem S512x2816 .bf16) (harg23 : arg23.IsWhole) (arg24 : Memref sig .tc .vmem S1024x2816 .bf16) (harg24 : arg24.IsWhole) (arg25 : Memref sig .tc .vmem S1024x2816 .bf16) (harg25 : arg25.IsWhole) (arg26 : Memref sig .tc .vmem S2816x1024 .bf16) (harg26 : arg26.IsWhole) (arg27 : Memref sig .tc .vmem S1024x2560 .bf16) (harg27 : arg27.IsWhole) (arg28 : Memref sig .tc .vmem S1024x512 .bf16) (harg28 : arg28.IsWhole) (arg29 : Memref sig .tc .vmem S128x1024 .bf16) (harg29 : arg29.IsWhole) (arg30 : Memref sig .tc .vmem S3x256x2816 .f32) (harg30 : arg30.IsWhole)
    (x0 : Vec F S512x1024 .f32) (x1 : Vec F S1x1024 .f32) (x2 : Vec F S1x1024 .f32) (x3 : Vec F S1x1024 .f32) (x4 : Vec F S128x256 .bf16) (x5 : Vec F S1x256 .f32) (x6 : Vec F S32x1024 .f32) (x7 : Vec F S32x2816 .f32) (x8 : Vec F S32x2816 .f32) (x9 : Vec F S176x1024 .f32) (w1 : Vec F S1024x2816 .bf16) (w2 : Vec F S1024x2816 .bf16) (w3 : Vec F S2816x1024 .bf16) (w4 : Vec F S1024x2560 .bf16) (w5 : Vec F S1024x512 .bf16) (w6 : Vec F S128x1024 .bf16) (y : S32x2816.Idx) :
    ∃ p ∈ (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).2.2.2.2.2.2.1, y ∈ p.1.set :=
  View.cover_of_tiledL (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).2.2.2.2.2.2.1 S32x2816.size (by sl_kernel_rfl) y

theorem workCover17 (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S1x1024 .f32) (harg6 : arg6.IsWhole) (arg7 : Memref sig .tc .vmem S1x1024 .f32) (harg7 : arg7.IsWhole) (arg9 : Memref sig .tc .vmem S128x256 .bf16) (harg9 : arg9.IsWhole) (arg10 : Memref sig .tc .vmem S1x256 .f32) (harg10 : arg10.IsWhole) (arg11 : Memref sig .tc .vmem S32x1024 .f32) (harg11 : arg11.IsWhole) (arg12 : Memref sig .tc .vmem S32x2816 .f32) (harg12 : arg12.IsWhole) (arg13 : Memref sig .tc .vmem S32x2816 .f32) (harg13 : arg13.IsWhole) (arg14 : Memref sig .tc .vmem S176x1024 .f32) (harg14 : arg14.IsWhole) (arg15 : Memref sig .tc .vmem S512x1024 .f32) (harg15 : arg15.IsWhole) (arg16 : Memref sig .tc .vmem S512x3072 .bf16) (harg16 : arg16.IsWhole) (arg17 : Memref sig .tc .vmem S2x1x512 .f32) (harg17 : arg17.IsWhole) (arg18 : Memref sig .tc .vmem S512x256 .f32) (harg18 : arg18.IsWhole) (arg19 : Memref sig .tc .vmem S32x1024 .bf16) (harg19 : arg19.IsWhole) (arg20 : Memref sig .tc .vmem S32x2816 .bf16) (harg20 : arg20.IsWhole) (arg21 : Memref sig .tc .vmem S32x2816 .bf16) (harg21 : arg21.IsWhole) (arg22 : Memref sig .tc .vmem S176x1024 .bf16) (harg22 : arg22.IsWhole) (arg23 : Memref sig .tc .vmem S512x2816 .bf16) (harg23 : arg23.IsWhole) (arg24 : Memref sig .tc .vmem S1024x2816 .bf16) (harg24 : arg24.IsWhole) (arg25 : Memref sig .tc .vmem S1024x2816 .bf16) (harg25 : arg25.IsWhole) (arg26 : Memref sig .tc .vmem S2816x1024 .bf16) (harg26 : arg26.IsWhole) (arg27 : Memref sig .tc .vmem S1024x2560 .bf16) (harg27 : arg27.IsWhole) (arg28 : Memref sig .tc .vmem S1024x512 .bf16) (harg28 : arg28.IsWhole) (arg29 : Memref sig .tc .vmem S128x1024 .bf16) (harg29 : arg29.IsWhole) (arg30 : Memref sig .tc .vmem S3x256x2816 .f32) (harg30 : arg30.IsWhole)
    (x0 : Vec F S512x1024 .f32) (x1 : Vec F S1x1024 .f32) (x2 : Vec F S1x1024 .f32) (x3 : Vec F S1x1024 .f32) (x4 : Vec F S128x256 .bf16) (x5 : Vec F S1x256 .f32) (x6 : Vec F S32x1024 .f32) (x7 : Vec F S32x2816 .f32) (x8 : Vec F S32x2816 .f32) (x9 : Vec F S176x1024 .f32) (w1 : Vec F S1024x2816 .bf16) (w2 : Vec F S1024x2816 .bf16) (w3 : Vec F S2816x1024 .bf16) (w4 : Vec F S1024x2560 .bf16) (w5 : Vec F S1024x512 .bf16) (w6 : Vec F S128x1024 .bf16) (y : S176x1024.Idx) :
    ∃ p ∈ (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).2.2.2.2.2.2.2.1, y ∈ p.1.set :=
  View.cover_of_tiledL (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).2.2.2.2.2.2.2.1 S176x1024.size (by sl_kernel_rfl) y

/-- The run of point `t`'s work, at its own buffers and blocks and the rounded weights. -/
noncomputable def work (c : Dev nD) (t : Fin cfg0.N) :=
  workRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (wGate (V m c main_arg2)) (wGate (V m c main_arg3)) (wDown (V m c main_arg4)) (wMain (V m c main_v5)) (wLast (V m c main_v5)) (wLow (V m c main_v5))

/-- What point `t` leaves in output 10. -/
noncomputable def out0_10 (c : Dev nD) (t : Fin cfg0.N) : Vec F S512x1024 .f32 := View.canon (work m c t).1

/-- What point `t` leaves in output 11. -/
noncomputable def out0_11 (c : Dev nD) (t : Fin cfg0.N) : Vec F S512x3072 .bf16 := View.canon (work m c t).2.1

/-- What point `t` leaves in output 12. -/
noncomputable def out0_12 (c : Dev nD) (t : Fin cfg0.N) : Vec F S2x1x512 .f32 := View.canon (work m c t).2.2.1

/-- What point `t` leaves in output 13. -/
noncomputable def out0_13 (c : Dev nD) (t : Fin cfg0.N) : Vec F S512x256 .f32 := View.canon (work m c t).2.2.2.1

/-- What point `t` leaves in output 14. -/
noncomputable def out0_14 (c : Dev nD) (t : Fin cfg0.N) : Vec F S32x1024 .bf16 := View.canon (work m c t).2.2.2.2.1

/-- What point `t` leaves in output 15. -/
noncomputable def out0_15 (c : Dev nD) (t : Fin cfg0.N) : Vec F S32x2816 .bf16 := View.canon (work m c t).2.2.2.2.2.1

/-- What point `t` leaves in output 16. -/
noncomputable def out0_16 (c : Dev nD) (t : Fin cfg0.N) : Vec F S32x2816 .bf16 := View.canon (work m c t).2.2.2.2.2.2.1

/-- What point `t` leaves in output 17. -/
noncomputable def out0_17 (c : Dev nD) (t : Fin cfg0.N) : Vec F S176x1024 .bf16 := View.canon (work m c t).2.2.2.2.2.2.2.1

/-- A point's work, at the point: inputs and weights as before, each output at what is named above. -/
theorem work_point (c : Dev nD) (t : Fin cfg0.N) (W : Waits sig Unit) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) scM0_1 fullShare (wGate (V m c main_arg2)) ∗ owns (c : Thread nD τ) scM0_2 fullShare (wGate (V m c main_arg3)) ∗ owns (c : Thread nD τ) scM0_3 fullShare (wDown (V m c main_arg4)) ∗ owns (c : Thread nD τ) scM0_4 fullShare (wMain (V m c main_v5)) ∗ owns (c : Thread nD τ) scM0_5 fullShare (wLast (V m c main_v5)) ∗ owns (c : Thread nD τ) scM0_6 fullShare (wLow (V m c main_v5)) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) (ms0_13 t) fullShare d) ∗ (∃ d, owns (c : Thread nD τ) (ms0_14 t) fullShare d) ∗ (∃ d, owns (c : Thread nD τ) (ms0_15 t) fullShare d) ∗ (∃ d, owns (c : Thread nD τ) (ms0_16 t) fullShare d) ∗ (∃ d, owns (c : Thread nD τ) (ms0_17 t) fullShare d) ∗ (∃ d, owns (c : Thread nD τ) scM0_0 fullShare d) ∗ owes (c : Thread nD τ) 0 W
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) scM0_1 fullShare (wGate (V m c main_arg2)) ∗ owns (c : Thread nD τ) scM0_2 fullShare (wGate (V m c main_arg3)) ∗ owns (c : Thread nD τ) scM0_3 fullShare (wDown (V m c main_arg4)) ∗ owns (c : Thread nD τ) scM0_4 fullShare (wMain (V m c main_v5)) ∗ owns (c : Thread nD τ) scM0_5 fullShare (wLast (V m c main_v5)) ∗ owns (c : Thread nD τ) scM0_6 fullShare (wLow (V m c main_v5)) ∗ owns (c : Thread nD τ) (ms0_10 t) fullShare (out0_10 m c t) ∗ owns (c : Thread nD τ) (ms0_11 t) fullShare (out0_11 m c t) ∗ owns (c : Thread nD τ) (ms0_12 t) fullShare (out0_12 m c t) ∗ owns (c : Thread nD τ) (ms0_13 t) fullShare (out0_13 m c t) ∗ owns (c : Thread nD τ) (ms0_14 t) fullShare (out0_14 m c t) ∗ owns (c : Thread nD τ) (ms0_15 t) fullShare (out0_15 m c t) ∗ owns (c : Thread nD τ) (ms0_16 t) fullShare (out0_16 m c t) ∗ owns (c : Thread nD τ) (ms0_17 t) fullShare (out0_17 m c t) ∗ (∃ d, owns (c : Thread nD τ) scM0_0 fullShare d) ∗ (∃ W', owes (c : Thread nD τ) 0 W')) -∗ K ⟨⟩))
      ⊢ wp frame (wpE (defs₀ (F := F)) Variants.none c none) Set.univ (workProg (F := F) (grid0.coords t) (ms0_0 t) (hs0_0 t) (ms0_1 t) (hs0_1 t) (Memref.whole main_arg2) (Memref.isWhole_whole _) (Memref.whole main_arg3) (Memref.isWhole_whole _) (Memref.whole main_arg4) (Memref.isWhole_whole _) (ms0_2 t) (hs0_2 t) (ms0_3 t) (hs0_3 t) (Memref.whole main_v5) (Memref.isWhole_whole _) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) cc0_scratch8) K := by
  iintro ⟨H0, H1, H2, H3, H4, H5, H6, H7, H8, H9, HS1, HS2, HS3, HS4, HS5, HS6, H10, H11, H12, H13, H14, H15, H16, H17, HS0, HW, Hk⟩
  iapply ((work m c t).2.2.2.2.2.2.2.2.down W K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS1]; · iexact HS1
  isplitl [HS2]; · iexact HS2
  isplitl [HS3]; · iexact HS3
  isplitl [HS4]; · iexact HS4
  isplitl [HS5]; · iexact HS5
  isplitl [HS6]; · iexact HS6
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HW]; · iexact HW
  iintro ⟨H0, H1, H2, H3, H4, H5, H6, H7, H8, H9, HS1, HS2, HS3, HS4, HS5, HS6, ⟨%e10, H10⟩, ⟨%e11, H11⟩, ⟨%e12, H12⟩, ⟨%e13, H13⟩, ⟨%e14, H14⟩, ⟨%e15, H15⟩, ⟨%e16, H16⟩, ⟨%e17, H17⟩, ⟨%e0, HS0⟩, HW⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS1]; · iexact HS1
  isplitl [HS2]; · iexact HS2
  isplitl [HS3]; · iexact HS3
  isplitl [HS4]; · iexact HS4
  isplitl [HS5]; · iexact HS5
  isplitl [HS6]; · iexact HS6
  isplitl [H10]
  · unfold owns; iexists _; isplitr
    swap; · iexact H10
    ipureintro; exact View.read_writes_eq_canon _ _ _ (workCover10 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_eq_canon _ _ _ (workCover11 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_eq_canon _ _ _ (workCover12 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H13]
  · unfold owns; iexists _; isplitr
    swap; · iexact H13
    ipureintro; exact View.read_writes_eq_canon _ _ _ (workCover13 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H14]
  · unfold owns; iexists _; isplitr
    swap; · iexact H14
    ipureintro; exact View.read_writes_eq_canon _ _ _ (workCover14 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_eq_canon _ _ _ (workCover15 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_eq_canon _ _ _ (workCover16 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_eq_canon _ _ _ (workCover17 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [HS0]
  · iexists _; unfold owns; iexists _; isplitr
    swap; · iexact HS0
    ipureintro; rfl
  iexact HW

end Cert.Kernel3Ideal.Gen

end
-- ==== Proof.ProjFrame.lean ====
module

public import proofs.«01_k».proof.Proof.ProjHold
public import proofs.«01_k».proof.Proof.ProjOut
public import Idealize.ShloMosaic.Lib.Ring
public import Idealize.ShloMosaic.Lib.Tactic
public import Idealize.ShloMosaic.Lib.Claim
public import Idealize.ShloMosaic.Lib.Pipeline.Value
public import Idealize.ShloMosaic.Lib.Pointwise

@[expose] public section

/-! The launch: every point's buffers follow the named contents, and the argument arrays end unchanged. -/

set_option maxRecDepth 65536

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

theorem before0_0_ofD {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_ofD {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_ofD {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_ofD {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_ofD {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_ofD {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_ofD {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_ofD {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_ofD {c : Dev nD} (dat : Dat τ (Elt F) Unit ℕ (Pipeline.UD sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_ofD {c : Dev nD} (dat : Dat τ (Elt F) Unit ℕ (Pipeline.UD sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 1080000 in
/-- The argument arrays at every final state, from a run to the library's post. -/
theorem frame_ofD (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 6).trans (((dats 0 c).arrAt_in 6 rfl _).trans ((hA c 6).trans (V_main_arg10 m c))),
      ((h c).1 7).trans (((dats 0 c).arrAt_in 7 rfl _).trans ((hA c 7).trans (V_main_arg11 m c))),
      ((h c).1 8).trans (((dats 0 c).arrAt_in 8 rfl _).trans ((hA c 8).trans (V_main_arg12 m c))),
      ((h c).1 9).trans (((dats 0 c).arrAt_in 9 rfl _).trans ((hA c 9).trans (V_main_arg13 m c)))⟩) h

/-- What is held between two points: the weights rounded, the rest of the scratch at anything, the cells at zero, the arrays copied from. -/
def held (c : Dev nD) : sProp 𝕄 := iprop(((∃ d, owns (c : Thread nD τ) scM0_0 fullShare d) ∗ owns (c : Thread nD τ) scM0_1 fullShare (wGate (V m c main_arg2)) ∗ owns (c : Thread nD τ) scM0_2 fullShare (wGate (V m c main_arg3)) ∗ owns (c : Thread nD τ) scM0_3 fullShare (wDown (V m c main_arg4)) ∗ owns (c : Thread nD τ) scM0_4 fullShare (wMain (V m c main_v5)) ∗ owns (c : Thread nD τ) scM0_5 fullShare (wLast (V m c main_v5)) ∗ owns (c : Thread nD τ) scM0_6 fullShare (wLow (V m c main_v5)) ∗ (∃ d, owns (c : Thread nD τ) scM0_7 fullShare d)) ∗ (∃ r, prngReg c r) ∗ (semVal ((c : Thread nD τ), SemLoc.dma 31) 0 ∗ semVal ((c : Thread nD τ), SemLoc.dma 32) 0 ∗ semVal ((c : Thread nD τ), SemLoc.dma 33) 0) ∗ hbPt0 c hbM0_0 (V m c main_arg2) ∗ hbPt0 c hbM0_1 (V m c main_arg3) ∗ hbPt0 c hbM0_2 (V m c main_arg4) ∗ hbPt0 c hbM0_3 (V m c main_v5))

/-- What is held before position `n`: at first what the launch hands over. -/
def PhiN (c : Dev nD) : ℕ → sProp 𝕄
  | 0 => Pipeline.ΦD osem0 spec0 H0 (V m) c
  | _ + 1 => held m c

/-- The proof data: arrays as the region finds them, inputs at their blocks, outputs at the named contents. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out0_10 m c t
    | ⟨11, _⟩ => out0_11 m c t
    | ⟨12, _⟩ => out0_12 m c t
    | ⟨13, _⟩ => out0_13 m c t
    | ⟨14, _⟩ => out0_14 m c t
    | ⟨15, _⟩ => out0_15 m c t
    | ⟨16, _⟩ => out0_16 m c t
    | ⟨17, _⟩ => out0_17 m c t
    | ⟨_ + 18, h⟩ => absurd h (Nat.not_lt.2 (Nat.le_add_left _ _))
  Φ t := PhiN m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = out0_10 m c t := by dsimp only [dats]
theorem after0_11 (c : Dev nD) (t : Fin cfg0.N) : (dats m 0 c).after 11 t = out0_11 m c t := by dsimp only [dats]
theorem after0_12 (c : Dev nD) (t : Fin cfg0.N) : (dats m 0 c).after 12 t = out0_12 m c t := by dsimp only [dats]
theorem after0_13 (c : Dev nD) (t : Fin cfg0.N) : (dats m 0 c).after 13 t = out0_13 m c t := by dsimp only [dats]
theorem after0_14 (c : Dev nD) (t : Fin cfg0.N) : (dats m 0 c).after 14 t = out0_14 m c t := by dsimp only [dats]
theorem after0_15 (c : Dev nD) (t : Fin cfg0.N) : (dats m 0 c).after 15 t = out0_15 m c t := by dsimp only [dats]
theorem after0_16 (c : Dev nD) (t : Fin cfg0.N) : (dats m 0 c).after 16 t = out0_16 m c t := by dsimp only [dats]
theorem after0_17 (c : Dev nD) (t : Fin cfg0.N) : (dats m 0 c).after 17 t = out0_17 m c t := by dsimp only [dats]

theorem before0_0 (c : Dev nD) (t : Fin cfg0.N) (d) : (dats m 0 c).before 0 t d = iblk m c 0 t :=
  before0_0_ofD m (dats m 0 c) (A_eq m c 0) (after0_0 m c) t d
theorem before0_1 (c : Dev nD) (t : Fin cfg0.N) (d) : (dats m 0 c).before 1 t d = iblk m c 1 t :=
  before0_1_ofD m (dats m 0 c) (A_eq m c 1) (after0_1 m c) t d
theorem before0_2 (c : Dev nD) (t : Fin cfg0.N) (d) : (dats m 0 c).before 2 t d = iblk m c 2 t :=
  before0_2_ofD m (dats m 0 c) (A_eq m c 2) (after0_2 m c) t d
theorem before0_3 (c : Dev nD) (t : Fin cfg0.N) (d) : (dats m 0 c).before 3 t d = iblk m c 3 t :=
  before0_3_ofD m (dats m 0 c) (A_eq m c 3) (after0_3 m c) t d
theorem before0_4 (c : Dev nD) (t : Fin cfg0.N) (d) : (dats m 0 c).before 4 t d = iblk m c 4 t :=
  before0_4_ofD m (dats m 0 c) (A_eq m c 4) (after0_4 m c) t d
theorem before0_5 (c : Dev nD) (t : Fin cfg0.N) (d) : (dats m 0 c).before 5 t d = iblk m c 5 t :=
  before0_5_ofD m (dats m 0 c) (A_eq m c 5) (after0_5 m c) t d
theorem before0_6 (c : Dev nD) (t : Fin cfg0.N) (d) : (dats m 0 c).before 6 t d = iblk m c 6 t :=
  before0_6_ofD m (dats m 0 c) (A_eq m c 6) (after0_6 m c) t d
theorem before0_7 (c : Dev nD) (t : Fin cfg0.N) (d) : (dats m 0 c).before 7 t d = iblk m c 7 t :=
  before0_7_ofD m (dats m 0 c) (A_eq m c 7) (after0_7 m c) t d
theorem before0_8 (c : Dev nD) (t : Fin cfg0.N) (d) : (dats m 0 c).before 8 t d = iblk m c 8 t :=
  before0_8_ofD m (dats m 0 c) (A_eq m c 8) (after0_8 m c) t d
theorem before0_9 (c : Dev nD) (t : Fin cfg0.N) (d) : (dats m 0 c).before 9 t d = iblk m c 9 t :=
  before0_9_ofD m (dats m 0 c) (A_eq m c 9) (after0_9 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t))

/-- A point's work with everything held around it. -/
theorem work_held (c : Dev nD) (t : Fin cfg0.N) (W : Waits sig Unit) (K : PUnit → sProp 𝕄) :
    iprop(held m c ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) (ms0_13 t) fullShare d) ∗ (∃ d, owns (c : Thread nD τ) (ms0_14 t) fullShare d) ∗ (∃ d, owns (c : Thread nD τ) (ms0_15 t) fullShare d) ∗ (∃ d, owns (c : Thread nD τ) (ms0_16 t) fullShare d) ∗ (∃ d, owns (c : Thread nD τ) (ms0_17 t) fullShare d) ∗ owes (c : Thread nD τ) 0 W
        ∗ (iprop(held m c ∗ (∃ W', owes (c : Thread nD τ) 0 W') ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (out0_10 m c t) ∗ owns (c : Thread nD τ) (ms0_11 t) fullShare (out0_11 m c t) ∗ owns (c : Thread nD τ) (ms0_12 t) fullShare (out0_12 m c t) ∗ owns (c : Thread nD τ) (ms0_13 t) fullShare (out0_13 m c t) ∗ owns (c : Thread nD τ) (ms0_14 t) fullShare (out0_14 m c t) ∗ owns (c : Thread nD τ) (ms0_15 t) fullShare (out0_15 m c t) ∗ owns (c : Thread nD τ) (ms0_16 t) fullShare (out0_16 m c t) ∗ owns (c : Thread nD τ) (ms0_17 t) fullShare (out0_17 m c t)) -∗ K ⟨⟩))
      ⊢ wp frame (wpE (defs₀ (F := F)) Variants.none c none) Set.univ (workProg (F := F) (grid0.coords t) (ms0_0 t) (hs0_0 t) (ms0_1 t) (hs0_1 t) (Memref.whole main_arg2) (Memref.isWhole_whole _) (Memref.whole main_arg3) (Memref.isWhole_whole _) (Memref.whole main_arg4) (Memref.isWhole_whole _) (ms0_2 t) (hs0_2 t) (ms0_3 t) (hs0_3 t) (Memref.whole main_v5) (Memref.isWhole_whole _) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) cc0_scratch8) K := by
  unfold held
  iintro ⟨⟨⟨HS0, HS1, HS2, HS3, HS4, HS5, HS6, HS7⟩, Hg, Hq, Hh⟩, H0, H1, H2, H3, H4, H5, H6, H7, H8, H9, H10, H11, H12, H13, H14, H15, H16, H17, HW, Hk⟩
  iapply (work_point m c t W K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS1]; · iexact HS1
  isplitl [HS2]; · iexact HS2
  isplitl [HS3]; · iexact HS3
  isplitl [HS4]; · iexact HS4
  isplitl [HS5]; · iexact HS5
  isplitl [HS6]; · iexact HS6
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [HS0]; · iexact HS0
  isplitl [HW]; · iexact HW
  iintro ⟨H0, H1, H2, H3, H4, H5, H6, H7, H8, H9, HS1, HS2, HS3, HS4, HS5, HS6, H10, H11, H12, H13, H14, H15, H16, H17, HS0, HW⟩
  iapply Hk
  isplitl [HS0 HS1 HS2 HS3 HS4 HS5 HS6 HS7 Hg Hq Hh]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    isplitl [Hg]; · iexact Hg
    isplitl [Hq]; · iexact Hq
    iexact Hh
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact H17

/-- The filling with everything held around it. -/
theorem fill_held (c : Dev nD) (t : Fin cfg0.N) (W : Waits sig Unit) (K : PUnit → sProp 𝕄) :
    iprop(Pipeline.ΦD osem0 spec0 H0 (V m) c ∗ owes (c : Thread nD τ) 0 W ∗ (iprop(held m c ∗ (∃ W', owes (c : Thread nD τ) 0 W')) -∗ K ⟨⟩))
      ⊢ wp frame (wpE (defs₀ (F := F)) Variants.none c none) Set.univ (fillProg (F := F) (grid0.coords t) (ms0_0 t) (hs0_0 t) (ms0_1 t) (hs0_1 t) (Memref.whole main_arg2) (Memref.isWhole_whole _) (Memref.whole main_arg3) (Memref.isWhole_whole _) (Memref.whole main_arg4) (Memref.isWhole_whole _) (ms0_2 t) (hs0_2 t) (ms0_3 t) (hs0_3 t) (Memref.whole main_v5) (Memref.isWhole_whole _) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) cc0_scratch8) K := by
  rw [PhiD0_eq]; unfold held
  iintro ⟨⟨⟨HS0, HS1, HS2, HS3, HS4, HS5, HS6, HS7⟩, Hg, ⟨Hq0, Hq1, Hq2⟩, ⟨Hh0, Hh1, Hh2, Hh3⟩⟩, HW, Hk⟩
  iapply (fill_point m c t W K)
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [Hq0]; · iexact Hq0
  isplitl [Hq1]; · iexact Hq1
  isplitl [Hq2]; · iexact Hq2
  isplitl [Hh0]; · iexact Hh0
  isplitl [Hh1]; · iexact Hh1
  isplitl [Hh2]; · iexact Hh2
  isplitl [Hh3]; · iexact Hh3
  isplitl [HW]; · iexact HW
  iintro ⟨HS1, HS2, HS3, HS4, HS5, HS6, HS7, Hq0, Hq1, Hq2, Hh0, Hh1, Hh2, Hh3, HW⟩
  iapply Hk
  isplitr [HW]
  · isplitl [HS0 HS1 HS2 HS3 HS4 HS5 HS6 HS7]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iexact HS7
    isplitl [Hg]; · iexact Hg
    isplitl [Hq0 Hq1 Hq2]
    · isplitl [Hq0]; · iexact Hq0
      isplitl [Hq1]; · iexact Hq1
      iexact Hq2
    isplitl [Hh0]; · iexact Hh0
    isplitl [Hh1]; · iexact Hh1
    isplitl [Hh2]; · iexact Hh2
    iexact Hh3
  iexact HW

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = held m c from rfl,
    after0_0, after0_1, after0_2, after0_3, after0_4, after0_5, after0_6, after0_7, after0_8, after0_9, after0_10, after0_11, after0_12, after0_13, after0_14, after0_15, after0_16, after0_17]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  rw [show (dats m 0 c).Φ t.castSucc = PhiN m c t.val from rfl]
  by_cases h0 : t.val % 32 = 0
  · rw [show t.val = 0 by omega, show PhiN m c 0 = Pipeline.ΦD osem0 spec0 H0 (V m) c from rfl]
    rw [body_fill (h := (hcond0_0 t).mpr h0), wp_bind]
    iintro ⟨HP, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (fill_held m c t W _)
    isplitl [HP]; · iexact HP
    isplitl [HW]; · iexact HW
    iintro ⟨HP, ⟨%W', HW⟩⟩
    iapply (work_held m c t W' _)
    isplitl [HP]; · iexact HP
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HW]; · iexact HW
    iintro ⟨HP, ⟨%W'', HW⟩, HR⟩
    isplitl [HP]; · iexact HP
    isplitl [HW]
    · iexists W''; isplitr; · ipureintro; exact fun _ _ => Or.inl trivial
      iexact HW
    iexact HR
  · obtain ⟨k, hk⟩ : ∃ k, t.val = k + 1 := ⟨t.val - 1, by omega⟩
    rw [hk, show PhiN m c (k + 1) = held m c from rfl]
    rw [body_work (h := fun h => h0 ((hcond0_0 t).mp h))]
    iintro ⟨HP, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply (work_held m c t W _)
    isplitl [HP]; · iexact HP
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [HW]; · iexact HW
    iintro ⟨HP, ⟨%W'', HW⟩, HR⟩
    isplitl [HP]; · iexact HP
    isplitl [HW]
    · iexists W''; isplitr; · ipureintro; exact fun _ _ => Or.inl trivial
      iexact HW
    iexact HR

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is what is held before the first point. -/
theorem hin (c : Dev nD) : Pipeline.ΦD osem0 spec0 H0 (V m) c ⊢ (dats m 0 c).Φ 0 := Idealize.SL.BI.Entails.refl _

/-- After the last point what the launch handed over is given back. -/
theorem hout (c : Dev nD) : (dats m 0 c).Φ (Fin.last cfg0.N) ⊢ Pipeline.ΦD osem0 spec0 H0 (V m) c := by
  rw [show (dats m 0 c).Φ (Fin.last cfg0.N) = held m c by
    rw [show (dats m 0 c).Φ (Fin.last cfg0.N) = PhiN m c (Fin.last cfg0.N).val from rfl, Fin.val_last, show cfg0.N = 31 + 1 from N_0]; rfl]
  unfold held
  rw [PhiD0_eq]
  iintro ⟨⟨HS0, HS1, HS2, HS3, HS4, HS5, HS6, HS7⟩, Hg, ⟨Hq0, Hq1, Hq2⟩, ⟨Hh0, Hh1, Hh2, Hh3⟩⟩
  isplitl [HS0 HS1 HS2 HS3 HS4 HS5 HS6 HS7]
  · isplitl [HS0]
    · iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    isplitl [HS6]
    · iexists _; iexact HS6
    iexact HS7
  isplitl [Hg]; · iexact Hg
  isplitl [Hq0 Hq1 Hq2]
  · isplitl [Hq0]; · iexact Hq0
    isplitl [Hq1]; · iexact Hq1
    iexact Hq2
  isplitl [Hh0]; · iexact Hh0
  isplitl [Hh1]; · iexact Hh1
  isplitl [Hh2]; · iexact Hh2
  iexact Hh3

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_ofD m ρ (dats m) (A_eq m) (run_main m ρ)

/-- The frame over any values: every final state has the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Kernel3Ideal.Gen

end
-- ==== Proof.ProjBits.lean ====
module

public import proofs.«01_k».proof.Proof.Gen.Kernel3.Frame
public import proofs.«01_k».proof.Proof.ProjFrame

@[expose] public section

set_option maxRecDepth 100000
set_option maxHeartbeats 4000000

/-! # The frame of the first call as it is

The program and its reading over the extended reals have the same text. The bodies, the tables and the host's part are
compared one after the other, and the run over any values gives the frame. -/

noncomputable section

namespace Cert.Kernel3.Gen

open Idealize.ShloMosaic Idealize.ShloMosaic.TcCoe Idealize.SL.Sem

theorem body_eq : @Cert.Kernel3.cc0_ffn_proj Bits _ _ = @Cert.Kernel3Ideal.cc0_ffn_proj Bits _ _ := rfl

theorem table_eq : Cert.Kernel3.defs₀ (F := Bits) = Cert.Kernel3Ideal.defs₀ (F := Bits) := by
  unfold Cert.Kernel3.defs₀ Cert.Kernel3Ideal.defs₀
  refine congrArg Defs.onTc (funext fun l => funext fun a => ?_)
  match l, a with
  | 0, (t, s) =>
    dsimp only
    rw [body_eq]
    rfl

theorem defs_eq : Cert.Kernel3.defs (F := Bits) = Cert.Kernel3Ideal.defs (F := Bits) := by
  unfold Cert.Kernel3.defs Cert.Kernel3Ideal.defs
  exact congrArg (Pipeline.defs (Cert.Kernel3Ideal.pcfgs (F := Bits))) table_eq

theorem main_same : Cert.Kernel3.main (F := Bits) = Cert.Kernel3Ideal.main (F := Bits) := rfl

/-- Every final state has the argument arrays unchanged and every counter at zero. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) := by
  rw [defs_eq, main_same]
  exact Cert.Kernel3Ideal.Gen.frame (F := Bits) m ρ

end Cert.Kernel3.Gen

end
-- ==== Proof.ProjSpec.lean ====
module

public import proofs.«01_k».proof.Proof.MixSpec

@[expose] public section

set_option maxRecDepth 16384

/-! # One token of the first call

The first feed-forward half and the combined projection of one token, as functions over the extended reals: both programs
are read down to them. -/

noncomputable section

namespace Proj

open Idealize.ShloMosaic

/-- The factor of the queries, -/
abbrev cQuery : EReal := Ideal.ofBits .f32 0x3E38AA3B#32
/-- the length of a block of tokens, -/
abbrev cBlock : EReal := Ideal.ofBits .f32 0x43800000#32
/-- the kernel's factor of the logarithmic gate, -/
abbrev cGate : EReal := Ideal.ofBits .f32 0x3DB8AA3B#32
/-- and the logarithm of e to base two, which is sixteen times as much. -/
abbrev cLog : EReal := Ideal.ofBits .f32 0x3FB8AA3B#32

/-- The residual stream after the first feed-forward half, -/
def stream (x pre : Fin 1024 → EReal) (wg wu : Fin 1024 → Fin 2816 → EReal) (wd : Fin 2816 → Fin 1024 → EReal) (post : Fin 1024 → EReal) :
    Fin 1024 → EReal :=
  Mix.finish x (Mix.hid (Mix.rms Mix.c1024 x pre) wg wu) wd post

/-- the combined projection of its norm, -/
def cols (s g : Fin 1024 → EReal) (wi : Fin 1024 → Fin 3088 → EReal) : Fin 3088 → EReal := Mix.prod (Mix.rms Mix.c1024 s g) wi

/-- the columns that are kept: the queries with their factor, and all but the low-rank gate's sixteen, -/
def kept (p : Fin 3088 → EReal) (k : Fin 3072) : EReal :=
  if k.val < 512 then p ⟨k.val, by omega⟩ * cQuery
  else if k.val < 2560 then p ⟨k.val, by omega⟩
  else p ⟨k.val + 16, by omega⟩

/-- the gate's argument, -/
def low (p : Fin 3088 → EReal) (wup : Fin 16 → Fin 256 → EReal) (b : Fin 256 → EReal) (c : Fin 256) : EReal :=
  (∑ r : Fin 16, p ⟨2560 + r.val, by omega⟩ * wup r c) + b c

/-- the logarithm of the gate, scaled, -/
def logGate (z : EReal) : EReal := (min z 0 - Ideal.log (1 + Ideal.exp (-(max z (-z))))) * cGate

/-- and the mean of the keys over a block. -/
def keyMean (p : Fin 256 → Fin 3088 → EReal) (d : Fin 512) : EReal := Ideal.div (∑ r, p r ⟨512 + d.val, by omega⟩) cBlock

section results

variable (x0 : (⟨2, ![16384, 1024]⟩ : Shape).Idx → EReal) (x1 : (⟨1, ![1024]⟩ : Shape).Idx → EReal) (x2 x3 : (⟨2, ![1024, 2816]⟩ : Shape).Idx → EReal)
  (x4 : (⟨2, ![2816, 1024]⟩ : Shape).Idx → EReal) (x5 x6 : (⟨1, ![1024]⟩ : Shape).Idx → EReal) (x7 : (⟨2, ![1024, 3088]⟩ : Shape).Idx → EReal)
  (x8 : (⟨2, ![16, 256]⟩ : Shape).Idx → EReal) (x9 : (⟨1, ![256]⟩ : Shape).Idx → EReal)

/-- The stream of token `q`, of the call's arguments, -/
def tokenStream (q : Fin 16384) : Fin 1024 → EReal :=
  stream (fun k => x0 (ix2 q k)) (fun k => x1 (ix1 k)) (fun a b => x2 (ix2 a b)) (fun a b => x3 (ix2 a b)) (fun a b => x4 (ix2 a b)) (fun k => x5 (ix1 k))

/-- its combined projection, -/
def tokenCols (q : Fin 16384) : Fin 3088 → EReal := cols (tokenStream x0 x1 x2 x3 x4 x5 q) (fun k => x6 (ix1 k)) (fun a b => x7 (ix2 a b))

/-- the columns of it that are kept, -/
def tokenKept (q : Fin 16384) : Fin 3072 → EReal := kept (tokenCols x0 x1 x2 x3 x4 x5 x6 x7 q)

/-- its logarithmic gate, -/
def tokenGate (q : Fin 16384) (d : Fin 256) : EReal :=
  logGate (low (tokenCols x0 x1 x2 x3 x4 x5 x6 x7 q) (fun a b => x8 (ix2 a b)) (fun k => x9 (ix1 k)) d)

/-- and the mean of the keys of block `b`. -/
def blockMean (b : Fin 64) (d : Fin 512) : EReal := keyMean (fun r => tokenCols x0 x1 x2 x3 x4 x5 x6 x7 ⟨256 * b.val + r.val, by omega⟩) d

end results

end Proj

end
-- ==== Proof.ProjRow.lean ====
module

public import proofs.«01_k».proof.Proof.Gen.Kernel3Ideal.Skeleton
public import proofs.«01_k».proof.Proof.ProjSpec

@[expose] public section

set_option maxRecDepth 16384

/-! # A tile of the first call, row by row

Over the extended reals each row of a tile is the row function of the same row of its operands. -/

noncomputable section

namespace Cert.Kernel3Ideal.Gen

open Idealize.ShloMosaic Idealize.ShloMosaic.TcCoe Idealize.ShloMosaic.Tactic

variable (i : Fin 256)

theorem norm_row (x : Vec Ideal S256x1024 .f32) (g : Vec Ideal S1x1024 .f32) (k : Fin 1024) :
    (k0_pay42 x g (ix2 i k) : EReal) = Mix.rms Mix.c1024 (fun k => x (ix2 i k)) (fun k => g (ix2 0 k)) k := by
  unfold k0_pay42 Mix.rms Mix.scale
  pointwise

theorem hidden_row (xn : FVec Ideal S256x1024 .bf16) (wg wu : Vec Ideal S1024x256 .bf16) (c : Fin 256) :
    (k0_pay57 xn wg wu (ix2 i c) : EReal)
      = Mix.gate (Mix.prod (fun k => xn (ix2 i k)) (fun k c => wg (ix2 k c)) c) * Mix.prod (fun k => xn (ix2 i k)) (fun k c => wu (ix2 k c)) c := by
  unfold k0_pay57 Mix.gate Mix.prod
  pointwise
  rw [zero_sub]

theorem down_row (h : Vec Ideal S256x2816 .bf16) (wd : Vec Ideal S2816x1024 .bf16) (c : Fin 1024) :
    (k0_pay73 h wd (ix2 i c) : EReal) = Mix.prod (fun k => h (ix2 i k)) (fun k c => wd (ix2 k c)) c := by
  unfold k0_pay73 Mix.prod
  pointwise

theorem stream_row (d : FVec Ideal S256x1024 .f32) (x : Vec Ideal S256x1024 .f32) (post : Vec Ideal S1x1024 .f32) (c : Fin 1024) :
    (k0_pay77 d x post (ix2 i c) : EReal)
      = x (ix2 i c) + Mix.half * Mix.rms Mix.c1024 (fun k => d (ix2 i k)) (fun k => post (ix2 0 k)) c := by
  unfold k0_pay77 Mix.rms Mix.scale
  pointwise

theorem cols_row (xn : FVec Ideal S256x1024 .bf16) (w : Vec Ideal S1024x512 .bf16) (c : Fin 512) :
    (k0_pay93 xn w (ix2 i c) : EReal) = Mix.prod (fun k => xn (ix2 i k)) (fun k c => w (ix2 k c)) c := by
  unfold k0_pay93 Mix.prod
  pointwise

theorem query_row (s : FVec Ideal S256x1024 .f32) (g : Vec Ideal S1x1024 .f32) (w : Vec Ideal S1024x512 .bf16) (c : Fin 512) :
    (k0_pay97 s g w (ix2 i c) : EReal) = Mix.prod (fun k => k0_pay95 s g (ix2 i k)) (fun k c => w (ix2 k c)) c * Proj.cQuery := by
  unfold k0_pay97 Mix.prod
  pointwise

theorem mean_row (xn : FVec Ideal S256x1024 .bf16) (w : Vec Ideal S1024x512 .bf16) (d : Fin 512) :
    (k0_pay90 xn w (ix3 0 0 d) : EReal)
      = Ideal.div (∑ r : Fin 256, Mix.prod (fun k => xn (ix2 r k)) (fun k c => w (ix2 k c)) d) Proj.cBlock := by
  unfold k0_pay90 k0_pay88 Mix.prod
  pointwise

theorem gate_row (xn : FVec Ideal S256x1024 .bf16) (wl : Vec Ideal S128x1024 .bf16) (wup : Vec Ideal S128x256 .bf16) (b : Vec Ideal S1x256 .f32)
    (c : Fin 256) :
    (k0_pay102 xn wl wup b (ix2 i c) : EReal)
      = Proj.logGate ((∑ r : Fin 128, (∑ k : Fin 1024, xn (ix2 i k) * wl (ix2 r k)) * wup (ix2 r c)) + b (ix2 0 c)) := by
  unfold k0_pay102 Proj.logGate
  pointwise
  rw [zero_sub]
  rfl

end Cert.Kernel3Ideal.Gen

end
-- ==== Proof.ProjHid.lean ====
module

public import proofs.«01_k».proof.Proof.ProjOut
public import proofs.«01_k».proof.Proof.ProjRow
public import Idealize.ShloMosaic.Lib.Pipeline.Value

@[expose] public section

set_option maxRecDepth 16384

/-! # The hidden columns of one grid point of the first call

The scratch that the hidden columns are stored in, tile after tile, read back: each row is the row function of the same row
of the operands. -/

noncomputable section

namespace Cert.Kernel3Ideal.Gen

open Idealize.ShloMosaic Idealize.ShloMosaic.TcCoe Idealize.ShloMosaic.Tactic

theorem read2 {m n m' n' : ℕ} {e : EltTy} (a : Memref sig .tc .vmem ⟨2, ![m, n]⟩ e) (ha : a.IsWhole) (x : Vec Ideal ⟨2, ![m, n]⟩ e)
    (lo : Fin 2 → ℕ) (inb : ∀ d, lo d + (![m', n'] : Fin 2 → ℕ) d ≤ (⟨2, ![m, n]⟩ : Shape).size d) (i : Fin m') (j : Fin n') (i' : Fin m) (j' : Fin n)
    (hi : i'.val = lo 0 + i.val) (hj : j'.val = lo 1 + j.val) :
    View.readAt (Elt Ideal) a.view (Rect.unit (s := ⟨2, ![m, n]⟩) lo ![m', n'] inb).toLoadRect (ha.unread x) (ix2 (n0 := m') (n1 := n') i j) = x (ix2 i' j') := by
  rw [View.readAt_apply, ha.read_unread]
  congr 1
  funext d
  apply Fin.ext
  rw [LoadRect.idx_apply]
  match d with
  | ⟨0, _⟩ => show lo 0 + 1 * i.val = i'.val; omega
  | ⟨1, _⟩ => show lo 1 + 1 * j.val = j'.val; omega

theorem ix2_of {m n : ℕ} (y : (⟨2, ![m, n]⟩ : Shape).Idx) : ∃ (i : Fin m) (j : Fin n), y = ix2 i j :=
  ⟨y 0, y 1, by
    funext d
    match d with
    | ⟨0, _⟩ => rfl
    | ⟨1, _⟩ => rfl⟩

/-- The hidden columns of a block of tokens. -/
def hidAt (x0 : Vec Ideal S512x1024 .f32) (x1 : Vec Ideal S1x1024 .f32) (w1 w2 : Vec Ideal S1024x2816 .bf16) (y : S512x2816.Idx) : EReal :=
  Mix.hid (Mix.rms Mix.c1024 (fun k => x0 (ix2 (y 0) k)) (fun k => x1 (ix2 0 k))) (fun a b => w1 (ix2 a b)) (fun a b => w2 (ix2 a b)) (y 1)

variable (c : Dev nD) (arg1 : Memref sig .tc .vmem S512x1024 .f32) (harg1 : arg1.IsWhole) (arg2 : Memref sig .tc .vmem S1x1024 .f32) (harg2 : arg2.IsWhole)
  (arg23 : Memref sig .tc .vmem S512x2816 .bf16)
  (arg24 : Memref sig .tc .vmem S1024x2816 .bf16) (harg24 : arg24.IsWhole) (arg25 : Memref sig .tc .vmem S1024x2816 .bf16) (harg25 : arg25.IsWhole)
  (x0 : Vec Ideal S512x1024 .f32) (x1 : Vec Ideal S1x1024 .f32) (w1 w2 : Vec Ideal S1024x2816 .bf16)

/-- One tile of them, as the kernel computes it. -/
theorem hid_piece (a b : ℕ) (inbx : ∀ d, (![a, 0] : Fin 2 → ℕ) d + (![256, 1024] : Fin 2 → ℕ) d ≤ S512x1024.size d)
    (inbw : ∀ d, (![0, b] : Fin 2 → ℕ) d + (![1024, 256] : Fin 2 → ℕ) d ≤ S1024x2816.size d)
    (inbh : ∀ d, (![a, b] : Fin 2 → ℕ) d + (![256, 256] : Fin 2 → ℕ) d ≤ S512x2816.size d) (x : S256x256.Idx) :
    (k0_pay57 (k0_pay42 (View.readAt (Elt Ideal) arg1.view (Rect.unit ![a, 0] ![256, 1024] inbx).toLoadRect (harg1.unread x0))
          (View.readAt (Elt Ideal) arg2.view (Rect.unit ![0, 0] ![1, 1024] inb_S1x1024_S1x1024_0_0).toLoadRect (harg2.unread x1)))
        (View.readAt (Elt Ideal) arg24.view (Rect.unit ![0, b] ![1024, 256] inbw).toLoadRect (harg24.unread w1))
        (View.readAt (Elt Ideal) arg25.view (Rect.unit ![0, b] ![1024, 256] inbw).toLoadRect (harg25.unread w2)) x : EReal)
      = hidAt x0 x1 w1 w2 ((Rect.unit (s := S512x2816) ![a, b] ![256, 256] inbh).emb x) := by
  obtain ⟨i, j, rfl⟩ := ix2_of x
  rw [hidden_row]
  have ha : a + i.val < 512 := by have h : a + 256 ≤ 512 := inbh 0; omega
  have hb : b + j.val < 2816 := by have h : b + 256 ≤ 2816 := inbh 1; omega
  have e0 : (Rect.unit (s := S512x2816) ![a, b] ![256, 256] inbh).emb (ix2 (n0 := 256) (n1 := 256) i j) = ix2 (n0 := 512) (n1 := 2816) ⟨a + i.val, ha⟩ ⟨b + j.val, hb⟩ := by
    funext d
    apply Fin.ext
    rw [Rect.emb_apply]
    match d with
    | ⟨0, _⟩ => show a + 1 * i.val = a + i.val; omega
    | ⟨1, _⟩ => show b + 1 * j.val = b + j.val; omega
  rw [e0]
  have hx : ∀ k, (k0_pay42 (View.readAt (Elt Ideal) arg1.view (Rect.unit ![a, 0] ![256, 1024] inbx).toLoadRect (harg1.unread x0))
          (View.readAt (Elt Ideal) arg2.view (Rect.unit ![0, 0] ![1, 1024] inb_S1x1024_S1x1024_0_0).toLoadRect (harg2.unread x1)) (ix2 i k) : EReal)
        = Mix.rms Mix.c1024 (fun k => x0 (ix2 ⟨a + i.val, ha⟩ k)) (fun k => x1 (ix2 0 k)) k := fun k => by
    rw [norm_row]
    congr 1
    · funext k; exact read2 _ _ _ _ _ _ _ _ _ rfl (Nat.zero_add _).symm
    · funext k; exact read2 _ _ _ _ _ _ _ _ _ rfl (Nat.zero_add _).symm
  have h1 : ∀ k, (View.readAt (Elt Ideal) arg24.view (Rect.unit (s := S1024x2816) ![0, b] ![1024, 256] inbw).toLoadRect (harg24.unread w1) (ix2 (n0 := 1024) (n1 := 256) k j) : EReal)
      = w1 (ix2 k ⟨b + j.val, hb⟩) := fun k => read2 _ _ _ _ _ _ _ _ _ (Nat.zero_add _).symm rfl
  have h2 : ∀ k, (View.readAt (Elt Ideal) arg25.view (Rect.unit (s := S1024x2816) ![0, b] ![1024, 256] inbw).toLoadRect (harg25.unread w2) (ix2 (n0 := 1024) (n1 := 256) k j) : EReal)
      = w2 (ix2 k ⟨b + j.val, hb⟩) := fun k => read2 _ _ _ _ _ _ _ _ _ (Nat.zero_add _).symm rfl
  unfold hidAt Mix.hid Mix.prod
  simp only [hx, h1, h2]
  rfl

theorem hidAgree18 : ∀ p ∈ workRun.sl.HS0_18 (F := Ideal) c arg1 harg1 arg2 harg2 arg24 harg24 arg25 harg25 x0 x1 w1 w2,
    ∀ x, p.2 x = hidAt x0 x1 w1 w2 (p.1.emb x) := by
  refine List.forall_mem_cons.2 ⟨hid_piece arg1 harg1 arg2 harg2 arg24 harg24 arg25 harg25 x0 x1 w1 w2 256 1536 inb_S512x1024_S256x1024_256_0 inb_S1024x2816_S1024x256_0_1536 inb_S512x2816_S256x256_256_1536, ?_⟩
  refine List.forall_mem_cons.2 ⟨hid_piece arg1 harg1 arg2 harg2 arg24 harg24 arg25 harg25 x0 x1 w1 w2 0 2560 inb_S512x1024_S256x1024_0_0 inb_S1024x2816_S1024x256_0_2560 inb_S512x2816_S256x256_0_2560, ?_⟩
  refine List.forall_mem_cons.2 ⟨hid_piece arg1 harg1 arg2 harg2 arg24 harg24 arg25 harg25 x0 x1 w1 w2 256 1280 inb_S512x1024_S256x1024_256_0 inb_S1024x2816_S1024x256_0_1280 inb_S512x2816_S256x256_256_1280, ?_⟩
  refine List.forall_mem_cons.2 ⟨hid_piece arg1 harg1 arg2 harg2 arg24 harg24 arg25 harg25 x0 x1 w1 w2 0 2304 inb_S512x1024_S256x1024_0_0 inb_S1024x2816_S1024x256_0_2304 inb_S512x2816_S256x256_0_2304, ?_⟩
  refine List.forall_mem_cons.2 ⟨hid_piece arg1 harg1 arg2 harg2 arg24 harg24 arg25 harg25 x0 x1 w1 w2 256 1024 inb_S512x1024_S256x1024_256_0 inb_S1024x2816_S1024x256_0_1024 inb_S512x2816_S256x256_256_1024, ?_⟩
  refine List.forall_mem_cons.2 ⟨hid_piece arg1 harg1 arg2 harg2 arg24 harg24 arg25 harg25 x0 x1 w1 w2 0 2048 inb_S512x1024_S256x1024_0_0 inb_S1024x2816_S1024x256_0_2048 inb_S512x2816_S256x256_0_2048, ?_⟩
  refine List.forall_mem_cons.2 ⟨hid_piece arg1 harg1 arg2 harg2 arg24 harg24 arg25 harg25 x0 x1 w1 w2 256 768 inb_S512x1024_S256x1024_256_0 inb_S1024x2816_S1024x256_0_768 inb_S512x2816_S256x256_256_768, ?_⟩
  refine List.forall_mem_cons.2 ⟨hid_piece arg1 harg1 arg2 harg2 arg24 harg24 arg25 harg25 x0 x1 w1 w2 0 1792 inb_S512x1024_S256x1024_0_0 inb_S1024x2816_S1024x256_0_1792 inb_S512x2816_S256x256_0_1792, ?_⟩
  refine List.forall_mem_cons.2 ⟨hid_piece arg1 harg1 arg2 harg2 arg24 harg24 arg25 harg25 x0 x1 w1 w2 256 512 inb_S512x1024_S256x1024_256_0 inb_S1024x2816_S1024x256_0_512 inb_S512x2816_S256x256_256_512, ?_⟩
  refine List.forall_mem_cons.2 ⟨hid_piece arg1 harg1 arg2 harg2 arg24 harg24 arg25 harg25 x0 x1 w1 w2 0 1536 inb_S512x1024_S256x1024_0_0 inb_S1024x2816_S1024x256_0_1536 inb_S512x2816_S256x256_0_1536, ?_⟩
  refine List.forall_mem_cons.2 ⟨hid_piece arg1 harg1 arg2 harg2 arg24 harg24 arg25 harg25 x0 x1 w1 w2 256 256 inb_S512x1024_S256x1024_256_0 inb_S1024x2816_S1024x256_0_256 inb_S512x2816_S256x256_256_256, ?_⟩
  refine List.forall_mem_cons.2 ⟨hid_piece arg1 harg1 arg2 harg2 arg24 harg24 arg25 harg25 x0 x1 w1 w2 0 1280 inb_S512x1024_S256x1024_0_0 inb_S1024x2816_S1024x256_0_1280 inb_S512x2816_S256x256_0_1280, ?_⟩
  refine List.forall_mem_cons.2 ⟨hid_piece arg1 harg1 arg2 harg2 arg24 harg24 arg25 harg25 x0 x1 w1 w2 256 0 inb_S512x1024_S256x1024_256_0 inb_S1024x2816_S1024x256_0_0 inb_S512x2816_S256x256_256_0, ?_⟩
  refine List.forall_mem_cons.2 ⟨hid_piece arg1 harg1 arg2 harg2 arg24 harg24 arg25 harg25 x0 x1 w1 w2 0 1024 inb_S512x1024_S256x1024_0_0 inb_S1024x2816_S1024x256_0_1024 inb_S512x2816_S256x256_0_1024, ?_⟩
  refine List.forall_mem_cons.2 ⟨hid_piece arg1 harg1 arg2 harg2 arg24 harg24 arg25 harg25 x0 x1 w1 w2 0 768 inb_S512x1024_S256x1024_0_0 inb_S1024x2816_S1024x256_0_768 inb_S512x2816_S256x256_0_768, ?_⟩
  refine List.forall_mem_cons.2 ⟨hid_piece arg1 harg1 arg2 harg2 arg24 harg24 arg25 harg25 x0 x1 w1 w2 0 512 inb_S512x1024_S256x1024_0_0 inb_S1024x2816_S1024x256_0_512 inb_S512x2816_S256x256_0_512, ?_⟩
  refine List.forall_mem_cons.2 ⟨hid_piece arg1 harg1 arg2 harg2 arg24 harg24 arg25 harg25 x0 x1 w1 w2 0 256 inb_S512x1024_S256x1024_0_0 inb_S1024x2816_S1024x256_0_256 inb_S512x2816_S256x256_0_256, ?_⟩
  refine List.forall_mem_cons.2 ⟨hid_piece arg1 harg1 arg2 harg2 arg24 harg24 arg25 harg25 x0 x1 w1 w2 0 0 inb_S512x1024_S256x1024_0_0 inb_S1024x2816_S1024x256_0_0 inb_S512x2816_S256x256_0_0, ?_⟩
  exact fun p h => absurd h List.not_mem_nil

theorem hidAgree : ∀ p ∈ workRun.sl.HS0_22 (F := Ideal) c arg1 harg1 arg2 harg2 arg24 harg24 arg25 harg25 x0 x1 w1 w2,
    ∀ x, p.2 x = hidAt x0 x1 w1 w2 (p.1.emb x) := by
  refine List.forall_mem_cons.2 ⟨hid_piece arg1 harg1 arg2 harg2 arg24 harg24 arg25 harg25 x0 x1 w1 w2 256 2560 inb_S512x1024_S256x1024_256_0 inb_S1024x2816_S1024x256_0_2560 inb_S512x2816_S256x256_256_2560, ?_⟩
  refine List.forall_mem_cons.2 ⟨hid_piece arg1 harg1 arg2 harg2 arg24 harg24 arg25 harg25 x0 x1 w1 w2 256 2304 inb_S512x1024_S256x1024_256_0 inb_S1024x2816_S1024x256_0_2304 inb_S512x2816_S256x256_256_2304, ?_⟩
  refine List.forall_mem_cons.2 ⟨hid_piece arg1 harg1 arg2 harg2 arg24 harg24 arg25 harg25 x0 x1 w1 w2 256 2048 inb_S512x1024_S256x1024_256_0 inb_S1024x2816_S1024x256_0_2048 inb_S512x2816_S256x256_256_2048, ?_⟩
  refine List.forall_mem_cons.2 ⟨hid_piece arg1 harg1 arg2 harg2 arg24 harg24 arg25 harg25 x0 x1 w1 w2 256 1792 inb_S512x1024_S256x1024_256_0 inb_S1024x2816_S1024x256_0_1792 inb_S512x2816_S256x256_256_1792, ?_⟩
  exact hidAgree18 c arg1 harg1 arg2 harg2 arg24 harg24 arg25 harg25 x0 x1 w1 w2

theorem hidCover (y : S512x2816.Idx) :
    ∃ p ∈ workRun.sl.HS0_22 (F := Ideal) c arg1 harg1 arg2 harg2 arg24 harg24 arg25 harg25 x0 x1 w1 w2, y ∈ p.1.set :=
  View.cover_of_tiledL _ ![256, 256] (by sl_kernel_rfl) y

theorem hidCover18 (y : S512x2816.Idx) (hy : (y 0).val < 256) :
    ∃ p ∈ workRun.sl.HS0_18 (F := Ideal) c arg1 harg1 arg2 harg2 arg24 harg24 arg25 harg25 x0 x1 w1 w2, y ∈ p.1.set := by
  obtain ⟨p, hp, hm⟩ := hidCover c arg1 harg1 arg2 harg2 arg24 harg24 arg25 harg25 x0 x1 w1 w2 y
  have out : ∀ (lo : Fin 2 → ℕ) (inb : ∀ d, lo d + (![256, 256] : Fin 2 → ℕ) d ≤ S512x2816.size d), lo 0 = 256 →
      ¬ y ∈ (Rect.unit (s := S512x2816) lo ![256, 256] inb).set := fun lo inb e h => by
    have h0 := (Rect.mem_set_unit.1 h 0).1
    omega
  rcases List.mem_cons.1 hp with rfl | hp
  · exact absurd hm (out ![256, 2560] inb_S512x2816_S256x256_256_2560 rfl)
  rcases List.mem_cons.1 hp with rfl | hp
  · exact absurd hm (out ![256, 2304] inb_S512x2816_S256x256_256_2304 rfl)
  rcases List.mem_cons.1 hp with rfl | hp
  · exact absurd hm (out ![256, 2048] inb_S512x2816_S256x256_256_2048 rfl)
  rcases List.mem_cons.1 hp with rfl | hp
  · exact absurd hm (out ![256, 1792] inb_S512x2816_S256x256_256_1792 rfl)
  exact ⟨p, hp, hm⟩

/-- What the down product reads of the first half's rows, -/
theorem first_hid (i : Fin 256) (j : Fin 2816) :
    (workRun.sl.v305 (F := Ideal) c arg1 harg1 arg2 harg2 arg23 arg24 harg24 arg25 harg25 x0 x1 w1 w2 (ix2 (n0 := 256) (n1 := 2816) i j) : EReal)
      = hidAt x0 x1 w1 w2 (ix2 (n0 := 512) (n1 := 2816) ⟨i.val, by omega⟩ j) := by
  unfold workRun.sl.v305
  rw [View.readCov_eq_canon']
  show View.canon _ ((Rect.unit (s := S512x2816) ![0, 0] S256x2816.size inb_S512x2816_S256x2816_0_0).toLoadRect.idx (ix2 (n0 := 256) (n1 := 2816) i j)) = _
  rw [show (Rect.unit (s := S512x2816) ![0, 0] S256x2816.size inb_S512x2816_S256x2816_0_0).toLoadRect.idx (ix2 (n0 := 256) (n1 := 2816) i j)
      = ix2 (n0 := 512) (n1 := 2816) ⟨i.val, by omega⟩ j from by
    funext d
    apply Fin.ext
    rw [LoadRect.idx_apply]
    match d with
    | ⟨0, _⟩ => show 0 + 1 * i.val = i.val; omega
    | ⟨1, _⟩ => show 0 + 1 * j.val = j.val; omega]
  exact View.canon_apply_of_pieces (hidAt x0 x1 w1 w2) _ (hidAgree18 c arg1 harg1 arg2 harg2 arg24 harg24 arg25 harg25 x0 x1 w1 w2) _
    (hidCover18 c arg1 harg1 arg2 harg2 arg24 harg24 arg25 harg25 x0 x1 w1 w2 (ix2 (n0 := 512) (n1 := 2816) ⟨i.val, by omega⟩ j) i.isLt)

/-- and of the second half's. -/
theorem second_hid (i : Fin 256) (j : Fin 2816) :
    (workRun.sl.v423 (F := Ideal) c arg1 harg1 arg2 harg2 arg23 arg24 harg24 arg25 harg25 x0 x1 w1 w2 (ix2 (n0 := 256) (n1 := 2816) i j) : EReal)
      = hidAt x0 x1 w1 w2 (ix2 (n0 := 512) (n1 := 2816) ⟨256 + i.val, by omega⟩ j) := by
  unfold workRun.sl.v423
  rw [View.readCov_eq_canon']
  show View.canon _ ((Rect.unit (s := S512x2816) ![256, 0] S256x2816.size inb_S512x2816_S256x2816_256_0).toLoadRect.idx (ix2 (n0 := 256) (n1 := 2816) i j)) = _
  rw [show (Rect.unit (s := S512x2816) ![256, 0] S256x2816.size inb_S512x2816_S256x2816_256_0).toLoadRect.idx (ix2 (n0 := 256) (n1 := 2816) i j)
      = ix2 (n0 := 512) (n1 := 2816) ⟨256 + i.val, by omega⟩ j from by
    funext d
    apply Fin.ext
    rw [LoadRect.idx_apply]
    match d with
    | ⟨0, _⟩ => show 256 + 1 * i.val = 256 + i.val; omega
    | ⟨1, _⟩ => show 0 + 1 * j.val = j.val; omega]
  exact View.canon_apply_of_pieces (hidAt x0 x1 w1 w2) _ (hidAgree c arg1 harg1 arg2 harg2 arg24 harg24 arg25 harg25 x0 x1 w1 w2) _
    (hidCover c arg1 harg1 arg2 harg2 arg24 harg24 arg25 harg25 x0 x1 w1 w2 _)

end Cert.Kernel3Ideal.Gen

end
-- ==== Proof.ProjStream.lean ====
module

public import proofs.«01_k».proof.Proof.ProjHid

@[expose] public section

set_option maxRecDepth 16384

/-! # The residual stream of one grid point of the first call

The residual stream after the feed-forward half and its norm, row by row. -/

noncomputable section

namespace Cert.Kernel3Ideal.Gen

open Idealize.ShloMosaic Idealize.ShloMosaic.TcCoe Idealize.ShloMosaic.Tactic

/-- The residual stream of a block of tokens. -/
def streamAt (x0 : Vec Ideal S512x1024 .f32) (x1 x2 : Vec Ideal S1x1024 .f32) (w1 w2 : Vec Ideal S1024x2816 .bf16) (w3 : Vec Ideal S2816x1024 .bf16)
    (q : Fin 512) : Fin 1024 → EReal :=
  Proj.stream (fun k => x0 (ix2 q k)) (fun k => x1 (ix2 0 k)) (fun a b => w1 (ix2 a b)) (fun a b => w2 (ix2 a b)) (fun a b => w3 (ix2 a b))
    (fun k => x2 (ix2 0 k))

/-- A row of the first half of a block, -/
abbrev row0 (i : Fin 256) : Fin 512 := ⟨i.val, by omega⟩
/-- and of the second. -/
abbrev row1 (i : Fin 256) : Fin 512 := ⟨256 + i.val, by omega⟩

variable (c : Dev nD) (arg1 : Memref sig .tc .vmem S512x1024 .f32) (harg1 : arg1.IsWhole) (arg2 : Memref sig .tc .vmem S1x1024 .f32) (harg2 : arg2.IsWhole)
  (arg6 : Memref sig .tc .vmem S1x1024 .f32) (harg6 : arg6.IsWhole) (arg7 : Memref sig .tc .vmem S1x1024 .f32) (harg7 : arg7.IsWhole)
  (arg9 : Memref sig .tc .vmem S128x256 .bf16) (harg9 : arg9.IsWhole) (arg10 : Memref sig .tc .vmem S1x256 .f32) (harg10 : arg10.IsWhole)
  (arg23 : Memref sig .tc .vmem S512x2816 .bf16)
  (arg24 : Memref sig .tc .vmem S1024x2816 .bf16) (harg24 : arg24.IsWhole) (arg25 : Memref sig .tc .vmem S1024x2816 .bf16) (harg25 : arg25.IsWhole)
  (arg26 : Memref sig .tc .vmem S2816x1024 .bf16) (harg26 : arg26.IsWhole) (arg27 : Memref sig .tc .vmem S1024x2560 .bf16) (harg27 : arg27.IsWhole)
  (arg28 : Memref sig .tc .vmem S1024x512 .bf16) (harg28 : arg28.IsWhole) (arg29 : Memref sig .tc .vmem S128x1024 .bf16) (harg29 : arg29.IsWhole)
  (x0 : Vec Ideal S512x1024 .f32) (x1 x2 x3 : Vec Ideal S1x1024 .f32) (x4 : Vec Ideal S128x256 .bf16) (x5 : Vec Ideal S1x256 .f32)
  (w1 w2 : Vec Ideal S1024x2816 .bf16) (w3 : Vec Ideal S2816x1024 .bf16) (w4 : Vec Ideal S1024x2560 .bf16) (w5 : Vec Ideal S1024x512 .bf16)
  (w6 : Vec Ideal S128x1024 .bf16)

theorem first_stream (i : Fin 256) (k : Fin 1024) :
    (workRun.sl.r_15 (F := Ideal) c arg1 harg1 arg2 harg2 arg6 harg6 arg23 arg24 harg24 arg25 harg25 arg26 harg26 x0 x1 x2 w1 w2 w3 (ix2 (n0 := 256) (n1 := 1024) i k) : EReal) = streamAt x0 x1 x2 w1 w2 w3 (row0 i) k := by
  show (k0_pay77 (k0_pay73 (workRun.sl.v305 (F := Ideal) c arg1 harg1 arg2 harg2 arg23 arg24 harg24 arg25 harg25 x0 x1 w1 w2)
      (View.readAt (Elt Ideal) arg26.view (Rect.unit (s := S2816x1024) ![0, 0] ![2816, 1024] inb_S2816x1024_S2816x1024_0_0).toLoadRect (harg26.unread w3)))
    (View.readAt (Elt Ideal) arg1.view (Rect.unit (s := S512x1024) ![0, 0] ![256, 1024] inb_S512x1024_S256x1024_0_0).toLoadRect (harg1.unread x0))
    (View.readAt (Elt Ideal) arg6.view (Rect.unit (s := S1x1024) ![0, 0] ![1, 1024] inb_S1x1024_S1x1024_0_0).toLoadRect (harg6.unread x2)) (ix2 i k) : EReal) = _
  rw [stream_row]
  have hd : ∀ k, (k0_pay73 (workRun.sl.v305 (F := Ideal) c arg1 harg1 arg2 harg2 arg23 arg24 harg24 arg25 harg25 x0 x1 w1 w2)
      (View.readAt (Elt Ideal) arg26.view (Rect.unit (s := S2816x1024) ![0, 0] ![2816, 1024] inb_S2816x1024_S2816x1024_0_0).toLoadRect (harg26.unread w3)) (ix2 i k) : EReal)
      = Mix.prod (fun j => hidAt x0 x1 w1 w2 (ix2 (n0 := 512) (n1 := 2816) (row0 i) j)) (fun a b => w3 (ix2 a b)) k := fun k => by
    rw [down_row]
    unfold Mix.prod
    refine Finset.sum_congr rfl fun j _ => ?_
    exact congrArg₂ (· * ·) (first_hid c arg1 harg1 arg2 harg2 arg23 arg24 harg24 arg25 harg25 x0 x1 w1 w2 i j)
      (read2 _ _ _ _ _ _ _ _ _ (Nat.zero_add _).symm (Nat.zero_add _).symm)
  have hp : ∀ k, (View.readAt (Elt Ideal) arg6.view (Rect.unit (s := S1x1024) ![0, 0] ![1, 1024] inb_S1x1024_S1x1024_0_0).toLoadRect (harg6.unread x2)
      (ix2 (n0 := 1) (n1 := 1024) 0 k) : EReal) = x2 (ix2 0 k) := fun k => read2 _ _ _ _ _ _ _ _ _ rfl (Nat.zero_add _).symm
  have hx : (View.readAt (Elt Ideal) arg1.view (Rect.unit (s := S512x1024) ![0, 0] ![256, 1024] inb_S512x1024_S256x1024_0_0).toLoadRect (harg1.unread x0)
      (ix2 (n0 := 256) (n1 := 1024) i k) : EReal) = x0 (ix2 (row0 i) k) := read2 _ _ _ _ _ _ _ _ _ (Nat.zero_add _).symm (Nat.zero_add _).symm
  rw [hx]
  simp only [hd, hp]
  rfl

theorem second_stream (i : Fin 256) (k : Fin 1024) :
    (workRun.sl.r_22 (F := Ideal) c arg1 harg1 arg2 harg2 arg6 harg6 arg23 arg24 harg24 arg25 harg25 arg26 harg26 x0 x1 x2 w1 w2 w3 (ix2 (n0 := 256) (n1 := 1024) i k) : EReal) = streamAt x0 x1 x2 w1 w2 w3 (row1 i) k := by
  show (k0_pay77 (k0_pay73 (workRun.sl.v423 (F := Ideal) c arg1 harg1 arg2 harg2 arg23 arg24 harg24 arg25 harg25 x0 x1 w1 w2)
      (View.readAt (Elt Ideal) arg26.view (Rect.unit (s := S2816x1024) ![0, 0] ![2816, 1024] inb_S2816x1024_S2816x1024_0_0).toLoadRect (harg26.unread w3)))
    (View.readAt (Elt Ideal) arg1.view (Rect.unit (s := S512x1024) ![256, 0] ![256, 1024] inb_S512x1024_S256x1024_256_0).toLoadRect (harg1.unread x0))
    (View.readAt (Elt Ideal) arg6.view (Rect.unit (s := S1x1024) ![0, 0] ![1, 1024] inb_S1x1024_S1x1024_0_0).toLoadRect (harg6.unread x2)) (ix2 i k) : EReal) = _
  rw [stream_row]
  have hd : ∀ k, (k0_pay73 (workRun.sl.v423 (F := Ideal) c arg1 harg1 arg2 harg2 arg23 arg24 harg24 arg25 harg25 x0 x1 w1 w2)
      (View.readAt (Elt Ideal) arg26.view (Rect.unit (s := S2816x1024) ![0, 0] ![2816, 1024] inb_S2816x1024_S2816x1024_0_0).toLoadRect (harg26.unread w3)) (ix2 i k) : EReal)
      = Mix.prod (fun j => hidAt x0 x1 w1 w2 (ix2 (n0 := 512) (n1 := 2816) (row1 i) j)) (fun a b => w3 (ix2 a b)) k := fun k => by
    rw [down_row]
    unfold Mix.prod
    refine Finset.sum_congr rfl fun j _ => ?_
    exact congrArg₂ (· * ·) (second_hid c arg1 harg1 arg2 harg2 arg23 arg24 harg24 arg25 harg25 x0 x1 w1 w2 i j)
      (read2 _ _ _ _ _ _ _ _ _ (Nat.zero_add _).symm (Nat.zero_add _).symm)
  have hp : ∀ k, (View.readAt (Elt Ideal) arg6.view (Rect.unit (s := S1x1024) ![0, 0] ![1, 1024] inb_S1x1024_S1x1024_0_0).toLoadRect (harg6.unread x2)
      (ix2 (n0 := 1) (n1 := 1024) 0 k) : EReal) = x2 (ix2 0 k) := fun k => read2 _ _ _ _ _ _ _ _ _ rfl (Nat.zero_add _).symm
  have hx : (View.readAt (Elt Ideal) arg1.view (Rect.unit (s := S512x1024) ![256, 0] ![256, 1024] inb_S512x1024_S256x1024_256_0).toLoadRect (harg1.unread x0)
      (ix2 (n0 := 256) (n1 := 1024) i k) : EReal) = x0 (ix2 (row1 i) k) := read2 _ _ _ _ _ _ _ _ _ rfl (Nat.zero_add _).symm
  rw [hx]
  simp only [hd, hp]
  rfl

theorem first_norm (i : Fin 256) (k : Fin 1024) :
    (workRun.sl.r_18 (F := Ideal) c arg1 harg1 arg2 harg2 arg6 harg6 arg7 harg7 arg23 arg24 harg24 arg25 harg25 arg26 harg26 x0 x1 x2 x3 w1 w2 w3 (ix2 (n0 := 256) (n1 := 1024) i k) : EReal)
      = Mix.rms Mix.c1024 (streamAt x0 x1 x2 w1 w2 w3 (row0 i)) (fun k => x3 (ix2 0 k)) k := by
  show (k0_pay42 (workRun.sl.r_15 (F := Ideal) c arg1 harg1 arg2 harg2 arg6 harg6 arg23 arg24 harg24 arg25 harg25 arg26 harg26 x0 x1 x2 w1 w2 w3)
    (View.readAt (Elt Ideal) arg7.view (Rect.unit (s := S1x1024) ![0, 0] ![1, 1024] inb_S1x1024_S1x1024_0_0).toLoadRect (harg7.unread x3)) (ix2 i k) : EReal) = _
  rw [norm_row]
  have hp : ∀ k, (View.readAt (Elt Ideal) arg7.view (Rect.unit (s := S1x1024) ![0, 0] ![1, 1024] inb_S1x1024_S1x1024_0_0).toLoadRect (harg7.unread x3)
      (ix2 (n0 := 1) (n1 := 1024) 0 k) : EReal) = x3 (ix2 0 k) := fun k => read2 _ _ _ _ _ _ _ _ _ rfl (Nat.zero_add _).symm
  have hs : ∀ k, (workRun.sl.r_15 (F := Ideal) c arg1 harg1 arg2 harg2 arg6 harg6 arg23 arg24 harg24 arg25 harg25 arg26 harg26 x0 x1 x2 w1 w2 w3 (ix2 (n0 := 256) (n1 := 1024) i k) : EReal) = streamAt x0 x1 x2 w1 w2 w3 (row0 i) k :=
    fun k => first_stream c arg1 harg1 arg2 harg2 arg6 harg6 arg23 arg24 harg24 arg25 harg25 arg26 harg26 x0 x1 x2 w1 w2 w3 i k
  simp only [hp, hs]

theorem second_norm (i : Fin 256) (k : Fin 1024) :
    (workRun.sl.r_24 (F := Ideal) c arg1 harg1 arg2 harg2 arg6 harg6 arg7 harg7 arg23 arg24 harg24 arg25 harg25 arg26 harg26 x0 x1 x2 x3 w1 w2 w3 (ix2 (n0 := 256) (n1 := 1024) i k) : EReal)
      = Mix.rms Mix.c1024 (streamAt x0 x1 x2 w1 w2 w3 (row1 i)) (fun k => x3 (ix2 0 k)) k := by
  show (k0_pay42 (workRun.sl.r_22 (F := Ideal) c arg1 harg1 arg2 harg2 arg6 harg6 arg23 arg24 harg24 arg25 harg25 arg26 harg26 x0 x1 x2 w1 w2 w3)
    (View.readAt (Elt Ideal) arg7.view (Rect.unit (s := S1x1024) ![0, 0] ![1, 1024] inb_S1x1024_S1x1024_0_0).toLoadRect (harg7.unread x3)) (ix2 i k) : EReal) = _
  rw [norm_row]
  have hp : ∀ k, (View.readAt (Elt Ideal) arg7.view (Rect.unit (s := S1x1024) ![0, 0] ![1, 1024] inb_S1x1024_S1x1024_0_0).toLoadRect (harg7.unread x3)
      (ix2 (n0 := 1) (n1 := 1024) 0 k) : EReal) = x3 (ix2 0 k) := fun k => read2 _ _ _ _ _ _ _ _ _ rfl (Nat.zero_add _).symm
  have hs : ∀ k, (workRun.sl.r_22 (F := Ideal) c arg1 harg1 arg2 harg2 arg6 harg6 arg23 arg24 harg24 arg25 harg25 arg26 harg26 x0 x1 x2 w1 w2 w3 (ix2 (n0 := 256) (n1 := 1024) i k) : EReal) = streamAt x0 x1 x2 w1 w2 w3 (row1 i) k :=
    fun k => second_stream c arg1 harg1 arg2 harg2 arg6 harg6 arg23 arg24 harg24 arg25 harg25 arg26 harg26 x0 x1 x2 w1 w2 w3 i k
  simp only [hp, hs]

end Cert.Kernel3Ideal.Gen

end
-- ==== Proof.ProjPoint.lean ====
module

public import proofs.«01_k».proof.Proof.ProjStream

@[expose] public section

set_option maxRecDepth 16384

/-! # What one grid point of the first call leaves

The four outputs of one grid point, as functions of its blocks and weights. -/

noncomputable section

namespace Cert.Kernel3Ideal.Gen

open Idealize.ShloMosaic Idealize.ShloMosaic.TcCoe Idealize.ShloMosaic.Tactic

section values

variable (x0 : Vec Ideal S512x1024 .f32) (x1 x2 x3 : Vec Ideal S1x1024 .f32) (x4 : Vec Ideal S128x256 .bf16) (x5 : Vec Ideal S1x256 .f32)
  (w1 w2 : Vec Ideal S1024x2816 .bf16) (w3 : Vec Ideal S2816x1024 .bf16) (w4 : Vec Ideal S1024x2560 .bf16) (w5 : Vec Ideal S1024x512 .bf16)
  (w6 : Vec Ideal S128x1024 .bf16)

/-- The norm of the stream, -/
def normAt (q : Fin 512) : Fin 1024 → EReal := Mix.rms Mix.c1024 (streamAt x0 x1 x2 w1 w2 w3 q) (fun k => x3 (ix2 0 k))

/-- the columns that are kept, -/
def keptAt (q : Fin 512) (k : Fin 3072) : EReal :=
  if h : k.val < 512 then Mix.prod (normAt x0 x1 x2 x3 w1 w2 w3 q) (fun a b => w4 (ix2 a b)) ⟨k.val, by omega⟩ * Proj.cQuery
  else if h : k.val < 2560 then Mix.prod (normAt x0 x1 x2 x3 w1 w2 w3 q) (fun a b => w4 (ix2 a b)) ⟨k.val, h⟩
  else Mix.prod (normAt x0 x1 x2 x3 w1 w2 w3 q) (fun a b => w5 (ix2 a b)) ⟨k.val - 2560, by omega⟩

/-- the means of the keys, -/
def meanAt (b : Fin 2) (d : Fin 512) : EReal :=
  Ideal.div (∑ r : Fin 256, Mix.prod (normAt x0 x1 x2 x3 w1 w2 w3 ⟨256 * b.val + r.val, by omega⟩) (fun a b => w4 (ix2 a b)) ⟨512 + d.val, by omega⟩) Proj.cBlock

/-- and the logarithmic gate. -/
def gateAt (q : Fin 512) (d : Fin 256) : EReal :=
  Proj.logGate ((∑ r : Fin 128, (∑ k : Fin 1024, normAt x0 x1 x2 x3 w1 w2 w3 q k * w6 (ix2 r k)) * x4 (ix2 r d)) + x5 (ix2 0 d))

/-- The same, at an index of the output's block. -/
def left10 (y : S512x1024.Idx) : EReal := streamAt x0 x1 x2 w1 w2 w3 (y 0) (y 1)
def left11 (y : S512x3072.Idx) : EReal := keptAt x0 x1 x2 x3 w1 w2 w3 w4 w5 (y 0) (y 1)
def left12 (y : S2x1x512.Idx) : EReal := meanAt x0 x1 x2 x3 w1 w2 w3 w4 (y 0) (y 2)
def left13 (y : S512x256.Idx) : EReal := gateAt x0 x1 x2 x3 x4 x5 w1 w2 w3 w6 (y 0) (y 1)

end values

theorem emb2 {m n m' n' : ℕ} (lo : Fin 2 → ℕ) (inb : ∀ d, lo d + (![m', n'] : Fin 2 → ℕ) d ≤ (⟨2, ![m, n]⟩ : Shape).size d) (i : Fin m') (j : Fin n')
    (i' : Fin m) (j' : Fin n) (hi : i'.val = lo 0 + i.val) (hj : j'.val = lo 1 + j.val) :
    (Rect.unit (s := ⟨2, ![m, n]⟩) lo ![m', n'] inb).emb (ix2 (n0 := m') (n1 := n') i j) = ix2 i' j' := by
  funext d
  apply Fin.ext
  rw [Rect.emb_apply]
  match d with
  | ⟨0, _⟩ => show lo 0 + 1 * i.val = i'.val; omega
  | ⟨1, _⟩ => show lo 1 + 1 * j.val = j'.val; omega

section pieces

variable (c : Dev nD) (arg1 : Memref sig .tc .vmem S512x1024 .f32) (harg1 : arg1.IsWhole) (arg2 : Memref sig .tc .vmem S1x1024 .f32) (harg2 : arg2.IsWhole)
  (arg6 : Memref sig .tc .vmem S1x1024 .f32) (harg6 : arg6.IsWhole) (arg7 : Memref sig .tc .vmem S1x1024 .f32) (harg7 : arg7.IsWhole)
  (arg9 : Memref sig .tc .vmem S128x256 .bf16) (harg9 : arg9.IsWhole) (arg10 : Memref sig .tc .vmem S1x256 .f32) (harg10 : arg10.IsWhole)
  (arg23 : Memref sig .tc .vmem S512x2816 .bf16)
  (arg24 : Memref sig .tc .vmem S1024x2816 .bf16) (harg24 : arg24.IsWhole) (arg25 : Memref sig .tc .vmem S1024x2816 .bf16) (harg25 : arg25.IsWhole)
  (arg26 : Memref sig .tc .vmem S2816x1024 .bf16) (harg26 : arg26.IsWhole) (arg27 : Memref sig .tc .vmem S1024x2560 .bf16) (harg27 : arg27.IsWhole)
  (arg28 : Memref sig .tc .vmem S1024x512 .bf16) (harg28 : arg28.IsWhole) (arg29 : Memref sig .tc .vmem S128x1024 .bf16) (harg29 : arg29.IsWhole)
  (x0 : Vec Ideal S512x1024 .f32) (x1 x2 x3 : Vec Ideal S1x1024 .f32) (x4 : Vec Ideal S128x256 .bf16) (x5 : Vec Ideal S1x256 .f32)
  (w1 w2 : Vec Ideal S1024x2816 .bf16) (w3 : Vec Ideal S2816x1024 .bf16) (w4 : Vec Ideal S1024x2560 .bf16) (w5 : Vec Ideal S1024x512 .bf16)
  (w6 : Vec Ideal S128x1024 .bf16)

theorem first_cols (b : ℕ) (hb : b + 512 ≤ 2560) (hq : 512 ≤ b) (inbw : ∀ d, (![0, b] : Fin 2 → ℕ) d + (![1024, 512] : Fin 2 → ℕ) d ≤ S1024x2560.size d)
    (inbo : ∀ d, (![0, b] : Fin 2 → ℕ) d + (![256, 512] : Fin 2 → ℕ) d ≤ S512x3072.size d) (x : S256x512.Idx) :
    (k0_pay93 (workRun.sl.r_18 (F := Ideal) c arg1 harg1 arg2 harg2 arg6 harg6 arg7 harg7 arg23 arg24 harg24 arg25 harg25 arg26 harg26 x0 x1 x2 x3 w1 w2 w3)
        (View.readAt (Elt Ideal) arg27.view (Rect.unit (s := S1024x2560) ![0, b] ![1024, 512] inbw).toLoadRect (harg27.unread w4)) x : EReal)
      = left11 x0 x1 x2 x3 w1 w2 w3 w4 w5 ((Rect.unit (s := S512x3072) ![0, b] ![256, 512] inbo).emb x) := by
  obtain ⟨i, j, rfl⟩ := ix2_of x
  rw [emb2 _ _ i j (row0 i) ⟨b + j.val, by omega⟩ (Nat.zero_add _).symm rfl, cols_row]
  show _ = keptAt x0 x1 x2 x3 w1 w2 w3 w4 w5 (row0 i) ⟨b + j.val, _⟩
  unfold keptAt
  rw [dif_neg (by show ¬ b + j.val < 512; omega), dif_pos (show b + j.val < 2560 by omega)]
  unfold Mix.prod
  refine Finset.sum_congr rfl fun k _ => ?_
  exact congrArg₂ (· * ·) (first_norm c arg1 harg1 arg2 harg2 arg6 harg6 arg7 harg7 arg23 arg24 harg24 arg25 harg25 arg26 harg26 x0 x1 x2 x3 w1 w2 w3 i k) (read2 _ _ _ _ _ _ _ _ _ (Nat.zero_add _).symm rfl)

theorem first_last (x : S256x512.Idx) :
    (k0_pay93 (workRun.sl.r_18 (F := Ideal) c arg1 harg1 arg2 harg2 arg6 harg6 arg7 harg7 arg23 arg24 harg24 arg25 harg25 arg26 harg26 x0 x1 x2 x3 w1 w2 w3)
        (View.readAt (Elt Ideal) arg28.view (Rect.unit (s := S1024x512) ![0, 0] ![1024, 512] inb_S1024x512_S1024x512_0_0).toLoadRect (harg28.unread w5)) x : EReal)
      = left11 x0 x1 x2 x3 w1 w2 w3 w4 w5 ((Rect.unit (s := S512x3072) ![0, 2560] ![256, 512] inb_S512x3072_S256x512_0_2560).emb x) := by
  obtain ⟨i, j, rfl⟩ := ix2_of x
  rw [emb2 _ _ i j (row0 i) ⟨2560 + j.val, by omega⟩ (Nat.zero_add _).symm rfl, cols_row]
  show _ = keptAt x0 x1 x2 x3 w1 w2 w3 w4 w5 (row0 i) ⟨2560 + j.val, _⟩
  unfold keptAt
  rw [dif_neg (by show ¬ 2560 + j.val < 512; omega), dif_neg (by show ¬ 2560 + j.val < 2560; omega)]
  unfold Mix.prod
  refine Finset.sum_congr rfl fun k _ => ?_
  exact congrArg₂ (· * ·) (first_norm c arg1 harg1 arg2 harg2 arg6 harg6 arg7 harg7 arg23 arg24 harg24 arg25 harg25 arg26 harg26 x0 x1 x2 x3 w1 w2 w3 i k) (read2 _ _ _ _ _ _ _ _ _ (Nat.zero_add _).symm (by show 2560 + j.val - 2560 = 0 + j.val; omega))

theorem first_query (x : S256x512.Idx) :
    (k0_pay97 (workRun.sl.r_15 (F := Ideal) c arg1 harg1 arg2 harg2 arg6 harg6 arg23 arg24 harg24 arg25 harg25 arg26 harg26 x0 x1 x2 w1 w2 w3)
        (View.readAt (Elt Ideal) arg7.view (Rect.unit (s := S1x1024) ![0, 0] ![1, 1024] inb_S1x1024_S1x1024_0_0).toLoadRect (harg7.unread x3))
        (View.readAt (Elt Ideal) arg27.view (Rect.unit (s := S1024x2560) ![0, 0] ![1024, 512] inb_S1024x2560_S1024x512_0_0).toLoadRect (harg27.unread w4)) x : EReal)
      = left11 x0 x1 x2 x3 w1 w2 w3 w4 w5 ((Rect.unit (s := S512x3072) ![0, 0] ![256, 512] inb_S512x3072_S256x512_0_0).emb x) := by
  obtain ⟨i, j, rfl⟩ := ix2_of x
  rw [emb2 _ _ i j (row0 i) ⟨j.val, by omega⟩ (Nat.zero_add _).symm (Nat.zero_add _).symm, query_row]
  show _ = keptAt x0 x1 x2 x3 w1 w2 w3 w4 w5 (row0 i) ⟨j.val, _⟩
  unfold keptAt
  rw [dif_pos (show j.val < 512 from j.isLt)]
  refine congrArg (· * Proj.cQuery) ?_
  unfold Mix.prod
  refine Finset.sum_congr rfl fun k _ => ?_
  exact congrArg₂ (· * ·) (first_norm c arg1 harg1 arg2 harg2 arg6 harg6 arg7 harg7 arg23 arg24 harg24 arg25 harg25 arg26 harg26 x0 x1 x2 x3 w1 w2 w3 i k) (read2 _ _ _ _ _ _ _ _ _ (Nat.zero_add _).symm (Nat.zero_add _).symm)

theorem first_mean (x : S1x1x512.Idx) :
    (k0_pay90 (workRun.sl.r_18 (F := Ideal) c arg1 harg1 arg2 harg2 arg6 harg6 arg7 harg7 arg23 arg24 harg24 arg25 harg25 arg26 harg26 x0 x1 x2 x3 w1 w2 w3)
        (View.readAt (Elt Ideal) arg27.view (Rect.unit (s := S1024x2560) ![0, 512] ![1024, 512] inb_S1024x2560_S1024x512_0_512).toLoadRect (harg27.unread w4)) x : EReal)
      = left12 x0 x1 x2 x3 w1 w2 w3 w4 ((Rect.unit (s := S2x1x512) ![0, 0, 0] ![1, 1, 512] inb_S2x1x512_S1x1x512_0_0_0).emb x) := by
  obtain ⟨j, rfl⟩ : ∃ j : Fin 512, x = ix3 (n0 := 1) (n1 := 1) (n2 := 512) 0 0 j := ⟨x 2, by
    funext d
    match d with
    | ⟨0, _⟩ => exact Fin.ext (Nat.lt_one_iff.1 (x 0).isLt)
    | ⟨1, _⟩ => exact Fin.ext (Nat.lt_one_iff.1 (x 1).isLt)
    | ⟨2, _⟩ => rfl⟩
  rw [mean_row]
  have e0 : ((Rect.unit (s := S2x1x512) ![0, 0, 0] ![1, 1, 512] inb_S2x1x512_S1x1x512_0_0_0).emb (ix3 (n0 := 1) (n1 := 1) (n2 := 512) 0 0 j))
      = ix3 (n0 := 2) (n1 := 1) (n2 := 512) 0 0 j := by
    funext d
    apply Fin.ext
    rw [Rect.emb_apply]
    match d with
    | ⟨0, _⟩ => rfl
    | ⟨1, _⟩ => rfl
    | ⟨2, _⟩ => show 0 + 1 * j.val = j.val; omega
  rw [e0]
  show _ = meanAt x0 x1 x2 x3 w1 w2 w3 w4 0 j
  unfold meanAt
  refine congrArg (fun s => Ideal.div s Proj.cBlock) (Finset.sum_congr rfl fun i _ => ?_)
  unfold Mix.prod
  refine Finset.sum_congr rfl fun k _ => ?_
  have hq : row0 i = (⟨256 * (0 : Fin 2).val + i.val, by have := (0 : Fin 2).isLt; omega⟩ : Fin 512) := Fin.ext (by show i.val = 256 * 0 + i.val; omega)
  exact congrArg₂ (· * ·) ((first_norm c arg1 harg1 arg2 harg2 arg6 harg6 arg7 harg7 arg23 arg24 harg24 arg25 harg25 arg26 harg26 x0 x1 x2 x3 w1 w2 w3 i k).trans (by rw [hq]; rfl)) (read2 _ _ _ _ _ _ _ _ _ (Nat.zero_add _).symm rfl)

theorem first_gate (x : S256x256.Idx) :
    (k0_pay102 (workRun.sl.r_18 (F := Ideal) c arg1 harg1 arg2 harg2 arg6 harg6 arg7 harg7 arg23 arg24 harg24 arg25 harg25 arg26 harg26 x0 x1 x2 x3 w1 w2 w3)
        (View.readAt (Elt Ideal) arg29.view (Rect.unit (s := S128x1024) ![0, 0] ![128, 1024] inb_S128x1024_S128x1024_0_0).toLoadRect (harg29.unread w6))
        (View.readAt (Elt Ideal) arg9.view (Rect.unit (s := S128x256) ![0, 0] ![128, 256] inb_S128x256_S128x256_0_0).toLoadRect (harg9.unread x4))
        (View.readAt (Elt Ideal) arg10.view (Rect.unit (s := S1x256) ![0, 0] ![1, 256] inb_S1x256_S1x256_0_0).toLoadRect (harg10.unread x5)) x : EReal)
      = left13 x0 x1 x2 x3 x4 x5 w1 w2 w3 w6 ((Rect.unit (s := S512x256) ![0, 0] ![256, 256] inb_S512x256_S256x256_0_0).emb x) := by
  obtain ⟨i, j, rfl⟩ := ix2_of x
  rw [emb2 _ _ i j (row0 i) j (Nat.zero_add _).symm (Nat.zero_add _).symm, gate_row]
  show _ = gateAt x0 x1 x2 x3 x4 x5 w1 w2 w3 w6 (row0 i) j
  unfold gateAt
  refine congrArg Proj.logGate (congrArg₂ (· + ·) (Finset.sum_congr rfl fun r _ => ?_) (read2 _ _ _ _ _ _ _ _ _ rfl (Nat.zero_add _).symm))
  refine congrArg₂ (· * ·) (Finset.sum_congr rfl fun k _ => ?_) (read2 _ _ _ _ _ _ _ _ _ (Nat.zero_add _).symm (Nat.zero_add _).symm)
  exact congrArg₂ (· * ·) (first_norm c arg1 harg1 arg2 harg2 arg6 harg6 arg7 harg7 arg23 arg24 harg24 arg25 harg25 arg26 harg26 x0 x1 x2 x3 w1 w2 w3 i k) (read2 _ _ _ _ _ _ _ _ _ (Nat.zero_add _).symm (Nat.zero_add _).symm)

theorem first_piece (x : S256x1024.Idx) :
    (workRun.sl.r_15 (F := Ideal) c arg1 harg1 arg2 harg2 arg6 harg6 arg23 arg24 harg24 arg25 harg25 arg26 harg26 x0 x1 x2 w1 w2 w3 x : EReal)
      = left10 x0 x1 x2 w1 w2 w3 ((Rect.unit (s := S512x1024) ![0, 0] ![256, 1024] inb_S512x1024_S256x1024_0_0).emb x) := by
  obtain ⟨i, j, rfl⟩ := ix2_of x
  rw [emb2 _ _ i j (row0 i) j (Nat.zero_add _).symm (Nat.zero_add _).symm]
  exact first_stream c arg1 harg1 arg2 harg2 arg6 harg6 arg23 arg24 harg24 arg25 harg25 arg26 harg26 x0 x1 x2 w1 w2 w3 i j

theorem second_cols (b : ℕ) (hb : b + 512 ≤ 2560) (hq : 512 ≤ b) (inbw : ∀ d, (![0, b] : Fin 2 → ℕ) d + (![1024, 512] : Fin 2 → ℕ) d ≤ S1024x2560.size d)
    (inbo : ∀ d, (![256, b] : Fin 2 → ℕ) d + (![256, 512] : Fin 2 → ℕ) d ≤ S512x3072.size d) (x : S256x512.Idx) :
    (k0_pay93 (workRun.sl.r_24 (F := Ideal) c arg1 harg1 arg2 harg2 arg6 harg6 arg7 harg7 arg23 arg24 harg24 arg25 harg25 arg26 harg26 x0 x1 x2 x3 w1 w2 w3)
        (View.readAt (Elt Ideal) arg27.view (Rect.unit (s := S1024x2560) ![0, b] ![1024, 512] inbw).toLoadRect (harg27.unread w4)) x : EReal)
      = left11 x0 x1 x2 x3 w1 w2 w3 w4 w5 ((Rect.unit (s := S512x3072) ![256, b] ![256, 512] inbo).emb x) := by
  obtain ⟨i, j, rfl⟩ := ix2_of x
  rw [emb2 _ _ i j (row1 i) ⟨b + j.val, by omega⟩ rfl rfl, cols_row]
  show _ = keptAt x0 x1 x2 x3 w1 w2 w3 w4 w5 (row1 i) ⟨b + j.val, _⟩
  unfold keptAt
  rw [dif_neg (by show ¬ b + j.val < 512; omega), dif_pos (show b + j.val < 2560 by omega)]
  unfold Mix.prod
  refine Finset.sum_congr rfl fun k _ => ?_
  exact congrArg₂ (· * ·) (second_norm c arg1 harg1 arg2 harg2 arg6 harg6 arg7 harg7 arg23 arg24 harg24 arg25 harg25 arg26 harg26 x0 x1 x2 x3 w1 w2 w3 i k) (read2 _ _ _ _ _ _ _ _ _ (Nat.zero_add _).symm rfl)

theorem second_last (x : S256x512.Idx) :
    (k0_pay93 (workRun.sl.r_24 (F := Ideal) c arg1 harg1 arg2 harg2 arg6 harg6 arg7 harg7 arg23 arg24 harg24 arg25 harg25 arg26 harg26 x0 x1 x2 x3 w1 w2 w3)
        (View.readAt (Elt Ideal) arg28.view (Rect.unit (s := S1024x512) ![0, 0] ![1024, 512] inb_S1024x512_S1024x512_0_0).toLoadRect (harg28.unread w5)) x : EReal)
      = left11 x0 x1 x2 x3 w1 w2 w3 w4 w5 ((Rect.unit (s := S512x3072) ![256, 2560] ![256, 512] inb_S512x3072_S256x512_256_2560).emb x) := by
  obtain ⟨i, j, rfl⟩ := ix2_of x
  rw [emb2 _ _ i j (row1 i) ⟨2560 + j.val, by omega⟩ rfl rfl, cols_row]
  show _ = keptAt x0 x1 x2 x3 w1 w2 w3 w4 w5 (row1 i) ⟨2560 + j.val, _⟩
  unfold keptAt
  rw [dif_neg (by show ¬ 2560 + j.val < 512; omega), dif_neg (by show ¬ 2560 + j.val < 2560; omega)]
  unfold Mix.prod
  refine Finset.sum_congr rfl fun k _ => ?_
  exact congrArg₂ (· * ·) (second_norm c arg1 harg1 arg2 harg2 arg6 harg6 arg7 harg7 arg23 arg24 harg24 arg25 harg25 arg26 harg26 x0 x1 x2 x3 w1 w2 w3 i k) (read2 _ _ _ _ _ _ _ _ _ (Nat.zero_add _).symm (by show 2560 + j.val - 2560 = 0 + j.val; omega))

theorem second_query (x : S256x512.Idx) :
    (k0_pay97 (workRun.sl.r_22 (F := Ideal) c arg1 harg1 arg2 harg2 arg6 harg6 arg23 arg24 harg24 arg25 harg25 arg26 harg26 x0 x1 x2 w1 w2 w3)
        (View.readAt (Elt Ideal) arg7.view (Rect.unit (s := S1x1024) ![0, 0] ![1, 1024] inb_S1x1024_S1x1024_0_0).toLoadRect (harg7.unread x3))
        (View.readAt (Elt Ideal) arg27.view (Rect.unit (s := S1024x2560) ![0, 0] ![1024, 512] inb_S1024x2560_S1024x512_0_0).toLoadRect (harg27.unread w4)) x : EReal)
      = left11 x0 x1 x2 x3 w1 w2 w3 w4 w5 ((Rect.unit (s := S512x3072) ![256, 0] ![256, 512] inb_S512x3072_S256x512_256_0).emb x) := by
  obtain ⟨i, j, rfl⟩ := ix2_of x
  rw [emb2 _ _ i j (row1 i) ⟨j.val, by omega⟩ rfl (Nat.zero_add _).symm, query_row]
  show _ = keptAt x0 x1 x2 x3 w1 w2 w3 w4 w5 (row1 i) ⟨j.val, _⟩
  unfold keptAt
  rw [dif_pos (show j.val < 512 from j.isLt)]
  refine congrArg (· * Proj.cQuery) ?_
  unfold Mix.prod
  refine Finset.sum_congr rfl fun k _ => ?_
  exact congrArg₂ (· * ·) (second_norm c arg1 harg1 arg2 harg2 arg6 harg6 arg7 harg7 arg23 arg24 harg24 arg25 harg25 arg26 harg26 x0 x1 x2 x3 w1 w2 w3 i k) (read2 _ _ _ _ _ _ _ _ _ (Nat.zero_add _).symm (Nat.zero_add _).symm)

theorem second_mean (x : S1x1x512.Idx) :
    (k0_pay90 (workRun.sl.r_24 (F := Ideal) c arg1 harg1 arg2 harg2 arg6 harg6 arg7 harg7 arg23 arg24 harg24 arg25 harg25 arg26 harg26 x0 x1 x2 x3 w1 w2 w3)
        (View.readAt (Elt Ideal) arg27.view (Rect.unit (s := S1024x2560) ![0, 512] ![1024, 512] inb_S1024x2560_S1024x512_0_512).toLoadRect (harg27.unread w4)) x : EReal)
      = left12 x0 x1 x2 x3 w1 w2 w3 w4 ((Rect.unit (s := S2x1x512) ![1, 0, 0] ![1, 1, 512] inb_S2x1x512_S1x1x512_1_0_0).emb x) := by
  obtain ⟨j, rfl⟩ : ∃ j : Fin 512, x = ix3 (n0 := 1) (n1 := 1) (n2 := 512) 0 0 j := ⟨x 2, by
    funext d
    match d with
    | ⟨0, _⟩ => exact Fin.ext (Nat.lt_one_iff.1 (x 0).isLt)
    | ⟨1, _⟩ => exact Fin.ext (Nat.lt_one_iff.1 (x 1).isLt)
    | ⟨2, _⟩ => rfl⟩
  rw [mean_row]
  have e0 : ((Rect.unit (s := S2x1x512) ![1, 0, 0] ![1, 1, 512] inb_S2x1x512_S1x1x512_1_0_0).emb (ix3 (n0 := 1) (n1 := 1) (n2 := 512) 0 0 j))
      = ix3 (n0 := 2) (n1 := 1) (n2 := 512) 1 0 j := by
    funext d
    apply Fin.ext
    rw [Rect.emb_apply]
    match d with
    | ⟨0, _⟩ => rfl
    | ⟨1, _⟩ => rfl
    | ⟨2, _⟩ => show 0 + 1 * j.val = j.val; omega
  rw [e0]
  show _ = meanAt x0 x1 x2 x3 w1 w2 w3 w4 1 j
  unfold meanAt
  refine congrArg (fun s => Ideal.div s Proj.cBlock) (Finset.sum_congr rfl fun i _ => ?_)
  unfold Mix.prod
  refine Finset.sum_congr rfl fun k _ => ?_
  have hq : row1 i = (⟨256 * (1 : Fin 2).val + i.val, by have := (1 : Fin 2).isLt; omega⟩ : Fin 512) := Fin.ext (by show 256 + i.val = 256 * 1 + i.val; rfl)
  exact congrArg₂ (· * ·) ((second_norm c arg1 harg1 arg2 harg2 arg6 harg6 arg7 harg7 arg23 arg24 harg24 arg25 harg25 arg26 harg26 x0 x1 x2 x3 w1 w2 w3 i k).trans (by rw [hq]; rfl)) (read2 _ _ _ _ _ _ _ _ _ (Nat.zero_add _).symm rfl)

theorem second_gate (x : S256x256.Idx) :
    (k0_pay102 (workRun.sl.r_24 (F := Ideal) c arg1 harg1 arg2 harg2 arg6 harg6 arg7 harg7 arg23 arg24 harg24 arg25 harg25 arg26 harg26 x0 x1 x2 x3 w1 w2 w3)
        (View.readAt (Elt Ideal) arg29.view (Rect.unit (s := S128x1024) ![0, 0] ![128, 1024] inb_S128x1024_S128x1024_0_0).toLoadRect (harg29.unread w6))
        (View.readAt (Elt Ideal) arg9.view (Rect.unit (s := S128x256) ![0, 0] ![128, 256] inb_S128x256_S128x256_0_0).toLoadRect (harg9.unread x4))
        (View.readAt (Elt Ideal) arg10.view (Rect.unit (s := S1x256) ![0, 0] ![1, 256] inb_S1x256_S1x256_0_0).toLoadRect (harg10.unread x5)) x : EReal)
      = left13 x0 x1 x2 x3 x4 x5 w1 w2 w3 w6 ((Rect.unit (s := S512x256) ![256, 0] ![256, 256] inb_S512x256_S256x256_256_0).emb x) := by
  obtain ⟨i, j, rfl⟩ := ix2_of x
  rw [emb2 _ _ i j (row1 i) j rfl (Nat.zero_add _).symm, gate_row]
  show _ = gateAt x0 x1 x2 x3 x4 x5 w1 w2 w3 w6 (row1 i) j
  unfold gateAt
  refine congrArg Proj.logGate (congrArg₂ (· + ·) (Finset.sum_congr rfl fun r _ => ?_) (read2 _ _ _ _ _ _ _ _ _ rfl (Nat.zero_add _).symm))
  refine congrArg₂ (· * ·) (Finset.sum_congr rfl fun k _ => ?_) (read2 _ _ _ _ _ _ _ _ _ (Nat.zero_add _).symm (Nat.zero_add _).symm)
  exact congrArg₂ (· * ·) (second_norm c arg1 harg1 arg2 harg2 arg6 harg6 arg7 harg7 arg23 arg24 harg24 arg25 harg25 arg26 harg26 x0 x1 x2 x3 w1 w2 w3 i k) (read2 _ _ _ _ _ _ _ _ _ (Nat.zero_add _).symm (Nat.zero_add _).symm)

theorem second_piece (x : S256x1024.Idx) :
    (workRun.sl.r_22 (F := Ideal) c arg1 harg1 arg2 harg2 arg6 harg6 arg23 arg24 harg24 arg25 harg25 arg26 harg26 x0 x1 x2 w1 w2 w3 x : EReal)
      = left10 x0 x1 x2 w1 w2 w3 ((Rect.unit (s := S512x1024) ![256, 0] ![256, 1024] inb_S512x1024_S256x1024_256_0).emb x) := by
  obtain ⟨i, j, rfl⟩ := ix2_of x
  rw [emb2 _ _ i j (row1 i) j rfl (Nat.zero_add _).symm]
  exact second_stream c arg1 harg1 arg2 harg2 arg6 harg6 arg23 arg24 harg24 arg25 harg25 arg26 harg26 x0 x1 x2 w1 w2 w3 i j

end pieces

section point

variable (c : Dev nD) (i : grid0.Coords) (arg1 : Memref sig .tc .vmem S512x1024 .f32) (harg1 : arg1.IsWhole) (arg2 : Memref sig .tc .vmem S1x1024 .f32) (harg2 : arg2.IsWhole) (arg6 : Memref sig .tc .vmem S1x1024 .f32) (harg6 : arg6.IsWhole) (arg7 : Memref sig .tc .vmem S1x1024 .f32) (harg7 : arg7.IsWhole) (arg9 : Memref sig .tc .vmem S128x256 .bf16) (harg9 : arg9.IsWhole) (arg10 : Memref sig .tc .vmem S1x256 .f32) (harg10 : arg10.IsWhole) (arg11 : Memref sig .tc .vmem S32x1024 .f32) (harg11 : arg11.IsWhole) (arg12 : Memref sig .tc .vmem S32x2816 .f32) (harg12 : arg12.IsWhole) (arg13 : Memref sig .tc .vmem S32x2816 .f32) (harg13 : arg13.IsWhole) (arg14 : Memref sig .tc .vmem S176x1024 .f32) (harg14 : arg14.IsWhole) (arg15 : Memref sig .tc .vmem S512x1024 .f32) (harg15 : arg15.IsWhole) (arg16 : Memref sig .tc .vmem S512x3072 .bf16) (harg16 : arg16.IsWhole) (arg17 : Memref sig .tc .vmem S2x1x512 .f32) (harg17 : arg17.IsWhole) (arg18 : Memref sig .tc .vmem S512x256 .f32) (harg18 : arg18.IsWhole) (arg19 : Memref sig .tc .vmem S32x1024 .bf16) (harg19 : arg19.IsWhole) (arg20 : Memref sig .tc .vmem S32x2816 .bf16) (harg20 : arg20.IsWhole) (arg21 : Memref sig .tc .vmem S32x2816 .bf16) (harg21 : arg21.IsWhole) (arg22 : Memref sig .tc .vmem S176x1024 .bf16) (harg22 : arg22.IsWhole)
  (arg23 : Memref sig .tc .vmem S512x2816 .bf16) (harg23 : arg23.IsWhole) (arg24 : Memref sig .tc .vmem S1024x2816 .bf16) (harg24 : arg24.IsWhole) (arg25 : Memref sig .tc .vmem S1024x2816 .bf16) (harg25 : arg25.IsWhole) (arg26 : Memref sig .tc .vmem S2816x1024 .bf16) (harg26 : arg26.IsWhole) (arg27 : Memref sig .tc .vmem S1024x2560 .bf16) (harg27 : arg27.IsWhole) (arg28 : Memref sig .tc .vmem S1024x512 .bf16) (harg28 : arg28.IsWhole) (arg29 : Memref sig .tc .vmem S128x1024 .bf16) (harg29 : arg29.IsWhole) (arg30 : Memref sig .tc .vmem S3x256x2816 .f32) (harg30 : arg30.IsWhole)
    (x0 : Vec Ideal S512x1024 .f32) (x1 : Vec Ideal S1x1024 .f32) (x2 : Vec Ideal S1x1024 .f32) (x3 : Vec Ideal S1x1024 .f32) (x4 : Vec Ideal S128x256 .bf16) (x5 : Vec Ideal S1x256 .f32) (x6 : Vec Ideal S32x1024 .f32) (x7 : Vec Ideal S32x2816 .f32) (x8 : Vec Ideal S32x2816 .f32) (x9 : Vec Ideal S176x1024 .f32) (w1 : Vec Ideal S1024x2816 .bf16) (w2 : Vec Ideal S1024x2816 .bf16) (w3 : Vec Ideal S2816x1024 .bf16) (w4 : Vec Ideal S1024x2560 .bf16) (w5 : Vec Ideal S1024x512 .bf16) (w6 : Vec Ideal S128x1024 .bf16)

theorem workPieces10 : (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).1 =
    [⟨Rect.unit (s := S512x1024) ![256, 0] S256x1024.size inb_S512x1024_S256x1024_256_0,
          k0_pay94 (workRun.sl.v423 c arg1 harg1 arg2 harg2 arg23 arg24 harg24 arg25 harg25 x0 x1 w1 w2)
            (View.readAt (Elt Ideal) arg26.view (Rect.unit (s := S2816x1024) ![0, 0] S2816x1024.size inb_S2816x1024_S2816x1024_0_0).toLoadRect
              (harg26.unread w3))
            (View.readAt (Elt Ideal) arg1.view (Rect.unit (s := S512x1024) ![256, 0] S256x1024.size inb_S512x1024_S256x1024_256_0).toLoadRect
              (harg1.unread x0))
            (View.readAt (Elt Ideal) arg6.view (Rect.unit (s := S1x1024) ![0, 0] S1x1024.size inb_S1x1024_S1x1024_0_0).toLoadRect
              (harg6.unread x2))⟩,
        ⟨Rect.unit (s := S512x1024) ![0, 0] S256x1024.size inb_S512x1024_S256x1024_0_0,
          k0_pay77 (workRun.sl.r_12 c arg1 harg1 arg2 harg2 arg23 arg24 harg24 arg25 harg25 arg26 harg26 x0 x1 w1 w2 w3)
            (View.readAt (Elt Ideal) arg1.view (Rect.unit (s := S512x1024) ![0, 0] S256x1024.size inb_S512x1024_S256x1024_0_0).toLoadRect
              (harg1.unread x0))
            (View.readAt (Elt Ideal) arg6.view (Rect.unit (s := S1x1024) ![0, 0] S1x1024.size inb_S1x1024_S1x1024_0_0).toLoadRect
              (harg6.unread x2))⟩] := by
  sl_kernel_rfl

theorem workAgree10 : ∀ p ∈ (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).1, ∀ x, p.2 x = left10 x0 x1 x2 w1 w2 w3 (p.1.emb x) := by
  rw [workPieces10]
  refine List.forall_mem_cons.2 ⟨second_piece c arg1 harg1 arg2 harg2 arg6 harg6 arg23 arg24 harg24 arg25 harg25 arg26 harg26 x0 x1 x2 w1 w2 w3, ?_⟩
  refine List.forall_mem_cons.2 ⟨first_piece c arg1 harg1 arg2 harg2 arg6 harg6 arg23 arg24 harg24 arg25 harg25 arg26 harg26 x0 x1 x2 w1 w2 w3, ?_⟩
  exact fun p h => absurd h List.not_mem_nil

theorem workPieces11 : (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).2.1 =
    [⟨Rect.unit (s := S512x3072) ![256, 2560] S256x512.size inb_S512x3072_S256x512_256_2560,
          k0_pay106
            (workRun.sl.r_24 c arg1 harg1 arg2 harg2 arg6 harg6 arg7 harg7 arg23 arg24 harg24 arg25 harg25 arg26 harg26
              x0 x1 x2 x3 w1 w2 w3)
            (View.readAt (Elt Ideal) arg28.view (Rect.unit (s := S1024x512) ![0, 0] S1024x512.size inb_S1024x512_S1024x512_0_0).toLoadRect
              (harg28.unread w5))⟩,
        ⟨Rect.unit (s := S512x3072) ![256, 2048] S256x512.size inb_S512x3072_S256x512_256_2048,
          k0_pay105
            (workRun.sl.r_24 c arg1 harg1 arg2 harg2 arg6 harg6 arg7 harg7 arg23 arg24 harg24 arg25 harg25 arg26 harg26
              x0 x1 x2 x3 w1 w2 w3)
            (View.readAt (Elt Ideal) arg27.view
              (Rect.unit (s := S1024x2560) ![0, 2048] S1024x512.size inb_S1024x2560_S1024x512_0_2048).toLoadRect (harg27.unread w4))⟩,
        ⟨Rect.unit (s := S512x3072) ![256, 1536] S256x512.size inb_S512x3072_S256x512_256_1536,
          k0_pay104
            (workRun.sl.r_24 c arg1 harg1 arg2 harg2 arg6 harg6 arg7 harg7 arg23 arg24 harg24 arg25 harg25 arg26 harg26
              x0 x1 x2 x3 w1 w2 w3)
            (View.readAt (Elt Ideal) arg27.view
              (Rect.unit (s := S1024x2560) ![0, 1536] S1024x512.size inb_S1024x2560_S1024x512_0_1536).toLoadRect (harg27.unread w4))⟩,
        ⟨Rect.unit (s := S512x3072) ![256, 1024] S256x512.size inb_S512x3072_S256x512_256_1024,
          workRun.sl.r_26 c arg1 harg1 arg2 harg2 arg6 harg6 arg7 harg7 arg23 arg24 harg24 arg25 harg25 arg26 harg26
            arg27 harg27 x0 x1 x2 x3 w1 w2 w3 w4⟩,
        ⟨Rect.unit (s := S512x3072) ![256, 512] S256x512.size inb_S512x3072_S256x512_256_512,
          k0_pay100
            (workRun.sl.r_22 c arg1 harg1 arg2 harg2 arg6 harg6 arg23 arg24 harg24 arg25 harg25 arg26 harg26 x0 x1 x2 w1
              w2 w3)
            (workRun.sl.r_23 c arg7 harg7 x3)
            (View.readAt (Elt Ideal) arg27.view
              (Rect.unit (s := S1024x2560) ![0, 512] S1024x512.size inb_S1024x2560_S1024x512_0_512).toLoadRect (harg27.unread w4))⟩,
        ⟨Rect.unit (s := S512x3072) ![0, 2560] S256x512.size inb_S512x3072_S256x512_0_2560,
          k0_pay98
            (workRun.sl.r_18 c arg1 harg1 arg2 harg2 arg6 harg6 arg7 harg7 arg23 arg24 harg24 arg25 harg25 arg26 harg26
              x0 x1 x2 x3 w1 w2 w3)
            (View.readAt (Elt Ideal) arg28.view (Rect.unit (s := S1024x512) ![0, 0] S1024x512.size inb_S1024x512_S1024x512_0_0).toLoadRect
              (harg28.unread w5))⟩,
        ⟨Rect.unit (s := S512x3072) ![256, 0] S256x512.size inb_S512x3072_S256x512_256_0,
          k0_pay97
            (workRun.sl.r_22 c arg1 harg1 arg2 harg2 arg6 harg6 arg23 arg24 harg24 arg25 harg25 arg26 harg26 x0 x1 x2 w1
              w2 w3)
            (workRun.sl.r_23 c arg7 harg7 x3)
            (View.readAt (Elt Ideal) arg27.view (Rect.unit (s := S1024x2560) ![0, 0] S1024x512.size inb_S1024x2560_S1024x512_0_0).toLoadRect
              (harg27.unread w4))⟩,
        ⟨Rect.unit (s := S512x3072) ![0, 2048] S256x512.size inb_S512x3072_S256x512_0_2048,
          k0_pay96
            (workRun.sl.r_18 c arg1 harg1 arg2 harg2 arg6 harg6 arg7 harg7 arg23 arg24 harg24 arg25 harg25 arg26 harg26
              x0 x1 x2 x3 w1 w2 w3)
            (View.readAt (Elt Ideal) arg27.view
              (Rect.unit (s := S1024x2560) ![0, 2048] S1024x512.size inb_S1024x2560_S1024x512_0_2048).toLoadRect (harg27.unread w4))⟩,
        ⟨Rect.unit (s := S512x3072) ![0, 1536] S256x512.size inb_S512x3072_S256x512_0_1536,
          k0_pay93
            (workRun.sl.r_18 c arg1 harg1 arg2 harg2 arg6 harg6 arg7 harg7 arg23 arg24 harg24 arg25 harg25 arg26 harg26
              x0 x1 x2 x3 w1 w2 w3)
            (View.readAt (Elt Ideal) arg27.view
              (Rect.unit (s := S1024x2560) ![0, 1536] S1024x512.size inb_S1024x2560_S1024x512_0_1536).toLoadRect (harg27.unread w4))⟩,
        ⟨Rect.unit (s := S512x3072) ![0, 1024] S256x512.size inb_S512x3072_S256x512_0_1024,
          k0_pay92
            (workRun.sl.r_18 c arg1 harg1 arg2 harg2 arg6 harg6 arg7 harg7 arg23 arg24 harg24 arg25 harg25 arg26 harg26
              x0 x1 x2 x3 w1 w2 w3)
            (View.readAt (Elt Ideal) arg27.view
              (Rect.unit (s := S1024x2560) ![0, 1024] S1024x512.size inb_S1024x2560_S1024x512_0_1024).toLoadRect (harg27.unread w4))⟩,
        ⟨Rect.unit (s := S512x3072) ![0, 512] S256x512.size inb_S512x3072_S256x512_0_512,
          k0_pay89
            (workRun.sl.r_18 c arg1 harg1 arg2 harg2 arg6 harg6 arg7 harg7 arg23 arg24 harg24 arg25 harg25 arg26 harg26
              x0 x1 x2 x3 w1 w2 w3)
            (View.readAt (Elt Ideal) arg27.view
              (Rect.unit (s := S1024x2560) ![0, 512] S1024x512.size inb_S1024x2560_S1024x512_0_512).toLoadRect (harg27.unread w4))⟩,
        ⟨Rect.unit (s := S512x3072) ![0, 0] S256x512.size inb_S512x3072_S256x512_0_0,
          k0_pay82
            (workRun.sl.r_15 c arg1 harg1 arg2 harg2 arg6 harg6 arg23 arg24 harg24 arg25 harg25 arg26 harg26 x0 x1 x2 w1
              w2 w3)
            (workRun.sl.r_16 c arg7 harg7 x3)
            (workRun.sl.r_17 c arg1 harg1 arg2 harg2 arg6 harg6 arg23 arg24 harg24 arg25 harg25 arg26 harg26 x0 x1 x2 w1
              w2 w3)
            (View.readAt (Elt Ideal) arg27.view (Rect.unit (s := S1024x2560) ![0, 0] S1024x512.size inb_S1024x2560_S1024x512_0_0).toLoadRect
              (harg27.unread w4))⟩] := by
  sl_kernel_rfl

theorem workAgree11 : ∀ p ∈ (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).2.1, ∀ x, p.2 x = left11 x0 x1 x2 x3 w1 w2 w3 w4 w5 (p.1.emb x) := by
  rw [workPieces11]
  refine List.forall_mem_cons.2 ⟨second_last c arg1 harg1 arg2 harg2 arg6 harg6 arg7 harg7 arg23 arg24 harg24 arg25 harg25 arg26 harg26 arg28 harg28 x0 x1 x2 x3 w1 w2 w3 w4 w5, ?_⟩
  refine List.forall_mem_cons.2 ⟨second_cols c arg1 harg1 arg2 harg2 arg6 harg6 arg7 harg7 arg23 arg24 harg24 arg25 harg25 arg26 harg26 arg27 harg27 x0 x1 x2 x3 w1 w2 w3 w4 w5 2048 (by norm_num) (by norm_num) inb_S1024x2560_S1024x512_0_2048 inb_S512x3072_S256x512_256_2048, ?_⟩
  refine List.forall_mem_cons.2 ⟨second_cols c arg1 harg1 arg2 harg2 arg6 harg6 arg7 harg7 arg23 arg24 harg24 arg25 harg25 arg26 harg26 arg27 harg27 x0 x1 x2 x3 w1 w2 w3 w4 w5 1536 (by norm_num) (by norm_num) inb_S1024x2560_S1024x512_0_1536 inb_S512x3072_S256x512_256_1536, ?_⟩
  refine List.forall_mem_cons.2 ⟨second_cols c arg1 harg1 arg2 harg2 arg6 harg6 arg7 harg7 arg23 arg24 harg24 arg25 harg25 arg26 harg26 arg27 harg27 x0 x1 x2 x3 w1 w2 w3 w4 w5 1024 (by norm_num) (by norm_num) inb_S1024x2560_S1024x512_0_1024 inb_S512x3072_S256x512_256_1024, ?_⟩
  refine List.forall_mem_cons.2 ⟨second_cols c arg1 harg1 arg2 harg2 arg6 harg6 arg7 harg7 arg23 arg24 harg24 arg25 harg25 arg26 harg26 arg27 harg27 x0 x1 x2 x3 w1 w2 w3 w4 w5 512 (by norm_num) (by norm_num) inb_S1024x2560_S1024x512_0_512 inb_S512x3072_S256x512_256_512, ?_⟩
  refine List.forall_mem_cons.2 ⟨first_last c arg1 harg1 arg2 harg2 arg6 harg6 arg7 harg7 arg23 arg24 harg24 arg25 harg25 arg26 harg26 arg28 harg28 x0 x1 x2 x3 w1 w2 w3 w4 w5, ?_⟩
  refine List.forall_mem_cons.2 ⟨second_query c arg1 harg1 arg2 harg2 arg6 harg6 arg7 harg7 arg23 arg24 harg24 arg25 harg25 arg26 harg26 arg27 harg27 x0 x1 x2 x3 w1 w2 w3 w4 w5, ?_⟩
  refine List.forall_mem_cons.2 ⟨first_cols c arg1 harg1 arg2 harg2 arg6 harg6 arg7 harg7 arg23 arg24 harg24 arg25 harg25 arg26 harg26 arg27 harg27 x0 x1 x2 x3 w1 w2 w3 w4 w5 2048 (by norm_num) (by norm_num) inb_S1024x2560_S1024x512_0_2048 inb_S512x3072_S256x512_0_2048, ?_⟩
  refine List.forall_mem_cons.2 ⟨first_cols c arg1 harg1 arg2 harg2 arg6 harg6 arg7 harg7 arg23 arg24 harg24 arg25 harg25 arg26 harg26 arg27 harg27 x0 x1 x2 x3 w1 w2 w3 w4 w5 1536 (by norm_num) (by norm_num) inb_S1024x2560_S1024x512_0_1536 inb_S512x3072_S256x512_0_1536, ?_⟩
  refine List.forall_mem_cons.2 ⟨first_cols c arg1 harg1 arg2 harg2 arg6 harg6 arg7 harg7 arg23 arg24 harg24 arg25 harg25 arg26 harg26 arg27 harg27 x0 x1 x2 x3 w1 w2 w3 w4 w5 1024 (by norm_num) (by norm_num) inb_S1024x2560_S1024x512_0_1024 inb_S512x3072_S256x512_0_1024, ?_⟩
  refine List.forall_mem_cons.2 ⟨first_cols c arg1 harg1 arg2 harg2 arg6 harg6 arg7 harg7 arg23 arg24 harg24 arg25 harg25 arg26 harg26 arg27 harg27 x0 x1 x2 x3 w1 w2 w3 w4 w5 512 (by norm_num) (by norm_num) inb_S1024x2560_S1024x512_0_512 inb_S512x3072_S256x512_0_512, ?_⟩
  refine List.forall_mem_cons.2 ⟨first_query c arg1 harg1 arg2 harg2 arg6 harg6 arg7 harg7 arg23 arg24 harg24 arg25 harg25 arg26 harg26 arg27 harg27 x0 x1 x2 x3 w1 w2 w3 w4 w5, ?_⟩
  exact fun p h => absurd h List.not_mem_nil

theorem workPieces12 : (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).2.2.1 =
    [⟨Rect.unit (s := S2x1x512) ![1, 0, 0] S1x1x512.size inb_S2x1x512_S1x1x512_1_0_0,
          k0_pay101
            (workRun.sl.r_25 c arg1 harg1 arg2 harg2 arg6 harg6 arg7 harg7 arg23 arg24 harg24 arg25 harg25 arg26 harg26
              arg27 harg27 x0 x1 x2 x3 w1 w2 w3 w4)⟩,
        ⟨Rect.unit (s := S2x1x512) ![0, 0, 0] S1x1x512.size inb_S2x1x512_S1x1x512_0_0_0,
          k0_pay90
            (workRun.sl.r_18 c arg1 harg1 arg2 harg2 arg6 harg6 arg7 harg7 arg23 arg24 harg24 arg25 harg25 arg26 harg26
              x0 x1 x2 x3 w1 w2 w3)
            (View.readAt (Elt Ideal) arg27.view
              (Rect.unit (s := S1024x2560) ![0, 512] S1024x512.size inb_S1024x2560_S1024x512_0_512).toLoadRect (harg27.unread w4))⟩] := by
  sl_kernel_rfl

theorem workAgree12 : ∀ p ∈ (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).2.2.1, ∀ x, p.2 x = left12 x0 x1 x2 x3 w1 w2 w3 w4 (p.1.emb x) := by
  rw [workPieces12]
  refine List.forall_mem_cons.2 ⟨second_mean c arg1 harg1 arg2 harg2 arg6 harg6 arg7 harg7 arg23 arg24 harg24 arg25 harg25 arg26 harg26 arg27 harg27 x0 x1 x2 x3 w1 w2 w3 w4, ?_⟩
  refine List.forall_mem_cons.2 ⟨first_mean c arg1 harg1 arg2 harg2 arg6 harg6 arg7 harg7 arg23 arg24 harg24 arg25 harg25 arg26 harg26 arg27 harg27 x0 x1 x2 x3 w1 w2 w3 w4, ?_⟩
  exact fun p h => absurd h List.not_mem_nil

theorem workPieces13 : (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).2.2.2.1 =
    [⟨Rect.unit (s := S512x256) ![256, 0] ![256, 256] inb_S512x256_S256x256_256_0,
          k0_pay1
            (workRun.sl.r_27 c arg1 harg1 arg2 harg2 arg6 harg6 arg7 harg7 arg9 harg9 arg10 harg10 arg23 arg24 harg24
              arg25 harg25 arg26 harg26 arg29 harg29 x0 x1 x2 x3 x4 x5 w1 w2 w3 w6)
            (workRun.sl.r_28 c arg1 harg1 arg2 harg2 arg6 harg6 arg7 harg7 arg9 harg9 arg10 harg10 arg23 arg24 harg24
              arg25 harg25 arg26 harg26 arg29 harg29 x0 x1 x2 x3 x4 x5 w1 w2 w3 w6)⟩,
        ⟨Rect.unit (s := S512x256) ![0, 0] S256x256.size inb_S512x256_S256x256_0_0,
          k0_pay102
            (workRun.sl.r_18 c arg1 harg1 arg2 harg2 arg6 harg6 arg7 harg7 arg23 arg24 harg24 arg25 harg25 arg26 harg26
              x0 x1 x2 x3 w1 w2 w3)
            (View.readAt (Elt Ideal) arg29.view (Rect.unit (s := S128x1024) ![0, 0] S128x1024.size inb_S128x1024_S128x1024_0_0).toLoadRect
              (harg29.unread w6))
            (View.readAt (Elt Ideal) arg9.view (Rect.unit (s := S128x256) ![0, 0] S128x256.size inb_S128x256_S128x256_0_0).toLoadRect
              (harg9.unread x4))
            (View.readAt (Elt Ideal) arg10.view (Rect.unit (s := S1x256) ![0, 0] S1x256.size inb_S1x256_S1x256_0_0).toLoadRect
              (harg10.unread x5))⟩] := by
  sl_kernel_rfl

theorem workAgree13 : ∀ p ∈ (workRun c i arg1 harg1 arg2 harg2 arg6 harg6 arg7 harg7 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 x0 x1 x2 x3 x4 x5 x6 x7 x8 x9 w1 w2 w3 w4 w5 w6).2.2.2.1, ∀ x, p.2 x = left13 x0 x1 x2 x3 x4 x5 w1 w2 w3 w6 (p.1.emb x) := by
  rw [workPieces13]
  refine List.forall_mem_cons.2 ⟨second_gate c arg1 harg1 arg2 harg2 arg6 harg6 arg7 harg7 arg9 harg9 arg10 harg10 arg23 arg24 harg24 arg25 harg25 arg26 harg26 arg29 harg29 x0 x1 x2 x3 x4 x5 w1 w2 w3 w6, ?_⟩
  refine List.forall_mem_cons.2 ⟨first_gate c arg1 harg1 arg2 harg2 arg6 harg6 arg7 harg7 arg9 harg9 arg10 harg10 arg23 arg24 harg24 arg25 harg25 arg26 harg26 arg29 harg29 x0 x1 x2 x3 x4 x5 w1 w2 w3 w6, ?_⟩
  exact fun p h => absurd h List.not_mem_nil

end point

end Cert.Kernel3Ideal.Gen

end
-- ==== Proof.ProjBlocks.lean ====
module

public import proofs.«01_k».proof.Proof.ProjFrame
public import Idealize.ShloMosaic.Lib.StableHlo.RunRead
public import proofs.«01_k».proof.Proof.ProjPoint

@[expose] public section

set_option maxRecDepth 16384

/-! # The blocks of the first call

Each grid point's blocks and the rounded weights, as parts of the call's arguments. -/

noncomputable section

namespace Cert.Kernel3Ideal.Gen

open Idealize.ShloMosaic Idealize.ShloMosaic.TcCoe Idealize.ShloMosaic.Tactic Idealize.ShloMosaic.StableHlo

variable (m : (ℓ : Loc nD τ sig) → Buf (Elt Ideal) ℓ) (c : Dev nD) (t : Fin cfg0.N)

theorem lt32 : t.val < 32 := lt_of_lt_of_eq t.isLt N_0

/-- A row of a grid point's blocks, in the whole arrays. -/
abbrev grow (a : Fin 512) : Fin 16384 := ⟨512 * t.val + a.val, by have := lt32 t; omega⟩

/-- The windows of the rows move with the grid point, and the others stay. -/
theorem row_facts : ∀ t : Fin cfg0.N, win0_0.index t 0 = t.val ∧ win0_0.index t 1 = 0 ∧ win0_10.index t 0 = t.val ∧ win0_10.index t 1 = 0
    ∧ win0_11.index t 0 = t.val ∧ win0_11.index t 1 = 0 ∧ win0_12.index t 0 = t.val ∧ win0_12.index t 1 = 0 ∧ win0_12.index t 2 = 0
    ∧ win0_13.index t 0 = t.val ∧ win0_13.index t 1 = 0 :=
  (by decide +kernel : ∀ t : Fin grid0.N, _)

theorem whole_facts : ∀ t : Fin cfg0.N, win0_1.index t 0 = 0 ∧ win0_1.index t 1 = 0 ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0 :=
  (by decide +kernel : ∀ t : Fin grid0.N, _)

theorem blk0 (a : Fin 512) (k : Fin 1024) : (iblk m c 0 t : Vec Ideal S512x1024 .f32) (ix2 a k)
    = (m ((c : Thread nD τ).loc main_arg0) : Vec Ideal S16384x1024 .f32) (ix2 (grow t a) k) := by
  rw [← V_main_arg0 m c]
  unfold iblk
  rw [View.read_apply]
  show V m c main_arg0 _ = V m c main_arg0 _
  obtain ⟨e0, e1, -⟩ := row_facts t
  congr 1
  funext d
  apply Fin.ext
  match d with
  | ⟨0, _⟩ => show win0_0.index t 0 * 512 + 1 * a.val = _; rw [e0]; show _ = 512 * t.val + a.val; omega
  | ⟨1, _⟩ => show win0_0.index t 1 * 1024 + 1 * k.val = _; rw [e1]; show _ = k.val; omega

theorem host2 : V m c main_v2 = broadcastInDim S1x1024 ![1] bcast_S1024_S1x1024_1 (m ((c : Thread nD τ).loc main_arg1)) := by
  unfold V
  after_reads_simp

theorem blk1 (k : Fin 1024) : ((iblk m c 1 t : Vec Ideal S1x1024 .f32) (ix2 0 k) : EReal)
    = (m ((c : Thread nD τ).loc main_arg1) : Vec Ideal S1024 .f32) (ix1 k) := by
  have h : (V m c main_v2 : Vec Ideal S1x1024 .f32) (ix2 0 k) = (m ((c : Thread nD τ).loc main_arg1) : Vec Ideal S1024 .f32) (ix1 k) := by
    rw [host2]
    pointwise
  rw [← h]
  unfold iblk
  rw [View.read_apply]
  show V m c main_v2 _ = V m c main_v2 _
  obtain ⟨e0, e1, -⟩ := whole_facts t
  congr 1
  funext d
  apply Fin.ext
  match d with
  | ⟨0, _⟩ => show win0_1.index t 0 * 1 + 1 * (0 : Fin 1).val = _; rw [e0]; show _ = (0 : Fin 1).val; omega
  | ⟨1, _⟩ => show win0_1.index t 1 * 1024 + 1 * k.val = _; rw [e1]; show _ = k.val; omega

theorem host3 : V m c main_v3 = broadcastInDim S1x1024 ![1] bcast_S1024_S1x1024_1 (m ((c : Thread nD τ).loc main_arg5)) := by
  unfold V
  after_reads_simp

theorem blk2 (k : Fin 1024) : ((iblk m c 2 t : Vec Ideal S1x1024 .f32) (ix2 0 k) : EReal)
    = (m ((c : Thread nD τ).loc main_arg5) : Vec Ideal S1024 .f32) (ix1 k) := by
  have h : (V m c main_v3 : Vec Ideal S1x1024 .f32) (ix2 0 k) = (m ((c : Thread nD τ).loc main_arg5) : Vec Ideal S1024 .f32) (ix1 k) := by
    rw [host3]
    pointwise
  rw [← h]
  unfold iblk
  rw [View.read_apply]
  show V m c main_v3 _ = V m c main_v3 _
  obtain ⟨-, -, e0, e1, -⟩ := whole_facts t
  congr 1
  funext d
  apply Fin.ext
  match d with
  | ⟨0, _⟩ => show win0_2.index t 0 * 1 + 1 * (0 : Fin 1).val = _; rw [e0]; show _ = (0 : Fin 1).val; omega
  | ⟨1, _⟩ => show win0_2.index t 1 * 1024 + 1 * k.val = _; rw [e1]; show _ = k.val; omega

theorem host4 : V m c main_v4 = broadcastInDim S1x1024 ![1] bcast_S1024_S1x1024_1 (m ((c : Thread nD τ).loc main_arg6)) := by
  unfold V
  after_reads_simp

theorem blk3 (k : Fin 1024) : ((iblk m c 3 t : Vec Ideal S1x1024 .f32) (ix2 0 k) : EReal)
    = (m ((c : Thread nD τ).loc main_arg6) : Vec Ideal S1024 .f32) (ix1 k) := by
  have h : (V m c main_v4 : Vec Ideal S1x1024 .f32) (ix2 0 k) = (m ((c : Thread nD τ).loc main_arg6) : Vec Ideal S1024 .f32) (ix1 k) := by
    rw [host4]
    pointwise
  rw [← h]
  unfold iblk
  rw [View.read_apply]
  show V m c main_v4 _ = V m c main_v4 _
  obtain ⟨-, -, -, -, e0, e1, -⟩ := whole_facts t
  congr 1
  funext d
  apply Fin.ext
  match d with
  | ⟨0, _⟩ => show win0_3.index t 0 * 1 + 1 * (0 : Fin 1).val = _; rw [e0]; show _ = (0 : Fin 1).val; omega
  | ⟨1, _⟩ => show win0_3.index t 1 * 1024 + 1 * k.val = _; rw [e1]; show _ = k.val; omega

theorem host6 : V m c main_v6 = broadcastInDim S1x256 ![1] bcast_S256_S1x256_1 (m ((c : Thread nD τ).loc main_arg9)) := by
  unfold V
  after_reads_simp

theorem blk5 (k : Fin 256) : ((iblk m c 5 t : Vec Ideal S1x256 .f32) (ix2 0 k) : EReal)
    = (m ((c : Thread nD τ).loc main_arg9) : Vec Ideal S256 .f32) (ix1 k) := by
  have h : (V m c main_v6 : Vec Ideal S1x256 .f32) (ix2 0 k) = (m ((c : Thread nD τ).loc main_arg9) : Vec Ideal S256 .f32) (ix1 k) := by
    rw [host6]
    pointwise
  rw [← h]
  unfold iblk
  rw [View.read_apply]
  show V m c main_v6 _ = V m c main_v6 _
  obtain ⟨-, -, -, -, -, -, -, -, e0, e1⟩ := whole_facts t
  congr 1
  funext d
  apply Fin.ext
  match d with
  | ⟨0, _⟩ => show win0_5.index t 0 * 1 + 1 * (0 : Fin 1).val = _; rw [e0]; show _ = (0 : Fin 1).val; omega
  | ⟨1, _⟩ => show win0_5.index t 1 * 256 + 1 * k.val = _; rw [e1]; show _ = k.val; omega

theorem host5 : V m c main_v5 = transpose S3088x1024 [1, 0] (m ((c : Thread nD τ).loc main_arg7)) transposes_S1024x3088_S3088x1024_1_0 := by
  unfold V
  after_reads_simp

theorem turned_at (a : Fin 3088) (k : Fin 1024) : ((V m c main_v5 : Vec Ideal S3088x1024 .f32) (ix2 a k) : EReal)
    = (m ((c : Thread nD τ).loc main_arg7) : Vec Ideal S1024x3088 .f32) (ix2 k a) := by
  rw [host5]
  pointwise

/-- The low-rank gate's second weights, with rows of zeros up to a full tile. -/
def padded (x : Vec Ideal S16x256 .f32) : Vec Ideal S128x256 .f32 :=
  pad S128x256 ![0, 0] ![112, 0] ![0, 0] x (sitofp (F := Ideal) .f32 (constantI S_ 32 0#32)) pads_S16x256_S128x256_01120_000 h_S_

theorem padded_at (x : Vec Ideal S16x256 .f32) (r : Fin 128) (d : Fin 256) :
    (padded x (ix2 r d) : EReal) = if h : r.val < 16 then (x (ix2 ⟨r.val, h⟩ d) : EReal) else 0 := by
  unfold padded
  pointwise
  have hz : (FloatOps.sitofp (F := Ideal) FTy.f32 (0#32) : EReal) = 0 := by
    show ((((0#32 : BitVec 32).toInt : ℤ) : ℝ) : EReal) = 0
    simp
  rw [hz]

theorem host1 : (V m c main_v1 : Vec Ideal S128x256 .bf16)
    = truncf (F := Ideal) .bf16 (padded (m ((c : Thread nD τ).loc main_arg8) : Vec Ideal S16x256 .f32)) bitsLt_bf16_f32 := by
  unfold V padded
  after_reads_simp
  rfl

theorem blk4 (r : Fin 128) (d : Fin 256) : ((iblk m c 4 t : Vec Ideal S128x256 .bf16) (ix2 r d) : EReal)
    = padded (m ((c : Thread nD τ).loc main_arg8) : Vec Ideal S16x256 .f32) (ix2 r d) := by
  have h : ((V m c main_v1 : Vec Ideal S128x256 .bf16) (ix2 r d) : EReal)
      = padded (m ((c : Thread nD τ).loc main_arg8) : Vec Ideal S16x256 .f32) (ix2 r d) := by
    rw [host1]
    pointwise
  rw [← h]
  unfold iblk
  rw [View.read_apply]
  show V m c main_v1 _ = V m c main_v1 _
  obtain ⟨-, -, -, -, -, -, e0, e1, -⟩ := whole_facts t
  congr 1
  funext d'
  apply Fin.ext
  match d' with
  | ⟨0, _⟩ => show win0_4.index t 0 * 128 + 1 * r.val = _; rw [e0]; show _ = r.val; omega
  | ⟨1, _⟩ => show win0_4.index t 1 * 256 + 1 * d.val = _; rw [e1]; show _ = d.val; omega

theorem main_at (a : Fin 1024) (b : Fin 2560) : (wMain (F := Ideal) (V m c main_v5) (ix2 a b) : EReal)
    = (m ((c : Thread nD τ).loc main_arg7) : Vec Ideal S1024x3088 .f32) (ix2 a ⟨b.val, by omega⟩) :=
  turned_at m c ⟨b.val, by omega⟩ a

theorem last_at (a : Fin 1024) (b : Fin 512) : (wLast (F := Ideal) (V m c main_v5) (ix2 a b) : EReal)
    = (m ((c : Thread nD τ).loc main_arg7) : Vec Ideal S1024x3088 .f32) (ix2 a ⟨2576 + b.val, by omega⟩) :=
  turned_at m c ⟨2576 + b.val, by omega⟩ a

theorem low_at (r : Fin 128) (k : Fin 1024) : (wLow (F := Ideal) (V m c main_v5) (ix2 r k) : EReal)
    = (m ((c : Thread nD τ).loc main_arg7) : Vec Ideal S1024x3088 .f32) (ix2 k ⟨2560 + r.val, by omega⟩) :=
  turned_at m c ⟨2560 + r.val, by omega⟩ k

theorem gate_at (a : Fin 1024) (b : Fin 2816) : (wGate (F := Ideal) (V m c main_arg2) (ix2 a b) : EReal)
    = (m ((c : Thread nD τ).loc main_arg2) : Vec Ideal S1024x2816 .f32) (ix2 a b) := congrFun (V_main_arg2 m c) _

theorem up_at (a : Fin 1024) (b : Fin 2816) : (wGate (F := Ideal) (V m c main_arg3) (ix2 a b) : EReal)
    = (m ((c : Thread nD τ).loc main_arg3) : Vec Ideal S1024x2816 .f32) (ix2 a b) := congrFun (V_main_arg3 m c) _

theorem down_at (a : Fin 2816) (b : Fin 1024) : (wDown (F := Ideal) (V m c main_arg4) (ix2 a b) : EReal)
    = (m ((c : Thread nD τ).loc main_arg4) : Vec Ideal S2816x1024 .f32) (ix2 a b) := congrFun (V_main_arg4 m c) _

end Cert.Kernel3Ideal.Gen

end
-- ==== Proof.ProjResult.lean ====
module

public import proofs.«01_k».proof.Proof.ProjBlocks

@[expose] public section

set_option maxRecDepth 16384

/-! # What the first call's arrays hold -/

noncomputable section

namespace Cert.Kernel3Ideal.Gen

open Idealize.ShloMosaic Idealize.ShloMosaic.TcCoe Idealize.ShloMosaic.Tactic

variable (m : (ℓ : Loc nD τ sig) → Buf (Elt Ideal) ℓ) (c : Dev nD)

theorem stream_congr {x pre post : Fin 1024 → EReal} {wg wg' wu wu' : Fin 1024 → Fin 2816 → EReal} {wd wd' : Fin 2816 → Fin 1024 → EReal}
    (hg : ∀ a b, wg a b = wg' a b) (hu : ∀ a b, wu a b = wu' a b) (hd : ∀ a b, wd a b = wd' a b) :
    Proj.stream x pre wg wu wd post = Proj.stream x pre wg' wu' wd' post := by
  rw [show wg = wg' from funext fun a => funext fun b => hg a b, show wu = wu' from funext fun a => funext fun b => hu a b,
    show wd = wd' from funext fun a => funext fun b => hd a b]

section point

variable (t : Fin cfg0.N)

theorem stream_point (a : Fin 512) : streamAt (iblk m c 0 t) (iblk m c 1 t) (iblk m c 2 t) (wGate (F := Ideal) (V m c main_arg2)) (wGate (F := Ideal) (V m c main_arg3)) (wDown (F := Ideal) (V m c main_arg4)) a = Proj.tokenStream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (grow t a) := by
  unfold streamAt Proj.tokenStream
  simp only [blk0, blk1, blk2]
  exact stream_congr (fun a b => gate_at m c a b) (fun a b => up_at m c a b) (fun a b => down_at m c a b)

theorem norm_point (a : Fin 512) : normAt (iblk m c 0 t) (iblk m c 1 t) (iblk m c 2 t) (iblk m c 3 t) (wGate (F := Ideal) (V m c main_arg2)) (wGate (F := Ideal) (V m c main_arg3)) (wDown (F := Ideal) (V m c main_arg4)) a
    = Mix.rms Mix.c1024 (Proj.tokenStream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (grow t a)) (fun k => (m ((c : Thread nD τ).loc main_arg6) : Vec Ideal S1024 .f32) (ix1 k)) := by
  unfold normAt
  rw [stream_point]
  simp only [blk3]

theorem main_point (a : Fin 512) (k : Fin 2560) : Mix.prod (normAt (iblk m c 0 t) (iblk m c 1 t) (iblk m c 2 t) (iblk m c 3 t) (wGate (F := Ideal) (V m c main_arg2)) (wGate (F := Ideal) (V m c main_arg3)) (wDown (F := Ideal) (V m c main_arg4)) a) (fun a b => (wMain (F := Ideal) (V m c main_v5)) (ix2 a b)) k
    = Proj.tokenCols (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (grow t a) ⟨k.val, by omega⟩ := by
  rw [norm_point]
  unfold Proj.tokenCols Proj.cols Mix.prod
  exact Finset.sum_congr rfl fun x _ => congrArg (_ * ·) (main_at m c x k)

theorem last_point (a : Fin 512) (k : Fin 512) : Mix.prod (normAt (iblk m c 0 t) (iblk m c 1 t) (iblk m c 2 t) (iblk m c 3 t) (wGate (F := Ideal) (V m c main_arg2)) (wGate (F := Ideal) (V m c main_arg3)) (wDown (F := Ideal) (V m c main_arg4)) a) (fun a b => (wLast (F := Ideal) (V m c main_v5)) (ix2 a b)) k
    = Proj.tokenCols (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (grow t a) ⟨2576 + k.val, by omega⟩ := by
  rw [norm_point]
  unfold Proj.tokenCols Proj.cols Mix.prod
  exact Finset.sum_congr rfl fun x _ => congrArg (_ * ·) (last_at m c x k)

theorem kept_point (a : Fin 512) (k : Fin 3072) : keptAt (iblk m c 0 t) (iblk m c 1 t) (iblk m c 2 t) (iblk m c 3 t) (wGate (F := Ideal) (V m c main_arg2)) (wGate (F := Ideal) (V m c main_arg3)) (wDown (F := Ideal) (V m c main_arg4)) (wMain (F := Ideal) (V m c main_v5)) (wLast (F := Ideal) (V m c main_v5)) a k = Proj.tokenKept (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (grow t a) k := by
  unfold keptAt Proj.tokenKept Proj.kept
  split
  · rw [main_point]
  split
  · rw [main_point]
  · rw [last_point]
    congr 1
    apply Fin.ext
    show 2576 + (k.val - 2560) = k.val + 16
    omega

theorem mean_point (b : Fin 2) (d : Fin 512) : meanAt (iblk m c 0 t) (iblk m c 1 t) (iblk m c 2 t) (iblk m c 3 t) (wGate (F := Ideal) (V m c main_arg2)) (wGate (F := Ideal) (V m c main_arg3)) (wDown (F := Ideal) (V m c main_arg4)) (wMain (F := Ideal) (V m c main_v5)) b d
    = Proj.blockMean (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) ⟨2 * t.val + b.val, by have := lt32 t; omega⟩ d := by
  unfold meanAt Proj.blockMean Proj.keyMean
  refine congrArg (fun s => Ideal.div s Proj.cBlock) (Finset.sum_congr rfl fun r _ => ?_)
  rw [main_point]
  congr 1
  apply Fin.ext
  show 512 * t.val + (256 * b.val + r.val) = 256 * (2 * t.val + b.val) + r.val
  omega

/-- The rows of zeros add nothing. -/
theorem sum_padded (f : Fin 128 → EReal) (x : Vec Ideal S16x256 .f32) (d : Fin 256) :
    ∑ r : Fin 128, f r * (padded x (ix2 r d) : EReal) = ∑ r : Fin 16, f ⟨r.val, by omega⟩ * (x (ix2 r d) : EReal) := by
  rw [show (∑ r : Fin 128, f r * (padded x (ix2 r d) : EReal)) = ∑ r : Fin (16 + 112), f r * (padded x (ix2 (n0 := 128) r d) : EReal) from rfl]
  rw [Fin.sum_univ_add]
  have h0 : ∀ r : Fin 112, f (Fin.natAdd 16 r) * (padded x (ix2 (n0 := 128) (Fin.natAdd 16 r) d) : EReal) = 0 := fun r => by
    rw [padded_at, dif_neg (by show ¬ 16 + r.val < 16; omega), mul_zero]
  have h1 : ∀ r : Fin 16, f (Fin.castAdd 112 r) * (padded x (ix2 (n0 := 128) (Fin.castAdd 112 r) d) : EReal) = f ⟨r.val, by omega⟩ * (x (ix2 r d) : EReal) := fun r => by
    rw [padded_at, dif_pos (show (Fin.castAdd 112 r).val < 16 from r.isLt)]
    rfl
  rw [Finset.sum_congr rfl fun r _ => h1 r, Finset.sum_congr rfl fun r _ => h0 r, Finset.sum_const_zero, add_zero]

theorem gate_point (a : Fin 512) (d : Fin 256) : gateAt (iblk m c 0 t) (iblk m c 1 t) (iblk m c 2 t) (iblk m c 3 t) (iblk m c 4 t) (iblk m c 5 t)
      (wGate (F := Ideal) (V m c main_arg2)) (wGate (F := Ideal) (V m c main_arg3)) (wDown (F := Ideal) (V m c main_arg4)) (wLow (F := Ideal) (V m c main_v5)) a d
    = Proj.tokenGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (grow t a) d := by
  unfold gateAt Proj.tokenGate Proj.low
  refine congrArg Proj.logGate (congrArg₂ (· + ·) ?_ (blk5 m c t d))
  simp only [blk4]
  refine (sum_padded _ _ d).trans (Finset.sum_congr rfl fun r _ => ?_)
  refine congrArg (· * _) ?_
  rw [norm_point]
  unfold Proj.tokenCols Proj.cols Mix.prod
  exact Finset.sum_congr rfl fun x _ => congrArg (_ * ·) (low_at m c ⟨r.val, by omega⟩ x)

theorem out_left10 (y : S512x1024.Idx) : (out0_10 m c t y : EReal) = left10 (iblk m c 0 t) (iblk m c 1 t) (iblk m c 2 t) (wGate (F := Ideal) (V m c main_arg2)) (wGate (F := Ideal) (V m c main_arg3)) (wDown (F := Ideal) (V m c main_arg4)) y :=
  View.canon_apply_of_pieces _ _ (workAgree10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (wGate (V m c main_arg2)) (wGate (V m c main_arg3)) (wDown (V m c main_arg4)) (wMain (V m c main_v5)) (wLast (V m c main_v5)) (wLow (V m c main_v5))) y
    (workCover10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (wGate (V m c main_arg2)) (wGate (V m c main_arg3)) (wDown (V m c main_arg4)) (wMain (V m c main_v5)) (wLast (V m c main_v5)) (wLow (V m c main_v5)) y)

theorem out_left11 (y : S512x3072.Idx) : (out0_11 m c t y : EReal) = left11 (iblk m c 0 t) (iblk m c 1 t) (iblk m c 2 t) (iblk m c 3 t) (wGate (F := Ideal) (V m c main_arg2)) (wGate (F := Ideal) (V m c main_arg3)) (wDown (F := Ideal) (V m c main_arg4)) (wMain (F := Ideal) (V m c main_v5)) (wLast (F := Ideal) (V m c main_v5)) y :=
  View.canon_apply_of_pieces _ _ (workAgree11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (wGate (V m c main_arg2)) (wGate (V m c main_arg3)) (wDown (V m c main_arg4)) (wMain (V m c main_v5)) (wLast (V m c main_v5)) (wLow (V m c main_v5))) y
    (workCover11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (wGate (V m c main_arg2)) (wGate (V m c main_arg3)) (wDown (V m c main_arg4)) (wMain (V m c main_v5)) (wLast (V m c main_v5)) (wLow (V m c main_v5)) y)

theorem out_left12 (y : S2x1x512.Idx) : (out0_12 m c t y : EReal) = left12 (iblk m c 0 t) (iblk m c 1 t) (iblk m c 2 t) (iblk m c 3 t) (wGate (F := Ideal) (V m c main_arg2)) (wGate (F := Ideal) (V m c main_arg3)) (wDown (F := Ideal) (V m c main_arg4)) (wMain (F := Ideal) (V m c main_v5)) y :=
  View.canon_apply_of_pieces _ _ (workAgree12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (wGate (V m c main_arg2)) (wGate (V m c main_arg3)) (wDown (V m c main_arg4)) (wMain (V m c main_v5)) (wLast (V m c main_v5)) (wLow (V m c main_v5))) y
    (workCover12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (wGate (V m c main_arg2)) (wGate (V m c main_arg3)) (wDown (V m c main_arg4)) (wMain (V m c main_v5)) (wLast (V m c main_v5)) (wLow (V m c main_v5)) y)

theorem out_left13 (y : S512x256.Idx) : (out0_13 m c t y : EReal) = left13 (iblk m c 0 t) (iblk m c 1 t) (iblk m c 2 t) (iblk m c 3 t) (iblk m c 4 t) (iblk m c 5 t) (wGate (F := Ideal) (V m c main_arg2)) (wGate (F := Ideal) (V m c main_arg3)) (wDown (F := Ideal) (V m c main_arg4)) (wLow (F := Ideal) (V m c main_v5)) y :=
  View.canon_apply_of_pieces _ _ (workAgree13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (wGate (V m c main_arg2)) (wGate (V m c main_arg3)) (wDown (V m c main_arg4)) (wMain (V m c main_v5)) (wLast (V m c main_v5)) (wLow (V m c main_v5))) y
    (workCover13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (wGate (V m c main_arg2)) (wGate (V m c main_arg3)) (wDown (V m c main_arg4)) (wMain (V m c main_v5)) (wLast (V m c main_v5)) (wLow (V m c main_v5)) y)

end point

theorem flushes10 : ∀ t : Fin cfg0.N, (cfg0.win 10).flush t = true := (by decide +kernel : ∀ t : Fin grid0.N, _)

theorem apart10 : ∀ t t' : Fin cfg0.N, (cfg0.win 10).flush t = true → (cfg0.win 10).flush t' = true → t ≠ t' →
    Disjoint ((cfg0.win 10).blk t).view.set ((cfg0.win 10).blk t').view.set :=
  have inj : ∀ t t' : Fin cfg0.N, win0_10.index t = win0_10.index t' → t = t' :=
    (by decide +kernel : ∀ t t' : Fin grid0.N, win0_10.index t = win0_10.index t' → t = t')
  fun t t' _ _ hne => (cfg0.win 10).disjoint_blk fun h => hne (inj t t' h)

theorem flushes11 : ∀ t : Fin cfg0.N, (cfg0.win 11).flush t = true := (by decide +kernel : ∀ t : Fin grid0.N, _)

theorem apart11 : ∀ t t' : Fin cfg0.N, (cfg0.win 11).flush t = true → (cfg0.win 11).flush t' = true → t ≠ t' →
    Disjoint ((cfg0.win 11).blk t).view.set ((cfg0.win 11).blk t').view.set :=
  have inj : ∀ t t' : Fin cfg0.N, win0_11.index t = win0_11.index t' → t = t' :=
    (by decide +kernel : ∀ t t' : Fin grid0.N, win0_11.index t = win0_11.index t' → t = t')
  fun t t' _ _ hne => (cfg0.win 11).disjoint_blk fun h => hne (inj t t' h)

theorem flushes12 : ∀ t : Fin cfg0.N, (cfg0.win 12).flush t = true := (by decide +kernel : ∀ t : Fin grid0.N, _)

theorem apart12 : ∀ t t' : Fin cfg0.N, (cfg0.win 12).flush t = true → (cfg0.win 12).flush t' = true → t ≠ t' →
    Disjoint ((cfg0.win 12).blk t).view.set ((cfg0.win 12).blk t').view.set :=
  have inj : ∀ t t' : Fin cfg0.N, win0_12.index t = win0_12.index t' → t = t' :=
    (by decide +kernel : ∀ t t' : Fin grid0.N, win0_12.index t = win0_12.index t' → t = t')
  fun t t' _ _ hne => (cfg0.win 12).disjoint_blk fun h => hne (inj t t' h)

theorem flushes13 : ∀ t : Fin cfg0.N, (cfg0.win 13).flush t = true := (by decide +kernel : ∀ t : Fin grid0.N, _)

theorem apart13 : ∀ t t' : Fin cfg0.N, (cfg0.win 13).flush t = true → (cfg0.win 13).flush t' = true → t ≠ t' →
    Disjoint ((cfg0.win 13).blk t).view.set ((cfg0.win 13).blk t').view.set :=
  have inj : ∀ t t' : Fin cfg0.N, win0_13.index t = win0_13.index t' → t = t' :=
    (by decide +kernel : ∀ t t' : Fin grid0.N, win0_13.index t = win0_13.index t' → t = t')
  fun t t' _ _ hne => (cfg0.win 13).disjoint_blk fun h => hne (inj t t' h)

/-- A row of output 10 after the run. -/
theorem kernel_row10 (q : Fin 16384) (k : Fin 1024) :
    ((dats m 0 c).arrAt 10 cfg0.N : S16384x1024.Idx → EReal) (ix2 q k) = Proj.tokenStream (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q k := by
  obtain ⟨t, a, rfl⟩ : ∃ t a, q = grow t a :=
    ⟨⟨q.val / 512, by rw [show cfg0.N = 32 from N_0]; omega⟩, ⟨q.val % 512, Nat.mod_lt _ (by decide)⟩,
      Fin.ext (by show q.val = 512 * (q.val / 512) + q.val % 512; omega)⟩
  have h := congrFun ((dats m 0 c).read_blk_arrAt_eq_flushed 10 apart10 cfg0.N t t.isLt (flushes10 t)) (ix2 (n0 := 512) (n1 := 1024) a k)
  rw [View.read_apply] at h
  have hy : ((cfg0.win 10).blk t).view.emb (ix2 (n0 := 512) (n1 := 1024) a k) = ix2 (n0 := 16384) (n1 := 1024) (grow t a) k := by
    obtain ⟨-, -, e0, e1, -⟩ := row_facts t
    funext d
    apply Fin.ext
    match d with
    | ⟨0, _⟩ => show win0_10.index t 0 * 512 + 1 * a.val = _; rw [e0]; show _ = 512 * t.val + a.val; omega
    | ⟨1, _⟩ => show win0_10.index t 1 * 1024 + 1 * k.val = _; rw [e1]; show _ = k.val; omega
  rw [hy] at h
  refine h.trans ?_
  show ((dats m 0 c).after 10 t (ix2 (n0 := 512) (n1 := 1024) a k) : EReal) = _
  rw [after0_10]
  refine (out_left10 m c t _).trans ?_
  show streamAt _ _ _ _ _ _ a k = _
  rw [stream_point]

/-- A row of output 11 after the run. -/
theorem kernel_row11 (q : Fin 16384) (k : Fin 3072) :
    ((dats m 0 c).arrAt 11 cfg0.N : S16384x3072.Idx → EReal) (ix2 q k) = Proj.tokenKept (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) q k := by
  obtain ⟨t, a, rfl⟩ : ∃ t a, q = grow t a :=
    ⟨⟨q.val / 512, by rw [show cfg0.N = 32 from N_0]; omega⟩, ⟨q.val % 512, Nat.mod_lt _ (by decide)⟩,
      Fin.ext (by show q.val = 512 * (q.val / 512) + q.val % 512; omega)⟩
  have h := congrFun ((dats m 0 c).read_blk_arrAt_eq_flushed 11 apart11 cfg0.N t t.isLt (flushes11 t)) (ix2 (n0 := 512) (n1 := 3072) a k)
  rw [View.read_apply] at h
  have hy : ((cfg0.win 11).blk t).view.emb (ix2 (n0 := 512) (n1 := 3072) a k) = ix2 (n0 := 16384) (n1 := 3072) (grow t a) k := by
    obtain ⟨-, -, -, -, e0, e1, -⟩ := row_facts t
    funext d
    apply Fin.ext
    match d with
    | ⟨0, _⟩ => show win0_11.index t 0 * 512 + 1 * a.val = _; rw [e0]; show _ = 512 * t.val + a.val; omega
    | ⟨1, _⟩ => show win0_11.index t 1 * 3072 + 1 * k.val = _; rw [e1]; show _ = k.val; omega
  rw [hy] at h
  refine h.trans ?_
  show ((dats m 0 c).after 11 t (ix2 (n0 := 512) (n1 := 3072) a k) : EReal) = _
  rw [after0_11]
  refine (out_left11 m c t _).trans ?_
  show keptAt _ _ _ _ _ _ _ _ _ a k = _
  rw [kept_point]

/-- A row of output 13 after the run. -/
theorem kernel_row13 (q : Fin 16384) (k : Fin 256) :
    ((dats m 0 c).arrAt 13 cfg0.N : S16384x256.Idx → EReal) (ix2 q k) = Proj.tokenGate (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) q k := by
  obtain ⟨t, a, rfl⟩ : ∃ t a, q = grow t a :=
    ⟨⟨q.val / 512, by rw [show cfg0.N = 32 from N_0]; omega⟩, ⟨q.val % 512, Nat.mod_lt _ (by decide)⟩,
      Fin.ext (by show q.val = 512 * (q.val / 512) + q.val % 512; omega)⟩
  have h := congrFun ((dats m 0 c).read_blk_arrAt_eq_flushed 13 apart13 cfg0.N t t.isLt (flushes13 t)) (ix2 (n0 := 512) (n1 := 256) a k)
  rw [View.read_apply] at h
  have hy : ((cfg0.win 13).blk t).view.emb (ix2 (n0 := 512) (n1 := 256) a k) = ix2 (n0 := 16384) (n1 := 256) (grow t a) k := by
    obtain ⟨-, -, -, -, -, -, -, -, -, e0, e1⟩ := row_facts t
    funext d
    apply Fin.ext
    match d with
    | ⟨0, _⟩ => show win0_13.index t 0 * 512 + 1 * a.val = _; rw [e0]; show _ = 512 * t.val + a.val; omega
    | ⟨1, _⟩ => show win0_13.index t 1 * 256 + 1 * k.val = _; rw [e1]; show _ = k.val; omega
  rw [hy] at h
  refine h.trans ?_
  show ((dats m 0 c).after 13 t (ix2 (n0 := 512) (n1 := 256) a k) : EReal) = _
  rw [after0_13]
  refine (out_left13 m c t _).trans ?_
  show gateAt _ _ _ _ _ _ _ _ _ _ a k = _
  rw [gate_point]

/-- A block's mean after the run. -/
theorem kernel_row12 (b : Fin 64) (k : Fin 512) :
    ((dats m 0 c).arrAt 12 cfg0.N : S64x1x512.Idx → EReal) (ix3 b 0 k) = Proj.blockMean (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b k := by
  obtain ⟨t, a, rfl⟩ : ∃ (t : Fin cfg0.N) (a : Fin 2), b = ⟨2 * t.val + a.val, by have := lt32 t; omega⟩ :=
    ⟨⟨b.val / 2, by rw [show cfg0.N = 32 from N_0]; omega⟩, ⟨b.val % 2, Nat.mod_lt _ (by decide)⟩,
      Fin.ext (by show b.val = 2 * (b.val / 2) + b.val % 2; omega)⟩
  have h := congrFun ((dats m 0 c).read_blk_arrAt_eq_flushed 12 apart12 cfg0.N t t.isLt (flushes12 t)) (ix3 (n0 := 2) (n1 := 1) (n2 := 512) a 0 k)
  rw [View.read_apply] at h
  have hy : ((cfg0.win 12).blk t).view.emb (ix3 (n0 := 2) (n1 := 1) (n2 := 512) a 0 k)
      = ix3 (n0 := 64) (n1 := 1) (n2 := 512) ⟨2 * t.val + a.val, by have := lt32 t; omega⟩ 0 k := by
    obtain ⟨-, -, -, -, -, -, e0, e1, e2, -⟩ := row_facts t
    funext d
    apply Fin.ext
    match d with
    | ⟨0, _⟩ => show win0_12.index t 0 * 2 + 1 * a.val = _; rw [e0]; show _ = 2 * t.val + a.val; omega
    | ⟨1, _⟩ => show win0_12.index t 1 * 1 + 1 * (0 : Fin 1).val = _; rw [e1]; show _ = (0 : Fin 1).val; omega
    | ⟨2, _⟩ => show win0_12.index t 2 * 512 + 1 * k.val = _; rw [e2]; show _ = k.val; omega
  rw [hy] at h
  refine h.trans ?_
  show ((dats m 0 c).after 12 t (ix3 (n0 := 2) (n1 := 1) (n2 := 512) a 0 k) : EReal) = _
  rw [after0_12]
  refine (out_left12 m c t _).trans ?_
  show meanAt _ _ _ _ _ _ _ _ a k = _
  rw [mean_point]

/-- The run, with the four arrays named and the arguments unchanged. -/
theorem run_arrays (ρ : Dev nD → PrngReg) : θ_run defs (onTc (τ := τ) (main (F := Ideal))) ⟨m, fun _ => 0, ρ⟩ (fun r => ∀ c : Dev nD,
      r.2.mem ((c.tc : Thread nD τ).loc main_v7_0) = (dats m 0 c).arrAt 10 cfg0.N
      ∧ r.2.mem ((c.tc : Thread nD τ).loc main_v7_1) = (dats m 0 c).arrAt 11 cfg0.N
      ∧ r.2.mem ((c.tc : Thread nD τ).loc main_v7_2) = (dats m 0 c).arrAt 12 cfg0.N
      ∧ r.2.mem ((c.tc : Thread nD τ).loc main_v7_3) = (dats m 0 c).arrAt 13 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h.1 c).1 10, (h.1 c).1 11, (h.1 c).1 12, (h.1 c).1 13, h.2 c⟩) (θ_run_and (run_main m ρ) (unchanged m ρ))

end Cert.Kernel3Ideal.Gen

end
-- ==== Proof.ProjRef.lean ====
module

public import proofs.«01_k».proof.Proof.Gen.Reference3Ideal.Run
public import proofs.«01_k».proof.Proof.ProjSpec

@[expose] public section

set_option maxRecDepth 16384

/-! # The reference of the first call, row by row -/

noncomputable section

namespace Proj

open Idealize.ShloMosaic

theorem log_ne_bot {x : EReal} (h : 0 < x) : Ideal.log x ≠ ⊥ := by
  induction x using EReal.rec with
  | bot => simp at h
  | top => exact top_ne_bot
  | coe r =>
    have : ¬ r ≤ 0 := not_le.2 (by exact_mod_cast h)
    rw [show Ideal.log ((r : ℝ) : EReal) = if r ≤ 0 then ⊥ else ((Real.log r : ℝ) : EReal) from rfl, if_neg this]
    exact EReal.coe_ne_bot _

theorem neg_max_zero (z : EReal) : -(max (-z) 0) = min z 0 := by
  rcases le_total z 0 with h | h
  · rw [min_eq_left h, max_eq_left (EReal.neg_nonneg.2 h), neg_neg]
  · rw [min_eq_right h, max_eq_right (by simpa using h), neg_zero]

/-- A sixteenth of the logarithm of e to base two. -/
theorem sixteenth (x : EReal) : Ideal.div x (Ideal.ofBits .f32 0x41800000#32) * cLog = x * cGate := by
  have h16 : Ideal.ofBits .f32 0x41800000#32 = ((16 : ℝ) : EReal) := by
    simp only [Ideal.ofBits, Ideal.ieee]; simp; rw [← EReal.coe_mul]; norm_num
  have hl : ((16 : ℝ) : EReal)⁻¹ * cLog = cGate := by
    simp only [Ideal.ofBits, Ideal.ieee]; simp; rw [← EReal.coe_inv]; simp only [← EReal.coe_mul]; norm_num
  rw [h16]
  unfold Ideal.div
  rw [if_neg (by norm_num), mul_assoc, hl]

/-- The logarithm of the logistic of `z`, a sixteenth of it, to base two. -/
theorem logGate_eq (z : EReal) :
    Ideal.div (-(max (-z) 0 + Ideal.log1p (Ideal.exp (-(max (-z) (-(-z))))))) (Ideal.ofBits .f32 0x41800000#32) * cLog = logGate z := by
  rw [sixteenth]
  unfold logGate Ideal.log1p
  rw [neg_neg, max_comm (-z) z]
  congr 1
  rw [EReal.neg_add (Or.inl (ne_of_gt (lt_of_lt_of_le EReal.bot_lt_zero (le_max_right _ _)))) (Or.inr (log_ne_bot (Mix.one_add_exp_pos _))), neg_max_zero]

end Proj

namespace Cert.Reference3Ideal.Value

open Idealize.ShloMosaic Idealize.ShloMosaic.TcCoe Idealize.ShloMosaic.Tactic
open Idealize.ShloMosaic.StableHlo
open Cert.Reference3Ideal.Gen

/-- The reference's norm of 1024 columns, -/
def rnorm1024 (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- and its gate. -/
def rgate2816 (x : FVec Ideal S16384x2816 .f32) : FVec Ideal S16384x2816 .f32 :=
  mulf x (Host.divf (broadcastInDim S16384x2816 ![] bcast_S_S16384x2816 (constant S_ .f32 0x3F800000#32)) (addf (broadcastInDim S16384x2816 ![] bcast_S_S16384x2816 (constant S_ .f32 0x3F800000#32)) (Host.exp (Host.negf x))))

/-- The columns the reference keeps, of its projection `p`, -/
def rkept (p : FVec Ideal S16384x3088 .f32) : FVec Ideal S16384x3072 .bf16 :=
  truncf .bf16 ((concatenate S16384x3072 1 [⟨S16384x512, ((mulf (extractStridedSlice S16384x512 ![0, 0] p slices_S16384x3088_S16384x512_0_0) (broadcastInDim S16384x512 ![] bcast_S_S16384x512 (constant S_ .f32 0x3E38AA3B#32))) : (⟨S16384x512, .f32⟩ : BufTy).Contents (Elt Ideal))⟩, ⟨S16384x512, ((extractStridedSlice S16384x512 ![0, 512] p slices_S16384x3088_S16384x512_0_512) : (⟨S16384x512, .f32⟩ : BufTy).Contents (Elt Ideal))⟩, ⟨S16384x512, ((extractStridedSlice S16384x512 ![0, 1024] p slices_S16384x3088_S16384x512_0_1024) : (⟨S16384x512, .f32⟩ : BufTy).Contents (Elt Ideal))⟩, ⟨S16384x256, ((extractStridedSlice S16384x256 ![0, 1536] p slices_S16384x3088_S16384x256_0_1536) : (⟨S16384x256, .f32⟩ : BufTy).Contents (Elt Ideal))⟩, ⟨S16384x256, ((extractStridedSlice S16384x256 ![0, 1792] p slices_S16384x3088_S16384x256_0_1792) : (⟨S16384x256, .f32⟩ : BufTy).Contents (Elt Ideal))⟩, ⟨S16384x512, ((extractStridedSlice S16384x512 ![0, 2048] p slices_S16384x3088_S16384x512_0_2048) : (⟨S16384x512, .f32⟩ : BufTy).Contents (Elt Ideal))⟩, ⟨S16384x512, ((extractStridedSlice S16384x512 ![0, 2576] p slices_S16384x3088_S16384x512_0_2576) : (⟨S16384x512, .f32⟩ : BufTy).Contents (Elt Ideal))⟩] concatenates_S16384x512_S16384x512_S16384x512_S16384x256_S16384x256_S16384x512_S16384x512_S16384x3072_d1 : (⟨S16384x3072, .f32⟩ : BufTy).Contents (Elt Ideal))) bitsLt_bf16_f32
/-- its block means of the keys, -/
def rmean (p : FVec Ideal S16384x3088 .f32) : FVec Ideal S64x1x512 .f32 :=
  Host.divf (broadcastInDim S64x1x512 ![0, 2] bcast_S64x512_S64x1x512_0_2 (Host.reduceAdd (shapeCast S64x256x512 (extractStridedSlice S16384x512 ![0, 512] p slices_S16384x3088_S16384x512_0_512) shapeCasts_S16384x512_S64x256x512) (constant S_ .f32 0x00000000#32) reducesTo_S64x256x512_S64x512_d1 h_S_)) (broadcastInDim S64x1x512 ![] bcast_S_S64x1x512 (constant S_ .f32 0x43800000#32))
/-- its gate's argument with the sign turned, -/
def rlow (p : FVec Ideal S16384x3088 .f32) (w : FVec Ideal S16x256 .f32) (b : FVec Ideal S256 .f32) : FVec Ideal S16384x256 .f32 :=
  Host.negf (addf (Host.dotGeneral dot_S16384x16_S16x256_S16384x256_1_0_0_1_n_n none (extractStridedSlice S16384x16 ![0, 2560] p slices_S16384x3088_S16384x16_0_2560) w) (broadcastInDim S16384x256 ![0, 1] bcast_S1x256_S16384x256_0_1 (broadcastInDim S1x256 ![1] bcast_S256_S1x256_1 b)))
/-- and its logarithm of the gate. -/
def rlog (z : FVec Ideal S16384x256 .f32) : FVec Ideal S16384x256 .f32 :=
  mulf (Host.divf (Host.negf (select (cmpf .une (subf z (broadcastInDim S16384x256 ![] bcast_S_S16384x256 (constant S_ .f32 0x00000000#32))) (subf z (broadcastInDim S16384x256 ![] bcast_S_S16384x256 (constant S_ .f32 0x00000000#32)))) (addf z (broadcastInDim S16384x256 ![] bcast_S_S16384x256 (constant S_ .f32 0x00000000#32))) (addf (maximumf z (broadcastInDim S16384x256 ![] bcast_S_S16384x256 (constant S_ .f32 0x00000000#32))) (Host.log1p (Host.exp (Host.negf (Host.absf (subf z (broadcastInDim S16384x256 ![] bcast_S_S16384x256 (constant S_ .f32 0x00000000#32)))))))))) (broadcastInDim S16384x256 ![] bcast_S_S16384x256 (constant S_ .f32 0x41800000#32))) (broadcastInDim S16384x256 ![] bcast_S_S16384x256 (constant S_ .f32 0x3FB8AA3B#32))

section rows

variable (q : Fin 16384)

theorem rnorm1024_row (x : FVec Ideal S16384x1024 .f32) (g : FVec Ideal S1024 .f32) (k : Fin 1024) :
    (rnorm1024 x g (ix2 q k) : EReal) = Mix.rms Mix.c1024 (fun k => x (ix2 q k)) (fun k => g (ix1 k)) k := by
  unfold rnorm1024 Mix.rms Mix.scale
  pointwise

theorem rgate2816_row (x : FVec Ideal S16384x2816 .f32) (k : Fin 2816) : (rgate2816 x (ix2 q k) : EReal) = Mix.gate (x (ix2 q k)) := by
  rw [← Mix.mul_recip]
  unfold rgate2816
  pointwise

theorem upProd_row (x : FVec Ideal S16384x1024 .f32) (w : FVec Ideal S1024x2816 .f32) (k : Fin 2816) :
    (Host.dotGeneral dot_S16384x1024_S1024x2816_S16384x2816_1_0_0_1_n_n none x w (ix2 q k) : EReal)
      = Mix.prod (fun k => x (ix2 q k)) (fun a b => w (ix2 a b)) k := by
  unfold Mix.prod
  pointwise

theorem downProd_row (x : FVec Ideal S16384x2816 .f32) (w : FVec Ideal S2816x1024 .f32) (k : Fin 1024) :
    (Host.dotGeneral dot_S16384x2816_S2816x1024_S16384x1024_1_0_0_1_n_n none x w (ix2 q k) : EReal)
      = Mix.prod (fun k => x (ix2 q k)) (fun a b => w (ix2 a b)) k := by
  unfold Mix.prod
  pointwise

theorem allProd_row (x : FVec Ideal S16384x1024 .f32) (w : FVec Ideal S1024x3088 .f32) (k : Fin 3088) :
    (Host.dotGeneral dot_S16384x1024_S1024x3088_S16384x3088_1_0_0_1_n_n none x w (ix2 q k) : EReal)
      = Mix.prod (fun k => x (ix2 q k)) (fun a b => w (ix2 a b)) k := by
  unfold Mix.prod
  pointwise

theorem rkept_row (p : FVec Ideal S16384x3088 .f32) (k : Fin 3072) : (rkept p (ix2 q k) : EReal) = Proj.kept (fun k => p (ix2 q k)) k := by
  unfold rkept Proj.kept
  pointwise
  split_ifs <;> first
    | rfl
    | (exfalso; omega)
    | (rw [if_pos (show k.val < 2560 by omega)]; exact congrArg (fun j => (p (ix2 q j) : EReal)) (Fin.ext (by dsimp only; omega)))
    | (rw [if_neg (show ¬ k.val < 2560 by omega)]; exact congrArg (fun j => (p (ix2 q j) : EReal)) (Fin.ext (by dsimp only; omega)))

theorem rmean_row (p : FVec Ideal S16384x3088 .f32) (b : Fin 64) (d : Fin 512) : (rmean p (ix3 b 0 d) : EReal)
    = Proj.keyMean (fun r c => p (ix2 ⟨256 * b.val + r.val, by omega⟩ c)) d := by
  unfold rmean Proj.keyMean
  pointwise
  refine congrArg (fun s => Ideal.div s Proj.cBlock) (Finset.sum_congr rfl fun x _ => ?_)
  exact congrArg (fun j => (p (ix2 j ⟨512 + d.val, by omega⟩) : EReal)) (Fin.ext (by dsimp only; omega))

theorem rlow_row (p : FVec Ideal S16384x3088 .f32) (w : FVec Ideal S16x256 .f32) (b : FVec Ideal S256 .f32) (d : Fin 256) : (rlow p w b (ix2 q d) : EReal)
    = -(Proj.low (fun k => p (ix2 q k)) (fun a b => w (ix2 a b)) (fun k => b (ix1 k)) d) := by
  unfold rlow Proj.low
  pointwise

theorem rlog_row (z : FVec Ideal S16384x256 .f32) (d : Fin 256) (y : EReal) (h : (z (ix2 q d) : EReal) = -y) : (rlog z (ix2 q d) : EReal) = Proj.logGate y := by
  rw [← Proj.logGate_eq, ← h]
  unfold rlog
  pointwise
  rw [if_neg (fun h => h rfl)]
  rfl

end rows

section terms

variable (V0 : Valuation τ sig (Elt Ideal))

abbrev a0 : FVec Ideal S16384x1024 .f32 := V0 (Proc.devRef .tc main_arg0)
abbrev a1 : FVec Ideal S1024 .f32 := V0 (Proc.devRef .tc main_arg1)
abbrev a2 : FVec Ideal S1024x2816 .f32 := V0 (Proc.devRef .tc main_arg2)
abbrev a3 : FVec Ideal S1024x2816 .f32 := V0 (Proc.devRef .tc main_arg3)
abbrev a4 : FVec Ideal S2816x1024 .f32 := V0 (Proc.devRef .tc main_arg4)
abbrev a5 : FVec Ideal S1024 .f32 := V0 (Proc.devRef .tc main_arg5)
abbrev a6 : FVec Ideal S1024 .f32 := V0 (Proc.devRef .tc main_arg6)
abbrev a7 : FVec Ideal S1024x3088 .f32 := V0 (Proc.devRef .tc main_arg7)
abbrev a8 : FVec Ideal S16x256 .f32 := V0 (Proc.devRef .tc main_arg8)
abbrev a9 : FVec Ideal S256 .f32 := V0 (Proc.devRef .tc main_arg9)

/-- The hidden columns, -/
def rhid : FVec Ideal S16384x2816 .f32 :=
  mulf (rgate2816 (Host.dotGeneral dot_S16384x1024_S1024x2816_S16384x2816_1_0_0_1_n_n none (rnorm1024 (a0 V0) (a1 V0)) (a2 V0)))
    (Host.dotGeneral dot_S16384x1024_S1024x2816_S16384x2816_1_0_0_1_n_n none (rnorm1024 (a0 V0) (a1 V0)) (a3 V0))
/-- the residual stream, -/
def rstream : FVec Ideal S16384x1024 .f32 :=
  addf (a0 V0) (mulf (broadcastInDim S16384x1024 ![] bcast_S_S16384x1024 (constant S_ .f32 0x3F000000#32))
    (rnorm1024 (Host.dotGeneral dot_S16384x2816_S2816x1024_S16384x1024_1_0_0_1_n_n none (rhid V0) (a4 V0)) (a5 V0)))
/-- and the combined projection. -/
def rcols : FVec Ideal S16384x3088 .f32 :=
  Host.dotGeneral dot_S16384x1024_S1024x3088_S16384x3088_1_0_0_1_n_n none (rnorm1024 (rstream V0) (a6 V0)) (a7 V0)

variable (q : Fin 16384)

theorem rhid_row (k : Fin 2816) : (rhid V0 (ix2 q k) : EReal)
    = Mix.hid (Mix.rms Mix.c1024 (fun k => a0 V0 (ix2 q k)) (fun k => a1 V0 (ix1 k))) (fun a b => a2 V0 (ix2 a b)) (fun a b => a3 V0 (ix2 a b)) k := by
  unfold rhid Mix.hid
  rw [mulf_apply, Ideal.mulf_def, rgate2816_row, upProd_row, upProd_row, funext fun c => rnorm1024_row q (a0 V0) (a1 V0) c]

theorem rstream_row (k : Fin 1024) : (rstream V0 (ix2 q k) : EReal) = Proj.tokenStream (a0 V0) (a1 V0) (a2 V0) (a3 V0) (a4 V0) (a5 V0) q k := by
  unfold Proj.tokenStream Proj.stream
  rw [← funext fun k => rhid_row V0 q k]
  unfold rstream Mix.finish
  rw [addf_apply, Ideal.addf_def, mulf_apply, Ideal.mulf_def, rnorm1024_row, funext fun c => downProd_row q _ _ c]
  rfl

theorem rcols_row (k : Fin 3088) : (rcols V0 (ix2 q k) : EReal) = Proj.tokenCols (a0 V0) (a1 V0) (a2 V0) (a3 V0) (a4 V0) (a5 V0) (a6 V0) (a7 V0) q k := by
  unfold Proj.tokenCols Proj.cols
  rw [← funext fun k => rstream_row V0 q k, ← funext fun c => rnorm1024_row q (rstream V0) (a6 V0) c]
  exact allProd_row q _ _ k

/-- The generated run's stream is this one, -/
theorem stream_eq : res_main_v33 V0 = rstream V0 := by
  have e12 : res_main_v12 V0 = rnorm1024 (a0 V0) (a1 V0) := rfl
  have e17 : res_main_v17 V0 = Host.dotGeneral dot_S16384x2816_S2816x1024_S16384x1024_1_0_0_1_n_n none (rhid V0) (a4 V0) := by
    unfold res_main_v17 res_main_v13; rw [e12]; rfl
  unfold res_main_v33
  rw [e17]
  rfl

/-- and so is its projection. -/
theorem cols_eq : res_main_v47 V0 = rcols V0 := by
  unfold res_main_v47
  rw [stream_eq]
  rfl

theorem keys_eq : res_main_v49 V0 = extractStridedSlice S16384x512 ![0, 512] (rcols V0) slices_S16384x3088_S16384x512_0_512 := by
  unfold res_main_v49
  rw [cols_eq]

theorem low_eq : res_main_call1_v0 V0 = rlow (rcols V0) (a8 V0) (a9 V0) := by
  unfold res_main_call1_v0
  rw [cols_eq]
  rfl

theorem kept_eq : (truncf .bf16 ((concatenate S16384x3072 1 [⟨S16384x512, ((mulf (extractStridedSlice S16384x512 ![0, 0] (res_main_v47 V0) slices_S16384x3088_S16384x512_0_0) (broadcastInDim S16384x512 ![] bcast_S_S16384x512 (constant S_ .f32 0x3E38AA3B#32))) : (⟨S16384x512, .f32⟩ : BufTy).Contents (Elt Ideal))⟩, ⟨S16384x512, ((res_main_v49 V0) : (⟨S16384x512, .f32⟩ : BufTy).Contents (Elt Ideal))⟩, ⟨S16384x512, ((extractStridedSlice S16384x512 ![0, 1024] (res_main_v47 V0) slices_S16384x3088_S16384x512_0_1024) : (⟨S16384x512, .f32⟩ : BufTy).Contents (Elt Ideal))⟩, ⟨S16384x256, ((extractStridedSlice S16384x256 ![0, 1536] (res_main_v47 V0) slices_S16384x3088_S16384x256_0_1536) : (⟨S16384x256, .f32⟩ : BufTy).Contents (Elt Ideal))⟩, ⟨S16384x256, ((extractStridedSlice S16384x256 ![0, 1792] (res_main_v47 V0) slices_S16384x3088_S16384x256_0_1792) : (⟨S16384x256, .f32⟩ : BufTy).Contents (Elt Ideal))⟩, ⟨S16384x512, ((extractStridedSlice S16384x512 ![0, 2048] (res_main_v47 V0) slices_S16384x3088_S16384x512_0_2048) : (⟨S16384x512, .f32⟩ : BufTy).Contents (Elt Ideal))⟩, ⟨S16384x512, ((extractStridedSlice S16384x512 ![0, 2576] (res_main_v47 V0) slices_S16384x3088_S16384x512_0_2576) : (⟨S16384x512, .f32⟩ : BufTy).Contents (Elt Ideal))⟩] concatenates_S16384x512_S16384x512_S16384x512_S16384x256_S16384x256_S16384x512_S16384x512_S16384x3072_d1 : (⟨S16384x3072, .f32⟩ : BufTy).Contents (Elt Ideal))) bitsLt_bf16_f32) = rkept (rcols V0) := by
  rw [keys_eq, cols_eq]
  rfl

theorem mean_eq : (Host.divf (broadcastInDim S64x1x512 ![0, 2] bcast_S64x512_S64x1x512_0_2 (Host.reduceAdd (shapeCast S64x256x512 (res_main_v49 V0) shapeCasts_S16384x512_S64x256x512) (constant S_ .f32 0x00000000#32) reducesTo_S64x256x512_S64x512_d1 h_S_)) (broadcastInDim S64x1x512 ![] bcast_S_S64x1x512 (constant S_ .f32 0x43800000#32))) = rmean (rcols V0) := by
  rw [keys_eq]
  rfl

theorem gate_eq : (mulf (Host.divf (Host.negf (select (cmpf .une (res_main_call1_call0_v3 V0) (res_main_call1_call0_v3 V0)) (addf (res_main_call1_v0 V0) (broadcastInDim S16384x256 ![] bcast_S_S16384x256 (res_main_call1_call0_cst V0))) (addf (maximumf (res_main_call1_v0 V0) (broadcastInDim S16384x256 ![] bcast_S_S16384x256 (res_main_call1_call0_cst V0))) (Host.log1p (Host.exp (Host.negf (Host.absf (res_main_call1_call0_v3 V0)))))))) (broadcastInDim S16384x256 ![] bcast_S_S16384x256 (constant S_ .f32 0x41800000#32))) (broadcastInDim S16384x256 ![] bcast_S_S16384x256 (constant S_ .f32 0x3FB8AA3B#32))) = rlog (rlow (rcols V0) (a8 V0) (a9 V0)) := by
  unfold res_main_call1_call0_v3
  rw [low_eq]
  rfl

theorem result_stream (k : Fin 1024) : (res_main_v33 V0 (ix2 q k) : EReal) = Proj.tokenStream (a0 V0) (a1 V0) (a2 V0) (a3 V0) (a4 V0) (a5 V0) q k := by
  rw [stream_eq]
  exact rstream_row V0 q k

theorem result_kept (k : Fin 3072) : (rkept (rcols V0) (ix2 q k) : EReal) = Proj.tokenKept (a0 V0) (a1 V0) (a2 V0) (a3 V0) (a4 V0) (a5 V0) (a6 V0) (a7 V0) q k := by
  rw [rkept_row, funext fun k => rcols_row V0 q k]
  rfl

theorem result_mean (b : Fin 64) (d : Fin 512) : (rmean (rcols V0) (ix3 b 0 d) : EReal) = Proj.blockMean (a0 V0) (a1 V0) (a2 V0) (a3 V0) (a4 V0) (a5 V0) (a6 V0) (a7 V0) b d := by
  rw [rmean_row]
  exact congrArg (fun f => Proj.keyMean f d) (funext fun r => funext fun k => rcols_row V0 _ k)

theorem result_gate (d : Fin 256) : (rlog (rlow (rcols V0) (a8 V0) (a9 V0)) (ix2 q d) : EReal) = Proj.tokenGate (a0 V0) (a1 V0) (a2 V0) (a3 V0) (a4 V0) (a5 V0) (a6 V0) (a7 V0) (a8 V0) (a9 V0) q d := by
  refine (rlog_row q _ d _ (rlow_row q _ _ _ d)).trans ?_
  rw [funext fun k => rcols_row V0 q k]
  rfl

end terms

end Cert.Reference3Ideal.Value

end
-- ==== Proof.lean ====
module

public import proofs.«01_k».proof.Proof.GlaEq
public import proofs.«01_k».proof.Proof.GlaResult
public import proofs.«01_k».proof.Proof.GlaScan
public import proofs.«01_k».proof.Proof.Gen.Kernel.Frame
public import proofs.«01_k».proof.Proof.Gen.Kernel2.Frame
public import proofs.«01_k».proof.Proof.MixResult
public import proofs.«01_k».proof.Proof.MixRef
public import proofs.«01_k».proof.Proof.ProjBits
public import proofs.«01_k».proof.Proof.ProjResult
public import proofs.«01_k».proof.Proof.ProjRef
public import Idealize.ShloMosaic.Adequacy
public import Idealize.ShloMosaic.Init

@[expose] public section

noncomputable section

namespace Cert.Proof

open Idealize.ShloMosaic Idealize.SL.Sem

/-- The reference's run leaves the arguments alone, and it uses no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems (by decide) r.2⟩) (Cert.ReferenceIdeal.Value.run m g)

/-- Over real arguments the reference's array is the kernel's. -/
theorem values_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Cert.ReferenceIdeal.Value.argX m' c = Cert.KernelIdeal.Gen.argX m c)
    (h1 : Cert.ReferenceIdeal.Value.argA m' c = Cert.KernelIdeal.Gen.argA m c)
    (hx : Gla.RealCols 1536 2560 (Cert.KernelIdeal.Gen.argX m c)) (ha : Gla.RealCols 0 256 (Cert.KernelIdeal.Gen.argA m c)) :
    (Cert.ReferenceIdeal.Value.out_main_v36 (Cert.ReferenceIdeal.Value.STEP^[32] (Idealize.ShloMosaic.StableHlo.entryContents Cert.ReferenceIdeal.Value.preI m' c))
        : Cert.ReferenceIdeal.S16384x512.Idx → EReal) = Cert.KernelIdeal.Value.G4 m c := by
  funext j
  obtain ⟨r, l, rfl⟩ : ∃ (r : Fin 16384) (l : Fin 512), j = ix2 r l := ⟨j 0, j 1, eq_ix2 j⟩
  have hr : r = ⟨2048 * (⟨r.val / 2048, by omega⟩ : Fin 8).val + (⟨r.val % 2048, by omega⟩ : Fin 2048).val, by dsimp only; omega⟩ :=
    Fin.ext (by dsimp only; omega)
  have hl : l = ⟨128 * (⟨l.val / 128, by omega⟩ : Fin 4).val + (⟨l.val % 128, by omega⟩ : Fin 128).val, by dsimp only; omega⟩ :=
    Fin.ext (by dsimp only; omega)
  have ek := Cert.KernelIdeal.Gen.kernel_value m c hx ha ⟨r.val / 2048, by omega⟩ ⟨l.val / 128, by omega⟩ ⟨r.val % 2048, by omega⟩ ⟨l.val % 128, by omega⟩
  rw [← h0] at hx
  rw [← h1] at ha
  have er := Cert.ReferenceIdeal.Value.reference_value m' c hx ha ⟨r.val / 2048, by omega⟩ ⟨l.val / 128, by omega⟩ ⟨r.val % 2048, by omega⟩ ⟨l.val % 128, by omega⟩
  rw [← hr, ← hl] at ek er
  rw [h0, h1] at er
  rw [er, ix2_eq_valueIdx, ek]

theorem algebraic : Cert.algebraic_KernelIdeal_ReferenceIdeal_pre_finite := by
  intro m g m' g' hpre hargs
  refine ⟨fun c => Cert.KernelIdeal.Value.G4 m c, Cert.KernelIdeal.Value.run m g, ?_⟩
  refine (θ_run _ _ _).mono (fun r h c => ⟨(h c).1.trans ?_, (h c).2⟩) (Cert.ReferenceIdeal.Value.run m' g')
  obtain ⟨hx, ha⟩ := columns _ _ (hpre c)
  exact values_agree m m' c (hargs c).1 (hargs c).2 hx ha

/-- So does the last call's reference. -/
theorem frame_reference2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0) :=
  (θ_run _ _ _).mono (fun r h => ⟨fun c => (h c).2, sem_eq_zero_of_no_sems (by decide) r.2⟩) (Cert.Reference2Ideal.Value.run m g)

/-- From the same arguments the last call's array is its reference's. -/
theorem algebraic2 : Cert.algebraic_Kernel2Ideal_Reference2Ideal := by
  intro m g m' g' _ hargs
  refine ⟨fun c => (Cert.Kernel2Ideal.Gen.dats m 0 c).arrAt 13 Cert.Kernel2Ideal.cfg0.N, Cert.Kernel2Ideal.Value.run_blocks m g, ?_⟩
  refine (θ_run _ _ _).mono (fun r h c => ⟨(h c).1.trans ?_, (h c).2⟩) (Cert.Reference2Ideal.Value.run m' g')
  obtain ⟨h0, h1, h2, h3, h4, h5, h6, h7, h8, h9, h10, h11, h12⟩ := hargs c
  refine (Cert.Reference2Ideal.Value.result_eq _).trans ?_
  funext j
  obtain ⟨q, k, rfl⟩ : ∃ (q : Fin 16384) (k : Fin 1024), j = ix2 q k := ⟨j 0, j 1, eq_ix2 j⟩
  refine (Cert.Reference2Ideal.Value.rresult_row _ q k).trans (Eq.trans ?_ (Cert.Kernel2Ideal.Gen.kernel_row m c q k).symm)
  rw [← h0, ← h1, ← h2, ← h3, ← h4, ← h5, ← h6, ← h7, ← h8, ← h9, ← h10, ← h11, ← h12]

/-- So does the first call's reference. -/
theorem frame_reference3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0) :=
  (θ_run _ _ _).mono (fun r h => ⟨fun c => (h c).2.2.2.2, sem_eq_zero_of_no_sems (by decide) r.2⟩) (Cert.Reference3Ideal.Value.run m g)

/-- From the same arguments the first call's arrays are its reference's. -/
theorem algebraic3 : Cert.algebraic_Kernel3Ideal_Reference3Ideal := by
  intro m g m' g' _ hargs
  refine ⟨fun c => (Cert.Kernel3Ideal.Gen.dats m 0 c).arrAt 10 Cert.Kernel3Ideal.cfg0.N, fun c => (Cert.Kernel3Ideal.Gen.dats m 0 c).arrAt 11 Cert.Kernel3Ideal.cfg0.N,
    fun c => (Cert.Kernel3Ideal.Gen.dats m 0 c).arrAt 12 Cert.Kernel3Ideal.cfg0.N, fun c => (Cert.Kernel3Ideal.Gen.dats m 0 c).arrAt 13 Cert.Kernel3Ideal.cfg0.N,
    Cert.Kernel3Ideal.Gen.run_arrays m g, ?_⟩
  refine (θ_run _ _ _).mono (fun r h c => ⟨(h c).1.trans ?_, (h c).2.1.trans ?_, (h c).2.2.1.trans ?_, (h c).2.2.2.1.trans ?_, (h c).2.2.2.2⟩)
    (Cert.Reference3Ideal.Value.run m' g')
  all_goals obtain ⟨h0, h1, h2, h3, h4, h5, h6, h7, h8, h9, -⟩ := hargs c
  · funext j
    obtain ⟨q, k, rfl⟩ : ∃ (q : Fin 16384) (k : Fin 1024), j = ix2 q k := ⟨j 0, j 1, eq_ix2 j⟩
    refine (Cert.Reference3Ideal.Value.result_stream _ q k).trans (Eq.trans ?_ (Cert.Kernel3Ideal.Gen.kernel_row10 m c q k).symm)
    rw [← h0, ← h1, ← h2, ← h3, ← h4, ← h5]
  · refine (Cert.Reference3Ideal.Value.kept_eq _).trans ?_
    funext j
    obtain ⟨q, k, rfl⟩ : ∃ (q : Fin 16384) (k : Fin 3072), j = ix2 q k := ⟨j 0, j 1, eq_ix2 j⟩
    refine (Cert.Reference3Ideal.Value.result_kept _ q k).trans (Eq.trans ?_ (Cert.Kernel3Ideal.Gen.kernel_row11 m c q k).symm)
    rw [← h0, ← h1, ← h2, ← h3, ← h4, ← h5, ← h6, ← h7]
  · refine (Cert.Reference3Ideal.Value.mean_eq _).trans ?_
    funext j
    obtain ⟨b, z, k, rfl⟩ : ∃ (b : Fin 64) (z : Fin 1) (k : Fin 512), j = ix3 b z k := ⟨j 0, j 1, j 2, eq_ix3 j⟩
    obtain rfl : z = 0 := Subsingleton.elim _ _
    refine (Cert.Reference3Ideal.Value.result_mean _ b k).trans (Eq.trans ?_ (Cert.Kernel3Ideal.Gen.kernel_row12 m c b k).symm)
    rw [← h0, ← h1, ← h2, ← h3, ← h4, ← h5, ← h6, ← h7]
  · refine (Cert.Reference3Ideal.Value.gate_eq _).trans ?_
    funext j
    obtain ⟨q, k, rfl⟩ : ∃ (q : Fin 16384) (k : Fin 256), j = ix2 q k := ⟨j 0, j 1, eq_ix2 j⟩
    refine (Cert.Reference3Ideal.Value.result_gate _ q k).trans (Eq.trans ?_ (Cert.Kernel3Ideal.Gen.kernel_row13 m c q k).symm)
    rw [← h0, ← h1, ← h2, ← h3, ← h4, ← h5, ← h6, ← h7, ← h8, ← h9]

theorem claim : Cert.Claim :=
  ⟨inferInstance, inferInstance, inferInstance, inferInstance, inferInstance, inferInstance, inferInstance, inferInstance, inferInstance, inferInstance, fun m g _ => Cert.Kernel.Gen.frame m g,
    fun m g _ => Cert.KernelIdeal.Gen.frame m g, fun m g _ => Cert.KernelIdeal.Gen.frame m g, fun m g _ => frame_reference m g,
    fun m g _ => frame_reference m g, fun m g _ => Cert.Kernel2.Gen.frame m g, fun m g _ => Cert.Kernel2Ideal.Gen.frame m g,
    fun m g _ => frame_reference2 m g, fun m g _ => Cert.Kernel3.Gen.frame m g, fun m g _ => Cert.Kernel3Ideal.Gen.frame m g,
    fun m g _ => frame_reference3 m g, trivial, algebraic, trivial, algebraic2, trivial, algebraic3⟩

end Cert.Proof

end
